-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9)
      ∧ r.2.mem ((c.tc : Thread Cert.Kernel15.nD Cert.Kernel15.τ).loc Cert.Kernel15.main_arg10) = m ((c.tc : Thread Cert.Kernel15.nD Cert.Kernel15.τ).loc Cert.Kernel15.main_arg10)
      ∧ r.2.mem ((c.tc : Thread Cert.Kernel15.nD Cert.Kernel15.τ).loc Cert.Kernel15.main_arg11) = m ((c.tc : Thread Cert.Kernel15.nD Cert.Kernel15.τ).loc Cert.Kernel15.main_arg11)
      ∧ r.2.mem ((c.tc : Thread Cert.Kernel15.nD Cert.Kernel15.τ).loc Cert.Kernel15.main_arg12) = m ((c.tc : Thread Cert.Kernel15.nD Cert.Kernel15.τ).loc Cert.Kernel15.main_arg12)
      ∧ r.2.mem ((c.tc : Thread Cert.Kernel15.nD Cert.Kernel15.τ).loc Cert.Kernel15.main_arg13) = m ((c.tc : Thread Cert.Kernel15.nD Cert.Kernel15.τ).loc Cert.Kernel15.main_arg13)
      ∧ r.2.mem ((c.tc : Thread Cert.Kernel15.nD Cert.Kernel15.τ).loc Cert.Kernel15.main_arg14) = m ((c.tc : Thread Cert.Kernel15.nD Cert.Kernel15.τ).loc Cert.Kernel15.main_arg14)
      ∧ r.2.mem ((c.tc : Thread Cert.Kernel15.nD Cert.Kernel15.τ).loc Cert.Kernel15.main_arg15) = m ((c.tc : Thread Cert.Kernel15.nD Cert.Kernel15.τ).loc Cert.Kernel15.main_arg15)
      ∧ r.2.mem ((c.tc : Thread Cert.Kernel15.nD Cert.Kernel15.τ).loc Cert.Kernel15.main_arg16) = m ((c.tc : Thread Cert.Kernel15.nD Cert.Kernel15.τ).loc Cert.Kernel15.main_arg16)
      ∧ r.2.mem ((c.tc : Thread Cert.Kernel15.nD Cert.Kernel15.τ).loc Cert.Kernel15.main_arg17) = m ((c.tc : Thread Cert.Kernel15.nD Cert.Kernel15.τ).loc Cert.Kernel15.main_arg17)
      ∧ r.2.mem ((c.tc : Thread Cert.Kernel15.nD Cert.Kernel15.τ).loc Cert.Kernel15.main_arg18) = m ((c.tc : Thread Cert.Kernel15.nD Cert.Kernel15.τ).loc Cert.Kernel15.main_arg18)
      ∧ r.2.mem ((c.tc : Thread Cert.Kernel15.nD Cert.Kernel15.τ).loc Cert.Kernel15.main_arg19) = m ((c.tc : Thread Cert.Kernel15.nD Cert.Kernel15.τ).loc Cert.Kernel15.main_arg19)
      ∧ r.2.mem ((c.tc : Thread Cert.Kernel15.nD Cert.Kernel15.τ).loc Cert.Kernel15.main_arg20) = m ((c.tc : Thread Cert.Kernel15.nD Cert.Kernel15.τ).loc Cert.Kernel15.main_arg20)
      ∧ r.2.mem ((c.tc : Thread Cert.Kernel15.nD Cert.Kernel15.τ).loc Cert.Kernel15.main_arg21) = m ((c.tc : Thread Cert.Kernel15.nD Cert.Kernel15.τ).loc Cert.Kernel15.main_arg21)
      ∧ r.2.mem ((c.tc : Thread Cert.Kernel15.nD Cert.Kernel15.τ).loc Cert.Kernel15.main_arg22) = m ((c.tc : Thread Cert.Kernel15.nD Cert.Kernel15.τ).loc Cert.Kernel15.main_arg22)
      ∧ r.2.mem ((c.tc : Thread Cert.Kernel15.nD Cert.Kernel15.τ).loc Cert.Kernel15.main_arg23) = m ((c.tc : Thread Cert.Kernel15.nD Cert.Kernel15.τ).loc Cert.Kernel15.main_arg23)
      ∧ r.2.mem ((c.tc : Thread Cert.Kernel15.nD Cert.Kernel15.τ).loc Cert.Kernel15.main_arg24) = m ((c.tc : Thread Cert.Kernel15.nD Cert.Kernel15.τ).loc Cert.Kernel15.main_arg24)
      ∧ r.2.mem ((c.tc : Thread Cert.Kernel15.nD Cert.Kernel15.τ).loc Cert.Kernel15.main_arg25) = m ((c.tc : Thread Cert.Kernel15.nD Cert.Kernel15.τ).loc Cert.Kernel15.main_arg25)
      ∧ r.2.mem ((c.tc : Thread Cert.Kernel15.nD Cert.Kernel15.τ).loc Cert.Kernel15.main_arg26) = m ((c.tc : Thread Cert.Kernel15.nD Cert.Kernel15.τ).loc Cert.Kernel15.main_arg26)
      ∧ r.2.mem ((c.tc : Thread Cert.Kernel15.nD Cert.Kernel15.τ).loc Cert.Kernel15.main_arg27) = m ((c.tc : Thread Cert.Kernel15.nD Cert.Kernel15.τ).loc Cert.Kernel15.main_arg27)
      ∧ r.2.mem ((c.tc : Thread Cert.Kernel15.nD Cert.Kernel15.τ).loc Cert.Kernel15.main_arg28) = m ((c.tc : Thread Cert.Kernel15.nD Cert.Kernel15.τ).loc Cert.Kernel15.main_arg28)
      ∧ r.2.mem ((c.tc : Thread Cert.Kernel15.nD Cert.Kernel15.τ).loc Cert.Kernel15.main_arg29) = m ((c.tc : Thread Cert.Kernel15.nD Cert.Kernel15.τ).loc Cert.Kernel15.main_arg29)
      ∧ r.2.mem ((c.tc : Thread Cert.Kernel15.nD Cert.Kernel15.τ).loc Cert.Kernel15.main_arg30) = m ((c.tc : Thread Cert.Kernel15.nD Cert.Kernel15.τ).loc Cert.Kernel15.main_arg30)
      ∧ r.2.mem ((c.tc : Thread Cert.Kernel15.nD Cert.Kernel15.τ).loc Cert.Kernel15.main_arg31) = m ((c.tc : Thread Cert.Kernel15.nD Cert.Kernel15.τ).loc Cert.Kernel15.main_arg31))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
      ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
      ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
      ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13)
      ∧ r.2.mem ((c.tc : Thread Cert.Kernel15Ideal.nD Cert.Kernel15Ideal.τ).loc Cert.Kernel15Ideal.main_arg14) = m ((c.tc : Thread Cert.Kernel15Ideal.nD Cert.Kernel15Ideal.τ).loc Cert.Kernel15Ideal.main_arg14)
      ∧ r.2.mem ((c.tc : Thread Cert.Kernel15Ideal.nD Cert.Kernel15Ideal.τ).loc Cert.Kernel15Ideal.main_arg15) = m ((c.tc : Thread Cert.Kernel15Ideal.nD Cert.Kernel15Ideal.τ).loc Cert.Kernel15Ideal.main_arg15)
      ∧ r.2.mem ((c.tc : Thread Cert.Kernel15Ideal.nD Cert.Kernel15Ideal.τ).loc Cert.Kernel15Ideal.main_arg16) = m ((c.tc : Thread Cert.Kernel15Ideal.nD Cert.Kernel15Ideal.τ).loc Cert.Kernel15Ideal.main_arg16)
      ∧ r.2.mem ((c.tc : Thread Cert.Kernel15Ideal.nD Cert.Kernel15Ideal.τ).loc Cert.Kernel15Ideal.main_arg17) = m ((c.tc : Thread Cert.Kernel15Ideal.nD Cert.Kernel15Ideal.τ).loc Cert.Kernel15Ideal.main_arg17)
      ∧ r.2.mem ((c.tc : Thread Cert.Kernel15Ideal.nD Cert.Kernel15Ideal.τ).loc Cert.Kernel15Ideal.main_arg18) = m ((c.tc : Thread Cert.Kernel15Ideal.nD Cert.Kernel15Ideal.τ).loc Cert.Kernel15Ideal.main_arg18)
      ∧ r.2.mem ((c.tc : Thread Cert.Kernel15Ideal.nD Cert.Kernel15Ideal.τ).loc Cert.Kernel15Ideal.main_arg19) = m ((c.tc : Thread Cert.Kernel15Ideal.nD Cert.Kernel15Ideal.τ).loc Cert.Kernel15Ideal.main_arg19)
      ∧ r.2.mem ((c.tc : Thread Cert.Kernel15Ideal.nD Cert.Kernel15Ideal.τ).loc Cert.Kernel15Ideal.main_arg20) = m ((c.tc : Thread Cert.Kernel15Ideal.nD Cert.Kernel15Ideal.τ).loc Cert.Kernel15Ideal.main_arg20)
      ∧ r.2.mem ((c.tc : Thread Cert.Kernel15Ideal.nD Cert.Kernel15Ideal.τ).loc Cert.Kernel15Ideal.main_arg21) = m ((c.tc : Thread Cert.Kernel15Ideal.nD Cert.Kernel15Ideal.τ).loc Cert.Kernel15Ideal.main_arg21)
      ∧ r.2.mem ((c.tc : Thread Cert.Kernel15Ideal.nD Cert.Kernel15Ideal.τ).loc Cert.Kernel15Ideal.main_arg22) = m ((c.tc : Thread Cert.Kernel15Ideal.nD Cert.Kernel15Ideal.τ).loc Cert.Kernel15Ideal.main_arg22)
      ∧ r.2.mem ((c.tc : Thread Cert.Kernel15Ideal.nD Cert.Kernel15Ideal.τ).loc Cert.Kernel15Ideal.main_arg23) = m ((c.tc : Thread Cert.Kernel15Ideal.nD Cert.Kernel15Ideal.τ).loc Cert.Kernel15Ideal.main_arg23)
      ∧ r.2.mem ((c.tc : Thread Cert.Kernel15Ideal.nD Cert.Kernel15Ideal.τ).loc Cert.Kernel15Ideal.main_arg24) = m ((c.tc : Thread Cert.Kernel15Ideal.nD Cert.Kernel15Ideal.τ).loc Cert.Kernel15Ideal.main_arg24)
      ∧ r.2.mem ((c.tc : Thread Cert.Kernel15Ideal.nD Cert.Kernel15Ideal.τ).loc Cert.Kernel15Ideal.main_arg25) = m ((c.tc : Thread Cert.Kernel15Ideal.nD Cert.Kernel15Ideal.τ).loc Cert.Kernel15Ideal.main_arg25)
      ∧ r.2.mem ((c.tc : Thread Cert.Kernel15Ideal.nD Cert.Kernel15Ideal.τ).loc Cert.Kernel15Ideal.main_arg26) = m ((c.tc : Thread Cert.Kernel15Ideal.nD Cert.Kernel15Ideal.τ).loc Cert.Kernel15Ideal.main_arg26)
      ∧ r.2.mem ((c.tc : Thread Cert.Kernel15Ideal.nD Cert.Kernel15Ideal.τ).loc Cert.Kernel15Ideal.main_arg27) = m ((c.tc : Thread Cert.Kernel15Ideal.nD Cert.Kernel15Ideal.τ).loc Cert.Kernel15Ideal.main_arg27)
      ∧ r.2.mem ((c.tc : Thread Cert.Kernel15Ideal.nD Cert.Kernel15Ideal.τ).loc Cert.Kernel15Ideal.main_arg28) = m ((c.tc : Thread Cert.Kernel15Ideal.nD Cert.Kernel15Ideal.τ).loc Cert.Kernel15Ideal.main_arg28)
      ∧ r.2.mem ((c.tc : Thread Cert.Kernel15Ideal.nD Cert.Kernel15Ideal.τ).loc Cert.Kernel15Ideal.main_arg29) = m ((c.tc : Thread Cert.Kernel15Ideal.nD Cert.Kernel15Ideal.τ).loc Cert.Kernel15Ideal.main_arg29)
      ∧ r.2.mem ((c.tc : Thread Cert.Kernel15Ideal.nD Cert.Kernel15Ideal.τ).loc Cert.Kernel15Ideal.main_arg30) = m ((c.tc : Thread Cert.Kernel15Ideal.nD Cert.Kernel15Ideal.τ).loc Cert.Kernel15Ideal.main_arg30)
      ∧ r.2.mem ((c.tc : Thread Cert.Kernel15Ideal.nD Cert.Kernel15Ideal.τ).loc Cert.Kernel15Ideal.main_arg31) = m ((c.tc : Thread Cert.Kernel15Ideal.nD Cert.Kernel15Ideal.τ).loc Cert.Kernel15Ideal.main_arg31))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10)
      ∧ r.2.mem ((c.tc : Thread Cert.Reference15Ideal.nD Cert.Reference15Ideal.τ).loc Cert.Reference15Ideal.main_arg11) = m ((c.tc : Thread Cert.Reference15Ideal.nD Cert.Reference15Ideal.τ).loc Cert.Reference15Ideal.main_arg11)
      ∧ r.2.mem ((c.tc : Thread Cert.Reference15Ideal.nD Cert.Reference15Ideal.τ).loc Cert.Reference15Ideal.main_arg12) = m ((c.tc : Thread Cert.Reference15Ideal.nD Cert.Reference15Ideal.τ).loc Cert.Reference15Ideal.main_arg12)
      ∧ r.2.mem ((c.tc : Thread Cert.Reference15Ideal.nD Cert.Reference15Ideal.τ).loc Cert.Reference15Ideal.main_arg13) = m ((c.tc : Thread Cert.Reference15Ideal.nD Cert.Reference15Ideal.τ).loc Cert.Reference15Ideal.main_arg13)
      ∧ r.2.mem ((c.tc : Thread Cert.Reference15Ideal.nD Cert.Reference15Ideal.τ).loc Cert.Reference15Ideal.main_arg14) = m ((c.tc : Thread Cert.Reference15Ideal.nD Cert.Reference15Ideal.τ).loc Cert.Reference15Ideal.main_arg14)
      ∧ r.2.mem ((c.tc : Thread Cert.Reference15Ideal.nD Cert.Reference15Ideal.τ).loc Cert.Reference15Ideal.main_arg15) = m ((c.tc : Thread Cert.Reference15Ideal.nD Cert.Reference15Ideal.τ).loc Cert.Reference15Ideal.main_arg15)
      ∧ r.2.mem ((c.tc : Thread Cert.Reference15Ideal.nD Cert.Reference15Ideal.τ).loc Cert.Reference15Ideal.main_arg16) = m ((c.tc : Thread Cert.Reference15Ideal.nD Cert.Reference15Ideal.τ).loc Cert.Reference15Ideal.main_arg16)
      ∧ r.2.mem ((c.tc : Thread Cert.Reference15Ideal.nD Cert.Reference15Ideal.τ).loc Cert.Reference15Ideal.main_arg17) = m ((c.tc : Thread Cert.Reference15Ideal.nD Cert.Reference15Ideal.τ).loc Cert.Reference15Ideal.main_arg17)
      ∧ r.2.mem ((c.tc : Thread Cert.Reference15Ideal.nD Cert.Reference15Ideal.τ).loc Cert.Reference15Ideal.main_arg18) = m ((c.tc : Thread Cert.Reference15Ideal.nD Cert.Reference15Ideal.τ).loc Cert.Reference15Ideal.main_arg18)
      ∧ r.2.mem ((c.tc : Thread Cert.Reference15Ideal.nD Cert.Reference15Ideal.τ).loc Cert.Reference15Ideal.main_arg19) = m ((c.tc : Thread Cert.Reference15Ideal.nD Cert.Reference15Ideal.τ).loc Cert.Reference15Ideal.main_arg19)
      ∧ r.2.mem ((c.tc : Thread Cert.Reference15Ideal.nD Cert.Reference15Ideal.τ).loc Cert.Reference15Ideal.main_arg20) = m ((c.tc : Thread Cert.Reference15Ideal.nD Cert.Reference15Ideal.τ).loc Cert.Reference15Ideal.main_arg20)
      ∧ r.2.mem ((c.tc : Thread Cert.Reference15Ideal.nD Cert.Reference15Ideal.τ).loc Cert.Reference15Ideal.main_arg21) = m ((c.tc : Thread Cert.Reference15Ideal.nD Cert.Reference15Ideal.τ).loc Cert.Reference15Ideal.main_arg21)
      ∧ r.2.mem ((c.tc : Thread Cert.Reference15Ideal.nD Cert.Reference15Ideal.τ).loc Cert.Reference15Ideal.main_arg22) = m ((c.tc : Thread Cert.Reference15Ideal.nD Cert.Reference15Ideal.τ).loc Cert.Reference15Ideal.main_arg22)
      ∧ r.2.mem ((c.tc : Thread Cert.Reference15Ideal.nD Cert.Reference15Ideal.τ).loc Cert.Reference15Ideal.main_arg23) = m ((c.tc : Thread Cert.Reference15Ideal.nD Cert.Reference15Ideal.τ).loc Cert.Reference15Ideal.main_arg23)
      ∧ r.2.mem ((c.tc : Thread Cert.Reference15Ideal.nD Cert.Reference15Ideal.τ).loc Cert.Reference15Ideal.main_arg24) = m ((c.tc : Thread Cert.Reference15Ideal.nD Cert.Reference15Ideal.τ).loc Cert.Reference15Ideal.main_arg24)
      ∧ r.2.mem ((c.tc : Thread Cert.Reference15Ideal.nD Cert.Reference15Ideal.τ).loc Cert.Reference15Ideal.main_arg25) = m ((c.tc : Thread Cert.Reference15Ideal.nD Cert.Reference15Ideal.τ).loc Cert.Reference15Ideal.main_arg25)
      ∧ r.2.mem ((c.tc : Thread Cert.Reference15Ideal.nD Cert.Reference15Ideal.τ).loc Cert.Reference15Ideal.main_arg26) = m ((c.tc : Thread Cert.Reference15Ideal.nD Cert.Reference15Ideal.τ).loc Cert.Reference15Ideal.main_arg26)
      ∧ r.2.mem ((c.tc : Thread Cert.Reference15Ideal.nD Cert.Reference15Ideal.τ).loc Cert.Reference15Ideal.main_arg27) = m ((c.tc : Thread Cert.Reference15Ideal.nD Cert.Reference15Ideal.τ).loc Cert.Reference15Ideal.main_arg27)
      ∧ r.2.mem ((c.tc : Thread Cert.Reference15Ideal.nD Cert.Reference15Ideal.τ).loc Cert.Reference15Ideal.main_arg28) = m ((c.tc : Thread Cert.Reference15Ideal.nD Cert.Reference15Ideal.τ).loc Cert.Reference15Ideal.main_arg28)
      ∧ r.2.mem ((c.tc : Thread Cert.Reference15Ideal.nD Cert.Reference15Ideal.τ).loc Cert.Reference15Ideal.main_arg29) = m ((c.tc : Thread Cert.Reference15Ideal.nD Cert.Reference15Ideal.τ).loc Cert.Reference15Ideal.main_arg29)
      ∧ r.2.mem ((c.tc : Thread Cert.Reference15Ideal.nD Cert.Reference15Ideal.τ).loc Cert.Reference15Ideal.main_arg30) = m ((c.tc : Thread Cert.Reference15Ideal.nD Cert.Reference15Ideal.τ).loc Cert.Reference15Ideal.main_arg30)
      ∧ r.2.mem ((c.tc : Thread Cert.Reference15Ideal.nD Cert.Reference15Ideal.τ).loc Cert.Reference15Ideal.main_arg31) = m ((c.tc : Thread Cert.Reference15Ideal.nD Cert.Reference15Ideal.τ).loc Cert.Reference15Ideal.main_arg31))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "gelu_c" .f32 0x3D372713#32 ((8943 / 200000 : ℝ) : EReal)
  ∧ IdealRules.named_const.Statement Cert.Kernel2Ideal.κ "gelu_3c" .f32 0x3E095D4F#32 ((26829 / 200000 : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)) (v2 : (c : Dev Cert.Kernel2Ideal.nD) → Buf (Elt Ideal) ((c.tc : Thread Cert.Kernel2Ideal.nD Cert.Kernel2Ideal.τ).loc Cert.Kernel2Ideal.main_v13)) (v3 : (c : Dev Cert.Kernel2Ideal.nD) → Buf (Elt Ideal) ((c.tc : Thread Cert.Kernel2Ideal.nD Cert.Kernel2Ideal.τ).loc Cert.Kernel2Ideal.main_v16)) (v4 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_v13) = v2 c
          ∧ r.2.mem ((c.tc : Thread Cert.Kernel2Ideal.nD Cert.Kernel2Ideal.τ).loc Cert.Kernel2Ideal.main_v16) = v3 c
          ∧ r.2.mem ((c.tc : Thread Cert.Kernel2Ideal.nD Cert.Kernel2Ideal.τ).loc Cert.Kernel2Ideal.main_v17) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v135) = v0 c
          ∧ r.2.mem ((c.tc : Thread Cert.Reference2Ideal.nD Cert.Reference2Ideal.τ).loc Cert.Reference2Ideal.main_v136) = v1 c
          ∧ r.2.mem ((c.tc : Thread Cert.Reference2Ideal.nD Cert.Reference2Ideal.τ).loc Cert.Reference2Ideal.main_v88) = v2 c
          ∧ r.2.mem ((c.tc : Thread Cert.Reference2Ideal.nD Cert.Reference2Ideal.τ).loc Cert.Reference2Ideal.main_v83) = v3 c
          ∧ r.2.mem ((c.tc : Thread Cert.Reference2Ideal.nD Cert.Reference2Ideal.τ).loc Cert.Reference2Ideal.main_v109) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v7)) (v4 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v7) = v3 c
          ∧ r.2.mem ((c.tc : Thread Cert.Kernel3Ideal.nD Cert.Kernel3Ideal.τ).loc Cert.Kernel3Ideal.main_v8) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v79) = v0 c
          ∧ r.2.mem ((c.tc : Thread Cert.Reference3Ideal.nD Cert.Reference3Ideal.τ).loc Cert.Reference3Ideal.main_v80) = v1 c
          ∧ r.2.mem ((c.tc : Thread Cert.Reference3Ideal.nD Cert.Reference3Ideal.τ).loc Cert.Reference3Ideal.main_v35) = v2 c
          ∧ r.2.mem ((c.tc : Thread Cert.Reference3Ideal.nD Cert.Reference3Ideal.τ).loc Cert.Reference3Ideal.main_v64) = v3 c
          ∧ r.2.mem ((c.tc : Thread Cert.Reference3Ideal.nD Cert.Reference3Ideal.τ).loc Cert.Reference3Ideal.main_v44) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v8)) (v2 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v8) = v1 c
          ∧ r.2.mem ((c.tc : Thread Cert.Kernel4Ideal.nD Cert.Kernel4Ideal.τ).loc Cert.Kernel4Ideal.main_v9) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v49) = v0 c
          ∧ r.2.mem ((c.tc : Thread Cert.Reference4Ideal.nD Cert.Reference4Ideal.τ).loc Cert.Reference4Ideal.main_v26) = v1 c
          ∧ r.2.mem ((c.tc : Thread Cert.Reference4Ideal.nD Cert.Reference4Ideal.τ).loc Cert.Reference4Ideal.main_v33) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  IdealRules.named_const.Statement Cert.Kernel5Ideal.κ "gelu_c" .f32 0x3D372713#32 ((8943 / 200000 : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v58) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v29) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)) (v2 : (c : Dev Cert.Kernel8Ideal.nD) → Buf (Elt Ideal) ((c.tc : Thread Cert.Kernel8Ideal.nD Cert.Kernel8Ideal.τ).loc Cert.Kernel8Ideal.main_v9)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_v9) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v22) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_v27) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v7)) (v1 : (c : Dev Cert.Kernel11Ideal.nD) → Buf (Elt Ideal) ((c.tc : Thread Cert.Kernel11Ideal.nD Cert.Kernel11Ideal.τ).loc Cert.Kernel11Ideal.main_v10)) (v2 : (c : Dev Cert.Kernel11Ideal.nD) → Buf (Elt Ideal) ((c.tc : Thread Cert.Kernel11Ideal.nD Cert.Kernel11Ideal.τ).loc Cert.Kernel11Ideal.main_v13)) (v3 : (c : Dev Cert.Kernel11Ideal.nD) → Buf (Elt Ideal) ((c.tc : Thread Cert.Kernel11Ideal.nD Cert.Kernel11Ideal.τ).loc Cert.Kernel11Ideal.main_v16)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v7) = v0 c
          ∧ r.2.mem ((c.tc : Thread Cert.Kernel11Ideal.nD Cert.Kernel11Ideal.τ).loc Cert.Kernel11Ideal.main_v10) = v1 c
          ∧ r.2.mem ((c.tc : Thread Cert.Kernel11Ideal.nD Cert.Kernel11Ideal.τ).loc Cert.Kernel11Ideal.main_v13) = v2 c
          ∧ r.2.mem ((c.tc : Thread Cert.Kernel11Ideal.nD Cert.Kernel11Ideal.τ).loc Cert.Kernel11Ideal.main_v16) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v31) = v1 c
          ∧ r.2.mem ((c.tc : Thread Cert.Reference11Ideal.nD Cert.Reference11Ideal.τ).loc Cert.Reference11Ideal.main_v12) = v2 c
          ∧ r.2.mem ((c.tc : Thread Cert.Reference11Ideal.nD Cert.Reference11Ideal.τ).loc Cert.Reference11Ideal.main_v18) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def preserves_Kernel14_Kernel14Ideal : Prop :=
  True

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)
      ∧ m' ((c.tc : Thread Cert.Reference15Ideal.nD Cert.Reference15Ideal.τ).loc Cert.Reference15Ideal.main_arg10) = m ((c.tc : Thread Cert.Kernel15Ideal.nD Cert.Kernel15Ideal.τ).loc Cert.Kernel15Ideal.main_arg10)
      ∧ m' ((c.tc : Thread Cert.Reference15Ideal.nD Cert.Reference15Ideal.τ).loc Cert.Reference15Ideal.main_arg11) = m ((c.tc : Thread Cert.Kernel15Ideal.nD Cert.Kernel15Ideal.τ).loc Cert.Kernel15Ideal.main_arg11)
      ∧ m' ((c.tc : Thread Cert.Reference15Ideal.nD Cert.Reference15Ideal.τ).loc Cert.Reference15Ideal.main_arg12) = m ((c.tc : Thread Cert.Kernel15Ideal.nD Cert.Kernel15Ideal.τ).loc Cert.Kernel15Ideal.main_arg12)
      ∧ m' ((c.tc : Thread Cert.Reference15Ideal.nD Cert.Reference15Ideal.τ).loc Cert.Reference15Ideal.main_arg13) = m ((c.tc : Thread Cert.Kernel15Ideal.nD Cert.Kernel15Ideal.τ).loc Cert.Kernel15Ideal.main_arg13)
      ∧ m' ((c.tc : Thread Cert.Reference15Ideal.nD Cert.Reference15Ideal.τ).loc Cert.Reference15Ideal.main_arg14) = m ((c.tc : Thread Cert.Kernel15Ideal.nD Cert.Kernel15Ideal.τ).loc Cert.Kernel15Ideal.main_arg14)
      ∧ m' ((c.tc : Thread Cert.Reference15Ideal.nD Cert.Reference15Ideal.τ).loc Cert.Reference15Ideal.main_arg15) = m ((c.tc : Thread Cert.Kernel15Ideal.nD Cert.Kernel15Ideal.τ).loc Cert.Kernel15Ideal.main_arg15)
      ∧ m' ((c.tc : Thread Cert.Reference15Ideal.nD Cert.Reference15Ideal.τ).loc Cert.Reference15Ideal.main_arg16) = m ((c.tc : Thread Cert.Kernel15Ideal.nD Cert.Kernel15Ideal.τ).loc Cert.Kernel15Ideal.main_arg16)
      ∧ m' ((c.tc : Thread Cert.Reference15Ideal.nD Cert.Reference15Ideal.τ).loc Cert.Reference15Ideal.main_arg17) = m ((c.tc : Thread Cert.Kernel15Ideal.nD Cert.Kernel15Ideal.τ).loc Cert.Kernel15Ideal.main_arg17)
      ∧ m' ((c.tc : Thread Cert.Reference15Ideal.nD Cert.Reference15Ideal.τ).loc Cert.Reference15Ideal.main_arg18) = m ((c.tc : Thread Cert.Kernel15Ideal.nD Cert.Kernel15Ideal.τ).loc Cert.Kernel15Ideal.main_arg18)
      ∧ m' ((c.tc : Thread Cert.Reference15Ideal.nD Cert.Reference15Ideal.τ).loc Cert.Reference15Ideal.main_arg19) = m ((c.tc : Thread Cert.Kernel15Ideal.nD Cert.Kernel15Ideal.τ).loc Cert.Kernel15Ideal.main_arg19)
      ∧ m' ((c.tc : Thread Cert.Reference15Ideal.nD Cert.Reference15Ideal.τ).loc Cert.Reference15Ideal.main_arg20) = m ((c.tc : Thread Cert.Kernel15Ideal.nD Cert.Kernel15Ideal.τ).loc Cert.Kernel15Ideal.main_arg20)
      ∧ m' ((c.tc : Thread Cert.Reference15Ideal.nD Cert.Reference15Ideal.τ).loc Cert.Reference15Ideal.main_arg21) = m ((c.tc : Thread Cert.Kernel15Ideal.nD Cert.Kernel15Ideal.τ).loc Cert.Kernel15Ideal.main_arg21)
      ∧ m' ((c.tc : Thread Cert.Reference15Ideal.nD Cert.Reference15Ideal.τ).loc Cert.Reference15Ideal.main_arg22) = m ((c.tc : Thread Cert.Kernel15Ideal.nD Cert.Kernel15Ideal.τ).loc Cert.Kernel15Ideal.main_arg22)
      ∧ m' ((c.tc : Thread Cert.Reference15Ideal.nD Cert.Reference15Ideal.τ).loc Cert.Reference15Ideal.main_arg23) = m ((c.tc : Thread Cert.Kernel15Ideal.nD Cert.Kernel15Ideal.τ).loc Cert.Kernel15Ideal.main_arg23)
      ∧ m' ((c.tc : Thread Cert.Reference15Ideal.nD Cert.Reference15Ideal.τ).loc Cert.Reference15Ideal.main_arg24) = m ((c.tc : Thread Cert.Kernel15Ideal.nD Cert.Kernel15Ideal.τ).loc Cert.Kernel15Ideal.main_arg24)
      ∧ m' ((c.tc : Thread Cert.Reference15Ideal.nD Cert.Reference15Ideal.τ).loc Cert.Reference15Ideal.main_arg25) = m ((c.tc : Thread Cert.Kernel15Ideal.nD Cert.Kernel15Ideal.τ).loc Cert.Kernel15Ideal.main_arg25)
      ∧ m' ((c.tc : Thread Cert.Reference15Ideal.nD Cert.Reference15Ideal.τ).loc Cert.Reference15Ideal.main_arg26) = m ((c.tc : Thread Cert.Kernel15Ideal.nD Cert.Kernel15Ideal.τ).loc Cert.Kernel15Ideal.main_arg26)
      ∧ m' ((c.tc : Thread Cert.Reference15Ideal.nD Cert.Reference15Ideal.τ).loc Cert.Reference15Ideal.main_arg27) = m ((c.tc : Thread Cert.Kernel15Ideal.nD Cert.Kernel15Ideal.τ).loc Cert.Kernel15Ideal.main_arg27)
      ∧ m' ((c.tc : Thread Cert.Reference15Ideal.nD Cert.Reference15Ideal.τ).loc Cert.Reference15Ideal.main_arg28) = m ((c.tc : Thread Cert.Kernel15Ideal.nD Cert.Kernel15Ideal.τ).loc Cert.Kernel15Ideal.main_arg28)
      ∧ m' ((c.tc : Thread Cert.Reference15Ideal.nD Cert.Reference15Ideal.τ).loc Cert.Reference15Ideal.main_arg29) = m ((c.tc : Thread Cert.Kernel15Ideal.nD Cert.Kernel15Ideal.τ).loc Cert.Kernel15Ideal.main_arg29)
      ∧ m' ((c.tc : Thread Cert.Reference15Ideal.nD Cert.Reference15Ideal.τ).loc Cert.Reference15Ideal.main_arg30) = m ((c.tc : Thread Cert.Kernel15Ideal.nD Cert.Kernel15Ideal.τ).loc Cert.Kernel15Ideal.main_arg30)
      ∧ m' ((c.tc : Thread Cert.Reference15Ideal.nD Cert.Reference15Ideal.τ).loc Cert.Reference15Ideal.main_arg31) = m ((c.tc : Thread Cert.Kernel15Ideal.nD Cert.Kernel15Ideal.τ).loc Cert.Kernel15Ideal.main_arg31)) →
    ∃ (v0 : (c : Dev Cert.Kernel15Ideal.nD) → Buf (Elt Ideal) ((c.tc : Thread Cert.Kernel15Ideal.nD Cert.Kernel15Ideal.τ).loc Cert.Kernel15Ideal.main_v40)) (v1 : (c : Dev Cert.Kernel15Ideal.nD) → Buf (Elt Ideal) ((c.tc : Thread Cert.Kernel15Ideal.nD Cert.Kernel15Ideal.τ).loc Cert.Kernel15Ideal.main_v42)) (v2 : (c : Dev Cert.Kernel15Ideal.nD) → Buf (Elt Ideal) ((c.tc : Thread Cert.Kernel15Ideal.nD Cert.Kernel15Ideal.τ).loc Cert.Kernel15Ideal.main_v44)) (v3 : (c : Dev Cert.Kernel15Ideal.nD) → Buf (Elt Ideal) ((c.tc : Thread Cert.Kernel15Ideal.nD Cert.Kernel15Ideal.τ).loc Cert.Kernel15Ideal.main_v46)) (v4 : (c : Dev Cert.Kernel15Ideal.nD) → Buf (Elt Ideal) ((c.tc : Thread Cert.Kernel15Ideal.nD Cert.Kernel15Ideal.τ).loc Cert.Kernel15Ideal.main_v48)) (v5 : (c : Dev Cert.Kernel15Ideal.nD) → Buf (Elt Ideal) ((c.tc : Thread Cert.Kernel15Ideal.nD Cert.Kernel15Ideal.τ).loc Cert.Kernel15Ideal.main_v50)) (v6 : (c : Dev Cert.Kernel15Ideal.nD) → Buf (Elt Ideal) ((c.tc : Thread Cert.Kernel15Ideal.nD Cert.Kernel15Ideal.τ).loc Cert.Kernel15Ideal.main_v51)) (v7 : (c : Dev Cert.Kernel15Ideal.nD) → Buf (Elt Ideal) ((c.tc : Thread Cert.Kernel15Ideal.nD Cert.Kernel15Ideal.τ).loc Cert.Kernel15Ideal.main_v55)) (v8 : (c : Dev Cert.Kernel15Ideal.nD) → Buf (Elt Ideal) ((c.tc : Thread Cert.Kernel15Ideal.nD Cert.Kernel15Ideal.τ).loc Cert.Kernel15Ideal.main_v57)) (v9 : (c : Dev Cert.Kernel15Ideal.nD) → Buf (Elt Ideal) ((c.tc : Thread Cert.Kernel15Ideal.nD Cert.Kernel15Ideal.τ).loc Cert.Kernel15Ideal.main_v59)) (v10 : (c : Dev Cert.Kernel15Ideal.nD) → Buf (Elt Ideal) ((c.tc : Thread Cert.Kernel15Ideal.nD Cert.Kernel15Ideal.τ).loc Cert.Kernel15Ideal.main_v61)) (v11 : (c : Dev Cert.Kernel15Ideal.nD) → Buf (Elt Ideal) ((c.tc : Thread Cert.Kernel15Ideal.nD Cert.Kernel15Ideal.τ).loc Cert.Kernel15Ideal.main_v63)) (v12 : (c : Dev Cert.Kernel15Ideal.nD) → Buf (Elt Ideal) ((c.tc : Thread Cert.Kernel15Ideal.nD Cert.Kernel15Ideal.τ).loc Cert.Kernel15Ideal.main_v65)) (v13 : (c : Dev Cert.Kernel15Ideal.nD) → Buf (Elt Ideal) ((c.tc : Thread Cert.Kernel15Ideal.nD Cert.Kernel15Ideal.τ).loc Cert.Kernel15Ideal.main_v66)) (v14 : (c : Dev Cert.Kernel15Ideal.nD) → Buf (Elt Ideal) ((c.tc : Thread Cert.Kernel15Ideal.nD Cert.Kernel15Ideal.τ).loc Cert.Kernel15Ideal.main_v70)) (v15 : (c : Dev Cert.Kernel15Ideal.nD) → Buf (Elt Ideal) ((c.tc : Thread Cert.Kernel15Ideal.nD Cert.Kernel15Ideal.τ).loc Cert.Kernel15Ideal.main_v72)) (v16 : (c : Dev Cert.Kernel15Ideal.nD) → Buf (Elt Ideal) ((c.tc : Thread Cert.Kernel15Ideal.nD Cert.Kernel15Ideal.τ).loc Cert.Kernel15Ideal.main_v74)) (v17 : (c : Dev Cert.Kernel15Ideal.nD) → Buf (Elt Ideal) ((c.tc : Thread Cert.Kernel15Ideal.nD Cert.Kernel15Ideal.τ).loc Cert.Kernel15Ideal.main_v76)) (v18 : (c : Dev Cert.Kernel15Ideal.nD) → Buf (Elt Ideal) ((c.tc : Thread Cert.Kernel15Ideal.nD Cert.Kernel15Ideal.τ).loc Cert.Kernel15Ideal.main_v78)) (v19 : (c : Dev Cert.Kernel15Ideal.nD) → Buf (Elt Ideal) ((c.tc : Thread Cert.Kernel15Ideal.nD Cert.Kernel15Ideal.τ).loc Cert.Kernel15Ideal.main_v80)) (v20 : (c : Dev Cert.Kernel15Ideal.nD) → Buf (Elt Ideal) ((c.tc : Thread Cert.Kernel15Ideal.nD Cert.Kernel15Ideal.τ).loc Cert.Kernel15Ideal.main_v81)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v40) = v0 c
          ∧ r.2.mem ((c.tc : Thread Cert.Kernel15Ideal.nD Cert.Kernel15Ideal.τ).loc Cert.Kernel15Ideal.main_v42) = v1 c
          ∧ r.2.mem ((c.tc : Thread Cert.Kernel15Ideal.nD Cert.Kernel15Ideal.τ).loc Cert.Kernel15Ideal.main_v44) = v2 c
          ∧ r.2.mem ((c.tc : Thread Cert.Kernel15Ideal.nD Cert.Kernel15Ideal.τ).loc Cert.Kernel15Ideal.main_v46) = v3 c
          ∧ r.2.mem ((c.tc : Thread Cert.Kernel15Ideal.nD Cert.Kernel15Ideal.τ).loc Cert.Kernel15Ideal.main_v48) = v4 c
          ∧ r.2.mem ((c.tc : Thread Cert.Kernel15Ideal.nD Cert.Kernel15Ideal.τ).loc Cert.Kernel15Ideal.main_v50) = v5 c
          ∧ r.2.mem ((c.tc : Thread Cert.Kernel15Ideal.nD Cert.Kernel15Ideal.τ).loc Cert.Kernel15Ideal.main_v51) = v6 c
          ∧ r.2.mem ((c.tc : Thread Cert.Kernel15Ideal.nD Cert.Kernel15Ideal.τ).loc Cert.Kernel15Ideal.main_v55) = v7 c
          ∧ r.2.mem ((c.tc : Thread Cert.Kernel15Ideal.nD Cert.Kernel15Ideal.τ).loc Cert.Kernel15Ideal.main_v57) = v8 c
          ∧ r.2.mem ((c.tc : Thread Cert.Kernel15Ideal.nD Cert.Kernel15Ideal.τ).loc Cert.Kernel15Ideal.main_v59) = v9 c
          ∧ r.2.mem ((c.tc : Thread Cert.Kernel15Ideal.nD Cert.Kernel15Ideal.τ).loc Cert.Kernel15Ideal.main_v61) = v10 c
          ∧ r.2.mem ((c.tc : Thread Cert.Kernel15Ideal.nD Cert.Kernel15Ideal.τ).loc Cert.Kernel15Ideal.main_v63) = v11 c
          ∧ r.2.mem ((c.tc : Thread Cert.Kernel15Ideal.nD Cert.Kernel15Ideal.τ).loc Cert.Kernel15Ideal.main_v65) = v12 c
          ∧ r.2.mem ((c.tc : Thread Cert.Kernel15Ideal.nD Cert.Kernel15Ideal.τ).loc Cert.Kernel15Ideal.main_v66) = v13 c
          ∧ r.2.mem ((c.tc : Thread Cert.Kernel15Ideal.nD Cert.Kernel15Ideal.τ).loc Cert.Kernel15Ideal.main_v70) = v14 c
          ∧ r.2.mem ((c.tc : Thread Cert.Kernel15Ideal.nD Cert.Kernel15Ideal.τ).loc Cert.Kernel15Ideal.main_v72) = v15 c
          ∧ r.2.mem ((c.tc : Thread Cert.Kernel15Ideal.nD Cert.Kernel15Ideal.τ).loc Cert.Kernel15Ideal.main_v74) = v16 c
          ∧ r.2.mem ((c.tc : Thread Cert.Kernel15Ideal.nD Cert.Kernel15Ideal.τ).loc Cert.Kernel15Ideal.main_v76) = v17 c
          ∧ r.2.mem ((c.tc : Thread Cert.Kernel15Ideal.nD Cert.Kernel15Ideal.τ).loc Cert.Kernel15Ideal.main_v78) = v18 c
          ∧ r.2.mem ((c.tc : Thread Cert.Kernel15Ideal.nD Cert.Kernel15Ideal.τ).loc Cert.Kernel15Ideal.main_v80) = v19 c
          ∧ r.2.mem ((c.tc : Thread Cert.Kernel15Ideal.nD Cert.Kernel15Ideal.τ).loc Cert.Kernel15Ideal.main_v81) = v20 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
          ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
          ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
          ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
          ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13)
          ∧ r.2.mem ((c.tc : Thread Cert.Kernel15Ideal.nD Cert.Kernel15Ideal.τ).loc Cert.Kernel15Ideal.main_arg14) = m ((c.tc : Thread Cert.Kernel15Ideal.nD Cert.Kernel15Ideal.τ).loc Cert.Kernel15Ideal.main_arg14)
          ∧ r.2.mem ((c.tc : Thread Cert.Kernel15Ideal.nD Cert.Kernel15Ideal.τ).loc Cert.Kernel15Ideal.main_arg15) = m ((c.tc : Thread Cert.Kernel15Ideal.nD Cert.Kernel15Ideal.τ).loc Cert.Kernel15Ideal.main_arg15)
          ∧ r.2.mem ((c.tc : Thread Cert.Kernel15Ideal.nD Cert.Kernel15Ideal.τ).loc Cert.Kernel15Ideal.main_arg16) = m ((c.tc : Thread Cert.Kernel15Ideal.nD Cert.Kernel15Ideal.τ).loc Cert.Kernel15Ideal.main_arg16)
          ∧ r.2.mem ((c.tc : Thread Cert.Kernel15Ideal.nD Cert.Kernel15Ideal.τ).loc Cert.Kernel15Ideal.main_arg17) = m ((c.tc : Thread Cert.Kernel15Ideal.nD Cert.Kernel15Ideal.τ).loc Cert.Kernel15Ideal.main_arg17)
          ∧ r.2.mem ((c.tc : Thread Cert.Kernel15Ideal.nD Cert.Kernel15Ideal.τ).loc Cert.Kernel15Ideal.main_arg18) = m ((c.tc : Thread Cert.Kernel15Ideal.nD Cert.Kernel15Ideal.τ).loc Cert.Kernel15Ideal.main_arg18)
          ∧ r.2.mem ((c.tc : Thread Cert.Kernel15Ideal.nD Cert.Kernel15Ideal.τ).loc Cert.Kernel15Ideal.main_arg19) = m ((c.tc : Thread Cert.Kernel15Ideal.nD Cert.Kernel15Ideal.τ).loc Cert.Kernel15Ideal.main_arg19)
          ∧ r.2.mem ((c.tc : Thread Cert.Kernel15Ideal.nD Cert.Kernel15Ideal.τ).loc Cert.Kernel15Ideal.main_arg20) = m ((c.tc : Thread Cert.Kernel15Ideal.nD Cert.Kernel15Ideal.τ).loc Cert.Kernel15Ideal.main_arg20)
          ∧ r.2.mem ((c.tc : Thread Cert.Kernel15Ideal.nD Cert.Kernel15Ideal.τ).loc Cert.Kernel15Ideal.main_arg21) = m ((c.tc : Thread Cert.Kernel15Ideal.nD Cert.Kernel15Ideal.τ).loc Cert.Kernel15Ideal.main_arg21)
          ∧ r.2.mem ((c.tc : Thread Cert.Kernel15Ideal.nD Cert.Kernel15Ideal.τ).loc Cert.Kernel15Ideal.main_arg22) = m ((c.tc : Thread Cert.Kernel15Ideal.nD Cert.Kernel15Ideal.τ).loc Cert.Kernel15Ideal.main_arg22)
          ∧ r.2.mem ((c.tc : Thread Cert.Kernel15Ideal.nD Cert.Kernel15Ideal.τ).loc Cert.Kernel15Ideal.main_arg23) = m ((c.tc : Thread Cert.Kernel15Ideal.nD Cert.Kernel15Ideal.τ).loc Cert.Kernel15Ideal.main_arg23)
          ∧ r.2.mem ((c.tc : Thread Cert.Kernel15Ideal.nD Cert.Kernel15Ideal.τ).loc Cert.Kernel15Ideal.main_arg24) = m ((c.tc : Thread Cert.Kernel15Ideal.nD Cert.Kernel15Ideal.τ).loc Cert.Kernel15Ideal.main_arg24)
          ∧ r.2.mem ((c.tc : Thread Cert.Kernel15Ideal.nD Cert.Kernel15Ideal.τ).loc Cert.Kernel15Ideal.main_arg25) = m ((c.tc : Thread Cert.Kernel15Ideal.nD Cert.Kernel15Ideal.τ).loc Cert.Kernel15Ideal.main_arg25)
          ∧ r.2.mem ((c.tc : Thread Cert.Kernel15Ideal.nD Cert.Kernel15Ideal.τ).loc Cert.Kernel15Ideal.main_arg26) = m ((c.tc : Thread Cert.Kernel15Ideal.nD Cert.Kernel15Ideal.τ).loc Cert.Kernel15Ideal.main_arg26)
          ∧ r.2.mem ((c.tc : Thread Cert.Kernel15Ideal.nD Cert.Kernel15Ideal.τ).loc Cert.Kernel15Ideal.main_arg27) = m ((c.tc : Thread Cert.Kernel15Ideal.nD Cert.Kernel15Ideal.τ).loc Cert.Kernel15Ideal.main_arg27)
          ∧ r.2.mem ((c.tc : Thread Cert.Kernel15Ideal.nD Cert.Kernel15Ideal.τ).loc Cert.Kernel15Ideal.main_arg28) = m ((c.tc : Thread Cert.Kernel15Ideal.nD Cert.Kernel15Ideal.τ).loc Cert.Kernel15Ideal.main_arg28)
          ∧ r.2.mem ((c.tc : Thread Cert.Kernel15Ideal.nD Cert.Kernel15Ideal.τ).loc Cert.Kernel15Ideal.main_arg29) = m ((c.tc : Thread Cert.Kernel15Ideal.nD Cert.Kernel15Ideal.τ).loc Cert.Kernel15Ideal.main_arg29)
          ∧ r.2.mem ((c.tc : Thread Cert.Kernel15Ideal.nD Cert.Kernel15Ideal.τ).loc Cert.Kernel15Ideal.main_arg30) = m ((c.tc : Thread Cert.Kernel15Ideal.nD Cert.Kernel15Ideal.τ).loc Cert.Kernel15Ideal.main_arg30)
          ∧ r.2.mem ((c.tc : Thread Cert.Kernel15Ideal.nD Cert.Kernel15Ideal.τ).loc Cert.Kernel15Ideal.main_arg31) = m ((c.tc : Thread Cert.Kernel15Ideal.nD Cert.Kernel15Ideal.τ).loc Cert.Kernel15Ideal.main_arg31))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v47) = v1 c
          ∧ r.2.mem ((c.tc : Thread Cert.Reference15Ideal.nD Cert.Reference15Ideal.τ).loc Cert.Reference15Ideal.main_v71) = v2 c
          ∧ r.2.mem ((c.tc : Thread Cert.Reference15Ideal.nD Cert.Reference15Ideal.τ).loc Cert.Reference15Ideal.main_v95) = v3 c
          ∧ r.2.mem ((c.tc : Thread Cert.Reference15Ideal.nD Cert.Reference15Ideal.τ).loc Cert.Reference15Ideal.main_v119) = v4 c
          ∧ r.2.mem ((c.tc : Thread Cert.Reference15Ideal.nD Cert.Reference15Ideal.τ).loc Cert.Reference15Ideal.main_v143) = v5 c
          ∧ r.2.mem ((c.tc : Thread Cert.Reference15Ideal.nD Cert.Reference15Ideal.τ).loc Cert.Reference15Ideal.main_v167) = v6 c
          ∧ r.2.mem ((c.tc : Thread Cert.Reference15Ideal.nD Cert.Reference15Ideal.τ).loc Cert.Reference15Ideal.main_v4) = v7 c
          ∧ r.2.mem ((c.tc : Thread Cert.Reference15Ideal.nD Cert.Reference15Ideal.τ).loc Cert.Reference15Ideal.main_v28) = v8 c
          ∧ r.2.mem ((c.tc : Thread Cert.Reference15Ideal.nD Cert.Reference15Ideal.τ).loc Cert.Reference15Ideal.main_v52) = v9 c
          ∧ r.2.mem ((c.tc : Thread Cert.Reference15Ideal.nD Cert.Reference15Ideal.τ).loc Cert.Reference15Ideal.main_v76) = v10 c
          ∧ r.2.mem ((c.tc : Thread Cert.Reference15Ideal.nD Cert.Reference15Ideal.τ).loc Cert.Reference15Ideal.main_v100) = v11 c
          ∧ r.2.mem ((c.tc : Thread Cert.Reference15Ideal.nD Cert.Reference15Ideal.τ).loc Cert.Reference15Ideal.main_v124) = v12 c
          ∧ r.2.mem ((c.tc : Thread Cert.Reference15Ideal.nD Cert.Reference15Ideal.τ).loc Cert.Reference15Ideal.main_v148) = v13 c
          ∧ r.2.mem ((c.tc : Thread Cert.Reference15Ideal.nD Cert.Reference15Ideal.τ).loc Cert.Reference15Ideal.main_v10) = v14 c
          ∧ r.2.mem ((c.tc : Thread Cert.Reference15Ideal.nD Cert.Reference15Ideal.τ).loc Cert.Reference15Ideal.main_v34) = v15 c
          ∧ r.2.mem ((c.tc : Thread Cert.Reference15Ideal.nD Cert.Reference15Ideal.τ).loc Cert.Reference15Ideal.main_v58) = v16 c
          ∧ r.2.mem ((c.tc : Thread Cert.Reference15Ideal.nD Cert.Reference15Ideal.τ).loc Cert.Reference15Ideal.main_v82) = v17 c
          ∧ r.2.mem ((c.tc : Thread Cert.Reference15Ideal.nD Cert.Reference15Ideal.τ).loc Cert.Reference15Ideal.main_v106) = v18 c
          ∧ r.2.mem ((c.tc : Thread Cert.Reference15Ideal.nD Cert.Reference15Ideal.τ).loc Cert.Reference15Ideal.main_v130) = v19 c
          ∧ r.2.mem ((c.tc : Thread Cert.Reference15Ideal.nD Cert.Reference15Ideal.τ).loc Cert.Reference15Ideal.main_v154) = v20 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
          ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10)
          ∧ r.2.mem ((c.tc : Thread Cert.Reference15Ideal.nD Cert.Reference15Ideal.τ).loc Cert.Reference15Ideal.main_arg11) = m' ((c.tc : Thread Cert.Reference15Ideal.nD Cert.Reference15Ideal.τ).loc Cert.Reference15Ideal.main_arg11)
          ∧ r.2.mem ((c.tc : Thread Cert.Reference15Ideal.nD Cert.Reference15Ideal.τ).loc Cert.Reference15Ideal.main_arg12) = m' ((c.tc : Thread Cert.Reference15Ideal.nD Cert.Reference15Ideal.τ).loc Cert.Reference15Ideal.main_arg12)
          ∧ r.2.mem ((c.tc : Thread Cert.Reference15Ideal.nD Cert.Reference15Ideal.τ).loc Cert.Reference15Ideal.main_arg13) = m' ((c.tc : Thread Cert.Reference15Ideal.nD Cert.Reference15Ideal.τ).loc Cert.Reference15Ideal.main_arg13)
          ∧ r.2.mem ((c.tc : Thread Cert.Reference15Ideal.nD Cert.Reference15Ideal.τ).loc Cert.Reference15Ideal.main_arg14) = m' ((c.tc : Thread Cert.Reference15Ideal.nD Cert.Reference15Ideal.τ).loc Cert.Reference15Ideal.main_arg14)
          ∧ r.2.mem ((c.tc : Thread Cert.Reference15Ideal.nD Cert.Reference15Ideal.τ).loc Cert.Reference15Ideal.main_arg15) = m' ((c.tc : Thread Cert.Reference15Ideal.nD Cert.Reference15Ideal.τ).loc Cert.Reference15Ideal.main_arg15)
          ∧ r.2.mem ((c.tc : Thread Cert.Reference15Ideal.nD Cert.Reference15Ideal.τ).loc Cert.Reference15Ideal.main_arg16) = m' ((c.tc : Thread Cert.Reference15Ideal.nD Cert.Reference15Ideal.τ).loc Cert.Reference15Ideal.main_arg16)
          ∧ r.2.mem ((c.tc : Thread Cert.Reference15Ideal.nD Cert.Reference15Ideal.τ).loc Cert.Reference15Ideal.main_arg17) = m' ((c.tc : Thread Cert.Reference15Ideal.nD Cert.Reference15Ideal.τ).loc Cert.Reference15Ideal.main_arg17)
          ∧ r.2.mem ((c.tc : Thread Cert.Reference15Ideal.nD Cert.Reference15Ideal.τ).loc Cert.Reference15Ideal.main_arg18) = m' ((c.tc : Thread Cert.Reference15Ideal.nD Cert.Reference15Ideal.τ).loc Cert.Reference15Ideal.main_arg18)
          ∧ r.2.mem ((c.tc : Thread Cert.Reference15Ideal.nD Cert.Reference15Ideal.τ).loc Cert.Reference15Ideal.main_arg19) = m' ((c.tc : Thread Cert.Reference15Ideal.nD Cert.Reference15Ideal.τ).loc Cert.Reference15Ideal.main_arg19)
          ∧ r.2.mem ((c.tc : Thread Cert.Reference15Ideal.nD Cert.Reference15Ideal.τ).loc Cert.Reference15Ideal.main_arg20) = m' ((c.tc : Thread Cert.Reference15Ideal.nD Cert.Reference15Ideal.τ).loc Cert.Reference15Ideal.main_arg20)
          ∧ r.2.mem ((c.tc : Thread Cert.Reference15Ideal.nD Cert.Reference15Ideal.τ).loc Cert.Reference15Ideal.main_arg21) = m' ((c.tc : Thread Cert.Reference15Ideal.nD Cert.Reference15Ideal.τ).loc Cert.Reference15Ideal.main_arg21)
          ∧ r.2.mem ((c.tc : Thread Cert.Reference15Ideal.nD Cert.Reference15Ideal.τ).loc Cert.Reference15Ideal.main_arg22) = m' ((c.tc : Thread Cert.Reference15Ideal.nD Cert.Reference15Ideal.τ).loc Cert.Reference15Ideal.main_arg22)
          ∧ r.2.mem ((c.tc : Thread Cert.Reference15Ideal.nD Cert.Reference15Ideal.τ).loc Cert.Reference15Ideal.main_arg23) = m' ((c.tc : Thread Cert.Reference15Ideal.nD Cert.Reference15Ideal.τ).loc Cert.Reference15Ideal.main_arg23)
          ∧ r.2.mem ((c.tc : Thread Cert.Reference15Ideal.nD Cert.Reference15Ideal.τ).loc Cert.Reference15Ideal.main_arg24) = m' ((c.tc : Thread Cert.Reference15Ideal.nD Cert.Reference15Ideal.τ).loc Cert.Reference15Ideal.main_arg24)
          ∧ r.2.mem ((c.tc : Thread Cert.Reference15Ideal.nD Cert.Reference15Ideal.τ).loc Cert.Reference15Ideal.main_arg25) = m' ((c.tc : Thread Cert.Reference15Ideal.nD Cert.Reference15Ideal.τ).loc Cert.Reference15Ideal.main_arg25)
          ∧ r.2.mem ((c.tc : Thread Cert.Reference15Ideal.nD Cert.Reference15Ideal.τ).loc Cert.Reference15Ideal.main_arg26) = m' ((c.tc : Thread Cert.Reference15Ideal.nD Cert.Reference15Ideal.τ).loc Cert.Reference15Ideal.main_arg26)
          ∧ r.2.mem ((c.tc : Thread Cert.Reference15Ideal.nD Cert.Reference15Ideal.τ).loc Cert.Reference15Ideal.main_arg27) = m' ((c.tc : Thread Cert.Reference15Ideal.nD Cert.Reference15Ideal.τ).loc Cert.Reference15Ideal.main_arg27)
          ∧ r.2.mem ((c.tc : Thread Cert.Reference15Ideal.nD Cert.Reference15Ideal.τ).loc Cert.Reference15Ideal.main_arg28) = m' ((c.tc : Thread Cert.Reference15Ideal.nD Cert.Reference15Ideal.τ).loc Cert.Reference15Ideal.main_arg28)
          ∧ r.2.mem ((c.tc : Thread Cert.Reference15Ideal.nD Cert.Reference15Ideal.τ).loc Cert.Reference15Ideal.main_arg29) = m' ((c.tc : Thread Cert.Reference15Ideal.nD Cert.Reference15Ideal.τ).loc Cert.Reference15Ideal.main_arg29)
          ∧ r.2.mem ((c.tc : Thread Cert.Reference15Ideal.nD Cert.Reference15Ideal.τ).loc Cert.Reference15Ideal.main_arg30) = m' ((c.tc : Thread Cert.Reference15Ideal.nD Cert.Reference15Ideal.τ).loc Cert.Reference15Ideal.main_arg30)
          ∧ r.2.mem ((c.tc : Thread Cert.Reference15Ideal.nD Cert.Reference15Ideal.τ).loc Cert.Reference15Ideal.main_arg31) = m' ((c.tc : Thread Cert.Reference15Ideal.nD Cert.Reference15Ideal.τ).loc Cert.Reference15Ideal.main_arg31))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hKernel14 : Cert.Kernel14.Facts) (hKernel14Ideal : Cert.Kernel14Ideal.Facts) (hKernel15 : Cert.Kernel15.Facts) (hKernel15Ideal : Cert.Kernel15Ideal.Facts) (hReference15Ideal : Cert.Reference15Ideal.Facts) (hPre_finite : Cert.Pre_finite.Facts) (hPre_finite2 : Cert.Pre_finite2.Facts) (hPre_finite3 : Cert.Pre_finite3.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel14 (hKernel14 := hKernel14)
    ∧ quiescent_Kernel14Ideal (hKernel14Ideal := hKernel14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ preserves_Kernel14_Kernel14Ideal
    ∧ preserves_Kernel15_Kernel15Ideal
    ∧ algebraic_Kernel15Ideal_Reference15Ideal (hKernel15Ideal := hKernel15Ideal) (hReference15Ideal := hReference15Ideal)
-- ==== Pre_finite.lean ====
abbrev S4x2048x1024 : Shape := ⟨3, ![4, 2048, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4x2048x1024 .f32) (main_arg1 : FVec F S1024 .f32) (main_arg2 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  main_v13
-- ==== Pre_finite2.lean ====
abbrev S4x2048x1536 : Shape := ⟨3, ![4, 2048, 1536]⟩
abbrev S4x2048x512 : Shape := ⟨3, ![4, 2048, 512]⟩
abbrev S512 : Shape := ⟨1, ![512]⟩
abbrev S4x128x128 : Shape := ⟨3, ![4, 128, 128]⟩
abbrev S4x128 : Shape := ⟨2, ![4, 128]⟩
abbrev S_ : Shape := ⟨0, ![]⟩

class Facts : Prop where
  bcast_S_S4x2048x1536 : S_.BroadcastsInDim S4x2048x1536 (![] : Fin 0 → Fin S4x2048x1536.rank)
  reducesTo_S4x2048x1536_S_d0_1_2 : S4x2048x1536.ReducesTo [0, 1, 2] S_
  h_S_ : 0 < S_.numel
  bcast_S_S4x2048x512 : S_.BroadcastsInDim S4x2048x512 (![] : Fin 0 → Fin S4x2048x512.rank)
  reducesTo_S4x2048x512_S_d0_1_2 : S4x2048x512.ReducesTo [0, 1, 2] S_
  bcast_S_S512 : S_.BroadcastsInDim S512 (![] : Fin 0 → Fin S512.rank)
  reducesTo_S512_S_d0 : S512.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg4 : FVec F S4x128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg4
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  main_v23

def fn {F : FTy → Type} [FloatOps F] (main_arg0 : FVec F S4x2048x1536 .f32) (main_arg1 : FVec F S4x2048x512 .f32) (main_arg2 : FVec F S512 .f32) (main_arg3 : FVec F S4x128x128 .f32) (main_arg4 : FVec F S4x128 .f32) : IVec S_ 1 :=
  let main_v0 : FVec F S4x2048x1536 .f32 := Host.absf main_arg0
  let main_cst : FVec F S_ .f32 := constant S_ .f32 0x7F800000#32
  let main_v1 : FVec F S4x2048x1536 .f32 := broadcastInDim S4x2048x1536 ![] bcast_S_S4x2048x1536 main_cst
  let main_v2 : IVec S4x2048x1536 1 := cmpf .olt main_v0 main_v1
  let main_c : IVec S_ 1 := constantI S_ 1 1#1
  let main_v3 : IVec S_ 1 := (fun x v => Host.reduce IntOp.andi x v reducesTo_S4x2048x1536_S_d0_1_2 h_S_) main_v2 main_c
  let main_v4 : FVec F S4x2048x512 .f32 := Host.absf main_arg1
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S4x128x128 .f32 := Host.absf main_arg3
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg4 main_v13 main_v16
-- ==== Pre_finite3.lean ====
abbrev S4x2048x512 : Shape := ⟨3, ![4, 2048, 512]⟩
abbrev S512 : Shape := ⟨1, ![512]⟩
abbrev S1024x1024 : Shape := ⟨2, ![1024, 1024]⟩
abbrev S4x2048x1024 : Shape := ⟨3, ![4, 2048, 1024]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S512 : S_.BroadcastsInDim S512 (![] : Fin 0 → Fin S512.rank)
  reducesTo_S512_S_d0 : S512.ReducesTo [0] S_
  bcast_S_S1024x1024 : S_.BroadcastsInDim S1024x1024 (![] : Fin 0 → Fin S1024x1024.rank)
  reducesTo_S1024x1024_S_d0_1 : S1024x1024.ReducesTo [0, 1] S_
  bcast_S_S4x2048x1024 : S_.BroadcastsInDim S4x2048x1024 (![] : Fin 0 → Fin S4x2048x1024.rank)
  reducesTo_S4x2048x1024_S_d0_1_2 : S4x2048x1024.ReducesTo [0, 1, 2] S_

variable [Facts]

def fn_part1 {F : FTy → Type} [FloatOps F] (main_arg4 : FVec F S1024x1024 .f32) (main_arg5 : FVec F S4x2048x1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S4x2048x1024 .f32 := Host.absf main_arg5
  let main_cst_8 : FVec F S_ .f32 := constant S_ .f32 0x7F800000#32
  let main_v25 : FVec F S4x2048x1024 .f32 := broadcastInDim S4x2048x1024 ![] bcast_S_S4x2048x1024 main_cst_8
  let main_v26 : IVec S4x2048x1024 1 := cmpf .olt main_v24 main_v25
  let main_c_9 : IVec S_ 1 := constantI S_ 1 1#1
  let main_v27 : IVec S_ 1 := (fun x v => Host.reduce IntOp.andi x v reducesTo_S4x2048x1024_S_d0_1_2 h_S_) main_v26 main_c_9
  let main_v28 : IVec S_ 1 := andi main_v23 main_v27
  main_v28

def fn {F : FTy → Type} [FloatOps F] (main_arg0 : FVec F S4x2048x512 .f32) (main_arg1 : FVec F S4x2048x512 .f32) (main_arg2 : FVec F S512 .f32) (main_arg3 : FVec F S512 .f32) (main_arg4 : FVec F S1024x1024 .f32) (main_arg5 : FVec F S4x2048x1024 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S4x2048x512 .f32 := Host.absf main_arg1
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Pre_finite4.lean ====
abbrev S4x2048x1024 : Shape := ⟨3, ![4, 2048, 1024]⟩
abbrev S1024 : Shape := ⟨1, ![1024]⟩
abbrev S1024x1536 : Shape := ⟨2, ![1024, 1536]⟩
abbrev S4x2048x512 : Shape := ⟨3, ![4, 2048, 512]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x1536 : S_.BroadcastsInDim S1024x1536 (![] : Fin 0 → Fin S1024x1536.rank)
  reducesTo_S1024x1536_S_d0_1 : S1024x1536.ReducesTo [0, 1] S_
  bcast_S_S4x2048x512 : S_.BroadcastsInDim S4x2048x512 (![] : Fin 0 → Fin S4x2048x512.rank)
  reducesTo_S4x2048x512_S_d0_1_2 : S4x2048x512.ReducesTo [0, 1, 2] S_

variable [Facts]

def fn_part1 {F : FTy → Type} [FloatOps F] (main_arg4 : FVec F S4x2048x512 .f32) (main_arg5 : FVec F S4x2048x512 .f32) (main_arg6 : FVec F S4x2048x1024 .f32) (main_v13 : IVec S_ 1) (main_v16 : IVec S4x2048x512 1) : IVec S_ 1 :=
  let main_c_5 : IVec S_ 1 := constantI S_ 1 1#1
  let main_v17 : IVec S_ 1 := (fun x v => Host.reduce IntOp.andi x v reducesTo_S4x2048x512_S_d0_1_2 h_S_) main_v16 main_c_5
  let main_v18 : IVec S_ 1 := andi main_v13 main_v17
  let main_v19 : FVec F S4x2048x512 .f32 := Host.absf main_arg4
  let main_cst_6 : FVec F S_ .f32 := constant S_ .f32 0x7F800000#32
  let main_v20 : FVec F S4x2048x512 .f32 := broadcastInDim S4x2048x512 ![] bcast_S_S4x2048x512 main_cst_6
  let main_v21 : IVec S4x2048x512 1 := cmpf .olt main_v19 main_v20
  let main_c_7 : IVec S_ 1 := constantI S_ 1 1#1
  let main_v22 : IVec S_ 1 := (fun x v => Host.reduce IntOp.andi x v reducesTo_S4x2048x512_S_d0_1_2 h_S_) main_v21 main_c_7
  let main_v23 : IVec S_ 1 := andi main_v18 main_v22
  let main_v24 : FVec F S4x2048x512 .f32 := Host.absf main_arg5
  let main_cst_8 : FVec F S_ .f32 := constant S_ .f32 0x7F800000#32
  let main_v25 : FVec F S4x2048x512 .f32 := broadcastInDim S4x2048x512 ![] bcast_S_S4x2048x512 main_cst_8
  let main_v26 : IVec S4x2048x512 1 := cmpf .olt main_v24 main_v25
  let main_c_9 : IVec S_ 1 := constantI S_ 1 1#1
  let main_v27 : IVec S_ 1 := (fun x v => Host.reduce IntOp.andi x v reducesTo_S4x2048x512_S_d0_1_2 h_S_) main_v26 main_c_9
  let main_v28 : IVec S_ 1 := andi main_v23 main_v27
  let main_v29 : FVec F S4x2048x1024 .f32 := Host.absf main_arg6
  let main_cst_10 : FVec F S_ .f32 := constant S_ .f32 0x7F800000#32
  let main_v30 : FVec F S4x2048x1024 .f32 := broadcastInDim S4x2048x1024 ![] bcast_S_S4x2048x1024 main_cst_10
  let main_v31 : IVec S4x2048x1024 1 := cmpf .olt main_v29 main_v30
  let main_c_11 : IVec S_ 1 := constantI S_ 1 1#1
  let main_v32 : IVec S_ 1 := (fun x v => Host.reduce IntOp.andi x v reducesTo_S4x2048x1024_S_d0_1_2 h_S_) main_v31 main_c_11
  let main_v33 : IVec S_ 1 := andi main_v28 main_v32
  main_v33

def fn {F : FTy → Type} [FloatOps F] (main_arg0 : FVec F S4x2048x1024 .f32) (main_arg1 : FVec F S1024 .f32) (main_arg2 : FVec F S1024x1536 .f32) (main_arg3 : FVec F S4x2048x512 .f32) (main_arg4 : FVec F S4x2048x512 .f32) (main_arg5 : FVec F S4x2048x512 .f32) (main_arg6 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1536 .f32 := Host.absf main_arg2
  let main_cst_2 : FVec F S_ .f32 := constant S_ .f32 0x7F800000#32
  let main_v10 : FVec F S1024x1536 .f32 := broadcastInDim S1024x1536 ![] bcast_S_S1024x1536 main_cst_2
  let main_v11 : IVec S1024x1536 1 := cmpf .olt main_v9 main_v10
  let main_c_3 : IVec S_ 1 := constantI S_ 1 1#1
  let main_v12 : IVec S_ 1 := (fun x v => Host.reduce IntOp.andi x v reducesTo_S1024x1536_S_d0_1 h_S_) main_v11 main_c_3
  let main_v13 : IVec S_ 1 := andi main_v8 main_v12
  let main_v14 : FVec F S4x2048x512 .f32 := Host.absf main_arg3
  let main_cst_4 : FVec F S_ .f32 := constant S_ .f32 0x7F800000#32
  let main_v15 : FVec F S4x2048x512 .f32 := broadcastInDim S4x2048x512 ![] bcast_S_S4x2048x512 main_cst_4
  let main_v16 : IVec S4x2048x512 1 := cmpf .olt main_v14 main_v15
  fn_part1 (F := F) main_arg4 main_arg5 main_arg6 main_v13 main_v16
-- ==== Kernel.lean ====
abbrev S4x2048x1024 : Shape := ⟨3, ![4, 2048, 1024]⟩
abbrev S1024 : Shape := ⟨1, ![1024]⟩
abbrev S8192x1024 : Shape := ⟨2, ![8192, 1024]⟩
abbrev S1x1024 : Shape := ⟨2, ![1, 1024]⟩
abbrev S8x1024 : Shape := ⟨2, ![8, 1024]⟩
abbrev S1024x1024 : Shape := ⟨2, ![1024, 1024]⟩
abbrev S1024x1 : Shape := ⟨2, ![1024, 1]⟩
abbrev S128x8x1024 : Shape := ⟨3, ![128, 8, 1024]⟩
abbrev S_ : Shape := ⟨0, ![]⟩

abbrev nBuf : Space → Nat
  | .hbm => 16
  | .vmem => 9
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x2048x1024, .f32⟩
  | .hbm, ⟨14, _⟩ => ⟨S_, .f32⟩
  | .hbm, ⟨15, _⟩ => ⟨S1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S8x1024, .f32⟩
  | .local _ .vmem, ⟨8, _⟩ => ⟨S8x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x1024, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1024, .f32⟩
  | .hbm, ⟨19, _⟩ => ⟨S4x2048x1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S_, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4x2048, .f32⟩
  | .hbm, ⟨41, _⟩ => ⟨S_, .f32⟩
  | .hbm, ⟨42, _⟩ => ⟨S4x2048, .f32⟩
  | .hbm, ⟨43, _⟩ => ⟨S4x2048, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S4x2048x1024, .f32⟩
  | .hbm, ⟨51, _⟩ => ⟨S4x2048x1024, .f32⟩
  | .hbm, ⟨52, _⟩ => ⟨S_, .f32⟩
  | .hbm, ⟨53, _⟩ => ⟨S1024, .f32⟩
  | .hbm, ⟨54, _⟩ => ⟨S4x2048x1024, .f32⟩
  | .hbm, ⟨55, _⟩ => ⟨S_, .f32⟩
  | .hbm, ⟨56, _⟩ => ⟨S4x2048, .f32⟩
  | .hbm, ⟨57, _⟩ => ⟨S4x2048x1, .f32⟩
  | .hbm, ⟨58, _⟩ => ⟨S4x2048x1024, .f32⟩
  | .hbm, ⟨59, _⟩ => ⟨S4x2048x1024, .f32⟩
  | .hbm, ⟨60, _⟩ => ⟨S4x2048x1, .f32⟩
  | .hbm, ⟨61, _⟩ => ⟨S_, .f32⟩
  | .hbm, ⟨62, _⟩ => ⟨S4x2048x1, .f32⟩
  | .hbm, ⟨63, _⟩ => ⟨S4x2048x1, .f32⟩
  | .hbm, ⟨64, _⟩ => ⟨S_, .f32⟩
  | .hbm, ⟨65, _⟩ => ⟨S4x2048, .f32⟩
  | .hbm, ⟨66, _⟩ => ⟨S4x2048x1024, .f32⟩
  | .hbm, ⟨67, _⟩ => ⟨S4x2048x1024, .f32⟩
  | .hbm, ⟨68, _⟩ => ⟨S4x2048x1024, .f32⟩
  | .hbm, ⟨69, _⟩ => ⟨S4x2048x1024, .f32⟩
  | .hbm, ⟨70, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Kernel2.lean ====
abbrev S4x2048x1536 : Shape := ⟨3, ![4, 2048, 1536]⟩
abbrev S4x2048x512 : Shape := ⟨3, ![4, 2048, 512]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S128x128 : Shape := ⟨2, ![128, 128]⟩
abbrev S1x128x128 : Shape := ⟨3, ![1, 128, 128]⟩
abbrev S128x4 : Shape := ⟨2, ![128, 4]⟩
abbrev S128x4x128 : Shape := ⟨3, ![128, 4, 128]⟩
abbrev S128x512 : Shape := ⟨2, ![128, 512]⟩
abbrev S8192x1536 : Shape := ⟨2, ![8192, 1536]⟩
abbrev S8192x512 : Shape := ⟨2, ![8192, 512]⟩
abbrev S1x512 : Shape := ⟨2, ![1, 512]⟩
abbrev S8x512 : Shape := ⟨2, ![8, 512]⟩
abbrev S1024x512 : Shape := ⟨2, ![1024, 512]⟩
abbrev S1x128 : Shape := ⟨2, ![1, 128]⟩
abbrev S128 : Shape := ⟨1, ![128]⟩
abbrev S128x1 : Shape := ⟨2, ![128, 1]⟩
abbrev S16x8x512 : Shape := ⟨3, ![16, 8, 512]⟩

abbrev nBuf : Space → Nat
  | .hbm => 46
  | .vmem => 16
  | .smem => 0
  | _ => 0

abbrev bufTy : (tb : Table) → Fin (tcTables nBuf tb) → BufTy
  | .hbm, ⟨0, _⟩ => ⟨S4x2048x1536, .f32⟩
  | .hbm, ⟨1, _⟩ => ⟨S4x2048x512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S1x128x128, .i1⟩
  | .hbm, ⟨17, _⟩ => ⟨S_, .f32⟩
  | .hbm, ⟨18, _⟩ => ⟨S_, .f32⟩
  | .hbm, ⟨19, _⟩ => ⟨S4x128x128, .i1⟩
  | .hbm, ⟨20, _⟩ => ⟨S4x128x128, .f32⟩
  | .hbm, ⟨21, _⟩ => ⟨S4x128x128, .f32⟩
  | .hbm, ⟨22, _⟩ => ⟨S4x128x128, .bf16⟩
  | .hbm, ⟨23, _⟩ => ⟨S128x4, .f32⟩
  | .hbm, ⟨24, _⟩ => ⟨S128x4x128, .f32⟩
  | .hbm, ⟨25, _⟩ => ⟨S128x512, .f32⟩
  | .hbm, ⟨26, _⟩ => ⟨S8192x1536, .f32⟩
  | .hbm, ⟨27, _⟩ => ⟨S8192x512, .f32⟩
  | .hbm, ⟨28, _⟩ => ⟨S1x512, .f32⟩
  | .hbm, ⟨29, _⟩ => ⟨S8192x512, .f32⟩
  | .hbm, ⟨30, _⟩ => ⟨S8192x512, .f32⟩
  | .hbm, ⟨31, _⟩ => ⟨S4x128x128, .f32⟩
  | .hbm, ⟨32, _⟩ => ⟨S128x512, .f32⟩
  | .hbm, ⟨33, _⟩ => ⟨S8x512, .f32⟩
  | .hbm, ⟨34, _⟩ => ⟨S1x128x128, .i1⟩
  | .hbm, ⟨35, _⟩ => ⟨S_, .f32⟩
  | .hbm, ⟨36, _⟩ => ⟨S_, .f32⟩
  | .hbm, ⟨37, _⟩ => ⟨S4x128x128, .i1⟩
  | .hbm, ⟨38, _⟩ => ⟨S4x128x128, .f32⟩
  | .hbm, ⟨39, _⟩ => ⟨S4x128x128, .f32⟩
  | .hbm, ⟨40, _⟩ => ⟨S128x4x128, .f32⟩
  | .hbm, ⟨41, _⟩ => ⟨S_, .f32⟩
  | .hbm, ⟨42, _⟩ => ⟨S128x4, .f32⟩
  | .hbm, ⟨43, _⟩ => ⟨S4x128, .f32⟩
  | .hbm, ⟨44, _⟩ => ⟨S_, .f32⟩
  | .hbm, ⟨45, _⟩ => ⟨S512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S4x128x128, .bf16⟩
  | .local _ .vmem, ⟨8, _⟩ => ⟨S128x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S4x128x128, .f32⟩
  | .local _ .vmem, ⟨14, _⟩ => ⟨S128x512, .f32⟩
  | .local _ .vmem, ⟨15, _⟩ => ⟨S8x512, .f32⟩
  | _, _ => ⟨S4x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11_0 : Ref sig .tc := ⟨.hbm, 29, rfl⟩
abbrev main_v11_1 : Ref sig .tc := ⟨.hbm, 30, rfl⟩
abbrev main_v11_2 : Ref sig .tc := ⟨.hbm, 31, rfl⟩
abbrev main_v11_3 : Ref sig .tc := ⟨.hbm, 32, rfl⟩
abbrev main_v11_4 : Ref sig .tc := ⟨.hbm, 33, rfl⟩
abbrev main_v12 : Ref sig .tc := ⟨.hbm, 34, rfl⟩
abbrev main_cst_0 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_v13 : Ref sig .tc := ⟨.hbm, 39, rfl⟩
abbrev main_v14 : Ref sig .tc := ⟨.hbm, 40, rfl⟩
abbrev main_cst_1 : Ref sig .tc := ⟨.hbm, 41, rfl⟩
abbrev main_v15 : Ref sig .tc := ⟨.hbm, 42, rfl⟩
abbrev main_v16 : Ref sig .tc := ⟨.hbm, 43, rfl⟩
abbrev main_cst_2 : Ref sig .tc := ⟨.hbm, 44, rfl⟩
abbrev main_v17 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Kernel2Ideal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== Reference2Ideal.lean ====
abbrev S4x2048x1536 : Shape := ⟨3, ![4, 2048, 1536]⟩
abbrev S4x2048x512 : Shape := ⟨3, ![4, 2048, 512]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S4x16x128x4x128 : Shape := ⟨5, ![4, 16, 128, 4, 128]⟩
abbrev S4x16x128x4 : Shape := ⟨4, ![4, 16, 128, 4]⟩
abbrev S4x16x128x4x1 : Shape := ⟨5, ![4, 16, 128, 4, 1]⟩
abbrev S1x1x1x4x128 : Shape := ⟨5, ![1, 1, 1, 4, 128]⟩
abbrev S128x128 : Shape := ⟨2, ![128, 128]⟩
abbrev S1x128x128 : Shape := ⟨3, ![1, 128, 128]⟩
abbrev S4x4x16x128x128 : Shape := ⟨5, ![4, 4, 16, 128, 128]⟩
abbrev S128x4 : Shape := ⟨2, ![128, 4]⟩
abbrev S1x1x128x4x1 : Shape := ⟨5, ![1, 1, 128, 4, 1]⟩
abbrev S8192x512 : Shape := ⟨2, ![8192, 512]⟩

abbrev nBuf : Space → Nat
  | .hbm => 188
  | .vmem => 0
  | .smem => 0
  | _ => 0

abbrev hbmTy0_0 (i : Nat) : BufTy := match i % 128 with
  | 0 => ⟨S4x2048x1536, .f32⟩
  | 1 => ⟨S4x2048x512, .f32⟩
  | 2 => ⟨S512, .f32⟩
  | 3 => ⟨S4x128x128, .f32⟩
  | 4 => ⟨S4x128, .f32⟩
  | 5 => ⟨S4x2048x512, .f32⟩
  | 6 => ⟨S4x2048x512, .f32⟩
  | 7 => ⟨S_, .f32⟩
  | 8 => ⟨S_, .f32⟩
  | 9 => ⟨S_, .f32⟩
  | 10 => ⟨S4x2048x512, .f32⟩
  | 11 => ⟨S4x2048x512, .f32⟩
  | 12 => ⟨S4x2048x512, .f32⟩
  | 13 => ⟨S_, .f32⟩
  | 14 => ⟨S4x2048x512, .f32⟩
  | 15 => ⟨S4x2048x512, .f32⟩
  | 16 => ⟨S4x2048x512, .f32⟩
  | 17 => ⟨S4x2048x512, .f32⟩
  | 18 => ⟨S4x2048x512, .f32⟩
  | 19 => ⟨S_, .f32⟩
  | 20 => ⟨S4x2048x512, .f32⟩
  | 21 => ⟨S4x2048x512, .f32⟩
  | 22 => ⟨S4x2048x512, .f32⟩
  | 23 => ⟨S_, .f32⟩
  | 24 => ⟨S4x2048x512, .f32⟩
  | 25 => ⟨S4x2048x512, .f32⟩
  | 26 => ⟨S_, .f32⟩
  | 27 => ⟨S4x2048x512, .f32⟩
  | 28 => ⟨S4x2048x512, .f32⟩
  | 29 => ⟨S4x2048x512, .f32⟩
  | 30 => ⟨S_, .f32⟩
  | 31 => ⟨S4x2048x512, .f32⟩
  | 32 => ⟨S4x2048x512, .f32⟩
  | 33 => ⟨S_, .f32⟩
  | 34 => ⟨S4x2048x512, .f32⟩
  | 35 => ⟨S4x2048x512, .f32⟩
  | 36 => ⟨S4x2048x512, .f32⟩
  | 37 => ⟨S_, .f32⟩
  | 38 => ⟨S_, .f32⟩
  | 39 => ⟨S_, .f32⟩
  | 40 => ⟨S4x2048x512, .f32⟩
  | 41 => ⟨S4x2048x512, .f32⟩
  | 42 => ⟨S4x2048x512, .f32⟩
  | 43 => ⟨S_, .f32⟩
  | 44 => ⟨S4x2048x512, .f32⟩
  | 45 => ⟨S4x2048x512, .f32⟩
  | 46 => ⟨S4x2048x512, .f32⟩
  | 47 => ⟨S4x2048x512, .f32⟩
  | 48 => ⟨S4x2048x512, .f32⟩
  | 49 => ⟨S_, .f32⟩
  | 50 => ⟨S4x2048x512, .f32⟩
  | 51 => ⟨S4x2048x512, .f32⟩
  | 52 => ⟨S4x2048x512, .f32⟩
  | 53 => ⟨S_, .f32⟩
  | 54 => ⟨S4x2048x512, .f32⟩
  | 55 => ⟨S4x2048x512, .f32⟩
  | 56 => ⟨S_, .f32⟩
  | 57 => ⟨S4x2048x512, .f32⟩
  | 58 => ⟨S4x2048x512, .f32⟩
  | 59 => ⟨S4x2048x512, .f32⟩
  | 60 => ⟨S_, .f32⟩
  | 61 => ⟨S4x2048x512, .f32⟩
  | 62 => ⟨S4x2048x512, .f32⟩
  | 63 => ⟨S_, .f32⟩
  | 64 => ⟨S4x2048x512, .f32⟩
  | 65 => ⟨S4x2048x512, .f32⟩
  | 66 => ⟨S4x2048x512, .f32⟩
  | 67 => ⟨S4x16x128x4x128, .f32⟩
  | 68 => ⟨S4x128, .f32⟩
  | 69 => ⟨S4x16x128x4x128, .f32⟩
  | 70 => ⟨S_, .f32⟩
  | 71 => ⟨S4x16x128x4, .f32⟩
  | 72 => ⟨S4x16x128x4x1, .f32⟩
  | 73 => ⟨S_, .f32⟩
  | 74 => ⟨S4x16x128x4x1, .f32⟩
  | 75 => ⟨S4x16x128x4x1, .f32⟩
  | 76 => ⟨S_, .f32⟩
  | 77 => ⟨S4x16x128x4x1, .f32⟩
  | 78 => ⟨S4x16x128x4x1, .f32⟩
  | 79 => ⟨S4x16x128x4x1, .f32⟩
  | 80 => ⟨S4x16x128x4x1, .f32⟩
  | 81 => ⟨S_, .f32⟩
  | 82 => ⟨S4x16x128x4x1, .f32⟩
  | 83 => ⟨S4x16x128x4x1, .f32⟩
  | 84 => ⟨S4x16x128x4x128, .f32⟩
  | 85 => ⟨S4x16x128x4x128, .f32⟩
  | 86 => ⟨S1x1x1x4x128, .f32⟩
  | 87 => ⟨S4x16x128x4x128, .f32⟩
  | 88 => ⟨S4x16x128x4x128, .f32⟩
  | 89 => ⟨S_, .i1⟩
  | 90 => ⟨S128x128, .i1⟩
  | 91 => ⟨S128x128, .i32⟩
  | 92 => ⟨S_, .i32⟩
  | 93 => ⟨S128x128, .i32⟩
  | 94 => ⟨S128x128, .i32⟩
  | 95 => ⟨S128x128, .i32⟩
  | 96 => ⟨S128x128, .i1⟩
  | 97 => ⟨S_, .i1⟩
  | 98 => ⟨S128x128, .i1⟩
  | 99 => ⟨S128x128, .i1⟩
  | 100 => ⟨S1x128x128, .i1⟩
  | 101 => ⟨S_, .f32⟩
  | 102 => ⟨S4x128x128, .f32⟩
  | 103 => ⟨S4x128x128, .i1⟩
  | 104 => ⟨S4x128x128, .f32⟩
  | 105 => ⟨S_, .f32⟩
  | 106 => ⟨S4x128x128, .f32⟩
  | 107 => ⟨S4x4x16x128x128, .f32⟩
  | 108 => ⟨S4x16x128x4x128, .f32⟩
  | 109 => ⟨S128x4, .f32⟩
  | 110 => ⟨S1x1x128x4x1, .f32⟩
  | 111 => ⟨S4x16x128x4x128, .f32⟩
  | 112 => ⟨S4x16x128x4x128, .f32⟩
  | 113 => ⟨S4x2048x512, .f32⟩
  | 114 => ⟨S4x2048x512, .f32⟩
  | 115 => ⟨S4x2048x512, .f32⟩
  | 116 => ⟨S4x2048x512, .f32⟩
  | 117 => ⟨S4x16x128x4x128, .f32⟩
  | 118 => ⟨S_, .f32⟩
  | 119 => ⟨S128x4, .f32⟩
  | 120 => ⟨S1x1x128x4x1, .f32⟩
  | 121 => ⟨S_, .f32⟩
  | 122 => ⟨S128x4, .f32⟩
  | 123 => ⟨S4x128, .f32⟩
  | 124 => ⟨S4x4x16x128x128, .f32⟩
  | 125 => ⟨S4x128x128, .f32⟩
  | 126 => ⟨S4x4x16x128x128, .f32⟩
  | 127 => ⟨S4x16x128x4x128, .f32⟩
  | _ => ⟨S4x2048x1536, .f32⟩

abbrev hbmTy0_1 (i : Nat) : BufTy := match i % 128 with
  | 0 => ⟨S_, .f32⟩
  | 1 => ⟨S4x128x128, .f32⟩
  | 2 => ⟨S4x128x128, .f32⟩
  | 3 => ⟨S4x16x128x4x128, .f32⟩
  | 4 => ⟨S_, .f32⟩
  | 5 => ⟨S4x128, .f32⟩
  | 6 => ⟨S1x1x1x4x128, .f32⟩
  | 7 => ⟨S4x16x128x4x128, .f32⟩
  | 8 => ⟨S4x16x128x4x128, .f32⟩
  | 9 => ⟨S_, .f32⟩
  | 10 => ⟨S4x128, .f32⟩
  | 11 => ⟨S4x16x128x4x128, .f32⟩
  | 12 => ⟨S_, .f32⟩
  | 13 => ⟨S4x16x128x4, .f32⟩
  | 14 => ⟨S4x16x128x4x1, .f32⟩
  | 15 => ⟨S4x16x128x4x128, .f32⟩
  | 16 => ⟨S4x16x128x4x128, .f32⟩
  | 17 => ⟨S4x16x128x4x1, .f32⟩
  | 18 => ⟨S_, .f32⟩
  | 19 => ⟨S4x16x128x4x1, .f32⟩
  | 20 => ⟨S4x16x128x4x1, .f32⟩
  | 21 => ⟨S_, .f32⟩
  | 22 => ⟨S4x16x128x4, .f32⟩
  | 23 => ⟨S4x16x128x4x128, .f32⟩
  | 24 => ⟨S4x16x128x4x128, .f32⟩
  | 25 => ⟨S4x16x128x4x128, .f32⟩
  | 26 => ⟨S4x16x128x4x128, .f32⟩
  | 27 => ⟨S4x16x128x4x128, .f32⟩
  | 28 => ⟨S512, .f32⟩
  | 29 => ⟨S4x2048x512, .f32⟩
  | 30 => ⟨S4x2048x512, .f32⟩
  | 31 => ⟨S4x2048x512, .f32⟩
  | 32 => ⟨S_, .f32⟩
  | 33 => ⟨S4x2048x512, .f32⟩
  | 34 => ⟨S4x2048x512, .f32⟩
  | 35 => ⟨S4x2048x512, .f32⟩
  | 36 => ⟨S_, .f32⟩
  | 37 => ⟨S4x2048x512, .f32⟩
  | 38 => ⟨S4x2048x512, .f32⟩
  | 39 => ⟨S4x2048x512, .f32⟩
  | 40 => ⟨S4x2048x512, .f32⟩
  | 41 => ⟨S4x2048x512, .f32⟩
  | 42 => ⟨S4x2048x512, .f32⟩
  | 43 => ⟨S4x2048x512, .f32⟩
  | 44 => ⟨S4x2048x512, .f32⟩
  | 45 => ⟨S4x2048x512, .f32⟩
  | 46 => ⟨S_, .f32⟩
  | 47 => ⟨S4x2048x512, .f32⟩
  | 48 => ⟨S4x2048x512, .f32⟩
  | 49 => ⟨S4x2048x512, .f32⟩
  | 50 => ⟨S_, .f32⟩
  | 51 => ⟨S4x2048x512, .f32⟩
  | 52 => ⟨S4x2048x512, .f32⟩
  | 53 => ⟨S4x2048x512, .f32⟩
  | 54 => ⟨S4x2048x512, .f32⟩
  | 55 => ⟨S4x2048x512, .f32⟩
  | 56 => ⟨S4x2048x512, .f32⟩
  | 57 => ⟨S4x2048x512, .f32⟩
  | 58 => ⟨S8192x512, .f32⟩
  | 59 => ⟨S8192x512, .f32⟩
  | _ => ⟨S4x2048x1536, .f32⟩

abbrev hbmTy (i : Nat) : BufTy := match i / 128 with
  | 0 => hbmTy0_0 i
  | 1 => hbmTy0_1 i
  | _ => ⟨S4x2048x1536, .f32⟩

abbrev bufTy : (tb : Table) → Fin (tcTables nBuf tb) → BufTy
  | .hbm, ⟨i, _⟩ => hbmTy i
  | _, _ => ⟨S4x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_cst_16 : Ref sig .tc := ⟨.hbm, 73, rfl⟩
abbrev main_v51 : Ref sig .tc := ⟨.hbm, 74, rfl⟩
abbrev main_v52 : Ref sig .tc := ⟨.hbm, 75, rfl⟩
abbrev main_cst_17 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_18 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c : Ref sig .tc := ⟨.hbm, 89, rfl⟩
abbrev main_v64 : Ref sig .tc := ⟨.hbm, 90, rfl⟩
abbrev main_call0_v0 : Ref sig .tc := ⟨.hbm, 91, rfl⟩
abbrev main_call0_c : Ref sig .tc := ⟨.hbm, 92, rfl⟩
abbrev main_call0_v1 : Ref sig .tc := ⟨.hbm, 93, rfl⟩
abbrev main_call0_v2 : Ref sig .tc := ⟨.hbm, 94, rfl⟩
abbrev main_call0_v3 : Ref sig .tc := ⟨.hbm, 95, rfl⟩
abbrev main_call0_v4 : Ref sig .tc := ⟨.hbm, 96, rfl⟩
abbrev main_call0_c_0 : Ref sig .tc := ⟨.hbm, 97, rfl⟩
abbrev main_call0_v5 : Ref sig .tc := ⟨.hbm, 98, rfl⟩
abbrev main_v65 : Ref sig .tc := ⟨.hbm, 99, rfl⟩
abbrev main_v66 : Ref sig .tc := ⟨.hbm, 100, rfl⟩
abbrev main_cst_19 : Ref sig .tc := ⟨.hbm, 101, rfl⟩
abbrev main_v67 : Ref sig .tc := ⟨.hbm, 102, rfl⟩
abbrev main_v68_1 : Ref sig .tc := ⟨.hbm, 103, rfl⟩
abbrev main_v68_0 : Ref sig .tc := ⟨.hbm, 104, rfl⟩
abbrev main_call1_cst : Ref sig .tc := ⟨.hbm, 105, rfl⟩
abbrev main_v68_2 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_20 : Ref sig .tc := ⟨.hbm, 118, rfl⟩
abbrev main_v80 : Ref sig .tc := ⟨.hbm, 119, rfl⟩
abbrev main_v81 : Ref sig .tc := ⟨.hbm, 120, rfl⟩
abbrev main_cst_21 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_call2_cst : Ref sig .tc := ⟨.hbm, 128, rfl⟩
abbrev main_call2_v0 : Ref sig .tc := ⟨.hbm, 129, rfl⟩
abbrev main_v88 : Ref sig .tc := ⟨.hbm, 130, rfl⟩
abbrev main_v89 : Ref sig .tc := ⟨.hbm, 131, rfl⟩
abbrev main_cst_22 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_23 : Ref sig .tc := ⟨.hbm, 137, rfl⟩
abbrev main_v94 : Ref sig .tc := ⟨.hbm, 138, rfl⟩
abbrev main_v95 : Ref sig .tc := ⟨.hbm, 139, rfl⟩
abbrev main_cst_24 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_25 : Ref sig .tc := ⟨.hbm, 146, rfl⟩
abbrev main_v101 : Ref sig .tc := ⟨.hbm, 147, rfl⟩
abbrev main_v102 : Ref sig .tc := ⟨.hbm, 148, rfl⟩
abbrev main_cst_26 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_27 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_cst_28 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_29 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst_30 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩

abbrev nD : Nat := 1
abbrev τ : Topo := Topo.v7x

variable {F : FTy → Type} [FloatOps F]
-- ==== Kernel3.lean ====
abbrev S4x2048x512 : Shape := ⟨3, ![4, 2048, 512]⟩
abbrev S512 : Shape := ⟨1, ![512]⟩
abbrev S1024x1024 : Shape := ⟨2, ![1024, 1024]⟩
abbrev S4x2048x1024 : Shape := ⟨3, ![4, 2048, 1024]⟩
abbrev S8192x512 : Shape := ⟨2, ![8192, 512]⟩
abbrev S1x512 : Shape := ⟨2, ![1, 512]⟩
abbrev S8192x1024 : Shape := ⟨2, ![8192, 1024]⟩
abbrev S8x512 : Shape := ⟨2, ![8, 512]⟩
abbrev S512x512 : Shape := ⟨2, ![512, 512]⟩
abbrev S512x1024 : Shape := ⟨2, ![512, 1024]⟩
abbrev S512x1 : Shape := ⟨2, ![512, 1]⟩
abbrev S64x8x512 : Shape := ⟨3, ![64, 8, 512]⟩
abbrev S_ : Shape := ⟨0, ![]⟩

abbrev nBuf : Space → Nat
  | .hbm => 21
  | .vmem => 16
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S4x2048x1024, .f32⟩
  | .hbm, ⟨6, _⟩ => ⟨S8192x512, .f32⟩
  | .hbm, ⟨7, _⟩ => ⟨S8192x512, .f32⟩
  | .hbm, ⟨8, _⟩ => ⟨S1x512, .f32⟩
  | .hbm, ⟨9, _⟩ => ⟨S1x512, .f32⟩
  | .hbm, ⟨10, _⟩ => ⟨S1024x1024, .bf16⟩
  | .hbm, ⟨11, _⟩ => ⟨S8192x1024, .f32⟩
  | .hbm, ⟨12, _⟩ => ⟨S8192x512, .f32⟩
  | .hbm, ⟨13, _⟩ => ⟨S8192x512, .f32⟩
  | .hbm, ⟨14, _⟩ => ⟨S1024x1024, .f32⟩
  | .hbm, ⟨15, _⟩ => ⟨S8x512, .f32⟩
  | .hbm, ⟨16, _⟩ => ⟨S8x512, .f32⟩
  | .hbm, ⟨17, _⟩ => ⟨S_, .f32⟩
  | .hbm, ⟨18, _⟩ => ⟨S512, .f32⟩
  | .hbm, ⟨19, _⟩ => ⟨S_, .f32⟩
  | .hbm, ⟨20, _⟩ => ⟨S512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S1024x1024, .f32⟩
  | .local _ .vmem, ⟨14, _⟩ => ⟨S8x512, .f32⟩
  | .local _ .vmem, ⟨15, _⟩ => ⟨S8x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference3Ideal.lean ====
abbrev S4x2048x512 : Shape := ⟨3, ![4, 2048, 512]⟩
abbrev S512 : Shape := ⟨1, ![512]⟩
abbrev S1024x1024 : Shape := ⟨2, ![1024, 1024]⟩
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩
abbrev S1x1x512 : Shape := ⟨3, ![1, 1, 512]⟩
abbrev S8192x512 : Shape := ⟨2, ![8192, 512]⟩

abbrev nBuf : Space → Nat
  | .hbm => 105
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S4x2048x1024, .f32⟩
  | .hbm, ⟨6, _⟩ => ⟨S4x2048x512, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x512, .f32⟩
  | .hbm, ⟨22, _⟩ => ⟨S4x2048x512, .f32⟩
  | .hbm, ⟨23, _⟩ => ⟨S1x1x512, .f32⟩
  | .hbm, ⟨24, _⟩ => ⟨S4x2048x512, .f32⟩
  | .hbm, ⟨25, _⟩ => ⟨S4x2048x512, .f32⟩
  | .hbm, ⟨26, _⟩ => ⟨S4x2048x512, .f32⟩
  | .hbm, ⟨27, _⟩ => ⟨S_, .f32⟩
  | .hbm, ⟨28, _⟩ => ⟨S4x2048, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x1, .f32⟩
  | .hbm, ⟨37, _⟩ => ⟨S4x2048x1, .f32⟩
  | .hbm, ⟨38, _⟩ => ⟨S_, .f32⟩
  | .hbm, ⟨39, _⟩ => ⟨S4x2048x1, .f32⟩
  | .hbm, ⟨40, _⟩ => ⟨S4x2048x1, .f32⟩
  | .hbm, ⟨41, _⟩ => ⟨S4x2048x512, .f32⟩
  | .hbm, ⟨42, _⟩ => ⟨S4x2048x512, .f32⟩
  | .hbm, ⟨43, _⟩ => ⟨S1x1x512, .f32⟩
  | .hbm, ⟨44, _⟩ => ⟨S4x2048x512, .f32⟩
  | .hbm, ⟨45, _⟩ => ⟨S4x2048x512, .f32⟩
  | .hbm, ⟨46, _⟩ => ⟨S4x2048x1024, .f32⟩
  | .hbm, ⟨47, _⟩ => ⟨S4x2048x1024, .f32⟩
  | .hbm, ⟨48, _⟩ => ⟨S1024x1024, .f32⟩
  | .hbm, ⟨49, _⟩ => ⟨S1024x1024, .f32⟩
  | .hbm, ⟨50, _⟩ => ⟨S4x2048x1024, .f32⟩
  | .hbm, ⟨51, _⟩ => ⟨S4x2048x512, .f32⟩
  | .hbm, ⟨52, _⟩ => ⟨S4x2048x512, .f32⟩
  | .hbm, ⟨53, _⟩ => ⟨S4x2048x512, .f32⟩
  | .hbm, ⟨54, _⟩ => ⟨S_, .f32⟩
  | .hbm, ⟨55, _⟩ => ⟨S512, .f32⟩
  | .hbm, ⟨56, _⟩ => ⟨S1x1x512, .f32⟩
  | .hbm, ⟨57, _⟩ => ⟨S4x2048x512, .f32⟩
  | .hbm, ⟨58, _⟩ => ⟨S4x2048x512, .f32⟩
  | .hbm, ⟨59, _⟩ => ⟨S_, .f32⟩
  | .hbm, ⟨60, _⟩ => ⟨S512, .f32⟩
  | .hbm, ⟨61, _⟩ => ⟨S4x2048x512, .f32⟩
  | .hbm, ⟨62, _⟩ => ⟨S_, .f32⟩
  | .hbm, ⟨63, _⟩ => ⟨S4x2048, .f32⟩
  | .hbm, ⟨64, _⟩ => ⟨S4x2048x1, .f32⟩
  | .hbm, ⟨65, _⟩ => ⟨S4x2048x512, .f32⟩
  | .hbm, ⟨66, _⟩ => ⟨S4x2048x512, .f32⟩
  | .hbm, ⟨67, _⟩ => ⟨S4x2048x1, .f32⟩
  | .hbm, ⟨68, _⟩ => ⟨S_, .f32⟩
  | .hbm, ⟨69, _⟩ => ⟨S4x2048x1, .f32⟩
  | .hbm, ⟨70, _⟩ => ⟨S4x2048x1, .f32⟩
  | .hbm, ⟨71, _⟩ => ⟨S_, .f32⟩
  | .hbm, ⟨72, _⟩ => ⟨S4x2048, .f32⟩
  | .hbm, ⟨73, _⟩ => ⟨S4x2048x512, .f32⟩
  | .hbm, ⟨74, _⟩ => ⟨S4x2048x512, .f32⟩
  | .hbm, ⟨75, _⟩ => ⟨S4x2048x512, .f32⟩
  | .hbm, ⟨76, _⟩ => ⟨S4x2048x512, .f32⟩
  | .hbm, ⟨77, _⟩ => ⟨S4x2048x512, .f32⟩
  | .hbm, ⟨78, _⟩ => ⟨S4x2048x512, .f32⟩
  | .hbm, ⟨79, _⟩ => ⟨S_, .f32⟩
  | .hbm, ⟨80, _⟩ => ⟨S512, .f32⟩
  | .hbm, ⟨81, _⟩ => ⟨S1x1x512, .f32⟩
  | .hbm, ⟨82, _⟩ => ⟨S4x2048x512, .f32⟩
  | .hbm, ⟨83, _⟩ => ⟨S4x2048x512, .f32⟩
  | .hbm, ⟨84, _⟩ => ⟨S_, .f32⟩
  | .hbm, ⟨85, _⟩ => ⟨S512, .f32⟩
  | .hbm, ⟨86, _⟩ => ⟨S4x2048x512, .f32⟩
  | .hbm, ⟨87, _⟩ => ⟨S_, .f32⟩
  | .hbm, ⟨88, _⟩ => ⟨S4x2048, .f32⟩
  | .hbm, ⟨89, _⟩ => ⟨S4x2048x1, .f32⟩
  | .hbm, ⟨90, _⟩ => ⟨S4x2048x512, .f32⟩
  | .hbm, ⟨91, _⟩ => ⟨S4x2048x512, .f32⟩
  | .hbm, ⟨92, _⟩ => ⟨S4x2048x1, .f32⟩
  | .hbm, ⟨93, _⟩ => ⟨S_, .f32⟩
  | .hbm, ⟨94, _⟩ => ⟨S4x2048x1, .f32⟩
  | .hbm, ⟨95, _⟩ => ⟨S4x2048x1, .f32⟩
  | .hbm, ⟨96, _⟩ => ⟨S_, .f32⟩
  | .hbm, ⟨97, _⟩ => ⟨S4x2048, .f32⟩
  | .hbm, ⟨98, _⟩ => ⟨S4x2048x512, .f32⟩
  | .hbm, ⟨99, _⟩ => ⟨S4x2048x512, .f32⟩
  | .hbm, ⟨100, _⟩ => ⟨S4x2048x512, .f32⟩
  | .hbm, ⟨101, _⟩ => ⟨S4x2048x512, .f32⟩
  | .hbm, ⟨102, _⟩ => ⟨S4x2048x512, .f32⟩
  | .hbm, ⟨103, _⟩ => ⟨S8192x512, .f32⟩
  | .hbm, ⟨104, _⟩ => ⟨S8192x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_13 : Ref sig .tc := ⟨.hbm, 84, rfl⟩
abbrev main_v64 : Ref sig .tc := ⟨.hbm, 85, rfl⟩
abbrev main_v65 : Ref sig .tc := ⟨.hbm, 86, rfl⟩
abbrev main_cst_14 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_15 : Ref sig .tc := ⟨.hbm, 93, rfl⟩
abbrev main_v71 : Ref sig .tc := ⟨.hbm, 94, rfl⟩
abbrev main_v72 : Ref sig .tc := ⟨.hbm, 95, rfl⟩
abbrev main_cst_16 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩

abbrev nD : Nat := 1
abbrev τ : Topo := Topo.v7x

variable {F : FTy → Type} [FloatOps F]
-- ==== Kernel4.lean ====
abbrev S4x2048x1024 : Shape := ⟨3, ![4, 2048, 1024]⟩
abbrev S1024 : Shape := ⟨1, ![1024]⟩
abbrev S1024x1536 : Shape := ⟨2, ![1024, 1536]⟩
abbrev S4x2048x512 : Shape := ⟨3, ![4, 2048, 512]⟩
abbrev S8192x1024 : Shape := ⟨2, ![8192, 1024]⟩
abbrev S1x1024 : Shape := ⟨2, ![1, 1024]⟩
abbrev S8192x512 : Shape := ⟨2, ![8192, 512]⟩
abbrev S1536x1024 : Shape := ⟨2, ![1536, 1024]⟩
abbrev S8x1024 : Shape := ⟨2, ![8, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩
abbrev S64x8x1024 : Shape := ⟨3, ![64, 8, 1024]⟩
abbrev S_ : Shape := ⟨0, ![]⟩

abbrev nBuf : Space → Nat
  | .hbm => 20
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x1536, .f32⟩
  | .hbm, ⟨3, _⟩ => ⟨S4x2048x512, .f32⟩
  | .hbm, ⟨4, _⟩ => ⟨S4x2048x512, .f32⟩
  | .hbm, ⟨5, _⟩ => ⟨S4x2048x512, .f32⟩
  | .hbm, ⟨6, _⟩ => ⟨S4x2048x1024, .f32⟩
  | .hbm, ⟨7, _⟩ => ⟨S8192x1024, .f32⟩
  | .hbm, ⟨8, _⟩ => ⟨S1x1024, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x1024, .f32⟩
  | .hbm, ⟨13, _⟩ => ⟨S1024x1536, .bf16⟩
  | .hbm, ⟨14, _⟩ => ⟨S8192x1024, .f32⟩
  | .hbm, ⟨15, _⟩ => ⟨S1536x1024, .f32⟩
  | .hbm, ⟨16, _⟩ => ⟨S8x1024, .f32⟩
  | .hbm, ⟨17, _⟩ => ⟨S1024x1536, .f32⟩
  | .hbm, ⟨18, _⟩ => ⟨S_, .f32⟩
  | .hbm, ⟨19, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x1024, .f32⟩
  | .local _ .vmem, ⟨10, _⟩ => ⟨S512x1024, .f32⟩
  | .local _ .vmem, ⟨11, _⟩ => ⟨S1024x1536, .bf16⟩
  | .local _ .vmem, ⟨12, _⟩ => ⟨S512x1024, .f32⟩
  | .local _ .vmem, ⟨13, _⟩ => ⟨S512x1024, .f32⟩
  | .local _ .vmem, ⟨14, _⟩ => ⟨S1536x1024, .f32⟩
  | .local _ .vmem, ⟨15, _⟩ => ⟨S8x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1536x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S4x2048x1024 : Shape := ⟨3, ![4, 2048, 1024]⟩
abbrev S1024 : Shape := ⟨1, ![1024]⟩
abbrev S1024x1536 : Shape := ⟨2, ![1024, 1536]⟩
abbrev S4x2048x512 : Shape := ⟨3, ![4, 2048, 512]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x1536 : Shape := ⟨3, ![4, 2048, 1536]⟩
abbrev S1536x1024 : Shape := ⟨2, ![1536, 1024]⟩
abbrev S8192x1024 : Shape := ⟨2, ![8192, 1024]⟩

abbrev nBuf : Space → Nat
  | .hbm => 69
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x1536, .f32⟩
  | .hbm, ⟨3, _⟩ => ⟨S4x2048x512, .f32⟩
  | .hbm, ⟨4, _⟩ => ⟨S4x2048x512, .f32⟩
  | .hbm, ⟨5, _⟩ => ⟨S4x2048x512, .f32⟩
  | .hbm, ⟨6, _⟩ => ⟨S4x2048x1024, .f32⟩
  | .hbm, ⟨7, _⟩ => ⟨S4x2048x1024, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1024, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x2048x1536, .f32⟩
  | .hbm, ⟨28, _⟩ => ⟨S4x2048x512, .f32⟩
  | .hbm, ⟨29, _⟩ => ⟨S4x2048x512, .f32⟩
  | .hbm, ⟨30, _⟩ => ⟨S4x2048x512, .f32⟩
  | .hbm, ⟨31, _⟩ => ⟨S_, .f32⟩
  | .hbm, ⟨32, _⟩ => ⟨S4x2048x1536, .f32⟩
  | .hbm, ⟨33, _⟩ => ⟨S_, .f32⟩
  | .hbm, ⟨34, _⟩ => ⟨S4x2048x1536, .f32⟩
  | .hbm, ⟨35, _⟩ => ⟨S4x2048x1536, .f32⟩
  | .hbm, ⟨36, _⟩ => ⟨S_, .f32⟩
  | .hbm, ⟨37, _⟩ => ⟨S4x2048x1536, .f32⟩
  | .hbm, ⟨38, _⟩ => ⟨S4x2048x1536, .f32⟩
  | .hbm, ⟨39, _⟩ => ⟨S1536x1024, .f32⟩
  | .hbm, ⟨40, _⟩ => ⟨S1024x1536, .f32⟩
  | .hbm, ⟨41, _⟩ => ⟨S4x2048x1024, .f32⟩
  | .hbm, ⟨42, _⟩ => ⟨S4x2048x1024, .f32⟩
  | .hbm, ⟨43, _⟩ => ⟨S_, .f32⟩
  | .hbm, ⟨44, _⟩ => ⟨S1024, .f32⟩
  | .hbm, ⟨45, _⟩ => ⟨S1x1x1024, .f32⟩
  | .hbm, ⟨46, _⟩ => ⟨S4x2048x1024, .f32⟩
  | .hbm, ⟨47, _⟩ => ⟨S4x2048x1024, .f32⟩
  | .hbm, ⟨48, _⟩ => ⟨S_, .f32⟩
  | .hbm, ⟨49, _⟩ => ⟨S1024, .f32⟩
  | .hbm, ⟨50, _⟩ => ⟨S4x2048x1024, .f32⟩
  | .hbm, ⟨51, _⟩ => ⟨S_, .f32⟩
  | .hbm, ⟨52, _⟩ => ⟨S4x2048, .f32⟩
  | .hbm, ⟨53, _⟩ => ⟨S4x2048x1, .f32⟩
  | .hbm, ⟨54, _⟩ => ⟨S4x2048x1024, .f32⟩
  | .hbm, ⟨55, _⟩ => ⟨S4x2048x1024, .f32⟩
  | .hbm, ⟨56, _⟩ => ⟨S4x2048x1024, .f32⟩
  | .hbm, ⟨57, _⟩ => ⟨S4x2048x1, .f32⟩
  | .hbm, ⟨58, _⟩ => ⟨S_, .f32⟩
  | .hbm, ⟨59, _⟩ => ⟨S4x2048x1, .f32⟩
  | .hbm, ⟨60, _⟩ => ⟨S4x2048x1, .f32⟩
  | .hbm, ⟨61, _⟩ => ⟨S_, .f32⟩
  | .hbm, ⟨62, _⟩ => ⟨S4x2048, .f32⟩
  | .hbm, ⟨63, _⟩ => ⟨S4x2048x1024, .f32⟩
  | .hbm, ⟨64, _⟩ => ⟨S4x2048x1024, .f32⟩
  | .hbm, ⟨65, _⟩ => ⟨S4x2048x1024, .f32⟩
  | .hbm, ⟨66, _⟩ => ⟨S4x2048x1024, .f32⟩
  | .hbm, ⟨67, _⟩ => ⟨S4x2048x1024, .f32⟩
  | .hbm, ⟨68, _⟩ => ⟨S8192x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel5.lean ====
abbrev S4x2048x1536 : Shape := ⟨3, ![4, 2048, 1536]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S128x128 : Shape := ⟨2, ![128, 128]⟩
abbrev S1x128x128 : Shape := ⟨3, ![1, 128, 128]⟩
abbrev S128x4 : Shape := ⟨2, ![128, 4]⟩
abbrev S128x4x128 : Shape := ⟨3, ![128, 4, 128]⟩
abbrev S128x512 : Shape := ⟨2, ![128, 512]⟩
abbrev S8192x1536 : Shape := ⟨2, ![8192, 1536]⟩
abbrev S1x512 : Shape := ⟨2, ![1, 512]⟩
abbrev S8192x512 : Shape := ⟨2, ![8192, 512]⟩
abbrev S1024x512 : Shape := ⟨2, ![1024, 512]⟩
abbrev S1x128 : Shape := ⟨2, ![1, 128]⟩
abbrev S128 : Shape := ⟨1, ![128]⟩
abbrev S128x1 : Shape := ⟨2, ![128, 1]⟩

abbrev nBuf : Space → Nat
  | .hbm => 28
  | .vmem => 9
  | .smem => 0
  | _ => 0

abbrev bufTy : (tb : Table) → Fin (tcTables nBuf tb) → BufTy
  | .hbm, ⟨0, _⟩ => ⟨S4x2048x1536, .f32⟩
  | .hbm, ⟨1, _⟩ => ⟨S512, .f32⟩
  | .hbm, ⟨2, _⟩ => ⟨S4x128x128, .f32⟩
  | .hbm, ⟨3, _⟩ => ⟨S4x128, .f32⟩
  | .hbm, ⟨4, _⟩ => ⟨S_, .i1⟩
  | .hbm, ⟨5, _⟩ => ⟨S128x128, .i1⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S128x128, .i1⟩
  | .hbm, ⟨12, _⟩ => ⟨S_, .i1⟩
  | .hbm, ⟨13, _⟩ => ⟨S128x128, .i1⟩
  | .hbm, ⟨14, _⟩ => ⟨S128x128, .i1⟩
  | .hbm, ⟨15, _⟩ => ⟨S1x128x128, .i1⟩
  | .hbm, ⟨16, _⟩ => ⟨S_, .f32⟩
  | .hbm, ⟨17, _⟩ => ⟨S_, .f32⟩
  | .hbm, ⟨18, _⟩ => ⟨S4x128x128, .i1⟩
  | .hbm, ⟨19, _⟩ => ⟨S4x128x128, .f32⟩
  | .hbm, ⟨20, _⟩ => ⟨S4x128x128, .f32⟩
  | .hbm, ⟨21, _⟩ => ⟨S4x128x128, .bf16⟩
  | .hbm, ⟨22, _⟩ => ⟨S128x4, .f32⟩
  | .hbm, ⟨23, _⟩ => ⟨S128x4x128, .f32⟩
  | .hbm, ⟨24, _⟩ => ⟨S128x512, .f32⟩
  | .hbm, ⟨25, _⟩ => ⟨S8192x1536, .f32⟩
  | .hbm, ⟨26, _⟩ => ⟨S1x512, .f32⟩
  | .hbm, ⟨27, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S4x128x128, .bf16⟩
  | .local _ .vmem, ⟨6, _⟩ => ⟨S128x512, .f32⟩
  | .local _ .vmem, ⟨7, _⟩ => ⟨S1024x512, .f32⟩
  | .local _ .vmem, ⟨8, _⟩ => ⟨S1024x512, .f32⟩
  | _, _ => ⟨S4x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_0 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel5Ideal.lean ====
variable {F : FTy → Type} [FloatOps F] [Named F]
def κ : String → Option EReal := fun
  | "gelu_c" => some ((8943 / 200000 : ℝ) : EReal)
  | _ => none
-- ==== Reference5Ideal.lean ====
abbrev S4x2048x1536 : Shape := ⟨3, ![4, 2048, 1536]⟩
abbrev S512 : Shape := ⟨1, ![512]⟩
abbrev S4x128x128 : Shape := ⟨3, ![4, 128, 128]⟩
abbrev S4x128 : Shape := ⟨2, ![4, 128]⟩
abbrev S4x2048x512 : Shape := ⟨3, ![4, 2048, 512]⟩
abbrev S_ : Shape := ⟨0, ![]⟩
abbrev S4x16x128x4x128 : Shape := ⟨5, ![4, 16, 128, 4, 128]⟩
abbrev S4x16x128x4 : Shape := ⟨4, ![4, 16, 128, 4]⟩
abbrev S4x16x128x4x1 : Shape := ⟨5, ![4, 16, 128, 4, 1]⟩
abbrev S1x1x1x4x128 : Shape := ⟨5, ![1, 1, 1, 4, 128]⟩
abbrev S128x128 : Shape := ⟨2, ![128, 128]⟩
abbrev S1x128x128 : Shape := ⟨3, ![1, 128, 128]⟩
abbrev S4x4x16x128x128 : Shape := ⟨5, ![4, 4, 16, 128, 128]⟩
abbrev S128x4 : Shape := ⟨2, ![128, 4]⟩
abbrev S1x1x128x4x1 : Shape := ⟨5, ![1, 1, 128, 4, 1]⟩
abbrev S8192x512 : Shape := ⟨2, ![8192, 512]⟩

abbrev nBuf : Space → Nat
  | .hbm => 87
  | .vmem => 0
  | .smem => 0
  | _ => 0

abbrev bufTy : (tb : Table) → Fin (tcTables nBuf tb) → BufTy
  | .hbm, ⟨0, _⟩ => ⟨S4x2048x1536, .f32⟩
  | .hbm, ⟨1, _⟩ => ⟨S512, .f32⟩
  | .hbm, ⟨2, _⟩ => ⟨S4x128x128, .f32⟩
  | .hbm, ⟨3, _⟩ => ⟨S4x128, .f32⟩
  | .hbm, ⟨4, _⟩ => ⟨S4x2048x512, .f32⟩
  | .hbm, ⟨5, _⟩ => ⟨S4x2048x512, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x2048x512, .f32⟩
  | .hbm, ⟨10, _⟩ => ⟨S4x2048x512, .f32⟩
  | .hbm, ⟨11, _⟩ => ⟨S4x2048x512, .f32⟩
  | .hbm, ⟨12, _⟩ => ⟨S4x2048x512, .f32⟩
  | .hbm, ⟨13, _⟩ => ⟨S4x2048x512, .f32⟩
  | .hbm, ⟨14, _⟩ => ⟨S_, .f32⟩
  | .hbm, ⟨15, _⟩ => ⟨S4x2048x512, .f32⟩
  | .hbm, ⟨16, _⟩ => ⟨S4x2048x512, .f32⟩
  | .hbm, ⟨17, _⟩ => ⟨S4x2048x512, .f32⟩
  | .hbm, ⟨18, _⟩ => ⟨S_, .f32⟩
  | .hbm, ⟨19, _⟩ => ⟨S4x2048x512, .f32⟩
  | .hbm, ⟨20, _⟩ => ⟨S4x2048x512, .f32⟩
  | .hbm, ⟨21, _⟩ => ⟨S_, .f32⟩
  | .hbm, ⟨22, _⟩ => ⟨S4x2048x512, .f32⟩
  | .hbm, ⟨23, _⟩ => ⟨S4x2048x512, .f32⟩
  | .hbm, ⟨24, _⟩ => ⟨S4x2048x512, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x2048x512, .f32⟩
  | .hbm, ⟨29, _⟩ => ⟨S4x2048x512, .f32⟩
  | .hbm, ⟨30, _⟩ => ⟨S4x2048x512, .f32⟩
  | .hbm, ⟨31, _⟩ => ⟨S4x2048x512, .f32⟩
  | .hbm, ⟨32, _⟩ => ⟨S4x2048x512, .f32⟩
  | .hbm, ⟨33, _⟩ => ⟨S_, .f32⟩
  | .hbm, ⟨34, _⟩ => ⟨S4x2048x512, .f32⟩
  | .hbm, ⟨35, _⟩ => ⟨S4x2048x512, .f32⟩
  | .hbm, ⟨36, _⟩ => ⟨S4x2048x512, .f32⟩
  | .hbm, ⟨37, _⟩ => ⟨S_, .f32⟩
  | .hbm, ⟨38, _⟩ => ⟨S4x2048x512, .f32⟩
  | .hbm, ⟨39, _⟩ => ⟨S4x2048x512, .f32⟩
  | .hbm, ⟨40, _⟩ => ⟨S_, .f32⟩
  | .hbm, ⟨41, _⟩ => ⟨S4x2048x512, .f32⟩
  | .hbm, ⟨42, _⟩ => ⟨S4x2048x512, .f32⟩
  | .hbm, ⟨43, _⟩ => ⟨S4x2048x512, .f32⟩
  | .hbm, ⟨44, _⟩ => ⟨S4x16x128x4x128, .f32⟩
  | .hbm, ⟨45, _⟩ => ⟨S4x128, .f32⟩
  | .hbm, ⟨46, _⟩ => ⟨S4x16x128x4x128, .f32⟩
  | .hbm, ⟨47, _⟩ => ⟨S_, .f32⟩
  | .hbm, ⟨48, _⟩ => ⟨S4x16x128x4, .f32⟩
  | .hbm, ⟨49, _⟩ => ⟨S4x16x128x4x1, .f32⟩
  | .hbm, ⟨50, _⟩ => ⟨S_, .f32⟩
  | .hbm, ⟨51, _⟩ => ⟨S4x16x128x4x1, .f32⟩
  | .hbm, ⟨52, _⟩ => ⟨S4x16x128x4x1, .f32⟩
  | .hbm, ⟨53, _⟩ => ⟨S_, .f32⟩
  | .hbm, ⟨54, _⟩ => ⟨S4x16x128x4x1, .f32⟩
  | .hbm, ⟨55, _⟩ => ⟨S4x16x128x4x1, .f32⟩
  | .hbm, ⟨56, _⟩ => ⟨S4x16x128x4x1, .f32⟩
  | .hbm, ⟨57, _⟩ => ⟨S4x16x128x4x128, .f32⟩
  | .hbm, ⟨58, _⟩ => ⟨S4x16x128x4x128, .f32⟩
  | .hbm, ⟨59, _⟩ => ⟨S1x1x1x4x128, .f32⟩
  | .hbm, ⟨60, _⟩ => ⟨S4x16x128x4x128, .f32⟩
  | .hbm, ⟨61, _⟩ => ⟨S4x16x128x4x128, .f32⟩
  | .hbm, ⟨62, _⟩ => ⟨S_, .i1⟩
  | .hbm, ⟨63, _⟩ => ⟨S128x128, .i1⟩
  | .hbm, ⟨64, _⟩ => ⟨S128x128, .i32⟩
  | .hbm, ⟨65, _⟩ => ⟨S_, .i32⟩
  | .hbm, ⟨66, _⟩ => ⟨S128x128, .i32⟩
  | .hbm, ⟨67, _⟩ => ⟨S128x128, .i32⟩
  | .hbm, ⟨68, _⟩ => ⟨S128x128, .i32⟩
  | .hbm, ⟨69, _⟩ => ⟨S128x128, .i1⟩
  | .hbm, ⟨70, _⟩ => ⟨S_, .i1⟩
  | .hbm, ⟨71, _⟩ => ⟨S128x128, .i1⟩
  | .hbm, ⟨72, _⟩ => ⟨S128x128, .i1⟩
  | .hbm, ⟨73, _⟩ => ⟨S1x128x128, .i1⟩
  | .hbm, ⟨74, _⟩ => ⟨S_, .f32⟩
  | .hbm, ⟨75, _⟩ => ⟨S4x128x128, .f32⟩
  | .hbm, ⟨76, _⟩ => ⟨S4x128x128, .i1⟩
  | .hbm, ⟨77, _⟩ => ⟨S4x128x128, .f32⟩
  | .hbm, ⟨78, _⟩ => ⟨S4x4x16x128x128, .f32⟩
  | .hbm, ⟨79, _⟩ => ⟨S4x16x128x4x128, .f32⟩
  | .hbm, ⟨80, _⟩ => ⟨S128x4, .f32⟩
  | .hbm, ⟨81, _⟩ => ⟨S1x1x128x4x1, .f32⟩
  | .hbm, ⟨82, _⟩ => ⟨S4x16x128x4x128, .f32⟩
  | .hbm, ⟨83, _⟩ => ⟨S4x16x128x4x128, .f32⟩
  | .hbm, ⟨84, _⟩ => ⟨S4x2048x512, .f32⟩
  | .hbm, ⟨85, _⟩ => ⟨S4x2048x512, .f32⟩
  | .hbm, ⟨86, _⟩ => ⟨S8192x512, .f32⟩
  | _, _ => ⟨S4x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_v36 : Ref sig .tc := ⟨.hbm, 52, rfl⟩
abbrev main_cst_11 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c : Ref sig .tc := ⟨.hbm, 62, rfl⟩
abbrev main_v45 : Ref sig .tc := ⟨.hbm, 63, rfl⟩
abbrev main_call0_v0 : Ref sig .tc := ⟨.hbm, 64, rfl⟩
abbrev main_call0_c : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_c_0 : Ref sig .tc := ⟨.hbm, 70, rfl⟩
abbrev main_call0_v5 : Ref sig .tc := ⟨.hbm, 71, rfl⟩
abbrev main_v46 : Ref sig .tc := ⟨.hbm, 72, rfl⟩
abbrev main_v47 : Ref sig .tc := ⟨.hbm, 73, rfl⟩
abbrev main_cst_12 : Ref sig .tc := ⟨.hbm, 74, rfl⟩
abbrev main_v48 : Ref sig .tc := ⟨.hbm, 75, rfl⟩
abbrev main_call1_v0 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩

abbrev nD : Nat := 1
abbrev τ : Topo := Topo.v7x

variable {F : FTy → Type} [FloatOps F]
-- ==== Kernel6.lean ====
abbrev S4x2048x1024 : Shape := ⟨3, ![4, 2048, 1024]⟩
abbrev S1024 : Shape := ⟨1, ![1024]⟩
abbrev S1024x1536 : Shape := ⟨2, ![1024, 1536]⟩
abbrev S8192x1024 : Shape := ⟨2, ![8192, 1024]⟩
abbrev S1x1024 : Shape := ⟨2, ![1, 1024]⟩
abbrev S8192x1536 : Shape := ⟨2, ![8192, 1536]⟩
abbrev S1024x1024 : Shape := ⟨2, ![1024, 1024]⟩
abbrev S1024x1 : Shape := ⟨2, ![1024, 1]⟩

abbrev nBuf : Space → Nat
  | .hbm => 7
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x1536, .f32⟩
  | .hbm, ⟨3, _⟩ => ⟨S8192x1024, .f32⟩
  | .hbm, ⟨4, _⟩ => ⟨S1x1024, .f32⟩
  | .hbm, ⟨5, _⟩ => ⟨S1024x1536, .bf16⟩
  | .hbm, ⟨6, _⟩ => ⟨S8192x1536, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S4x2048x1024 : Shape := ⟨3, ![4, 2048, 1024]⟩
abbrev S1024 : Shape := ⟨1, ![1024]⟩
abbrev S1024x1536 : Shape := ⟨2, ![1024, 1536]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x1536 : Shape := ⟨3, ![4, 2048, 1536]⟩
abbrev S8192x1536 : Shape := ⟨2, ![8192, 1536]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x1536, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x1536, .f32⟩
  | .hbm, ⟨20, _⟩ => ⟨S8192x1536, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel7.lean ====
abbrev S4x2048x512 : Shape := ⟨3, ![4, 2048, 512]⟩
abbrev S512 : Shape := ⟨1, ![512]⟩
abbrev S1024x1024 : Shape := ⟨2, ![1024, 1024]⟩
abbrev S4x2048x1024 : Shape := ⟨3, ![4, 2048, 1024]⟩
abbrev S8192x512 : Shape := ⟨2, ![8192, 512]⟩
abbrev S1x512 : Shape := ⟨2, ![1, 512]⟩
abbrev S8192x1024 : Shape := ⟨2, ![8192, 1024]⟩
abbrev S1024x512 : Shape := ⟨2, ![1024, 512]⟩
abbrev S1024 : Shape := ⟨1, ![1024]⟩
abbrev S1024x1 : Shape := ⟨2, ![1024, 1]⟩
abbrev S512x1024 : Shape := ⟨2, ![512, 1024]⟩

abbrev nBuf : Space → Nat
  | .hbm => 13
  | .vmem => 11
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S4x2048x1024, .f32⟩
  | .hbm, ⟨6, _⟩ => ⟨S8192x512, .f32⟩
  | .hbm, ⟨7, _⟩ => ⟨S8192x512, .f32⟩
  | .hbm, ⟨8, _⟩ => ⟨S1x512, .f32⟩
  | .hbm, ⟨9, _⟩ => ⟨S1x512, .f32⟩
  | .hbm, ⟨10, _⟩ => ⟨S1024x1024, .bf16⟩
  | .hbm, ⟨11, _⟩ => ⟨S8192x1024, .f32⟩
  | .hbm, ⟨12, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S4x2048x512 : Shape := ⟨3, ![4, 2048, 512]⟩
abbrev S512 : Shape := ⟨1, ![512]⟩
abbrev S1024x1024 : Shape := ⟨2, ![1024, 1024]⟩
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩
abbrev S1x1x512 : Shape := ⟨3, ![1, 1, 512]⟩
abbrev S8192x1024 : Shape := ⟨2, ![8192, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S4x2048x1024, .f32⟩
  | .hbm, ⟨6, _⟩ => ⟨S4x2048x512, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x512, .f32⟩
  | .hbm, ⟨18, _⟩ => ⟨S4x2048x512, .f32⟩
  | .hbm, ⟨19, _⟩ => ⟨S1x1x512, .f32⟩
  | .hbm, ⟨20, _⟩ => ⟨S4x2048x512, .f32⟩
  | .hbm, ⟨21, _⟩ => ⟨S4x2048x512, .f32⟩
  | .hbm, ⟨22, _⟩ => ⟨S4x2048x512, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S_, .f32⟩
  | .hbm, ⟨30, _⟩ => ⟨S4x2048x1, .f32⟩
  | .hbm, ⟨31, _⟩ => ⟨S4x2048x1, .f32⟩
  | .hbm, ⟨32, _⟩ => ⟨S4x2048x1, .f32⟩
  | .hbm, ⟨33, _⟩ => ⟨S4x2048x512, .f32⟩
  | .hbm, ⟨34, _⟩ => ⟨S4x2048x512, .f32⟩
  | .hbm, ⟨35, _⟩ => ⟨S1x1x512, .f32⟩
  | .hbm, ⟨36, _⟩ => ⟨S4x2048x512, .f32⟩
  | .hbm, ⟨37, _⟩ => ⟨S4x2048x512, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S8192x1024, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel8.lean ====
abbrev S4x2048x1024 : Shape := ⟨3, ![4, 2048, 1024]⟩
abbrev S1024 : Shape := ⟨1, ![1024]⟩
abbrev S1024x5632 : Shape := ⟨2, ![1024, 5632]⟩
abbrev S2816x1024 : Shape := ⟨2, ![2816, 1024]⟩
abbrev S1024x8x704 : Shape := ⟨3, ![1024, 8, 704]⟩
abbrev S8x1024x704 : Shape := ⟨3, ![8, 1024, 704]⟩
abbrev S8x352x1024 : Shape := ⟨3, ![8, 352, 1024]⟩
abbrev S8192x1024 : Shape := ⟨2, ![8192, 1024]⟩
abbrev S1x1024 : Shape := ⟨2, ![1, 1024]⟩
abbrev S4x2x8192x704 : Shape := ⟨4, ![4, 2, 8192, 704]⟩
abbrev S1024x1024 : Shape := ⟨2, ![1024, 1024]⟩
abbrev S1x1024x704 : Shape := ⟨3, ![1, 1024, 704]⟩
abbrev S2x352x1024 : Shape := ⟨3, ![2, 352, 1024]⟩
abbrev S1x2x1024x704 : Shape := ⟨4, ![1, 2, 1024, 704]⟩
abbrev S1024x1 : Shape := ⟨2, ![1024, 1]⟩
abbrev S704x1024 : Shape := ⟨2, ![704, 1024]⟩
abbrev S1x1024x256 : Shape := ⟨3, ![1, 1024, 256]⟩
abbrev S1024x256 : Shape := ⟨2, ![1024, 256]⟩
abbrev S1x1x1024x256 : Shape := ⟨4, ![1, 1, 1024, 256]⟩
abbrev S256x1024 : Shape := ⟨2, ![256, 1024]⟩
abbrev S1x1024x192 : Shape := ⟨3, ![1, 1024, 192]⟩
abbrev S1024x192 : Shape := ⟨2, ![1024, 192]⟩
abbrev S1x1x1024x192 : Shape := ⟨4, ![1, 1, 1024, 192]⟩
abbrev S192x1024 : Shape := ⟨2, ![192, 1024]⟩
abbrev S8192x2x4x704 : Shape := ⟨4, ![8192, 2, 4, 704]⟩
abbrev S8192x5632 : Shape := ⟨2, ![8192, 5632]⟩

abbrev nBuf : Space → Nat
  | .hbm => 16
  | .vmem => 15
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x8x704, .f32⟩
  | .hbm, ⟨5, _⟩ => ⟨S8x1024x704, .f32⟩
  | .hbm, ⟨6, _⟩ => ⟨S8x1024x704, .bf16⟩
  | .hbm, ⟨7, _⟩ => ⟨S8x352x1024, .f32⟩
  | .hbm, ⟨8, _⟩ => ⟨S8x352x1024, .bf16⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .bf16⟩
  | .hbm, ⟨13, _⟩ => ⟨S4x2x8192x704, .bf16⟩
  | .hbm, ⟨14, _⟩ => ⟨S8192x2x4x704, .bf16⟩
  | .hbm, ⟨15, _⟩ => ⟨S8192x5632, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S2x352x1024, .bf16⟩
  | .local _ .vmem, ⟨8, _⟩ => ⟨S2x352x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x2x1024x704, .bf16⟩
  | .local _ .vmem, ⟨14, _⟩ => ⟨S1x2x1024x704, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference8Ideal.lean ====
abbrev S4x2048x1024 : Shape := ⟨3, ![4, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x5632 : Shape := ⟨3, ![4, 2048, 5632]⟩
abbrev S4x2048x2816 : Shape := ⟨3, ![4, 2048, 2816]⟩
abbrev S8192x1024 : Shape := ⟨2, ![8192, 1024]⟩
abbrev S8192x5632 : Shape := ⟨2, ![8192, 5632]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4x2048x1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S4x2048x5632, .f32⟩
  | .hbm, ⟨21, _⟩ => ⟨S4x2048x2816, .f32⟩
  | .hbm, ⟨22, _⟩ => ⟨S4x2048x2816, .f32⟩
  | .hbm, ⟨23, _⟩ => ⟨S4x2048x2816, .f32⟩
  | .hbm, ⟨24, _⟩ => ⟨S4x2048x2816, .f32⟩
  | .hbm, ⟨25, _⟩ => ⟨S_, .f32⟩
  | .hbm, ⟨26, _⟩ => ⟨S4x2048x2816, .f32⟩
  | .hbm, ⟨27, _⟩ => ⟨S4x2048x2816, .f32⟩
  | .hbm, ⟨28, _⟩ => ⟨S_, .f32⟩
  | .hbm, ⟨29, _⟩ => ⟨S4x2048x2816, .f32⟩
  | .hbm, ⟨30, _⟩ => ⟨S4x2048x2816, .f32⟩
  | .hbm, ⟨31, _⟩ => ⟨S4x2048x2816, .f32⟩
  | .hbm, ⟨32, _⟩ => ⟨S4x2048x2816, .f32⟩
  | .hbm, ⟨33, _⟩ => ⟨S4x2048x1024, .f32⟩
  | .hbm, ⟨34, _⟩ => ⟨S_, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S8192x1024, .f32⟩
  | .hbm, ⟨39, _⟩ => ⟨S8192x1024, .f32⟩
  | .hbm, ⟨40, _⟩ => ⟨S8192x1024, .bf16⟩
  | .hbm, ⟨41, _⟩ => ⟨S4x2048x5632, .f32⟩
  | .hbm, ⟨42, _⟩ => ⟨S8192x5632, .f32⟩
  | .hbm, ⟨43, _⟩ => ⟨S8192x5632, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Kernel9.lean ====
abbrev S8192x1024 : Shape := ⟨2, ![8192, 1024]⟩
abbrev S8192x5632 : Shape := ⟨2, ![8192, 5632]⟩
abbrev S8192x2x4x704 : Shape := ⟨4, ![8192, 2, 4, 704]⟩
abbrev S4x2x8192x704 : Shape := ⟨4, ![4, 2, 8192, 704]⟩
abbrev S8x704x1024 : Shape := ⟨3, ![8, 704, 1024]⟩
abbrev S4096x1024 : Shape := ⟨2, ![4096, 1024]⟩
abbrev S1x1x4096x704 : Shape := ⟨4, ![1, 1, 4096, 704]⟩
abbrev S1x704x1024 : Shape := ⟨3, ![1, 704, 1024]⟩
abbrev S704x1024 : Shape := ⟨2, ![704, 1024]⟩
abbrev S4096x704 : Shape := ⟨2, ![4096, 704]⟩
abbrev S5632x1024 : Shape := ⟨2, ![5632, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x2x4x704, .f32⟩
  | .hbm, ⟨3, _⟩ => ⟨S4x2x8192x704, .f32⟩
  | .hbm, ⟨4, _⟩ => ⟨S4x2x8192x704, .bf16⟩
  | .hbm, ⟨5, _⟩ => ⟨S8192x1024, .bf16⟩
  | .hbm, ⟨6, _⟩ => ⟨S8x704x1024, .bf16⟩
  | .hbm, ⟨7, _⟩ => ⟨S5632x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1x1x4096x704, .bf16⟩
  | .local _ .vmem, ⟨3, _⟩ => ⟨S1x1x4096x704, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg1
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S8192x5632 : Shape := ⟨2, ![8192, 5632]⟩
abbrev S5632x8192 : Shape := ⟨2, ![5632, 8192]⟩
abbrev S5632x1024 : Shape := ⟨2, ![5632, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S5632x8192, .f32⟩
  | .hbm, ⟨3, _⟩ => ⟨S5632x1024, .f32⟩
  | .hbm, ⟨4, _⟩ => ⟨S5632x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S8192x2816 : Shape := ⟨2, ![8192, 2816]⟩
abbrev S8192x1024 : Shape := ⟨2, ![8192, 1024]⟩
abbrev S8192x4x704 : Shape := ⟨3, ![8192, 4, 704]⟩
abbrev S4x8192x704 : Shape := ⟨3, ![4, 8192, 704]⟩
abbrev S4x704x1024 : Shape := ⟨3, ![4, 704, 1024]⟩
abbrev S1x4096x704 : Shape := ⟨3, ![1, 4096, 704]⟩
abbrev S4096x1024 : Shape := ⟨2, ![4096, 1024]⟩
abbrev S1x704x1024 : Shape := ⟨3, ![1, 704, 1024]⟩
abbrev S704x1024 : Shape := ⟨2, ![704, 1024]⟩
abbrev S4096x704 : Shape := ⟨2, ![4096, 704]⟩
abbrev S2816x1024 : Shape := ⟨2, ![2816, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x4x704, .f32⟩
  | .hbm, ⟨3, _⟩ => ⟨S4x8192x704, .f32⟩
  | .hbm, ⟨4, _⟩ => ⟨S4x8192x704, .bf16⟩
  | .hbm, ⟨5, _⟩ => ⟨S8192x1024, .bf16⟩
  | .hbm, ⟨6, _⟩ => ⟨S4x704x1024, .bf16⟩
  | .hbm, ⟨7, _⟩ => ⟨S2816x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S4096x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference10Ideal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S2816x8192, .f32⟩
  | .hbm, ⟨3, _⟩ => ⟨S2816x1024, .f32⟩
  | .hbm, ⟨4, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S8x704x1024 : Shape := ⟨3, ![8, 704, 1024]⟩
abbrev S2x1024x704 : Shape := ⟨3, ![2, 1024, 704]⟩
abbrev S2x704x1024 : Shape := ⟨3, ![2, 704, 1024]⟩
abbrev S8x352x1024 : Shape := ⟨3, ![8, 352, 1024]⟩
abbrev S1x352x1024 : Shape := ⟨3, ![1, 352, 1024]⟩
abbrev S352x1024 : Shape := ⟨2, ![352, 1024]⟩
abbrev S1x1024x704 : Shape := ⟨3, ![1, 1024, 704]⟩
abbrev S1024x704 : Shape := ⟨2, ![1024, 704]⟩

abbrev nBuf : Space → Nat
  | .hbm => 24
  | .vmem => 16
  | .smem => 0
  | _ => 0

abbrev bufTy : (tb : Table) → Fin (tcTables nBuf tb) → BufTy
  | .hbm, ⟨0, _⟩ => ⟨S8x704x1024, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S8x704x1024, .bf16⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S2x704x1024, .f32⟩
  | .hbm, ⟨12, _⟩ => ⟨S2x1024x704, .f32⟩
  | .hbm, ⟨13, _⟩ => ⟨S1x1024x704, .f32⟩
  | .hbm, ⟨14, _⟩ => ⟨S1024x704, .f32⟩
  | .hbm, ⟨15, _⟩ => ⟨S2x1024x704, .f32⟩
  | .hbm, ⟨16, _⟩ => ⟨S1x1024x704, .f32⟩
  | .hbm, ⟨17, _⟩ => ⟨S1024x704, .f32⟩
  | .hbm, ⟨18, _⟩ => ⟨S2x1024x704, .f32⟩
  | .hbm, ⟨19, _⟩ => ⟨S1x1024x704, .f32⟩
  | .hbm, ⟨20, _⟩ => ⟨S1024x704, .f32⟩
  | .hbm, ⟨21, _⟩ => ⟨S2x1024x704, .f32⟩
  | .hbm, ⟨22, _⟩ => ⟨S1x1024x704, .f32⟩
  | .hbm, ⟨23, _⟩ => ⟨S1024x704, .f32⟩
  | .local _ .vmem, ⟨0, _⟩ => ⟨S8x352x1024, .bf16⟩
  | .local _ .vmem, ⟨1, _⟩ => ⟨S8x352x1024, .bf16⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | _, _ => ⟨S8x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S8x704x1024 : Shape := ⟨3, ![8, 704, 1024]⟩
abbrev S2x1024x704 : Shape := ⟨3, ![2, 1024, 704]⟩
abbrev S_ : Shape := ⟨0, ![]⟩
abbrev S704x1024 : Shape := ⟨2, ![704, 1024]⟩
abbrev S1024x704 : Shape := ⟨2, ![1024, 704]⟩
abbrev S1x1024x704 : Shape := ⟨3, ![1, 1024, 704]⟩

abbrev nBuf : Space → Nat
  | .hbm => 46
  | .vmem => 0
  | .smem => 0
  | _ => 0

abbrev bufTy : (tb : Table) → Fin (tcTables nBuf tb) → BufTy
  | .hbm, ⟨0, _⟩ => ⟨S8x704x1024, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S_, .f32⟩
  | .hbm, ⟨5, _⟩ => ⟨S704x1024, .f32⟩
  | .hbm, ⟨6, _⟩ => ⟨S1024x704, .f32⟩
  | .hbm, ⟨7, _⟩ => ⟨S1x1024x704, .f32⟩
  | .hbm, ⟨8, _⟩ => ⟨S1024x704, .f32⟩
  | .hbm, ⟨9, _⟩ => ⟨S1x1024x704, .f32⟩
  | .hbm, ⟨10, _⟩ => ⟨S1024x704, .f32⟩
  | .hbm, ⟨11, _⟩ => ⟨S1x1024x704, .f32⟩
  | .hbm, ⟨12, _⟩ => ⟨S1024x704, .f32⟩
  | .hbm, ⟨13, _⟩ => ⟨S_, .f32⟩
  | .hbm, ⟨14, _⟩ => ⟨S1024x704, .f32⟩
  | .hbm, ⟨15, _⟩ => ⟨S1024x704, .f32⟩
  | .hbm, ⟨16, _⟩ => ⟨S_, .f32⟩
  | .hbm, ⟨17, _⟩ => ⟨S1024x704, .f32⟩
  | .hbm, ⟨18, _⟩ => ⟨S1024x704, .f32⟩
  | .hbm, ⟨19, _⟩ => ⟨S1024x704, .f32⟩
  | .hbm, ⟨20, _⟩ => ⟨S_, .f32⟩
  | .hbm, ⟨21, _⟩ => ⟨S1024x704, .f32⟩
  | .hbm, ⟨22, _⟩ => ⟨S1024x704, .f32⟩
  | .hbm, ⟨23, _⟩ => ⟨S1024x704, .f32⟩
  | .hbm, ⟨24, _⟩ => ⟨S_, .f32⟩
  | .hbm, ⟨25, _⟩ => ⟨S1024x704, .f32⟩
  | .hbm, ⟨26, _⟩ => ⟨S1024x704, .f32⟩
  | .hbm, ⟨27, _⟩ => ⟨S1024x704, .f32⟩
  | .hbm, ⟨28, _⟩ => ⟨S_, .f32⟩
  | .hbm, ⟨29, _⟩ => ⟨S1024x704, .f32⟩
  | .hbm, ⟨30, _⟩ => ⟨S1024x704, .f32⟩
  | .hbm, ⟨31, _⟩ => ⟨S_, .f32⟩
  | .hbm, ⟨32, _⟩ => ⟨S1024x704, .f32⟩
  | .hbm, ⟨33, _⟩ => ⟨S1024x704, .f32⟩
  | .hbm, ⟨34, _⟩ => ⟨S1024x704, .f32⟩
  | .hbm, ⟨35, _⟩ => ⟨S_, .f32⟩
  | .hbm, ⟨36, _⟩ => ⟨S1024x704, .f32⟩
  | .hbm, ⟨37, _⟩ => ⟨S1024x704, .f32⟩
  | .hbm, ⟨38, _⟩ => ⟨S1024x704, .f32⟩
  | .hbm, ⟨39, _⟩ => ⟨S_, .f32⟩
  | .hbm, ⟨40, _⟩ => ⟨S1024x704, .f32⟩
  | .hbm, ⟨41, _⟩ => ⟨S1024x704, .f32⟩
  | .hbm, ⟨42, _⟩ => ⟨S1024x704, .f32⟩
  | .hbm, ⟨43, _⟩ => ⟨S_, .f32⟩
  | .hbm, ⟨44, _⟩ => ⟨S1024x704, .f32⟩
  | .hbm, ⟨45, _⟩ => ⟨S1024x704, .f32⟩
  | _, _ => ⟨S8x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel12.lean ====
abbrev S3520x128 : Shape := ⟨2, ![3520, 128]⟩

abbrev nBuf : Space → Nat
  | .hbm => 7
  | .vmem => 7
  | .smem => 0
  | _ => 0

abbrev bufTy : (tb : Table) → Fin (tcTables nBuf tb) → BufTy
  | .hbm, ⟨0, _⟩ => ⟨S3520x128, .f32⟩
  | .hbm, ⟨1, _⟩ => ⟨S3520x128, .f32⟩
  | .hbm, ⟨2, _⟩ => ⟨S3520x128, .f32⟩
  | .hbm, ⟨3, _⟩ => ⟨S3520x128, .f32⟩
  | .hbm, ⟨4, _⟩ => ⟨S3520x128, .f32⟩
  | .hbm, ⟨5, _⟩ => ⟨S3520x128, .f32⟩
  | .hbm, ⟨6, _⟩ => ⟨S3520x128, .f32⟩
  | .local _ .vmem, ⟨0, _⟩ => ⟨S3520x128, .f32⟩
  | .local _ .vmem, ⟨1, _⟩ => ⟨S3520x128, .f32⟩
  | .local _ .vmem, ⟨2, _⟩ => ⟨S3520x128, .f32⟩
  | .local _ .vmem, ⟨3, _⟩ => ⟨S3520x128, .f32⟩
  | .local _ .vmem, ⟨4, _⟩ => ⟨S3520x128, .f32⟩
  | .local _ .vmem, ⟨5, _⟩ => ⟨S3520x128, .f32⟩
  | .local _ .vmem, ⟨6, _⟩ => ⟨S3520x128, .f32⟩
  | _, _ => ⟨S3520x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3520x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3520x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3520x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3520x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3520x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3520x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3520x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference12Ideal.lean ====
abbrev S3520x128 : Shape := ⟨2, ![3520, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3520x128, .f32⟩
  | .hbm, ⟨1, _⟩ => ⟨S3520x128, .f32⟩
  | .hbm, ⟨2, _⟩ => ⟨S3520x128, .f32⟩
  | .hbm, ⟨3, _⟩ => ⟨S3520x128, .f32⟩
  | .hbm, ⟨4, _⟩ => ⟨S_, .f32⟩
  | .hbm, ⟨5, _⟩ => ⟨S3520x128, .f32⟩
  | .hbm, ⟨6, _⟩ => ⟨S3520x128, .f32⟩
  | .hbm, ⟨7, _⟩ => ⟨S_, .f32⟩
  | .hbm, ⟨8, _⟩ => ⟨S3520x128, .f32⟩
  | .hbm, ⟨9, _⟩ => ⟨S3520x128, .f32⟩
  | .hbm, ⟨10, _⟩ => ⟨S3520x128, .f32⟩
  | .hbm, ⟨11, _⟩ => ⟨S_, .f32⟩
  | .hbm, ⟨12, _⟩ => ⟨S3520x128, .f32⟩
  | .hbm, ⟨13, _⟩ => ⟨S3520x128, .f32⟩
  | .hbm, ⟨14, _⟩ => ⟨S3520x128, .f32⟩
  | .hbm, ⟨15, _⟩ => ⟨S_, .f32⟩
  | .hbm, ⟨16, _⟩ => ⟨S3520x128, .f32⟩
  | .hbm, ⟨17, _⟩ => ⟨S3520x128, .f32⟩
  | .hbm, ⟨18, _⟩ => ⟨S3520x128, .f32⟩
  | .hbm, ⟨19, _⟩ => ⟨S_, .f32⟩
  | .hbm, ⟨20, _⟩ => ⟨S3520x128, .f32⟩
  | .hbm, ⟨21, _⟩ => ⟨S3520x128, .f32⟩
  | .hbm, ⟨22, _⟩ => ⟨S_, .f32⟩
  | .hbm, ⟨23, _⟩ => ⟨S3520x128, .f32⟩
  | .hbm, ⟨24, _⟩ => ⟨S3520x128, .f32⟩
  | .hbm, ⟨25, _⟩ => ⟨S3520x128, .f32⟩
  | .hbm, ⟨26, _⟩ => ⟨S_, .f32⟩
  | .hbm, ⟨27, _⟩ => ⟨S3520x128, .f32⟩
  | .hbm, ⟨28, _⟩ => ⟨S3520x128, .f32⟩
  | .hbm, ⟨29, _⟩ => ⟨S3520x128, .f32⟩
  | .hbm, ⟨30, _⟩ => ⟨S_, .f32⟩
  | .hbm, ⟨31, _⟩ => ⟨S3520x128, .f32⟩
  | .hbm, ⟨32, _⟩ => ⟨S3520x128, .f32⟩
  | .hbm, ⟨33, _⟩ => ⟨S3520x128, .f32⟩
  | .hbm, ⟨34, _⟩ => ⟨S_, .f32⟩
  | .hbm, ⟨35, _⟩ => ⟨S3520x128, .f32⟩
  | .hbm, ⟨36, _⟩ => ⟨S3520x128, .f32⟩
  | _, _ => ⟨S3520x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S8192x1536 : Shape := ⟨2, ![8192, 1536]⟩
abbrev S8192x4096 : Shape := ⟨2, ![8192, 4096]⟩
abbrev S8192x512 : Shape := ⟨2, ![8192, 512]⟩
abbrev S2x256x2048 : Shape := ⟨3, ![2, 256, 2048]⟩
abbrev S2x2048x256 : Shape := ⟨3, ![2, 2048, 256]⟩
abbrev S512x1024 : Shape := ⟨2, ![512, 1024]⟩
abbrev S1x1024 : Shape := ⟨2, ![1, 1024]⟩
abbrev S1x512 : Shape := ⟨2, ![1, 512]⟩
abbrev S2x4x8x2048 : Shape := ⟨4, ![2, 4, 8, 2048]⟩
abbrev S8x1024 : Shape := ⟨2, ![8, 1024]⟩
abbrev S8x512 : Shape := ⟨2, ![8, 512]⟩
abbrev S8x4096 : Shape := ⟨2, ![8, 4096]⟩
abbrev S256x512 : Shape := ⟨2, ![256, 512]⟩
abbrev S256x4096 : Shape := ⟨2, ![256, 4096]⟩
abbrev S256x2048 : Shape := ⟨2, ![256, 2048]⟩
abbrev S1x2048x256 : Shape := ⟨3, ![1, 2048, 256]⟩
abbrev S2048x256 : Shape := ⟨2, ![2048, 256]⟩
abbrev S256x256 : Shape := ⟨2, ![256, 256]⟩
abbrev S256x1024 : Shape := ⟨2, ![256, 1024]⟩
abbrev S32x8x1024 : Shape := ⟨3, ![32, 8, 1024]⟩
abbrev S32x8x512 : Shape := ⟨3, ![32, 8, 512]⟩
abbrev S1x256x2048 : Shape := ⟨3, ![1, 256, 2048]⟩
abbrev S1x1x8x512 : Shape := ⟨4, ![1, 1, 8, 512]⟩

abbrev nBuf : Space → Nat
  | .hbm => 16
  | .vmem => 22
  | .smem => 0
  | _ => 0

abbrev bufTy : (tb : Table) → Fin (tcTables nBuf tb) → BufTy
  | .hbm, ⟨0, _⟩ => ⟨S8192x1536, .f32⟩
  | .hbm, ⟨1, _⟩ => ⟨S8192x4096, .f32⟩
  | .hbm, ⟨2, _⟩ => ⟨S8192x512, .f32⟩
  | .hbm, ⟨3, _⟩ => ⟨S2x256x2048, .bf16⟩
  | .hbm, ⟨4, _⟩ => ⟨S2x2048x256, .bf16⟩
  | .hbm, ⟨5, _⟩ => ⟨S512x1024, .bf16⟩
  | .hbm, ⟨6, _⟩ => ⟨S1x1024, .f32⟩
  | .hbm, ⟨7, _⟩ => ⟨S1x512, .f32⟩
  | .hbm, ⟨8, _⟩ => ⟨S2x4x8x2048, .f32⟩
  | .hbm, ⟨9, _⟩ => ⟨S8192x512, .f32⟩
  | .hbm, ⟨10, _⟩ => ⟨S512x1024, .f32⟩
  | .hbm, ⟨11, _⟩ => ⟨S8x1024, .f32⟩
  | .hbm, ⟨12, _⟩ => ⟨S8x512, .f32⟩
  | .hbm, ⟨13, _⟩ => ⟨S2x256x2048, .f32⟩
  | .hbm, ⟨14, _⟩ => ⟨S2x256x2048, .f32⟩
  | .hbm, ⟨15, _⟩ => ⟨S8x4096, .f32⟩
  | .local _ .vmem, ⟨0, _⟩ => ⟨S256x512, .f32⟩
  | .local _ .vmem, ⟨1, _⟩ => ⟨S256x512, .f32⟩
  | .local _ .vmem, ⟨2, _⟩ => ⟨S256x4096, .f32⟩
  | .local _ .vmem, ⟨3, _⟩ => ⟨S256x4096, .f32⟩
  | .local _ .vmem, ⟨4, _⟩ => ⟨S256x512, .f32⟩
  | .local _ .vmem, ⟨5, _⟩ => ⟨S256x512, .f32⟩
  | .local _ .vmem, ⟨6, _⟩ => ⟨S2x256x2048, .bf16⟩
  | .local _ .vmem, ⟨7, _⟩ => ⟨S2x2048x256, .bf16⟩
  | .local _ .vmem, ⟨8, _⟩ => ⟨S512x1024, .bf16⟩
  | .local _ .vmem, ⟨9, _⟩ => ⟨S1x1024, .f32⟩
  | .local _ .vmem, ⟨10, _⟩ => ⟨S1x512, .f32⟩
  | .local _ .vmem, ⟨11, _⟩ => ⟨S2x4x8x2048, .f32⟩
  | .local _ .vmem, ⟨12, _⟩ => ⟨S256x512, .f32⟩
  | .local _ .vmem, ⟨13, _⟩ => ⟨S256x512, .f32⟩
  | .local _ .vmem, ⟨14, _⟩ => ⟨S512x1024, .f32⟩
  | .local _ .vmem, ⟨15, _⟩ => ⟨S8x1024, .f32⟩
  | .local _ .vmem, ⟨16, _⟩ => ⟨S8x512, .f32⟩
  | .local _ .vmem, ⟨17, _⟩ => ⟨S2x256x2048, .f32⟩
  | .local _ .vmem, ⟨18, _⟩ => ⟨S2x256x2048, .f32⟩
  | .local _ .vmem, ⟨19, _⟩ => ⟨S8x4096, .f32⟩
  | .local _ .vmem, ⟨20, _⟩ => ⟨S2x256x2048, .f32⟩
  | .local _ .vmem, ⟨21, _⟩ => ⟨S8x4096, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x4x8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2x256x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2x256x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S8x4096 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== Kernel14.lean ====
abbrev S8192x1536 : Shape := ⟨2, ![8192, 1536]⟩
abbrev S2x256x2048 : Shape := ⟨3, ![2, 256, 2048]⟩
abbrev S2x2048x256 : Shape := ⟨3, ![2, 2048, 256]⟩
abbrev S512x1024 : Shape := ⟨2, ![512, 1024]⟩
abbrev S1x1024 : Shape := ⟨2, ![1, 1024]⟩
abbrev S1x512 : Shape := ⟨2, ![1, 512]⟩
abbrev S2x4x8x2048 : Shape := ⟨4, ![2, 4, 8, 2048]⟩
abbrev S8192x512 : Shape := ⟨2, ![8192, 512]⟩
abbrev S8192x4096 : Shape := ⟨2, ![8192, 4096]⟩
abbrev S512x512 : Shape := ⟨2, ![512, 512]⟩
abbrev S512x4096 : Shape := ⟨2, ![512, 4096]⟩
abbrev S2x512x2048 : Shape := ⟨3, ![2, 512, 2048]⟩
abbrev S8x4096 : Shape := ⟨2, ![8, 4096]⟩
abbrev S512x256 : Shape := ⟨2, ![512, 256]⟩
abbrev S1x256x2048 : Shape := ⟨3, ![1, 256, 2048]⟩
abbrev S256x2048 : Shape := ⟨2, ![256, 2048]⟩
abbrev S512x2048 : Shape := ⟨2, ![512, 2048]⟩
abbrev S1x512x2048 : Shape := ⟨3, ![1, 512, 2048]⟩
abbrev S8x512 : Shape := ⟨2, ![8, 512]⟩
abbrev S1x1x8x512 : Shape := ⟨4, ![1, 1, 8, 512]⟩
abbrev S1x2048x256 : Shape := ⟨3, ![1, 2048, 256]⟩
abbrev S2048x256 : Shape := ⟨2, ![2048, 256]⟩

abbrev nBuf : Space → Nat
  | .hbm => 9
  | .vmem => 14
  | .smem => 0
  | _ => 0

abbrev bufTy : (tb : Table) → Fin (tcTables nBuf tb) → BufTy
  | .hbm, ⟨0, _⟩ => ⟨S8192x1536, .f32⟩
  | .hbm, ⟨1, _⟩ => ⟨S2x256x2048, .bf16⟩
  | .hbm, ⟨2, _⟩ => ⟨S2x2048x256, .bf16⟩
  | .hbm, ⟨3, _⟩ => ⟨S512x1024, .bf16⟩
  | .hbm, ⟨4, _⟩ => ⟨S1x1024, .f32⟩
  | .hbm, ⟨5, _⟩ => ⟨S1x512, .f32⟩
  | .hbm, ⟨6, _⟩ => ⟨S2x4x8x2048, .f32⟩
  | .hbm, ⟨7, _⟩ => ⟨S8192x512, .f32⟩
  | .hbm, ⟨8, _⟩ => ⟨S8192x4096, .f32⟩
  | .local _ .vmem, ⟨0, _⟩ => ⟨S512x512, .f32⟩
  | .local _ .vmem, ⟨1, _⟩ => ⟨S512x512, .f32⟩
  | .local _ .vmem, ⟨2, _⟩ => ⟨S2x256x2048, .bf16⟩
  | .local _ .vmem, ⟨3, _⟩ => ⟨S2x2048x256, .bf16⟩
  | .local _ .vmem, ⟨4, _⟩ => ⟨S512x1024, .bf16⟩
  | .local _ .vmem, ⟨5, _⟩ => ⟨S1x1024, .f32⟩
  | .local _ .vmem, ⟨6, _⟩ => ⟨S1x512, .f32⟩
  | .local _ .vmem, ⟨7, _⟩ => ⟨S2x4x8x2048, .f32⟩
  | .local _ .vmem, ⟨8, _⟩ => ⟨S512x512, .f32⟩
  | .local _ .vmem, ⟨9, _⟩ => ⟨S512x512, .f32⟩
  | .local _ .vmem, ⟨10, _⟩ => ⟨S512x4096, .f32⟩
  | .local _ .vmem, ⟨11, _⟩ => ⟨S512x4096, .f32⟩
  | .local _ .vmem, ⟨12, _⟩ => ⟨S2x512x2048, .f32⟩
  | .local _ .vmem, ⟨13, _⟩ => ⟨S8x4096, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x4x8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel15.lean ====
abbrev S310336 : Shape := ⟨1, ![310336]⟩
abbrev S2x512 : Shape := ⟨2, ![2, 512]⟩
abbrev S2x4x128x128 : Shape := ⟨4, ![2, 4, 128, 128]⟩
abbrev S2x4x128 : Shape := ⟨3, ![2, 4, 128]⟩
abbrev S2x1024 : Shape := ⟨2, ![2, 1024]⟩
abbrev S1024 : Shape := ⟨1, ![1024]⟩
abbrev S131072 : Shape := ⟨1, ![131072]⟩
abbrev S2048 : Shape := ⟨1, ![2048]⟩
abbrev S448576 : Shape := ⟨1, ![448576]⟩
abbrev S_ : Shape := ⟨0, ![]⟩
abbrev S450560 : Shape := ⟨1, ![450560]⟩
abbrev S3520x128 : Shape := ⟨2, ![3520, 128]⟩

abbrev nBuf : Space → Nat
  | .hbm => 124
  | .vmem => 7
  | .smem => 0
  | _ => 0

abbrev bufTy : (tb : Table) → Fin (tcTables nBuf tb) → BufTy
  | .hbm, ⟨0, _⟩ => ⟨S310336, .f32⟩
  | .hbm, ⟨1, _⟩ => ⟨S2x512, .f32⟩
  | .hbm, ⟨2, _⟩ => ⟨S2x4x128x128, .f32⟩
  | .hbm, ⟨3, _⟩ => ⟨S2x4x128, .f32⟩
  | .hbm, ⟨4, _⟩ => ⟨S2x512, .f32⟩
  | .hbm, ⟨5, _⟩ => ⟨S2x512, .f32⟩
  | .hbm, ⟨6, _⟩ => ⟨S2x1024, .f32⟩
  | .hbm, ⟨7, _⟩ => ⟨S1024, .f32⟩
  | .hbm, ⟨8, _⟩ => ⟨S310336, .f32⟩
  | .hbm, ⟨9, _⟩ => ⟨S2x512, .f32⟩
  | .hbm, ⟨10, _⟩ => ⟨S2x4x128x128, .f32⟩
  | .hbm, ⟨11, _⟩ => ⟨S2x4x128, .f32⟩
  | .hbm, ⟨12, _⟩ => ⟨S2x512, .f32⟩
  | .hbm, ⟨13, _⟩ => ⟨S2x512, .f32⟩
  | .hbm, ⟨14, _⟩ => ⟨S2x1024, .f32⟩
  | .hbm, ⟨15, _⟩ => ⟨S1024, .f32⟩
  | .hbm, ⟨16, _⟩ => ⟨S310336, .f32⟩
  | .hbm, ⟨17, _⟩ => ⟨S2x512, .f32⟩
  | .hbm, ⟨18, _⟩ => ⟨S2x4x128x128, .f32⟩
  | .hbm, ⟨19, _⟩ => ⟨S2x4x128, .f32⟩
  | .hbm, ⟨20, _⟩ => ⟨S2x512, .f32⟩
  | .hbm, ⟨21, _⟩ => ⟨S2x512, .f32⟩
  | .hbm, ⟨22, _⟩ => ⟨S2x1024, .f32⟩
  | .hbm, ⟨23, _⟩ => ⟨S1024, .f32⟩
  | .hbm, ⟨24, _⟩ => ⟨S310336, .f32⟩
  | .hbm, ⟨25, _⟩ => ⟨S2x512, .f32⟩
  | .hbm, ⟨26, _⟩ => ⟨S2x4x128x128, .f32⟩
  | .hbm, ⟨27, _⟩ => ⟨S2x4x128, .f32⟩
  | .hbm, ⟨28, _⟩ => ⟨S2x512, .f32⟩
  | .hbm, ⟨29, _⟩ => ⟨S2x512, .f32⟩
  | .hbm, ⟨30, _⟩ => ⟨S2x1024, .f32⟩
  | .hbm, ⟨31, _⟩ => ⟨S1024, .f32⟩
  | .hbm, ⟨32, _⟩ => ⟨S1024, .f32⟩
  | .hbm, ⟨33, _⟩ => ⟨S131072, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S2048, .f32⟩
  | .hbm, ⟨38, _⟩ => ⟨S448576, .f32⟩
  | .hbm, ⟨39, _⟩ => ⟨S_, .i32⟩
  | .hbm, ⟨40, _⟩ => ⟨S_, .f32⟩
  | .hbm, ⟨41, _⟩ => ⟨S450560, .f32⟩
  | .hbm, ⟨42, _⟩ => ⟨S3520x128, .f32⟩
  | .hbm, ⟨43, _⟩ => ⟨S1024, .f32⟩
  | .hbm, ⟨44, _⟩ => ⟨S131072, .f32⟩
  | .hbm, ⟨45, _⟩ => ⟨S1024, .f32⟩
  | .hbm, ⟨46, _⟩ => ⟨S1024, .f32⟩
  | .hbm, ⟨47, _⟩ => ⟨S1024, .f32⟩
  | .hbm, ⟨48, _⟩ => ⟨S2048, .f32⟩
  | .hbm, ⟨49, _⟩ => ⟨S448576, .f32⟩
  | .hbm, ⟨50, _⟩ => ⟨S_, .i32⟩
  | .hbm, ⟨51, _⟩ => ⟨S_, .f32⟩
  | .hbm, ⟨52, _⟩ => ⟨S450560, .f32⟩
  | .hbm, ⟨53, _⟩ => ⟨S3520x128, .f32⟩
  | .hbm, ⟨54, _⟩ => ⟨S1024, .f32⟩
  | .hbm, ⟨55, _⟩ => ⟨S131072, .f32⟩
  | .hbm, ⟨56, _⟩ => ⟨S1024, .f32⟩
  | .hbm, ⟨57, _⟩ => ⟨S1024, .f32⟩
  | .hbm, ⟨58, _⟩ => ⟨S1024, .f32⟩
  | .hbm, ⟨59, _⟩ => ⟨S2048, .f32⟩
  | .hbm, ⟨60, _⟩ => ⟨S448576, .f32⟩
  | .hbm, ⟨61, _⟩ => ⟨S_, .i32⟩
  | .hbm, ⟨62, _⟩ => ⟨S_, .f32⟩
  | .hbm, ⟨63, _⟩ => ⟨S450560, .f32⟩
  | .hbm, ⟨64, _⟩ => ⟨S3520x128, .f32⟩
  | .hbm, ⟨65, _⟩ => ⟨S1024, .f32⟩
  | .hbm, ⟨66, _⟩ => ⟨S131072, .f32⟩
  | .hbm, ⟨67, _⟩ => ⟨S1024, .f32⟩
  | .hbm, ⟨68, _⟩ => ⟨S1024, .f32⟩
  | .hbm, ⟨69, _⟩ => ⟨S1024, .f32⟩
  | .hbm, ⟨70, _⟩ => ⟨S2048, .f32⟩
  | .hbm, ⟨71, _⟩ => ⟨S448576, .f32⟩
  | .hbm, ⟨72, _⟩ => ⟨S_, .i32⟩
  | .hbm, ⟨73, _⟩ => ⟨S_, .f32⟩
  | .hbm, ⟨74, _⟩ => ⟨S450560, .f32⟩
  | .hbm, ⟨75, _⟩ => ⟨S3520x128, .f32⟩
  | .hbm, ⟨76, _⟩ => ⟨S3520x128, .f32⟩
  | .hbm, ⟨77, _⟩ => ⟨S3520x128, .f32⟩
  | .hbm, ⟨78, _⟩ => ⟨S3520x128, .f32⟩
  | .hbm, ⟨79, _⟩ => ⟨S450560, .f32⟩
  | .hbm, ⟨80, _⟩ => ⟨S310336, .f32⟩
  | .hbm, ⟨81, _⟩ => ⟨S1024, .f32⟩
  | .hbm, ⟨82, _⟩ => ⟨S2x512, .f32⟩
  | .hbm, ⟨83, _⟩ => ⟨S131072, .f32⟩
  | .hbm, ⟨84, _⟩ => ⟨S2x4x128x128, .f32⟩
  | .hbm, ⟨85, _⟩ => ⟨S1024, .f32⟩
  | .hbm, ⟨86, _⟩ => ⟨S2x4x128, .f32⟩
  | .hbm, ⟨87, _⟩ => ⟨S1024, .f32⟩
  | .hbm, ⟨88, _⟩ => ⟨S2x512, .f32⟩
  | .hbm, ⟨89, _⟩ => ⟨S1024, .f32⟩
  | .hbm, ⟨90, _⟩ => ⟨S2x512, .f32⟩
  | .hbm, ⟨91, _⟩ => ⟨S2048, .f32⟩
  | .hbm, ⟨92, _⟩ => ⟨S2x1024, .f32⟩
  | .hbm, ⟨93, _⟩ => ⟨S1024, .f32⟩
  | .hbm, ⟨94, _⟩ => ⟨S450560, .f32⟩
  | .hbm, ⟨95, _⟩ => ⟨S310336, .f32⟩
  | .hbm, ⟨96, _⟩ => ⟨S1024, .f32⟩
  | .hbm, ⟨97, _⟩ => ⟨S2x512, .f32⟩
  | .hbm, ⟨98, _⟩ => ⟨S131072, .f32⟩
  | .hbm, ⟨99, _⟩ => ⟨S2x4x128x128, .f32⟩
  | .hbm, ⟨100, _⟩ => ⟨S1024, .f32⟩
  | .hbm, ⟨101, _⟩ => ⟨S2x4x128, .f32⟩
  | .hbm, ⟨102, _⟩ => ⟨S1024, .f32⟩
  | .hbm, ⟨103, _⟩ => ⟨S2x512, .f32⟩
  | .hbm, ⟨104, _⟩ => ⟨S1024, .f32⟩
  | .hbm, ⟨105, _⟩ => ⟨S2x512, .f32⟩
  | .hbm, ⟨106, _⟩ => ⟨S2048, .f32⟩
  | .hbm, ⟨107, _⟩ => ⟨S2x1024, .f32⟩
  | .hbm, ⟨108, _⟩ => ⟨S1024, .f32⟩
  | .hbm, ⟨109, _⟩ => ⟨S450560, .f32⟩
  | .hbm, ⟨110, _⟩ => ⟨S310336, .f32⟩
  | .hbm, ⟨111, _⟩ => ⟨S1024, .f32⟩
  | .hbm, ⟨112, _⟩ => ⟨S2x512, .f32⟩
  | .hbm, ⟨113, _⟩ => ⟨S131072, .f32⟩
  | .hbm, ⟨114, _⟩ => ⟨S2x4x128x128, .f32⟩
  | .hbm, ⟨115, _⟩ => ⟨S1024, .f32⟩
  | .hbm, ⟨116, _⟩ => ⟨S2x4x128, .f32⟩
  | .hbm, ⟨117, _⟩ => ⟨S1024, .f32⟩
  | .hbm, ⟨118, _⟩ => ⟨S2x512, .f32⟩
  | .hbm, ⟨119, _⟩ => ⟨S1024, .f32⟩
  | .hbm, ⟨120, _⟩ => ⟨S2x512, .f32⟩
  | .hbm, ⟨121, _⟩ => ⟨S2048, .f32⟩
  | .hbm, ⟨122, _⟩ => ⟨S2x1024, .f32⟩
  | .hbm, ⟨123, _⟩ => ⟨S1024, .f32⟩
  | .local _ .vmem, ⟨0, _⟩ => ⟨S3520x128, .f32⟩
  | .local _ .vmem, ⟨1, _⟩ => ⟨S3520x128, .f32⟩
  | .local _ .vmem, ⟨2, _⟩ => ⟨S3520x128, .f32⟩
  | .local _ .vmem, ⟨3, _⟩ => ⟨S3520x128, .f32⟩
  | .local _ .vmem, ⟨4, _⟩ => ⟨S3520x128, .f32⟩
  | .local _ .vmem, ⟨5, _⟩ => ⟨S3520x128, .f32⟩
  | .local _ .vmem, ⟨6, _⟩ => ⟨S3520x128, .f32⟩
  | _, _ => ⟨S310336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_c : Ref sig .tc := ⟨.hbm, 39, rfl⟩
abbrev main_call0_v0 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_c_0 : Ref sig .tc := ⟨.hbm, 50, rfl⟩
abbrev main_call1_v0 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_c_1 : Ref sig .tc := ⟨.hbm, 61, rfl⟩
abbrev main_call2_v0 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_c_2 : Ref sig .tc := ⟨.hbm, 72, rfl⟩
abbrev main_call3_v0 : Ref sig .tc := ⟨.hbm, 73, rfl⟩
abbrev main_v34 : Ref sig .tc := ⟨.hbm, 74, rfl⟩
abbrev main_v35 : Ref sig .tc := ⟨.hbm, 75, rfl⟩
abbrev main_v36_0 : Ref sig .tc := ⟨.hbm, 76, rfl⟩
abbrev main_v36_1 : Ref sig .tc := ⟨.hbm, 77, rfl⟩
abbrev main_v36_2 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3520x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3520x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3520x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3520x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3520x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3520x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3520x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference15Ideal.lean ====
abbrev S310336 : Shape := ⟨1, ![310336]⟩
abbrev S2x512 : Shape := ⟨2, ![2, 512]⟩
abbrev S2x4x128x128 : Shape := ⟨4, ![2, 4, 128, 128]⟩
abbrev S2x4x128 : Shape := ⟨3, ![2, 4, 128]⟩
abbrev S2x1024 : Shape := ⟨2, ![2, 1024]⟩
abbrev S1024 : Shape := ⟨1, ![1024]⟩
abbrev S_ : Shape := ⟨0, ![]⟩

abbrev nBuf : Space → Nat
  | .hbm => 263
  | .vmem => 0
  | .smem => 0
  | _ => 0

abbrev hbmTy0_0 (i : Nat) : BufTy := match i % 128 with
  | 0 => ⟨S310336, .f32⟩
  | 1 => ⟨S2x512, .f32⟩
  | 2 => ⟨S2x4x128x128, .f32⟩
  | 3 => ⟨S2x4x128, .f32⟩
  | 4 => ⟨S2x512, .f32⟩
  | 5 => ⟨S2x512, .f32⟩
  | 6 => ⟨S2x1024, .f32⟩
  | 7 => ⟨S1024, .f32⟩
  | 8 => ⟨S310336, .f32⟩
  | 9 => ⟨S2x512, .f32⟩
  | 10 => ⟨S2x4x128x128, .f32⟩
  | 11 => ⟨S2x4x128, .f32⟩
  | 12 => ⟨S2x512, .f32⟩
  | 13 => ⟨S2x512, .f32⟩
  | 14 => ⟨S2x1024, .f32⟩
  | 15 => ⟨S1024, .f32⟩
  | 16 => ⟨S310336, .f32⟩
  | 17 => ⟨S2x512, .f32⟩
  | 18 => ⟨S2x4x128x128, .f32⟩
  | 19 => ⟨S2x4x128, .f32⟩
  | 20 => ⟨S2x512, .f32⟩
  | 21 => ⟨S2x512, .f32⟩
  | 22 => ⟨S2x1024, .f32⟩
  | 23 => ⟨S1024, .f32⟩
  | 24 => ⟨S310336, .f32⟩
  | 25 => ⟨S2x512, .f32⟩
  | 26 => ⟨S2x4x128x128, .f32⟩
  | 27 => ⟨S2x4x128, .f32⟩
  | 28 => ⟨S2x512, .f32⟩
  | 29 => ⟨S2x512, .f32⟩
  | 30 => ⟨S2x1024, .f32⟩
  | 31 => ⟨S1024, .f32⟩
  | 32 => ⟨S_, .f32⟩
  | 33 => ⟨S2x512, .f32⟩
  | 34 => ⟨S2x512, .f32⟩
  | 35 => ⟨S_, .f32⟩
  | 36 => ⟨S2x512, .f32⟩
  | 37 => ⟨S2x512, .f32⟩
  | 38 => ⟨S2x512, .f32⟩
  | 39 => ⟨S_, .f32⟩
  | 40 => ⟨S2x512, .f32⟩
  | 41 => ⟨S2x512, .f32⟩
  | 42 => ⟨S2x512, .f32⟩
  | 43 => ⟨S_, .f32⟩
  | 44 => ⟨S2x512, .f32⟩
  | 45 => ⟨S2x512, .f32⟩
  | 46 => ⟨S2x512, .f32⟩
  | 47 => ⟨S_, .f32⟩
  | 48 => ⟨S2x512, .f32⟩
  | 49 => ⟨S2x512, .f32⟩
  | 50 => ⟨S_, .f32⟩
  | 51 => ⟨S2x512, .f32⟩
  | 52 => ⟨S2x512, .f32⟩
  | 53 => ⟨S2x512, .f32⟩
  | 54 => ⟨S_, .f32⟩
  | 55 => ⟨S2x512, .f32⟩
  | 56 => ⟨S2x512, .f32⟩
  | 57 => ⟨S2x512, .f32⟩
  | 58 => ⟨S_, .f32⟩
  | 59 => ⟨S2x512, .f32⟩
  | 60 => ⟨S2x512, .f32⟩
  | 61 => ⟨S2x512, .f32⟩
  | 62 => ⟨S_, .f32⟩
  | 63 => ⟨S2x512, .f32⟩
  | 64 => ⟨S2x512, .f32⟩
  | 65 => ⟨S_, .f32⟩
  | 66 => ⟨S2x4x128x128, .f32⟩
  | 67 => ⟨S2x4x128x128, .f32⟩
  | 68 => ⟨S_, .f32⟩
  | 69 => ⟨S2x4x128x128, .f32⟩
  | 70 => ⟨S2x4x128x128, .f32⟩
  | 71 => ⟨S2x4x128x128, .f32⟩
  | 72 => ⟨S_, .f32⟩
  | 73 => ⟨S2x4x128x128, .f32⟩
  | 74 => ⟨S2x4x128x128, .f32⟩
  | 75 => ⟨S2x4x128x128, .f32⟩
  | 76 => ⟨S_, .f32⟩
  | 77 => ⟨S2x4x128x128, .f32⟩
  | 78 => ⟨S2x4x128x128, .f32⟩
  | 79 => ⟨S2x4x128x128, .f32⟩
  | 80 => ⟨S_, .f32⟩
  | 81 => ⟨S2x4x128x128, .f32⟩
  | 82 => ⟨S2x4x128x128, .f32⟩
  | 83 => ⟨S_, .f32⟩
  | 84 => ⟨S2x4x128x128, .f32⟩
  | 85 => ⟨S2x4x128x128, .f32⟩
  | 86 => ⟨S2x4x128x128, .f32⟩
  | 87 => ⟨S_, .f32⟩
  | 88 => ⟨S2x4x128x128, .f32⟩
  | 89 => ⟨S2x4x128x128, .f32⟩
  | 90 => ⟨S2x4x128x128, .f32⟩
  | 91 => ⟨S_, .f32⟩
  | 92 => ⟨S2x4x128x128, .f32⟩
  | 93 => ⟨S2x4x128x128, .f32⟩
  | 94 => ⟨S2x4x128x128, .f32⟩
  | 95 => ⟨S_, .f32⟩
  | 96 => ⟨S2x4x128x128, .f32⟩
  | 97 => ⟨S2x4x128x128, .f32⟩
  | 98 => ⟨S_, .f32⟩
  | 99 => ⟨S2x4x128, .f32⟩
  | 100 => ⟨S2x4x128, .f32⟩
  | 101 => ⟨S_, .f32⟩
  | 102 => ⟨S2x4x128, .f32⟩
  | 103 => ⟨S2x4x128, .f32⟩
  | 104 => ⟨S2x4x128, .f32⟩
  | 105 => ⟨S_, .f32⟩
  | 106 => ⟨S2x4x128, .f32⟩
  | 107 => ⟨S2x4x128, .f32⟩
  | 108 => ⟨S2x4x128, .f32⟩
  | 109 => ⟨S_, .f32⟩
  | 110 => ⟨S2x4x128, .f32⟩
  | 111 => ⟨S2x4x128, .f32⟩
  | 112 => ⟨S2x4x128, .f32⟩
  | 113 => ⟨S_, .f32⟩
  | 114 => ⟨S2x4x128, .f32⟩
  | 115 => ⟨S2x4x128, .f32⟩
  | 116 => ⟨S_, .f32⟩
  | 117 => ⟨S2x4x128, .f32⟩
  | 118 => ⟨S2x4x128, .f32⟩
  | 119 => ⟨S2x4x128, .f32⟩
  | 120 => ⟨S_, .f32⟩
  | 121 => ⟨S2x4x128, .f32⟩
  | 122 => ⟨S2x4x128, .f32⟩
  | 123 => ⟨S2x4x128, .f32⟩
  | 124 => ⟨S_, .f32⟩
  | 125 => ⟨S2x4x128, .f32⟩
  | 126 => ⟨S2x4x128, .f32⟩
  | 127 => ⟨S2x4x128, .f32⟩
  | _ => ⟨S310336, .f32⟩

abbrev hbmTy0_1 (i : Nat) : BufTy := match i % 128 with
  | 0 => ⟨S_, .f32⟩
  | 1 => ⟨S2x4x128, .f32⟩
  | 2 => ⟨S2x4x128, .f32⟩
  | 3 => ⟨S_, .f32⟩
  | 4 => ⟨S2x512, .f32⟩
  | 5 => ⟨S2x512, .f32⟩
  | 6 => ⟨S_, .f32⟩
  | 7 => ⟨S2x512, .f32⟩
  | 8 => ⟨S2x512, .f32⟩
  | 9 => ⟨S2x512, .f32⟩
  | 10 => ⟨S_, .f32⟩
  | 11 => ⟨S2x512, .f32⟩
  | 12 => ⟨S2x512, .f32⟩
  | 13 => ⟨S2x512, .f32⟩
  | 14 => ⟨S_, .f32⟩
  | 15 => ⟨S2x512, .f32⟩
  | 16 => ⟨S2x512, .f32⟩
  | 17 => ⟨S2x512, .f32⟩
  | 18 => ⟨S_, .f32⟩
  | 19 => ⟨S2x512, .f32⟩
  | 20 => ⟨S2x512, .f32⟩
  | 21 => ⟨S_, .f32⟩
  | 22 => ⟨S2x512, .f32⟩
  | 23 => ⟨S2x512, .f32⟩
  | 24 => ⟨S2x512, .f32⟩
  | 25 => ⟨S_, .f32⟩
  | 26 => ⟨S2x512, .f32⟩
  | 27 => ⟨S2x512, .f32⟩
  | 28 => ⟨S2x512, .f32⟩
  | 29 => ⟨S_, .f32⟩
  | 30 => ⟨S2x512, .f32⟩
  | 31 => ⟨S2x512, .f32⟩
  | 32 => ⟨S2x512, .f32⟩
  | 33 => ⟨S_, .f32⟩
  | 34 => ⟨S2x512, .f32⟩
  | 35 => ⟨S2x512, .f32⟩
  | 36 => ⟨S_, .f32⟩
  | 37 => ⟨S2x512, .f32⟩
  | 38 => ⟨S2x512, .f32⟩
  | 39 => ⟨S_, .f32⟩
  | 40 => ⟨S2x512, .f32⟩
  | 41 => ⟨S2x512, .f32⟩
  | 42 => ⟨S2x512, .f32⟩
  | 43 => ⟨S_, .f32⟩
  | 44 => ⟨S2x512, .f32⟩
  | 45 => ⟨S2x512, .f32⟩
  | 46 => ⟨S2x512, .f32⟩
  | 47 => ⟨S_, .f32⟩
  | 48 => ⟨S2x512, .f32⟩
  | 49 => ⟨S2x512, .f32⟩
  | 50 => ⟨S2x512, .f32⟩
  | 51 => ⟨S_, .f32⟩
  | 52 => ⟨S2x512, .f32⟩
  | 53 => ⟨S2x512, .f32⟩
  | 54 => ⟨S_, .f32⟩
  | 55 => ⟨S2x512, .f32⟩
  | 56 => ⟨S2x512, .f32⟩
  | 57 => ⟨S2x512, .f32⟩
  | 58 => ⟨S_, .f32⟩
  | 59 => ⟨S2x512, .f32⟩
  | 60 => ⟨S2x512, .f32⟩
  | 61 => ⟨S2x512, .f32⟩
  | 62 => ⟨S_, .f32⟩
  | 63 => ⟨S2x512, .f32⟩
  | 64 => ⟨S2x512, .f32⟩
  | 65 => ⟨S2x512, .f32⟩
  | 66 => ⟨S_, .f32⟩
  | 67 => ⟨S2x512, .f32⟩
  | 68 => ⟨S2x512, .f32⟩
  | 69 => ⟨S_, .f32⟩
  | 70 => ⟨S2x1024, .f32⟩
  | 71 => ⟨S2x1024, .f32⟩
  | 72 => ⟨S_, .f32⟩
  | 73 => ⟨S2x1024, .f32⟩
  | 74 => ⟨S2x1024, .f32⟩
  | 75 => ⟨S2x1024, .f32⟩
  | 76 => ⟨S_, .f32⟩
  | 77 => ⟨S2x1024, .f32⟩
  | 78 => ⟨S2x1024, .f32⟩
  | 79 => ⟨S2x1024, .f32⟩
  | 80 => ⟨S_, .f32⟩
  | 81 => ⟨S2x1024, .f32⟩
  | 82 => ⟨S2x1024, .f32⟩
  | 83 => ⟨S2x1024, .f32⟩
  | 84 => ⟨S_, .f32⟩
  | 85 => ⟨S2x1024, .f32⟩
  | 86 => ⟨S2x1024, .f32⟩
  | 87 => ⟨S_, .f32⟩
  | 88 => ⟨S2x1024, .f32⟩
  | 89 => ⟨S2x1024, .f32⟩
  | 90 => ⟨S2x1024, .f32⟩
  | 91 => ⟨S_, .f32⟩
  | 92 => ⟨S2x1024, .f32⟩
  | 93 => ⟨S2x1024, .f32⟩
  | 94 => ⟨S2x1024, .f32⟩
  | 95 => ⟨S_, .f32⟩
  | 96 => ⟨S2x1024, .f32⟩
  | 97 => ⟨S2x1024, .f32⟩
  | 98 => ⟨S2x1024, .f32⟩
  | 99 => ⟨S_, .f32⟩
  | 100 => ⟨S2x1024, .f32⟩
  | 101 => ⟨S2x1024, .f32⟩
  | 102 => ⟨S_, .f32⟩
  | 103 => ⟨S1024, .f32⟩
  | 104 => ⟨S1024, .f32⟩
  | 105 => ⟨S_, .f32⟩
  | 106 => ⟨S1024, .f32⟩
  | 107 => ⟨S1024, .f32⟩
  | 108 => ⟨S1024, .f32⟩
  | 109 => ⟨S_, .f32⟩
  | 110 => ⟨S1024, .f32⟩
  | 111 => ⟨S1024, .f32⟩
  | 112 => ⟨S1024, .f32⟩
  | 113 => ⟨S_, .f32⟩
  | 114 => ⟨S1024, .f32⟩
  | 115 => ⟨S1024, .f32⟩
  | 116 => ⟨S1024, .f32⟩
  | 117 => ⟨S_, .f32⟩
  | 118 => ⟨S1024, .f32⟩
  | 119 => ⟨S1024, .f32⟩
  | 120 => ⟨S_, .f32⟩
  | 121 => ⟨S1024, .f32⟩
  | 122 => ⟨S1024, .f32⟩
  | 123 => ⟨S1024, .f32⟩
  | 124 => ⟨S_, .f32⟩
  | 125 => ⟨S1024, .f32⟩
  | 126 => ⟨S1024, .f32⟩
  | 127 => ⟨S1024, .f32⟩
  | _ => ⟨S310336, .f32⟩

abbrev hbmTy0_2 (i : Nat) : BufTy := match i % 128 with
  | 0 => ⟨S_, .f32⟩
  | 1 => ⟨S1024, .f32⟩
  | 2 => ⟨S1024, .f32⟩
  | 3 => ⟨S1024, .f32⟩
  | 4 => ⟨S_, .f32⟩
  | 5 => ⟨S1024, .f32⟩
  | 6 => ⟨S1024, .f32⟩
  | _ => ⟨S310336, .f32⟩

abbrev hbmTy (i : Nat) : BufTy := match i / 128 with
  | 0 => hbmTy0_0 i
  | 1 => hbmTy0_1 i
  | 2 => hbmTy0_2 i
  | _ => ⟨S310336, .f32⟩

abbrev bufTy : (tb : Table) → Fin (tcTables nBuf tb) → BufTy
  | .hbm, ⟨i, _⟩ => hbmTy i
  | _, _ => ⟨S310336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_v1 : Ref sig .tc := ⟨.hbm, 34, rfl⟩
abbrev main_cst_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_3 : Ref sig .tc := ⟨.hbm, 47, rfl⟩
abbrev main_v11 : Ref sig .tc := ⟨.hbm, 48, rfl⟩
abbrev main_v12 : Ref sig .tc := ⟨.hbm, 49, rfl⟩
abbrev main_cst_4 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_5 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_6 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_7 : Ref sig .tc := ⟨.hbm, 62, rfl⟩
abbrev main_v22 : Ref sig .tc := ⟨.hbm, 63, rfl⟩
abbrev main_v23 : Ref sig .tc := ⟨.hbm, 64, rfl⟩
abbrev main_cst_8 : Ref sig .tc := ⟨.hbm, 65, rfl⟩
abbrev main_v24 : Ref sig .tc := ⟨.hbm, 66, rfl⟩
abbrev main_v25 : Ref sig .tc := ⟨.hbm, 67, rfl⟩
abbrev main_cst_9 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_10 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_11 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_12 : Ref sig .tc := ⟨.hbm, 80, rfl⟩
abbrev main_v35 : Ref sig .tc := ⟨.hbm, 81, rfl⟩
abbrev main_v36 : Ref sig .tc := ⟨.hbm, 82, rfl⟩
abbrev main_cst_13 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_14 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_15 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_16 : Ref sig .tc := ⟨.hbm, 95, rfl⟩
abbrev main_v46 : Ref sig .tc := ⟨.hbm, 96, rfl⟩
abbrev main_v47 : Ref sig .tc := ⟨.hbm, 97, rfl⟩
abbrev main_cst_17 : Ref sig .tc := ⟨.hbm, 98, rfl⟩
abbrev main_v48 : Ref sig .tc := ⟨.hbm, 99, rfl⟩
abbrev main_v49 : Ref sig .tc := ⟨.hbm, 100, rfl⟩
abbrev main_cst_18 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_19 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_20 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_21 : Ref sig .tc := ⟨.hbm, 113, rfl⟩
abbrev main_v59 : Ref sig .tc := ⟨.hbm, 114, rfl⟩
abbrev main_v60 : Ref sig .tc := ⟨.hbm, 115, rfl⟩
abbrev main_cst_22 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_23 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_24 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_25 : Ref sig .tc := ⟨.hbm, 128, rfl⟩
abbrev main_v70 : Ref sig .tc := ⟨.hbm, 129, rfl⟩
abbrev main_v71 : Ref sig .tc := ⟨.hbm, 130, rfl⟩
abbrev main_cst_26 : Ref sig .tc := ⟨.hbm, 131, rfl⟩
abbrev main_v72 : Ref sig .tc := ⟨.hbm, 132, rfl⟩
abbrev main_v73 : Ref sig .tc := ⟨.hbm, 133, rfl⟩
abbrev main_cst_27 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_cst_28 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_29 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_30 : Ref sig .tc := ⟨.hbm, 146, rfl⟩
abbrev main_v83 : Ref sig .tc := ⟨.hbm, 147, rfl⟩
abbrev main_v84 : Ref sig .tc := ⟨.hbm, 148, rfl⟩
abbrev main_cst_31 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_32 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_33 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_34 : Ref sig .tc := ⟨.hbm, 161, rfl⟩
abbrev main_v94 : Ref sig .tc := ⟨.hbm, 162, rfl⟩
abbrev main_v95 : Ref sig .tc := ⟨.hbm, 163, rfl⟩
abbrev main_cst_35 : Ref sig .tc := ⟨.hbm, 164, rfl⟩
abbrev main_v96 : Ref sig .tc := ⟨.hbm, 165, rfl⟩
abbrev main_v97 : Ref sig .tc := ⟨.hbm, 166, rfl⟩
abbrev main_cst_36 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_37 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_38 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_cst_39 : Ref sig .tc := ⟨.hbm, 179, rfl⟩
abbrev main_v107 : Ref sig .tc := ⟨.hbm, 180, rfl⟩
abbrev main_v108 : Ref sig .tc := ⟨.hbm, 181, rfl⟩
abbrev main_cst_40 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_41 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_42 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_43 : Ref sig .tc := ⟨.hbm, 194, rfl⟩
abbrev main_v118 : Ref sig .tc := ⟨.hbm, 195, rfl⟩
abbrev main_v119 : Ref sig .tc := ⟨.hbm, 196, rfl⟩
abbrev main_cst_44 : Ref sig .tc := ⟨.hbm, 197, rfl⟩
abbrev main_v120 : Ref sig .tc := ⟨.hbm, 198, rfl⟩
abbrev main_v121 : Ref sig .tc := ⟨.hbm, 199, rfl⟩
abbrev main_cst_45 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_cst_46 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_cst_47 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_cst_48 : Ref sig .tc := ⟨.hbm, 212, rfl⟩
abbrev main_v131 : Ref sig .tc := ⟨.hbm, 213, rfl⟩
abbrev main_v132 : Ref sig .tc := ⟨.hbm, 214, rfl⟩
abbrev main_cst_49 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_cst_50 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_cst_51 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_52 : Ref sig .tc := ⟨.hbm, 227, rfl⟩
abbrev main_v142 : Ref sig .tc := ⟨.hbm, 228, rfl⟩
abbrev main_v143 : Ref sig .tc := ⟨.hbm, 229, rfl⟩
abbrev main_cst_53 : Ref sig .tc := ⟨.hbm, 230, rfl⟩
abbrev main_v144 : Ref sig .tc := ⟨.hbm, 231, rfl⟩
abbrev main_v145 : Ref sig .tc := ⟨.hbm, 232, rfl⟩
abbrev main_cst_54 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_55 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_cst_56 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_cst_57 : Ref sig .tc := ⟨.hbm, 245, rfl⟩
abbrev main_v155 : Ref sig .tc := ⟨.hbm, 246, rfl⟩
abbrev main_v156 : Ref sig .tc := ⟨.hbm, 247, rfl⟩
abbrev main_cst_58 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_cst_59 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_cst_60 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_cst_61 : Ref sig .tc := ⟨.hbm, 260, rfl⟩
abbrev main_v166 : Ref sig .tc := ⟨.hbm, 261, rfl⟩
abbrev main_v167 : Ref sig .tc := ⟨.hbm, 262, rfl⟩

abbrev nD : Nat := 1
abbrev τ : Topo := Topo.v7x

variable {F : FTy → Type} [FloatOps F]
-- ==== Proof.RealOps.lean ====
/- The extended-real operations on finite values: each operation of the ideal reading, applied to
   (coerced) real numbers, is the coerced real operation. Used by every value proof of this certificate. -/
module

public import Idealize.ShloMosaic.PureOps.Ideal
public import Idealize.ShloMosaic.Lib.Pointwise
public import Idealize.ShloMosaic.Lib.ReduceAll

@[expose] public section

noncomputable section

open Idealize.ShloMosaic

namespace Cert.RealOps

/-- A finite sum of reals, read in the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Division of reals by a real that is not zero. -/
theorem div_real (a : ℝ) {b : ℝ} (hb : b ≠ 0) : Ideal.div (a : EReal) (b : EReal) = ((a / b : ℝ) : EReal) := by
  rw [Ideal.div_coe hb, ← EReal.coe_mul, mul_one_div]

/-- The reciprocal square root of a positive real. -/
theorem rsqrt_real {a : ℝ} (ha : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg (not_lt.2 ha.le), if_neg ha.ne']

/-- The hyperbolic tangent of a real. -/
theorem tanh_real (a : ℝ) : Ideal.tanh (a : EReal) = ((Real.tanh a : ℝ) : EReal) := rfl

/-- The exponential of a real. -/
theorem exp_real (a : ℝ) : Ideal.exp (a : EReal) = ((Real.exp a : ℝ) : EReal) := rfl

/-- The logistic function of a real. -/
theorem logistic_real (a : ℝ) : Ideal.logistic (a : EReal) = ((1 / (1 + Real.exp (-a)) : ℝ) : EReal) := by
  have h : (1 + Real.exp (-a)) ≠ 0 := (add_pos one_pos (Real.exp_pos _)).ne'
  rw [Ideal.logistic, ← EReal.coe_neg, exp_real, ← EReal.coe_one, ← EReal.coe_add, div_real _ h]

/-- The word of 1024. -/
theorem ofBits_1024 : Ideal.ofBits .f32 0x44800000#32 = ((1024 : ℝ) : EReal) := by
  simp [Ideal.ofBits, Ideal.ieee]; norm_num; rw [← EReal.coe_mul]; norm_num

/-- The positive real that the word of 1e-6 denotes. -/
def eps : ℝ := 8796093 * (2 : ℝ) ^ (-43 : ℤ)

theorem eps_pos : 0 < eps := by unfold eps; positivity

theorem ofBits_eps : Ideal.ofBits .f32 0x358637BD#32 = ((eps : ℝ) : EReal) := by
  simp [Ideal.ofBits, Ideal.ieee, eps]

/-- The words of a half, of minus a half, of two and of 1/2048. -/
theorem ofBits_half : Ideal.ofBits .f32 0x3F000000#32 = (((1 / 2 : ℝ)) : EReal) := by
  simp [Ideal.ofBits, Ideal.ieee]; norm_num; rw [← EReal.coe_mul]; norm_num
theorem ofBits_neg_half : Ideal.ofBits .f32 0xBF000000#32 = (((-(1 / 2) : ℝ)) : EReal) := by
  simp [Ideal.ofBits, Ideal.ieee]; norm_num; rw [← EReal.coe_mul]; norm_num
theorem ofBits_two : Ideal.ofBits .f32 0x40000000#32 = (((2 : ℝ)) : EReal) := by
  simp [Ideal.ofBits, Ideal.ieee]; norm_num; rw [← EReal.coe_mul]; norm_num
theorem ofBits_2048th : Ideal.ofBits .f32 0x3A000000#32 = (((1 / 2048 : ℝ)) : EReal) := by
  simp [Ideal.ofBits, Ideal.ieee]; norm_num; rw [← EReal.coe_mul]; norm_num

theorem ofBits_1024th : Ideal.ofBits .f32 0x3A800000#32 = (((1 / 1024 : ℝ)) : EReal) := by
  simp [Ideal.ofBits, Ideal.ieee]; norm_num; rw [← EReal.coe_mul]; norm_num

/-- An extended real of finite magnitude is a real. -/
theorem coe_of_abs_lt {x : EReal} (h : (max x (-x) : EReal) < ⊤) : ∃ r : ℝ, x = (r : EReal) := by
  induction x with
  | bot => simp at h
  | top => simp at h
  | coe r => exact ⟨r, rfl⟩

/-! ## A row and its root-mean-square normalisation -/

/-- A row's mean square, with `eps` added. -/
def msq {n : ℕ} (v : Fin n → ℝ) : ℝ := (∑ k, v k * v k) / n + eps

/-- The reciprocal of a row's root mean square, `1 / √(mean v² + eps)`. -/
def rms {n : ℕ} (v : Fin n → ℝ) : ℝ := (Real.sqrt (msq v))⁻¹

theorem msq_pos {n : ℕ} (v : Fin n → ℝ) : 0 < msq v :=
  add_pos_of_nonneg_of_pos (div_nonneg (Finset.sum_nonneg fun k _ => mul_self_nonneg _) (Nat.cast_nonneg _)) eps_pos

theorem rsqrt_msq {n : ℕ} (v : Fin n → ℝ) : Ideal.rsqrt ((msq v : ℝ) : EReal) = ((rms v : ℝ) : EReal) := rsqrt_real (msq_pos v)

theorem div_msq {n : ℕ} (v : Fin n → ℝ) (a : ℝ) : Ideal.div (a : EReal) ((msq v : ℝ) : EReal) = ((a / msq v : ℝ) : EReal) :=
  div_real a (msq_pos v).ne'

/-- `msq` as the programs compute it, on a row of 1024. -/
theorem msq_1024 (v : Fin 1024 → ℝ) :
    Ideal.div (∑ k, (v k : EReal) * (v k : EReal)) ((1024 : ℝ) : EReal) + ((eps : ℝ) : EReal) = ((msq v : ℝ) : EReal) := by
  simp only [← EReal.coe_mul, ← coe_sum]
  rw [div_real _ (by norm_num), ← EReal.coe_add, msq]
  norm_num

theorem div_1024 (a : ℝ) : Ideal.div (a : EReal) ((1024 : ℝ) : EReal) = ((a / 1024 : ℝ) : EReal) := div_real a (by norm_num)

/-- The gradient of `v ↦ v · rms v` on a row, as the kernel writes it, for the cotangent `d`. -/
def rmsGrad {n : ℕ} (v d : Fin n → ℝ) (k : Fin n) : ℝ :=
  rms v * (d k - v k * rms v * ((∑ j, d j * (v j * rms v)) / n))

/-- The same gradient as `jax.vjp` writes it: through the mean of squares and the reciprocal square root. -/
theorem rmsGrad_eq {n : ℕ} (v d : Fin n → ℝ) (k : Fin n) :
    d k * rms v + v k * ((∑ j, v j * d j) * (-(1 / 2) * (rms v / msq v)) / n)
      + (∑ j, v j * d j) * (-(1 / 2) * (rms v / msq v)) / n * v k = rmsGrad v d k := by
  have h := msq_pos v
  have hr : rms v * rms v = (msq v)⁻¹ := by
    rw [rms, ← mul_inv, Real.mul_self_sqrt h.le]
  have hs : ∑ j, d j * (v j * rms v) = (∑ j, v j * d j) * rms v := by
    rw [Finset.sum_mul]; exact Finset.sum_congr rfl fun j _ => by ring
  rw [rmsGrad, hs, div_eq_mul_inv (rms v), ← hr]
  ring

/-! ## The rows of a batch, flattened -/

/-- The rows of a batch of 4 sequences of 2048, row `b · 2048 + i` for row `i` of sequence `b`. -/
def flat {d : ℕ} (x : FVec Ideal (⟨3, ![4, 2048, d]⟩ : Shape) .f32) (n : Fin 8192) (k : Fin d) : ℝ :=
  EReal.toReal (x (ix3 (⟨n.val / 2048, by omega⟩ : Fin 4) (⟨n.val % 2048, by omega⟩ : Fin 2048) k))

/-- A vector's entries as reals. -/
def vec {d : ℕ} (x : FVec Ideal (⟨1, ![d]⟩ : Shape) .f32) (k : Fin d) : ℝ := EReal.toReal (x (ix1 k))

/-- A matrix's entries as reals. -/
def mat {a d : ℕ} (x : FVec Ideal (⟨2, ![a, d]⟩ : Shape) .f32) (i : Fin a) (k : Fin d) : ℝ := EReal.toReal (x (ix2 i k))

/-- Every entry of an array is a real. -/
def IsReal {s : Shape} (x : FVec Ideal s .f32) : Prop := ∀ i, ∃ r : ℝ, x i = (r : EReal)

theorem IsReal.coe {s : Shape} {x : FVec Ideal s .f32} (h : IsReal x) (i : s.Idx) : x i = ((EReal.toReal (x i) : ℝ) : EReal) := by
  obtain ⟨r, hr⟩ := h i; rw [hr, EReal.toReal_coe]

theorem flat_coe {d : ℕ} {x : FVec Ideal (⟨3, ![4, 2048, d]⟩ : Shape) .f32} (h : IsReal x) (n : Fin 8192) (k : Fin d) :
    x (ix3 (⟨n.val / 2048, by omega⟩ : Fin 4) (⟨n.val % 2048, by omega⟩ : Fin 2048) k) = ((flat x n k : ℝ) : EReal) := h.coe _

theorem flat_coe' {d : ℕ} {x : FVec Ideal (⟨3, ![4, 2048, d]⟩ : Shape) .f32} (h : IsReal x) (b : Fin 4) (i : Fin 2048) (k : Fin d) :
    x (ix3 b i k) = ((flat x ⟨b.val * 2048 + i.val, by omega⟩ k : ℝ) : EReal) := by
  rw [← flat_coe h]
  congr 2 <;> apply Fin.ext <;> simp <;> omega

theorem vec_coe {d : ℕ} {x : FVec Ideal (⟨1, ![d]⟩ : Shape) .f32} (h : IsReal x) (k : Fin d) : x (ix1 k) = ((vec x k : ℝ) : EReal) := h.coe _

theorem mat_coe {a d : ℕ} {x : FVec Ideal (⟨2, ![a, d]⟩ : Shape) .f32} (h : IsReal x) (i : Fin a) (k : Fin d) :
    x (ix2 i k) = ((mat x i k : ℝ) : EReal) := h.coe _

/-- The array of real rows `f`, and of a real vector. -/
def unflat {d : ℕ} (f : Fin 8192 → Fin d → ℝ) : FVec Ideal (⟨3, ![4, 2048, d]⟩ : Shape) .f32 := fun i =>
  ((f ⟨(i 0).val * 2048 + (i 1).val, by
    have h0 := (i 0).isLt; have h1 := (i 1).isLt; change (i 0).val < 4 at h0; change (i 1).val < 2048 at h1; omega⟩ (i 2) : ℝ) : EReal)
def unvec {d : ℕ} (f : Fin d → ℝ) : FVec Ideal (⟨1, ![d]⟩ : Shape) .f32 := fun i => ((f (i 0) : ℝ) : EReal)

/-- What a precondition `all (|x| < ∞)` says of the array. -/
theorem isReal_of_all {s : Shape} {axes : List (Fin s.rank)} (x : FVec Ideal s .f32) (h : s.ReducesTo axes (⟨0, ![]⟩ : Shape)) (hu : 0 < (⟨0, ![]⟩ : Shape).numel)
    (hb : (⟨0, ![]⟩ : Shape).BroadcastsInDim s (![] : Fin 0 → Fin s.rank)) (init : IVec (⟨0, ![]⟩ : Shape) 1) (j : (⟨0, ![]⟩ : Shape).Idx)
    (e : Host.reduce IntOp.andi (cmpf .olt (Host.absf x) (broadcastInDim s ![] hb (constant (F := Ideal) (⟨0, ![]⟩ : Shape) .f32 0x7F800000#32))) init h hu j = 1#1) : IsReal x := by
  haveI : Subsingleton (⟨0, ![]⟩ : Shape).Idx := ⟨fun a b => funext fun i => i.elim0⟩
  intro i
  have h1 := Host.reduce_andi_all _ _ h hu j e i
  have h2 : Ideal.ofBits .f32 0x7F800000#32 = ⊤ := by simp [Ideal.ofBits, Ideal.ieee]
  apply coe_of_abs_lt
  change Ideal.cmp .olt (max (x i) (-(x i)) : EReal) (Ideal.ofBits .f32 0x7F800000#32) = 1#1 at h1
  rw [h2] at h1
  by_contra hn
  simp [Ideal.cmp, hn] at h1

/-- The host's sum over the two leading axes of a rank-3 array. -/
theorem hostReduceAdd_lead {a b d : ℕ} (h : (⟨3, ![a, b, d]⟩ : Shape).ReducesTo [0, 1] (⟨1, ![d]⟩ : Shape))
    (v : (⟨3, ![a, b, d]⟩ : Shape).Idx → EReal) (init : EReal) (k : Fin d) :
    Ideal.hostReduceAdd h v init (ix1 k) = init + ∑ i : Fin a, ∑ j : Fin b, v (ix3 i j k) := by
  refine congrArg (init + ·) ((Finset.sum_filter_eq_sum_of_fiber _ (fun p : Fin a × Fin b => ix3 p.1 p.2 k)
    (fun _ _ e => Prod.ext (congrFun e 0) (congrFun e 1)) (fun i => ?_) v).trans (by simp only [Fintype.sum_prod_type]))
  constructor
  · intro e
    refine ⟨(i 0, i 1), ?_⟩
    funext x; apply Fin.ext
    match x with
    | ⟨0, _⟩ => rfl
    | ⟨1, _⟩ => rfl
    | ⟨2, _⟩ => exact (congrArg Fin.val (congrFun e 0)).symm
  · rintro ⟨p, rfl⟩
    funext x; apply Fin.ext
    match x with
    | ⟨0, _⟩ => rfl

/-- The reductions over three axes of five: of the first two and the last, and of the first three. -/
theorem hostReduceAdd_outer {a b c d e : ℕ} (h : (⟨5, ![a, b, c, d, e]⟩ : Shape).ReducesTo [0, 1, 4] (⟨2, ![c, d]⟩ : Shape))
    (v : (⟨5, ![a, b, c, d, e]⟩ : Shape).Idx → EReal) (init : EReal) (k : Fin c) (l : Fin d) :
    Ideal.hostReduceAdd h v init (ix2 k l) = init + ∑ i : Fin a, ∑ j : Fin b, ∑ x : Fin e, v (ix5 i j k l x) := by
  refine congrArg (init + ·) ((Finset.sum_filter_eq_sum_of_fiber _ (fun p : Fin a × Fin b × Fin e => ix5 p.1 p.2.1 k l p.2.2)
    (fun _ _ e => Prod.ext (congrFun e 0) (Prod.ext (congrFun e 1) (congrFun e 4))) (fun i => ?_) v).trans (by simp only [Fintype.sum_prod_type]))
  constructor
  · intro e
    refine ⟨(i 0, i 1, i 4), ?_⟩
    funext x; apply Fin.ext
    match x with
    | ⟨0, _⟩ => rfl
    | ⟨1, _⟩ => rfl
    | ⟨2, _⟩ => exact (congrArg Fin.val (congrFun e 0)).symm
    | ⟨3, _⟩ => exact (congrArg Fin.val (congrFun e 1)).symm
    | ⟨4, _⟩ => rfl
  · rintro ⟨p, rfl⟩
    funext x; apply Fin.ext
    match x with
    | ⟨0, _⟩ => rfl
    | ⟨1, _⟩ => rfl

theorem hostReduceAdd_first {a b c d e : ℕ} (h : (⟨5, ![a, b, c, d, e]⟩ : Shape).ReducesTo [0, 1, 2] (⟨2, ![d, e]⟩ : Shape))
    (v : (⟨5, ![a, b, c, d, e]⟩ : Shape).Idx → EReal) (init : EReal) (k : Fin d) (l : Fin e) :
    Ideal.hostReduceAdd h v init (ix2 k l) = init + ∑ i : Fin a, ∑ j : Fin b, ∑ x : Fin c, v (ix5 i j x k l) := by
  refine congrArg (init + ·) ((Finset.sum_filter_eq_sum_of_fiber _ (fun p : Fin a × Fin b × Fin c => ix5 p.1 p.2.1 p.2.2 k l)
    (fun _ _ e => Prod.ext (congrFun e 0) (Prod.ext (congrFun e 1) (congrFun e 2))) (fun i => ?_) v).trans (by simp only [Fintype.sum_prod_type]))
  constructor
  · intro e
    refine ⟨(i 0, i 1, i 2), ?_⟩
    funext x; apply Fin.ext
    match x with
    | ⟨0, _⟩ => rfl
    | ⟨1, _⟩ => rfl
    | ⟨2, _⟩ => rfl
    | ⟨3, _⟩ => exact (congrArg Fin.val (congrFun e 0)).symm
    | ⟨4, _⟩ => exact (congrArg Fin.val (congrFun e 1)).symm
  · rintro ⟨p, rfl⟩
    funext x; apply Fin.ext
    match x with
    | ⟨0, _⟩ => rfl
    | ⟨1, _⟩ => rfl

/-- A sum over the rows, taken by slabs of `M` groups of 8 rows, and the lanes of the groups last, is the sum over the
    sequences of the sums over their rows. -/
theorem sum_rows8 {R : Type*} [AddCommMonoid R] (P M : ℕ) (hP : P * (M * 8) = 8192) (f : Fin 8192 → R) :
    ∑ s : Fin 8, ∑ p : Fin P, ∑ q : Fin M, f ⟨p.val * (M * 8) + (q.val * 8 + s.val), by
        have hp := p.isLt; have hq := q.isLt; have hs := s.isLt
        have h1 : (p.val + 1) * (M * 8) ≤ P * (M * 8) := Nat.mul_le_mul_right _ hp
        have h2 : (q.val + 1) * 8 ≤ M * 8 := Nat.mul_le_mul_right _ hq
        rw [Nat.add_mul] at h1 h2; omega⟩ = ∑ b : Fin 4, ∑ i : Fin 2048, f ⟨b.val * 2048 + i.val, by omega⟩ := by
  rw [← Fin.sum_univ_tiles 4 2048 (by norm_num) f, Fin.sum_univ_tiles P (M * 8) hP f, Finset.sum_comm]
  refine Finset.sum_congr rfl fun p _ => ?_
  rw [Fin.sum_univ_tiles M 8 rfl, Finset.sum_comm]

end Cert.RealOps

end
-- ==== Proof.LossSpec.lean ====
/- The loss and its gradients over the reals: what both programs of the loss head compute. -/
module

public import proofs.«01_k».proof.Proof.RealOps

@[expose] public section

noncomputable section

open Cert.RealOps

namespace Cert.Loss

variable (X T : Fin 8192 → Fin 1024 → ℝ) (G : Fin 1024 → ℝ)

/-- A row's error `v · rms v · gain − target`. -/
def errOf (v g t : Fin 1024 → ℝ) (k : Fin 1024) : ℝ := v k * rms v * g k - t k

/-- The squared error of an element. -/
def sqOf (n : Fin 8192) (k : Fin 1024) : ℝ := errOf (X n) G (T n) k * errOf (X n) G (T n) k

/-- The part of row `n` in the gradient of the gain. -/
def dgOf (n : Fin 8192) (k : Fin 1024) : ℝ := errOf (X n) G (T n) k * (1 / 1024) * (X n k * rms (X n))

/-- The gradient of the loss in row `n`. -/
def dxOf (n : Fin 8192) (k : Fin 1024) : ℝ := rmsGrad (X n) (fun k => errOf (X n) G (T n) k * (1 / 1024) * G k) k

/-- A sum over the rows of the batch. -/
def sumRows (f : Fin 8192 → ℝ) : ℝ := ∑ b : Fin 4, ∑ i : Fin 2048, f ⟨b.val * 2048 + i.val, by omega⟩

theorem sumRows_sum {ι : Type*} [Fintype ι] (f : Fin 8192 → ι → ℝ) : sumRows (fun n => ∑ k, f n k) = ∑ k, sumRows fun n => f n k := by
  simp only [sumRows]
  refine (Finset.sum_congr rfl fun b _ => ?_).trans Finset.sum_comm
  exact Finset.sum_comm

/-- The loss. -/
def loss : ℝ := 1 / 2048 * sumRows fun n => ∑ k, sqOf X T G n k

/-- The gradient of the gain. -/
def dgain (k : Fin 1024) : ℝ := sumRows fun n => dgOf X T G n k

/-! ## The three results as arrays, of the argument arrays `x` (batch), `g` (gain) and `t` (target) -/

open Idealize.ShloMosaic

variable (x t : FVec Ideal (⟨3, ![4, 2048, 1024]⟩ : Shape) .f32) (g : FVec Ideal (⟨1, ![1024]⟩ : Shape) .f32)

def lossArr : FVec Ideal (⟨0, ![]⟩ : Shape) .f32 := fun _ => ((loss (flat x) (flat t) (vec g) : ℝ) : EReal)
def dxArr : FVec Ideal (⟨3, ![4, 2048, 1024]⟩ : Shape) .f32 := unflat (dxOf (flat x) (flat t) (vec g))
def dgainArr : FVec Ideal (⟨1, ![1024]⟩ : Shape) .f32 := unvec (dgain (flat x) (flat t) (vec g))

end Cert.Loss

end
-- ==== Proof.LossHead.lean ====
module

public import proofs.«01_k».proof.Proof.Gen.KernelIdeal.Frame
public import proofs.«01_k».proof.Proof.LossSpec
public import Idealize.ShloMosaic.Lib.Pipeline.ValueKit
public import Idealize.ShloMosaic.Lib.Pointwise
@[expose] public section

set_option maxRecDepth 16384
noncomputable section
open Idealize.ShloMosaic Idealize.ShloMosaic.TcCoe Idealize.SL.Sem
open Idealize.ShloMosaic.Pipeline (Dat)
open Cert.RealOps Cert.Loss
namespace Cert.KernelIdeal.Value
open Cert.KernelIdeal Cert.KernelIdeal.Gen

section Body
variable (x0 x2 : FVec Ideal S1024x1024 .f32) (x1 : FVec Ideal S1x1024 .f32) (A T : Fin 1024 → Fin 1024 → ℝ) (G : Fin 1024 → ℝ)
  (h0 : ∀ r k : Fin 1024, x0 (ix2 r k) = ((A r k : ℝ) : EReal)) (h1 : ∀ k : Fin 1024, x1 (ix2 (0 : Fin 1) k) = ((G k : ℝ) : EReal))
  (h2 : ∀ r k : Fin 1024, x2 (ix2 r k) = ((T r k : ℝ) : EReal))

include h0 in
theorem pay7_at (r : Fin 1024) : k0_pay7 (F := Ideal) x0 (ix2 r (0 : Fin 1)) = ((rms (A r) : ℝ) : EReal) := by
  pointwise [k0_pay7, k0_pay6, h0]
  rw [ofBits_1024, ofBits_eps, msq_1024, rsqrt_msq]

include h0 in
theorem pay8_at (r k : Fin 1024) : k0_pay8 (F := Ideal) x0 (ix2 r k) = ((A r k * rms (A r) : ℝ) : EReal) := by
  pointwise [k0_pay8, k0_pay6, h0, pay7_at x0 A h0]
  rw [EReal.coe_mul]
include h0 h1 h2 in
theorem pay9_at (r k : Fin 1024) : k0_pay9 (F := Ideal) x1 x0 x2 (ix2 r k) = ((errOf (A r) G (T r) k : ℝ) : EReal) := by
  pointwise [k0_pay9, k0_pay5, h1, h2, pay8_at x0 A h0]
  rw [errOf]; push_cast; rfl
include h0 h1 h2 in
theorem pay11_at (r k : Fin 1024) : k0_pay11 (F := Ideal) x1 x0 x2 (ix2 r k) = ((errOf (A r) G (T r) k * (1 / 1024) : ℝ) : EReal) := by
  pointwise [k0_pay11, pay9_at x0 x2 x1 A T G h0 h1 h2]
  rw [ofBits_1024th, ← EReal.coe_mul]
include h0 h1 h2 in
theorem pay12_at (r k : Fin 1024) : k0_pay12 (F := Ideal) x1 x0 x2 (ix2 r k) = ((errOf (A r) G (T r) k * (1 / 1024) * G k : ℝ) : EReal) := by
  pointwise [k0_pay12, k0_pay5, h1, pay11_at x0 x2 x1 A T G h0 h1 h2]
  rw [← EReal.coe_mul]
include h0 h1 h2 in
theorem pay13_at (r : Fin 1024) : k0_pay13 (F := Ideal) x1 x0 x2 (ix2 r (0 : Fin 1)) =
    (((∑ k, errOf (A r) G (T r) k * (1 / 1024) * G k * (A r k * rms (A r))) / 1024 : ℝ) : EReal) := by
  pointwise [k0_pay13, pay12_at x0 x2 x1 A T G h0 h1 h2, pay8_at x0 A h0]
  simp only [ofBits_1024, ← EReal.coe_mul, ← coe_sum]
  rw [div_real _ (by norm_num)]
include h0 h1 h2 in
theorem pay1_at (r k : Fin 1024) :
    k0_pay1 (F := Ideal) (k0_pay7 x0) (k0_pay8 x0) (k0_pay12 x1 x0 x2) (k0_pay13 x1 x0 x2) (ix2 r k) =
      ((rmsGrad (A r) (fun k => errOf (A r) G (T r) k * (1 / 1024) * G k) k : ℝ) : EReal) := by
  pointwise [k0_pay1, pay7_at x0 A h0, pay8_at x0 A h0, pay12_at x0 x2 x1 A T G h0 h1 h2, pay13_at x0 x2 x1 A T G h0 h1 h2]
  simp only [← EReal.coe_mul, ← EReal.coe_sub]
  rw [rmsGrad]
  norm_num
include h0 h1 h2 in
theorem pay10_at (acc : FVec Ideal S8x1024 .f32) (s : Fin 8) (k : Fin 1024) :
    k0_pay10 (F := Ideal) x1 x0 x2 acc (ix2 s k) = acc (ix2 s k) +
      ((∑ p : Fin 128, errOf (A ⟨p.val * 8 + s.val, by omega⟩) G (T ⟨p.val * 8 + s.val, by omega⟩) k * errOf (A ⟨p.val * 8 + s.val, by omega⟩) G (T ⟨p.val * 8 + s.val, by omega⟩) k : ℝ) : EReal) := by
  pointwise [k0_pay10, pay9_at x0 x2 x1 A T G h0 h1 h2]
  simp only [← EReal.coe_mul, ← coe_sum]
include h0 h1 h2 in
theorem pay2_at (acc : FVec Ideal S8x1024 .f32) (s : Fin 8) (k : Fin 1024) :
    k0_pay2 (F := Ideal) (k0_pay8 x0) (k0_pay11 x1 x0 x2) acc (ix2 s k) = acc (ix2 s k) +
      ((∑ p : Fin 128, errOf (A ⟨p.val * 8 + s.val, by omega⟩) G (T ⟨p.val * 8 + s.val, by omega⟩) k * (1 / 1024) * (A ⟨p.val * 8 + s.val, by omega⟩ k * rms (A ⟨p.val * 8 + s.val, by omega⟩)) : ℝ) : EReal) := by
  pointwise [k0_pay2, pay11_at x0 x2 x1 A T G h0 h1 h2, pay8_at x0 A h0]
  simp only [← EReal.coe_mul, ← coe_sum]
end Body

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] ∧ win0_4.index t = ![0, 0] ∧ win0_5.index t = ![0, 0] :=
  (by decide +kernel : ∀ t : Fin grid0.N, win0_0.index t = ![t.val, 0] ∧ win0_1.index t = ![0, 0] ∧ win0_2.index t = ![t.val, 0] ∧ win0_3.index t = ![t.val, 0] ∧ win0_4.index t = ![0, 0] ∧ win0_5.index t = ![0, 0])

/-- The three arguments on a core. -/
abbrev argX : FVec Ideal S4x2048x1024 .f32 := m ((c.tc : Thread nD τ).loc main_arg0)
abbrev argG : FVec Ideal S1024 .f32 := m ((c.tc : Thread nD τ).loc main_arg1)
abbrev argT : FVec Ideal S4x2048x1024 .f32 := m ((c.tc : Thread nD τ).loc main_arg2)

section Arrays
variable (hX : IsReal (argX m c)) (hG : IsReal (argG m c)) (hT : IsReal (argT m c))

/-- The last point of the grid. -/
def t0_L : Fin cfg0.N := ⟨7, by decide⟩

theorem ptlt (t : Fin cfg0.N) : t.val < 8 := lt_of_lt_of_eq t.isLt N_0

/-- The row of the batch that row `r` of point `t`'s block is. -/
def rowOf (t : Fin cfg0.N) (r : Fin 1024) : Fin 8192 := ⟨t.val * 1024 + r.val, by have := ptlt t; omega⟩

theorem V_x : (V m c main_v0 : FVec Ideal S8192x1024 .f32) = shapeCast S8192x1024 (argX m c) shapeCasts_S4x2048x1024_S8192x1024 := by
  unfold V V0; rw [List.flatten_cons, List.flatten_nil, List.append_nil]; after_results_simp; rfl
theorem V_g : (V m c main_v1 : FVec Ideal S1x1024 .f32) = broadcastInDim S1x1024 ![1] bcast_S1024_S1x1024_1 (argG m c) := by
  unfold V V0; rw [List.flatten_cons, List.flatten_nil, List.append_nil]; after_results_simp
theorem V_t : (V m c main_v2 : FVec Ideal S8192x1024 .f32) = shapeCast S8192x1024 (argT m c) shapeCasts_S4x2048x1024_S8192x1024 := by
  unfold V V0; rw [List.flatten_cons, List.flatten_nil, List.append_nil]; after_results_simp; rfl

include hX in
theorem blk0_at (t : Fin cfg0.N) (r k : Fin 1024) : (iblk m c 0 t : FVec Ideal S1024x1024 .f32) (ix2 r k) = ((flat (argX m c) (rowOf t r) k : ℝ) : EReal) := by
  rw [← flat_coe hX]
  have h : (iblk m c 0 t : FVec Ideal S1024x1024 .f32) (ix2 r k) = (V m c main_v0 : FVec Ideal S8192x1024 .f32) (ix2 (rowOf t r) k) := by
    blk_point [iblk, idx t, rowOf]
  rw [h, V_x]
  pointwise

include hT in
theorem blk2_at (t : Fin cfg0.N) (r k : Fin 1024) : (iblk m c 2 t : FVec Ideal S1024x1024 .f32) (ix2 r k) = ((flat (argT m c) (rowOf t r) k : ℝ) : EReal) := by
  rw [← flat_coe hT]
  have h : (iblk m c 2 t : FVec Ideal S1024x1024 .f32) (ix2 r k) = (V m c main_v2 : FVec Ideal S8192x1024 .f32) (ix2 (rowOf t r) k) := by
    blk_point [iblk, idx t, rowOf]
  rw [h, V_t]
  pointwise
include hG in
theorem blk1_at (t : Fin cfg0.N) (k : Fin 1024) : (iblk m c 1 t : FVec Ideal S1x1024 .f32) (ix2 (0 : Fin 1) k) = ((vec (argG m c) k : ℝ) : EReal) := by
  rw [← vec_coe hG]
  have h : (iblk m c 1 t : FVec Ideal S1x1024 .f32) (ix2 (0 : Fin 1) k) = (V m c main_v1 : FVec Ideal S1x1024 .f32) (ix2 (0 : Fin 1) k) := by
    blk_point [iblk, idx t]
  rw [h, V_g]
  pointwise

theorem emb3 (t : Fin cfg0.N) (r k : Fin 1024) : (win0_3.blk t).view.emb (ix2 r k) = (ix2 (rowOf t r) k : S8192x1024.Idx) := by
  blk_ext [idx t, rowOf]

include hX hG hT in
theorem arr3_at : (dats m 0 c).arrAt 3 cfg0.N = (fun i => ((dxOf (flat (argX m c)) (flat (argT m c)) (vec (argG m c)) (i 0) (i 1) : ℝ) : EReal) : FVec Ideal S8192x1024 .f32) := by
  refine (dats m 0 c).arrAt_eq_of_covers 3 _ (by decide +kernel) fun t _ y => ?_
  rw [after0_3]
  have hp := pay1_at (iblk m c 0 t) (iblk m c 2 t) (iblk m c 1 t) _ _ _ (blk0_at m c hX t) (blk1_at m c hG t) (blk2_at m c hT t)
  by_cases h : t.val % 8 = 0
  all_goals
    first | rw [outsAt0_A m c t h] | rw [outsAt0_B m c t h]
    frame_out
    idx_vars y
    blk_simp
    rw [emb3]
    exact hp y0 y1

/-- What an accumulator holds after the last point: over the 8 slabs and the 128 groups of each, lane `s`. -/
def laneSum (f : Fin 8192 → Fin 1024 → ℝ) (s : Fin 8) (k : Fin 1024) : ℝ :=
  ∑ t : Fin cfg0.N, ∑ q : Fin 128, f (rowOf t ⟨q.val * 8 + s.val, by omega⟩) k

include hX hG hT in
theorem arr4_at : (dats m 0 c).arrAt 4 cfg0.N = (fun i => ((laneSum (sqOf (flat (argX m c)) (flat (argT m c)) (vec (argG m c))) (i 0) (i 1) : ℝ) : EReal) : FVec Ideal S8x1024 .f32) := by
  have hp := fun t => pay10_at (iblk m c 0 t) (iblk m c 2 t) (iblk m c 1 t) _ _ _ (blk0_at m c hX t) (blk1_at m c hG t) (blk2_at m c hT t)
  refine (dats m 0 c).arrAt_eq_of_after_last 4 t0_L (by decide +kernel) _ fun j => ?_
  blk_simp
  rw [after0_4, Pipeline.eq_sum_fin_of_reset_step_apply_last (fun n h => (outsAt0 m c n h).2.1) 8 (fun _ => 0)
    (fun t j => ((∑ q : Fin 128, sqOf (flat (argX m c)) (flat (argT m c)) (vec (argG m c)) (rowOf t ⟨q.val * 8 + (j 0).val, by have := (j 0).isLt; change (j 0).val < 8 at this; omega⟩) (j 1) : ℝ) : EReal))
    (fun t h j => by rw [outsAt0_A m c t h]; frame_out; idx_vars j; rw [hp]; pointwise [k0_pay3]; rfl)
    (fun t h j => by rw [outsAt0_B m c t h]; frame_out; idx_vars j; rw [hp]; rfl) (le_of_eq N_0) t0_L rfl j, zero_add]
  exact (coe_sum _ _).symm

include hX hG hT in
theorem arr5_at : (dats m 0 c).arrAt 5 cfg0.N = (fun i => ((laneSum (dgOf (flat (argX m c)) (flat (argT m c)) (vec (argG m c))) (i 0) (i 1) : ℝ) : EReal) : FVec Ideal S8x1024 .f32) := by
  have hp := fun t => pay2_at (iblk m c 0 t) (iblk m c 2 t) (iblk m c 1 t) _ _ _ (blk0_at m c hX t) (blk1_at m c hG t) (blk2_at m c hT t)
  refine (dats m 0 c).arrAt_eq_of_after_last 5 t0_L (by decide +kernel) _ fun j => ?_
  blk_simp
  rw [after0_5, Pipeline.eq_sum_fin_of_reset_step_apply_last (fun n h => (outsAt0 m c n h).2.2) 8 (fun _ => 0)
    (fun t j => ((∑ q : Fin 128, dgOf (flat (argX m c)) (flat (argT m c)) (vec (argG m c)) (rowOf t ⟨q.val * 8 + (j 0).val, by have := (j 0).isLt; change (j 0).val < 8 at this; omega⟩) (j 1) : ℝ) : EReal))
    (fun t h j => by rw [outsAt0_A m c t h]; frame_out; idx_vars j; rw [hp]; pointwise [k0_pay4]; rfl)
    (fun t h j => by rw [outsAt0_B m c t h]; frame_out; idx_vars j; rw [hp]; rfl) (le_of_eq N_0) t0_L rfl j, zero_add]
  exact (coe_sum _ _).symm

/-- The lanes of an accumulator add up to the sum over the batch. -/
theorem sum_laneSum (f : Fin 8192 → Fin 1024 → ℝ) (k : Fin 1024) : ∑ s : Fin 8, laneSum f s k = sumRows fun n => f n k :=
  sum_rows8 8 128 rfl fun n => f n k

/-- The contents of a buffer the host lines after the region write. -/
abbrev tail (b : Ref sig .tc) := Pipeline.afterTail₀ cfgs (dats m) 0 (V0 m) [hostOps1] c b

theorem hinj0 : Function.Injective (Pipeline.arrRef spec0) := winFacts0.arr_inj

theorem wa3 : Pipeline.withArrays (cfgs 0).spec c (V0 m c) (fun w => (dats m 0 c).arrAt w (cfgs 0).N) (Proc.tc.devRef main_v3_0) = (dats m 0 c).arrAt 3 cfg0.N :=
  Pipeline.withArrays_arr spec0 hinj0 c (V0 m c) _ 3
theorem wa4 : Pipeline.withArrays (cfgs 0).spec c (V0 m c) (fun w => (dats m 0 c).arrAt w (cfgs 0).N) (Proc.tc.devRef main_v3_1) = (dats m 0 c).arrAt 4 cfg0.N :=
  Pipeline.withArrays_arr spec0 hinj0 c (V0 m c) _ 4
theorem wa5 : Pipeline.withArrays (cfgs 0).spec c (V0 m c) (fun w => (dats m 0 c).arrAt w (cfgs 0).N) (Proc.tc.devRef main_v3_2) = (dats m 0 c).arrAt 5 cfg0.N :=
  Pipeline.withArrays_arr spec0 hinj0 c (V0 m c) _ 5

include hX hG hT in
theorem tail_loss : (tail m c main_v5 : FVec Ideal S_ .f32) = fun _ => ((loss (flat (argX m c)) (flat (argT m c)) (vec (argG m c)) : ℝ) : EReal) := by
  unfold tail Pipeline.afterTail₀; rw [List.flatten_cons, List.flatten_nil, List.append_nil]; after_results_simp
  rw [wa4, arr4_at m c hX hG hT]
  funext j
  pointwise [ofBits_2048th]
  simp only [← coe_sum, ← EReal.coe_mul]
  rw [loss, sumRows_sum, Finset.sum_comm]
  simp only [sum_laneSum]

include hX hG hT in
theorem tail_dx (b : Fin 4) (i : Fin 2048) (k : Fin 1024) : (tail m c main_v6 : FVec Ideal S4x2048x1024 .f32) (ix3 b i k) =
    ((dxOf (flat (argX m c)) (flat (argT m c)) (vec (argG m c)) ⟨b.val * 2048 + i.val, by omega⟩ k : ℝ) : EReal) := by
  unfold tail Pipeline.afterTail₀; rw [List.flatten_cons, List.flatten_nil, List.append_nil]; after_results_simp
  rw [wa3, arr3_at m c hX hG hT]
  pointwise

include hX hG hT in
theorem tail_dgain (k : Fin 1024) : (tail m c main_v7 : FVec Ideal S1024 .f32) (ix1 k) = ((dgain (flat (argX m c)) (flat (argT m c)) (vec (argG m c)) k : ℝ) : EReal) := by
  unfold tail Pipeline.afterTail₀; rw [List.flatten_cons, List.flatten_nil, List.append_nil]; after_results_simp
  rw [wa5, arr5_at m c hX hG hT]
  pointwise
  rw [← coe_sum, sum_laneSum]
  rfl

end Arrays

/-- The kernel's run: it ends with the three results and its arguments unchanged. -/
theorem run_real (ρ : Dev nD → PrngReg) (hX : ∀ c, IsReal (argX m c)) (hG : ∀ c, IsReal (argG m c)) (hT : ∀ c, IsReal (argT m c)) :
    θ_run defs (onTc (τ := τ) (main (F := Ideal))) ⟨m, fun _ => 0, ρ⟩ fun r => ∀ c : Dev nD,
      r.2.mem ((c.tc : Thread nD τ).loc main_v5) = lossArr (argX m c) (argT m c) (argG m c)
      ∧ r.2.mem ((c.tc : Thread nD τ).loc main_v6) = dxArr (argX m c) (argT m c) (argG m c)
      ∧ r.2.mem ((c.tc : Thread nD τ).loc main_v7) = dgainArr (argX m c) (argT m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨((h c).2 main_v5 (Pipeline.mem_restRefs_of main_v5 (by decide) (by decide))).trans ?_,
    ((h c).2 main_v6 (Pipeline.mem_restRefs_of main_v6 (by decide) (by decide))).trans ?_,
    ((h c).2 main_v7 (Pipeline.mem_restRefs_of main_v7 (by decide) (by decide))).trans ?_,
    ((h c).2 main_arg0 (Pipeline.mem_restRefs_of main_arg0 (by decide) (by decide))).trans ?_,
    ((h c).2 main_arg1 (Pipeline.mem_restRefs_of main_arg1 (by decide) (by decide))).trans ?_,
    ((h c).2 main_arg2 (Pipeline.mem_restRefs_of main_arg2 (by decide) (by decide))).trans ?_⟩) (run_main m ρ)
  · exact tail_loss m c (hX c) (hG c) (hT c)
  · funext j
    idx_vars j
    exact tail_dx m c (hX c) (hG c) (hT c) j0 j1 j2
  · funext j
    idx_vars j
    exact tail_dgain m c (hX c) (hG c) (hT c) j0
  · exact W_main_arg0 m (dats m) c
  · exact W_main_arg1 m (dats m) c
  · exact W_main_arg2 m (dats m) c
end Cert.KernelIdeal.Value
-- ==== Proof.LossRef.lean ====
module

public import proofs.«01_k».proof.Proof.Gen.ReferenceIdeal.Run
public import proofs.«01_k».proof.Proof.LossSpec
public import Idealize.ShloMosaic.Lib.Pointwise
@[expose] public section

set_option maxRecDepth 16384
noncomputable section
open Idealize.ShloMosaic Idealize.ShloMosaic.TcCoe Idealize.SL.Sem
open Cert.RealOps Cert.Loss
namespace Cert.ReferenceIdeal.Value
open Cert.ReferenceIdeal
variable (m : (ℓ : Loc nD τ sig) → Buf (Elt Ideal) ℓ) (c : Dev nD)

/-- The three arguments on a core. -/
abbrev argX : FVec Ideal S4x2048x1024 .f32 := m ((c.tc : Thread nD τ).loc main_arg0)
abbrev argG : FVec Ideal S1024 .f32 := m ((c.tc : Thread nD τ).loc main_arg1)
abbrev argT : FVec Ideal S4x2048x1024 .f32 := m ((c.tc : Thread nD τ).loc main_arg2)

section Results
variable (hX : IsReal (argX m c)) (hG : IsReal (argG m c)) (hT : IsReal (argT m c))

include hX hG hT in
theorem dx_at (b : Fin 4) (i : Fin 2048) (k : Fin 1024) : (res_out1 (F := Ideal) m c : FVec Ideal S4x2048x1024 .f32) (ix3 b i k) =
    ((dxOf (flat (argX m c)) (flat (argT m c)) (vec (argG m c)) ⟨b.val * 2048 + i.val, by omega⟩ k : ℝ) : EReal) := by
  unfold res_out1 res_main_v50
  have h0 := flat_coe' hX
  have h1 := vec_coe hG
  have h2 := flat_coe' hT
  pointwise [h0, h1, h2, ofBits_1024, ofBits_eps, ofBits_half, ofBits_neg_half, ofBits_two, msq_1024]
  generalize (⟨b.val * 2048 + i.val, by omega⟩ : Fin 8192) = n
  simp only [rsqrt_msq, div_msq, div_1024, ← EReal.coe_mul, ← EReal.coe_add, ← EReal.coe_sub, ← coe_sum]
  have e : ∀ j, 1 / 2 / 1024 * (2 * (flat (argX m c) n j * rms (flat (argX m c) n) * vec (argG m c) j - flat (argT m c) n j)) * vec (argG m c) j =
      errOf (flat (argX m c) n) (vec (argG m c)) (flat (argT m c) n) j * (1 / 1024) * vec (argG m c) j := fun j => by rw [errOf]; ring
  simp only [e, Fin.sum_univ_one]
  rw [dxOf, ← rmsGrad_eq]
  norm_num

end Results

/-- The reference's run: it ends with the three results and its arguments unchanged. -/
theorem run_real (ρ : Dev nD → PrngReg) (hX : ∀ c, IsReal (argX m c)) (hG : ∀ c, IsReal (argG m c)) (hT : ∀ c, IsReal (argT m c)) :
    θ_run defs (onTc (τ := τ) (main (F := Ideal))) ⟨m, fun _ => 0, ρ⟩ fun r => ∀ c : Dev nD,
      r.2.mem ((c.tc : Thread nD τ).loc main_v24) = lossArr (argX m c) (argT m c) (argG m c)
      ∧ r.2.mem ((c.tc : Thread nD τ).loc main_v50) = dxArr (argX m c) (argT m c) (argG m c)
      ∧ r.2.mem ((c.tc : Thread nD τ).loc main_v36) = dgainArr (argX m c) (argT m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2.1.trans ?_, (h c).2.2.1.trans ?_, (h c).2.2.2⟩) (run m ρ)
  · have h0 := flat_coe' (hX c)
    have h1 := vec_coe (hG c)
    have h2 := flat_coe' (hT c)
    funext j
    pointwise [h0, h1, h2, ofBits_1024, ofBits_eps, ofBits_half, msq_1024]
    simp only [rsqrt_msq, div_1024, ← EReal.coe_mul, ← EReal.coe_sub, ← coe_sum]
    simp only [lossArr, loss, sumRows, sqOf, errOf]
    congr 1
    simp only [← Finset.sum_div]
    ring
  · funext j
    idx_vars j
    exact dx_at m c (hX c) (hG c) (hT c) j0 j1 j2
  · have h0 := flat_coe' (hX c)
    have h1 := vec_coe (hG c)
    have h2 := flat_coe' (hT c)
    funext j
    idx_vars j
    clear h
    pointwise [hostReduceAdd_lead, h0, h1, h2, ofBits_1024, ofBits_eps, ofBits_half, ofBits_two, msq_1024]
    simp only [rsqrt_msq, div_1024, ← EReal.coe_mul, ← EReal.coe_sub, ← coe_sum]
    simp only [Fin.sum_univ_one, Finset.sum_const, Finset.card_univ, Fintype.card_fin, one_smul]
    have e : ∀ n, flat (argX m c) n j0 * rms (flat (argX m c) n) *
        (1 / 2 / 1024 * (2 * (flat (argX m c) n j0 * rms (flat (argX m c) n) * vec (argG m c) j0 - flat (argT m c) n j0))) =
        dgOf (flat (argX m c)) (flat (argT m c)) (vec (argG m c)) n j0 := fun n => by rw [dgOf, errOf]; ring
    simp only [e]
    rfl
end Cert.ReferenceIdeal.Value
-- ==== Proof.LossProof.lean ====
/- The loss head's claim: kernel and reference end with the same three results. -/
module

public import proofs.«01_k».proof.Defs
public import proofs.«01_k».proof.Proof.Gen.Pre_finite
public import proofs.«01_k».proof.Proof.LossHead
public import proofs.«01_k».proof.Proof.LossRef
public import Idealize.ShloMosaic.Lib.Claim

@[expose] public section

noncomputable section

open Idealize.ShloMosaic Idealize.SL.Sem
open Cert.RealOps Cert.Loss

namespace Cert.Loss

/-- What the precondition says: the three arrays hold reals. -/
theorem isReal_of_pre {x t : FVec Ideal (⟨3, ![4, 2048, 1024]⟩ : Shape) .f32} {g : FVec Ideal (⟨1, ![1024]⟩ : Shape) .f32}
    (h : Cert.Pre_finite.fn (F := Ideal) x g t = fun _ => 1#1) : IsReal x ∧ IsReal g ∧ IsReal t := by
  have e := congrFun h ix0
  obtain ⟨e1, e2⟩ := IntOp.andi_eq_one.1 e
  obtain ⟨e3, e4⟩ := IntOp.andi_eq_one.1 e1
  exact ⟨isReal_of_all _ _ _ _ _ _ e3, isReal_of_all _ _ _ _ _ _ e4, isReal_of_all _ _ _ _ _ _ e2⟩

theorem algebraic : Cert.algebraic_KernelIdeal_ReferenceIdeal_pre_finite := by
  intro m g m' g' hp ha
  have hr := fun c => isReal_of_pre (hp c)
  have e0 : ∀ c, ReferenceIdeal.Value.argX m' c = KernelIdeal.Value.argX m c := fun c => (ha c).1
  have e1 : ∀ c, ReferenceIdeal.Value.argG m' c = KernelIdeal.Value.argG m c := fun c => (ha c).2.1
  have e2 : ∀ c, ReferenceIdeal.Value.argT m' c = KernelIdeal.Value.argT m c := fun c => (ha c).2.2
  have R := ReferenceIdeal.Value.run_real m' g' (fun c => e0 c ▸ (hr c).1) (fun c => e1 c ▸ (hr c).2.1) (fun c => e2 c ▸ (hr c).2.2)
  have R' := (θ_run ReferenceIdeal.defs _ _).mono (fun r h c => by
    obtain ⟨h1, h2, h3, h4⟩ := h c
    rw [e0, e1, e2] at h1 h2 h3
    exact And.intro h1 (And.intro h2 (And.intro h3 h4))) R
  exact ⟨_, _, _, KernelIdeal.Value.run_real m g (fun c => (hr c).1) (fun c => (hr c).2.1) (fun c => (hr c).2.2), R'⟩

/-- The reference runs, leaves its arguments unchanged, and every counter ends at zero. -/
theorem frame_ref : Cert.quiescent_ReferenceIdeal := fun m g _ => (θ_run ReferenceIdeal.defs _ _).mono
    (fun r h => ⟨fun c => (h c).2.2.2, sem_eq_zero_of_no_sems (by decide) r.2⟩) (ReferenceIdeal.Value.run (F := Ideal) m g)

end Cert.Loss

end
-- ==== Proof.GmSpec.lean ====
/- The gated unit's gradients in mathematical form, on one block of 128 positions: the functions of real arrays that both
   programs are shown to compute. -/
module

public import proofs.«01_k».proof.Proof.RealOps

@[expose] public section

noncomputable section

open Idealize.ShloMosaic

namespace Cert.Gm

open Cert.RealOps

/-- The real that the word of √(2/π) denotes, and the coefficient 0.044715. -/
def geluK : ℝ := 13386282 * (2 : ℝ) ^ (-24 : ℤ)
def geluC : ℝ := 8943 / 200000

theorem ofBits_geluK : Ideal.ofBits .f32 0x3F4C422A#32 = ((geluK : ℝ) : EReal) := by
  simp [Ideal.ofBits, Ideal.ieee, geluK]

theorem ofBits_128 : Ideal.ofBits .f32 0x43000000#32 = ((128 : ℝ) : EReal) := by
  simp [Ideal.ofBits, Ideal.ieee]; norm_num; rw [← EReal.coe_mul]; norm_num
theorem ofBits_three : Ideal.ofBits .f32 0x40400000#32 = ((3 : ℝ) : EReal) := by
  simp [Ideal.ofBits, Ideal.ieee]; norm_num; rw [← EReal.coe_mul]; norm_num
theorem ofBits_44715 : Ideal.ofBits .f32 0x472EAB00#32 = ((44715 : ℝ) : EReal) := by
  simp [Ideal.ofBits, Ideal.ieee]; norm_num; rw [← EReal.coe_mul]; norm_num
theorem ofBits_million : Ideal.ofBits .f32 0x49742400#32 = ((1000000 : ℝ) : EReal) := by
  simp [Ideal.ofBits, Ideal.ieee]; norm_num; rw [← EReal.coe_mul]; norm_num

/-- The tanh inside GELU, GELU and its derivative. -/
def th (x : ℝ) : ℝ := Real.tanh (geluK * (x + geluC * x * x * x))
def gelu (x : ℝ) : ℝ := 1 / 2 * x * (1 + th x)
def dgelu (x : ℝ) : ℝ := 1 / 2 * (1 + th x) + 1 / 2 * x * (1 - th x * th x) * (geluK * (1 + 26829 / 200000 * x * x))

/-- Lane `e` of head `h` among the 512 columns. -/
def col (h : Fin 4) (e : Fin 128) : Fin 512 := ⟨h.val * 128 + e.val, by omega⟩

section
variable (u v d : Fin 128 → Fin 512 → ℝ) (G : Fin 512 → ℝ) (W : Fin 4 → Fin 128 → Fin 128 → ℝ) (B : Fin 4 → Fin 128 → ℝ)

/-- Row `r` of head `h` after GELU, that row normalised, and with its gain. -/
def act (h : Fin 4) (r : Fin 128) (e : Fin 128) : ℝ := gelu (v r (col h e))
def xhat (h : Fin 4) (r : Fin 128) (e : Fin 128) : ℝ := act v h r e * rms (act v h r)
def vn (h : Fin 4) (r : Fin 128) (e : Fin 128) : ℝ := xhat v h r e * G (col h e)

/-- The gate: the spatial weights applied to the normalised rows, plus the bias. -/
def gate (h : Fin 4) (r : Fin 128) (e : Fin 128) : ℝ := (∑ s, W h r s * vn v G h s e) + B h r

/-- The gate's cotangent, and that of the normalised rows. -/
def dgate (h : Fin 4) (r : Fin 128) (e : Fin 128) : ℝ := d r (col h e) * gelu (u r (col h e))
def dvn (h : Fin 4) (s : Fin 128) (e : Fin 128) : ℝ := ∑ t, W h t s * dgate u d h t e

/-- The gradients of the block: of `u`, of `v`, and the block's parts of those of the weights and of the gain. -/
def du (h : Fin 4) (r : Fin 128) (e : Fin 128) : ℝ := d r (col h e) * gate v G W B h r e * dgelu (u r (col h e))
def dv (h : Fin 4) (r : Fin 128) (e : Fin 128) : ℝ :=
  rmsGrad (act v h r) (fun e => dvn u d W h r e * G (col h e)) e * dgelu (v r (col h e))
def dw (h : Fin 4) (t s : Fin 128) : ℝ := ∑ e, dgate u d h t e * vn v G h s e
def dg (h : Fin 4) (r : Fin 128) (e : Fin 128) : ℝ := dvn u d W h r e * xhat v h r e
end

/-- The two inputs among the columns of the mixer's input, and the weights with the mask. -/
def uOf (z : FVec Ideal (⟨3, ![4, 2048, 1536]⟩ : Shape) .f32) (n : Fin 8192) (k : Fin 512) : ℝ := flat z n ⟨512 + k.val, by omega⟩
def vOf (z : FVec Ideal (⟨3, ![4, 2048, 1536]⟩ : Shape) .f32) (n : Fin 8192) (k : Fin 512) : ℝ := flat z n ⟨1024 + k.val, by omega⟩
def wOf (w : FVec Ideal (⟨3, ![4, 128, 128]⟩ : Shape) .f32) (h : Fin 4) (t s : Fin 128) : ℝ :=
  if s.val ≤ t.val then EReal.toReal (w (ix3 h t s)) else 0

/-- Block `q` of 128 rows. -/
def blk (x : Fin 8192 → Fin 512 → ℝ) (q : Fin 64) (r : Fin 128) (k : Fin 512) : ℝ := x ⟨q.val * 128 + r.val, by omega⟩ k

/-- Block `q` of sequence `b`. -/
def blockOf (b : Fin 4) (q : Fin 16) : Fin 64 := ⟨b.val * 16 + q.val, by omega⟩

/-- `msq` as the programs compute it, on a row of 128. -/
theorem msq_128 (x : Fin 128 → ℝ) :
    Ideal.div (∑ k, (x k : EReal) * (x k : EReal)) ((128 : ℝ) : EReal) + ((eps : ℝ) : EReal) = ((msq x : ℝ) : EReal) := by
  simp only [← EReal.coe_mul, ← coe_sum]
  rw [div_real _ (by norm_num), ← EReal.coe_add, msq]
  norm_num

theorem div_128 (a : ℝ) : Ideal.div (a : EReal) ((128 : ℝ) : EReal) = ((a / 128 : ℝ) : EReal) := div_real a (by norm_num)

end Cert.Gm

end
-- ==== Proof.GmOps.lean ====
/- What the kernel computes of one chunk of 128 rows, as functions of the chunk's loads: of one head (a slice of 128 columns), then of the chunk,
   each with its value at an index over the reals. -/
module

public import proofs.«01_k».proof.Proof.RealOps
public import proofs.«01_k».proof.Proof.GmSpec
public import proofs.«01_k».proof.Proof.Gen.Kernel2Ideal.Skeleton
public import Idealize.ShloMosaic.Lib.Pointwise
@[expose] public section

set_option maxRecDepth 16384
noncomputable section
open Idealize.ShloMosaic
open Cert.RealOps Cert.Gm
namespace Cert.Kernel2Ideal.Value
open Cert.Kernel2Ideal Cert.Kernel2Ideal.Gen

/-- A chunk, and one head of it. -/
abbrev W512 := FVec Ideal S128x512 .f32
abbrev W128 := FVec Ideal S128x128 .f32
/-- A constant over a whole tile. -/
abbrev k512 (w : BitVec 32) : W512 := broadcast S128x512 (Scalar.ofBits (F := Ideal) .f32 w)
abbrev k1 (w : BitVec 32) : FVec Ideal S128x1 .f32 := broadcast S128x1 (Scalar.ofBits (F := Ideal) .f32 w)
abbrev gc : W512 := broadcast S128x512 (Named.named κ "gelu_c" 0x3D372713#32 : Ideal .f32)
abbrev gc3 : W512 := broadcast S128x512 (Named.named κ "gelu_3c" 0x3E095D4F#32 : Ideal .f32)
abbrev same (x : W512) : W512 := shapeCast S128x512 x shapeCasts_S128x512_S128x512

/-- The tanh of the gelu, the gelu, and its derivative, of a chunk's 128 rows. -/
def tanhK (x : W512) : W512 := tanh (mulf (k512 0x3F4C422A#32) (addf (same x) (mulf (mulf (mulf gc (same x)) (same x)) (same x))))
def geluV (x : W512) : W512 := mulf (mulf (k512 0x3F000000#32) (same x)) (addf (k512 0x3F800000#32) (tanhK x))
def dgeluV (x : W512) : W512 :=
  addf (mulf (k512 0x3F000000#32) (addf (k512 0x3F800000#32) (tanhK x)))
    (mulf (mulf (mulf (k512 0x3F000000#32) (same x)) (subf (k512 0x3F800000#32) (mulf (tanhK x) (tanhK x))))
      (mulf (k512 0x3F4C422A#32) (addf (k512 0x3F800000#32) (mulf (mulf gc3 (same x)) (same x)))))

/-- One head: the reciprocal root mean square of each row, the normalised rows without and with the gain, the gate. -/
def rK (a : W128) : FVec Ideal S128x1 .f32 :=
  rsqrt (addf (divf (shapeCast S128x1 (multiReduction .add [1] S128 (mulf a a) 0x00000000#32 reduces_S128x128_S128 (.inl rfl) rfl) shapeCasts_S128_S128x1)
    (k1 0x43000000#32)) (k1 0x358637BD#32))
def xhatK (a : W128) : W128 := mulf a (broadcastTo S128x128 (rK a) broadcasts_S128x1_S128x128)
def gK (g : Vec Ideal S1x128 .f32) : W128 := broadcastTo S128x128 (shapeCast S1x128 g shapeCasts_S1x128_S1x128) broadcasts_S1x128_S128x128
def vnK (a : W128) (g : Vec Ideal S1x128 .f32) : W128 := mulf (xhatK a) (gK g)
def gateK (a : W128) (g : Vec Ideal S1x128 .f32) (w : Vec Ideal S1x128x128 .bf16) (b : W128) : W128 :=
  addf (matmul (φ₁ := .bf16) (φ₂ := .bf16) dot_S128x128_S128x128_S128x128_1_0_0_1_n_n none (shapeCast S128x128 w shapeCasts_S1x128x128_S128x128) (truncf .bf16 (vnK a g) bitsLt_bf16_f32)
    (constant S128x128 .f32 0x00000000#32)) (shapeCast S128x128 b shapeCasts_S128x128_S128x128)

/-- One head's gradients, from the gate's cotangent `s`. -/
def dvnK (s : W128) (w : Vec Ideal S1x128x128 .bf16) : W128 :=
  matmul (φ₁ := .bf16) (φ₂ := .bf16) dot_S128x128_S128x128_S128x128_0_0_1_1_n_n none (shapeCast S128x128 w shapeCasts_S1x128x128_S128x128) (truncf .bf16 s bitsLt_bf16_f32)
    (constant S128x128 .f32 0x00000000#32)
def dwK (a s : W128) (g : Vec Ideal S1x128 .f32) (acc : Vec Ideal S1x128x128 .f32) : Vec Ideal S1x128x128 .f32 :=
  shapeCast S1x128x128 (addf (shapeCast S128x128 acc shapeCasts_S1x128x128_S128x128)
    (matmul (φ₁ := .bf16) (φ₂ := .bf16) dot_S128x128_S128x128_S128x128_1_1_0_0_n_n none (truncf .bf16 s bitsLt_bf16_f32) (truncf .bf16 (vnK a g) bitsLt_bf16_f32)
      (constant S128x128 .f32 0x00000000#32))) shapeCasts_S128x128_S1x128x128
def dgK (a s : W128) (w : Vec Ideal S1x128x128 .bf16) : W128 := mulf (dvnK s w) (xhatK a)
def dvgK (a s : W128) (g : Vec Ideal S1x128 .f32) (w : Vec Ideal S1x128x128 .bf16) : W128 :=
  mulf (broadcastTo S128x128 (rK a) broadcasts_S128x1_S128x128)
    (subf (mulf (dvnK s w) (gK g))
      (mulf (xhatK a) (broadcastTo S128x128 (divf (shapeCast S128x1 (multiReduction .add [1] S128 (mulf (mulf (dvnK s w) (gK g)) (xhatK a)) 0x00000000#32
        reduces_S128x128_S128 (.inl rfl) rfl) shapeCasts_S128_S128x1) (k1 0x43000000#32)) broadcasts_S128x1_S128x128)))

/-- The four heads side by side, and each of them. -/
def cat (a b c d : W128) : W512 :=
  concatenate S128x512 1 [⟨S128x128, a⟩, ⟨S128x128, b⟩, ⟨S128x128, c⟩, ⟨S128x128, d⟩] concatenates_S128x128_S128x128_S128x128_S128x128_S128x512_d1
def hd0 (x : W512) : W128 := extractStridedSlice S128x128 ![0, 0] x slices_S128x512_o0_0_S128x128
def hd1 (x : W512) : W128 := extractStridedSlice S128x128 ![0, 128] x slices_S128x512_o0_128_S128x128
def hd2 (x : W512) : W128 := extractStridedSlice S128x128 ![0, 256] x slices_S128x512_o0_256_S128x128
def hd3 (x : W512) : W128 := extractStridedSlice S128x128 ![0, 384] x slices_S128x512_o0_384_S128x128

/-- The chunk: the gate's cotangent, and the gradients of `u`, of `v` and of the gain, row by row. -/
def dsK (u d : W512) : W512 := mulf (same d) (geluV u)
def duK (u v d : W512) (g0 g1 g2 g3 : Vec Ideal S1x128 .f32) (w0 w1 w2 w3 : Vec Ideal S1x128x128 .bf16) (b0 b1 b2 b3 : W128) : W512 :=
  mulf (mulf (same d) (cat (gateK (hd0 (geluV v)) g0 w0 b0) (gateK (hd1 (geluV v)) g1 w1 b1) (gateK (hd2 (geluV v)) g2 w2 b2) (gateK (hd3 (geluV v)) g3 w3 b3)))
    (dgeluV u)
def dvK (u v d : W512) (g0 g1 g2 g3 : Vec Ideal S1x128 .f32) (w0 w1 w2 w3 : Vec Ideal S1x128x128 .bf16) : W512 :=
  mulf (cat (dvgK (hd0 (geluV v)) (hd0 (dsK u d)) g0 w0) (dvgK (hd1 (geluV v)) (hd1 (dsK u d)) g1 w1) (dvgK (hd2 (geluV v)) (hd2 (dsK u d)) g2 w2)
    (dvgK (hd3 (geluV v)) (hd3 (dsK u d)) g3 w3)) (dgeluV v)
def dgrK (u v d : W512) (w0 w1 w2 w3 : Vec Ideal S1x128x128 .bf16) : W512 :=
  cat (dgK (hd0 (geluV v)) (hd0 (dsK u d)) w0) (dgK (hd1 (geluV v)) (hd1 (dsK u d)) w1) (dgK (hd2 (geluV v)) (hd2 (dsK u d)) w2)
    (dgK (hd3 (geluV v)) (hd3 (dsK u d)) w3)

/-- The first index at which a column of the four heads lies. -/
theorem named_c : (Named.named κ "gelu_c" 0x3D372713#32 : Ideal .f32) = ((geluC : ℝ) : EReal) := by
  unfold geluC
  rfl
theorem named_3c : (Named.named κ "gelu_3c" 0x3E095D4F#32 : Ideal .f32) = ((26829 / 200000 : ℝ) : EReal) := rfl

section Elementwise
variable (x : W512) (X : Fin 128 → Fin 512 → ℝ) (hx : ∀ r k, x (ix2 r k) = ((X r k : ℝ) : EReal))

include hx in
theorem tanhK_at (r : Fin 128) (k : Fin 512) : tanhK x (ix2 r k) = ((th (X r k) : ℝ) : EReal) := by
  pointwise [tanhK, hx, ofBits_geluK, named_c]
  simp only [← EReal.coe_mul, ← EReal.coe_add]
  rw [tanh_real]
  rfl

include hx in
theorem geluV_at (r : Fin 128) (k : Fin 512) : geluV x (ix2 r k) = ((gelu (X r k) : ℝ) : EReal) := by
  pointwise [geluV, hx, ofBits_half, tanhK_at x X hx]
  simp only [← EReal.coe_one, ← EReal.coe_mul, ← EReal.coe_add]
  rfl

include hx in
theorem dgeluV_at (r : Fin 128) (k : Fin 512) : dgeluV x (ix2 r k) = ((dgelu (X r k) : ℝ) : EReal) := by
  pointwise [dgeluV, hx, ofBits_half, ofBits_geluK, tanhK_at x X hx, named_3c]
  simp only [← EReal.coe_one, ← EReal.coe_mul, ← EReal.coe_add, ← EReal.coe_sub]
  rfl
end Elementwise

section Head
variable (a s : W128) (g : Vec Ideal S1x128 .f32) (w : Vec Ideal S1x128x128 .bf16) (b : W128)
  (A S : Fin 128 → Fin 128 → ℝ) (G : Fin 128 → ℝ) (W B : Fin 128 → Fin 128 → ℝ)
  (ha : ∀ r k, a (ix2 r k) = ((A r k : ℝ) : EReal)) (hs : ∀ r k, s (ix2 r k) = ((S r k : ℝ) : EReal)) (hg : ∀ k, g (ix2 (0 : Fin 1) k) = ((G k : ℝ) : EReal))
  (hw : ∀ r k, w (ix3 (0 : Fin 1) r k) = ((W r k : ℝ) : EReal)) (hb : ∀ r k, b (ix2 r k) = ((B r k : ℝ) : EReal))

include ha in
theorem rK_at (r : Fin 128) : rK a (ix2 r (0 : Fin 1)) = ((rms (A r) : ℝ) : EReal) := by
  pointwise [rK, ha, ofBits_128, ofBits_eps, msq_128]
  rw [rsqrt_msq]

include ha in
theorem xhatK_at (r k : Fin 128) : xhatK a (ix2 r k) = ((A r k * rms (A r) : ℝ) : EReal) := by
  pointwise [xhatK, ha, rK_at a A ha]
  rw [← EReal.coe_mul]

include hg in
theorem gK_at (r k : Fin 128) : gK g (ix2 r k) = ((G k : ℝ) : EReal) := by pointwise [gK, hg]

include ha hg in
theorem vnK_at (r k : Fin 128) : vnK a g (ix2 r k) = ((A r k * rms (A r) * G k : ℝ) : EReal) := by
  pointwise [vnK, xhatK_at a A ha, gK_at g G hg]
  rw [← EReal.coe_mul]

include ha hg hw hb in
theorem gateK_at (r k : Fin 128) : gateK a g w b (ix2 r k) = (((∑ j, W r j * (A j k * rms (A j) * G k)) + B r k : ℝ) : EReal) := by
  pointwise [gateK, hw, vnK_at a g A G ha hg, hb]
  simp only [← EReal.coe_mul, ← EReal.coe_add, ← coe_sum]

include hs hw in
theorem dvnK_at (r k : Fin 128) : dvnK s w (ix2 r k) = ((∑ j, W j r * S j k : ℝ) : EReal) := by
  pointwise [dvnK, hw, hs]
  simp only [← EReal.coe_mul, ← coe_sum]

include ha hs hg in
theorem dwK_at (acc : Vec Ideal S1x128x128 .f32) (z : Fin 1) (r k : Fin 128) :
    dwK a s g acc (ix3 z r k) = acc (ix3 z r k) + ((∑ j, S r j * (A k j * rms (A k) * G j) : ℝ) : EReal) := by
  obtain rfl : z = 0 := Subsingleton.elim _ _
  pointwise [dwK, hs, vnK_at a g A G ha hg]
  simp only [← EReal.coe_mul, ← coe_sum]

include ha hs hw in
theorem dgK_at (r k : Fin 128) : dgK a s w (ix2 r k) = (((∑ j, W j r * S j k) * (A r k * rms (A r)) : ℝ) : EReal) := by
  pointwise [dgK, dvnK_at s w S W hs hw, xhatK_at a A ha]
  rw [← EReal.coe_mul]

include ha hs hg hw in
theorem dvgK_at (r k : Fin 128) : dvgK a s g w (ix2 r k) = ((rmsGrad (A r) (fun k => (∑ j, W j r * S j k) * G k) k : ℝ) : EReal) := by
  pointwise [dvgK, dvnK_at s w S W hs hw, xhatK_at a A ha, gK_at g G hg, rK_at a A ha, ofBits_128]
  simp only [div_128, ← EReal.coe_mul, ← EReal.coe_sub, ← coe_sum, rmsGrad]
  rfl
end Head

theorem hd0_at (x : W512) (r k : Fin 128) : hd0 x (ix2 r k) = x (ix2 r (col 0 k)) := by pointwise [hd0]; exact congrArg (fun j => x (ix2 r j)) (Fin.ext (by simp [col]))
theorem hd1_at (x : W512) (r k : Fin 128) : hd1 x (ix2 r k) = x (ix2 r (col 1 k)) := by pointwise [hd1]; exact congrArg (fun j => x (ix2 r j)) (Fin.ext (by simp [col]))
theorem hd2_at (x : W512) (r k : Fin 128) : hd2 x (ix2 r k) = x (ix2 r (col 2 k)) := by pointwise [hd2]; exact congrArg (fun j => x (ix2 r j)) (Fin.ext (by simp [col]))
theorem hd3_at (x : W512) (r k : Fin 128) : hd3 x (ix2 r k) = x (ix2 r (col 3 k)) := by pointwise [hd3]; exact congrArg (fun j => x (ix2 r j)) (Fin.ext (by simp [col]))

/-- A column of the four heads side by side is a column of its head. -/
theorem cat_at (a b c d : W128) (Z : Fin 4 → Fin 128 → Fin 128 → ℝ) (h0 : ∀ r k, a (ix2 r k) = ((Z 0 r k : ℝ) : EReal))
    (h1 : ∀ r k, b (ix2 r k) = ((Z 1 r k : ℝ) : EReal)) (h2 : ∀ r k, c (ix2 r k) = ((Z 2 r k : ℝ) : EReal))
    (h3 : ∀ r k, d (ix2 r k) = ((Z 3 r k : ℝ) : EReal)) (h : Fin 4) (r e : Fin 128) : cat a b c d (ix2 r (col h e)) = ((Z h r e : ℝ) : EReal) := by
  match h with
  | 0 => pointwise [cat, col, h0]
  | 1 => pointwise [cat, col, h1]
  | 2 =>
    pointwise [cat, col, h2]
    rw [dif_neg (by omega), dif_neg (by omega), dif_pos (by omega)]
    exact congrArg (fun j => ((Z 2 r j : ℝ) : EReal)) (Fin.ext (by simp only []; omega))
  | 3 =>
    pointwise [cat, col, h3]
    rw [dif_neg (by omega), dif_neg (by omega), dif_neg (by omega)]
    exact congrArg (fun j => ((Z 3 r j : ℝ) : EReal)) (Fin.ext (by simp only []; omega))

section Chunk
variable {u v d : W512} {g0 g1 g2 g3 : Vec Ideal S1x128 .f32} {w0 w1 w2 w3 : Vec Ideal S1x128x128 .bf16} {b0 b1 b2 b3 : W128}
  {U V D : Fin 128 → Fin 512 → ℝ} {G : Fin 512 → ℝ} {W : Fin 4 → Fin 128 → Fin 128 → ℝ} {B : Fin 4 → Fin 128 → ℝ}
  (hu : ∀ r k, u (ix2 r k) = ((U r k : ℝ) : EReal)) (hv : ∀ r k, v (ix2 r k) = ((V r k : ℝ) : EReal)) (hd : ∀ r k, d (ix2 r k) = ((D r k : ℝ) : EReal))
  (hg0 : ∀ k, g0 (ix2 (0 : Fin 1) k) = ((G (col 0 k) : ℝ) : EReal)) (hg1 : ∀ k, g1 (ix2 (0 : Fin 1) k) = ((G (col 1 k) : ℝ) : EReal))
  (hg2 : ∀ k, g2 (ix2 (0 : Fin 1) k) = ((G (col 2 k) : ℝ) : EReal)) (hg3 : ∀ k, g3 (ix2 (0 : Fin 1) k) = ((G (col 3 k) : ℝ) : EReal))
  (hw0 : ∀ r k, w0 (ix3 (0 : Fin 1) r k) = ((W 0 r k : ℝ) : EReal)) (hw1 : ∀ r k, w1 (ix3 (0 : Fin 1) r k) = ((W 1 r k : ℝ) : EReal))
  (hw2 : ∀ r k, w2 (ix3 (0 : Fin 1) r k) = ((W 2 r k : ℝ) : EReal)) (hw3 : ∀ r k, w3 (ix3 (0 : Fin 1) r k) = ((W 3 r k : ℝ) : EReal))
  (hb0 : ∀ r k, b0 (ix2 r k) = ((B 0 r : ℝ) : EReal)) (hb1 : ∀ r k, b1 (ix2 r k) = ((B 1 r : ℝ) : EReal))
  (hb2 : ∀ r k, b2 (ix2 r k) = ((B 2 r : ℝ) : EReal)) (hb3 : ∀ r k, b3 (ix2 r k) = ((B 3 r : ℝ) : EReal))

include hu hd in
theorem dsK_at (r : Fin 128) (k : Fin 512) : dsK u d (ix2 r k) = ((D r k * gelu (U r k) : ℝ) : EReal) := by
  pointwise [dsK, hd, geluV_at u U hu]
  rw [← EReal.coe_mul]

include hu hv hd hg0 hg1 hg2 hg3 hw0 hw1 hw2 hw3 hb0 hb1 hb2 hb3 in
theorem duK_at (h : Fin 4) (r e : Fin 128) :
    duK u v d g0 g1 g2 g3 w0 w1 w2 w3 b0 b1 b2 b3 (ix2 r (col h e)) = ((du U V D G W B h r e : ℝ) : EReal) := by
  have hv' := geluV_at v V hv
  pointwise [duK, hd, dgeluV_at u U hu]
  rw [cat_at _ _ _ _ (gate V G W B)
    (gateK_at _ _ _ _ (act V 0) (fun k => G (col 0 k)) (W 0) (fun r _ => B 0 r) (fun r k => (hd0_at _ r k).trans (hv' r _)) hg0 hw0 hb0)
    (gateK_at _ _ _ _ (act V 1) (fun k => G (col 1 k)) (W 1) (fun r _ => B 1 r) (fun r k => (hd1_at _ r k).trans (hv' r _)) hg1 hw1 hb1)
    (gateK_at _ _ _ _ (act V 2) (fun k => G (col 2 k)) (W 2) (fun r _ => B 2 r) (fun r k => (hd2_at _ r k).trans (hv' r _)) hg2 hw2 hb2)
    (gateK_at _ _ _ _ (act V 3) (fun k => G (col 3 k)) (W 3) (fun r _ => B 3 r) (fun r k => (hd3_at _ r k).trans (hv' r _)) hg3 hw3 hb3),
    ← EReal.coe_mul, ← EReal.coe_mul]
  rfl

include hu hv hd hg0 hg1 hg2 hg3 hw0 hw1 hw2 hw3 in
theorem dvK_at (h : Fin 4) (r e : Fin 128) :
    dvK u v d g0 g1 g2 g3 w0 w1 w2 w3 (ix2 r (col h e)) = ((dv U V D G W h r e : ℝ) : EReal) := by
  have hv' := geluV_at v V hv
  have hs := dsK_at hu hd
  pointwise [dvK, dgeluV_at v V hv]
  rw [cat_at _ _ _ _ (fun h r e => rmsGrad (act V h r) (fun e => dvn U D W h r e * G (col h e)) e)
    (dvgK_at _ _ _ _ (act V 0) (dgate U D 0) (fun k => G (col 0 k)) (W 0) (fun r k => (hd0_at _ r k).trans (hv' r _)) (fun r k => (hd0_at _ r k).trans (hs r _)) hg0 hw0)
    (dvgK_at _ _ _ _ (act V 1) (dgate U D 1) (fun k => G (col 1 k)) (W 1) (fun r k => (hd1_at _ r k).trans (hv' r _)) (fun r k => (hd1_at _ r k).trans (hs r _)) hg1 hw1)
    (dvgK_at _ _ _ _ (act V 2) (dgate U D 2) (fun k => G (col 2 k)) (W 2) (fun r k => (hd2_at _ r k).trans (hv' r _)) (fun r k => (hd2_at _ r k).trans (hs r _)) hg2 hw2)
    (dvgK_at _ _ _ _ (act V 3) (dgate U D 3) (fun k => G (col 3 k)) (W 3) (fun r k => (hd3_at _ r k).trans (hv' r _)) (fun r k => (hd3_at _ r k).trans (hs r _)) hg3 hw3),
    ← EReal.coe_mul]
  rfl

include hu hv hd hw0 hw1 hw2 hw3 in
theorem dgrK_at (h : Fin 4) (r e : Fin 128) : dgrK u v d w0 w1 w2 w3 (ix2 r (col h e)) = ((dg U V D W h r e : ℝ) : EReal) := by
  have hv' := geluV_at v V hv
  have hs := dsK_at hu hd
  exact cat_at _ _ _ _ (dg U V D W)
    (dgK_at _ _ _ (act V 0) (dgate U D 0) (W 0) (fun r k => (hd0_at _ r k).trans (hv' r _)) (fun r k => (hd0_at _ r k).trans (hs r _)) hw0)
    (dgK_at _ _ _ (act V 1) (dgate U D 1) (W 1) (fun r k => (hd1_at _ r k).trans (hv' r _)) (fun r k => (hd1_at _ r k).trans (hs r _)) hw1)
    (dgK_at _ _ _ (act V 2) (dgate U D 2) (W 2) (fun r k => (hd2_at _ r k).trans (hv' r _)) (fun r k => (hd2_at _ r k).trans (hs r _)) hw2)
    (dgK_at _ _ _ (act V 3) (dgate U D 3) (W 3) (fun r k => (hd3_at _ r k).trans (hv' r _)) (fun r k => (hd3_at _ r k).trans (hs r _)) hw3) h r e
end Chunk
end Cert.Kernel2Ideal.Value
end
-- ==== Proof.GmBlocks.lean ====
/- The gated unit's kernel: what the host hands it, and each grid point's blocks of it. -/
module

public import proofs.«01_k».proof.Proof.Gen.Kernel2Ideal.Frame
public import proofs.«01_k».proof.Proof.GmOps
public import Idealize.ShloMosaic.Lib.Pipeline.ValueKit
public import Idealize.ShloMosaic.Lib.Pointwise
public import Idealize.ShloMosaic.Lib.WordCmp
@[expose] public section

set_option maxRecDepth 16384
noncomputable section
open Idealize.ShloMosaic Idealize.ShloMosaic.TcCoe Idealize.SL.Sem
open Idealize.ShloMosaic.Pipeline (Dat)
open Cert.RealOps Cert.Gm
namespace Cert.Kernel2Ideal.Value
open Cert.Kernel2Ideal Cert.Kernel2Ideal.Gen
variable (m : (ℓ : Loc nD τ sig) → Buf (Elt Ideal) ℓ) (c : Dev nD)

/-- The five arguments. -/
abbrev aZ : FVec Ideal S4x2048x1536 .f32 := m ((c.tc : Thread nD τ).loc main_arg0)
abbrev aD : FVec Ideal S4x2048x512 .f32 := m ((c.tc : Thread nD τ).loc main_arg1)
abbrev aG : FVec Ideal S512 .f32 := m ((c.tc : Thread nD τ).loc main_arg2)
abbrev aW : FVec Ideal S4x128x128 .f32 := m ((c.tc : Thread nD τ).loc main_arg3)
abbrev aB : FVec Ideal S4x128 .f32 := m ((c.tc : Thread nD τ).loc main_arg4)

/-- The grid point, from its window's block index. -/
theorem idx : ∀ t : Fin cfg0.N, win0_0.index t = ![t.val, 1] ∧ win0_1.index t = ![t.val, 2] ∧ win0_2.index t = ![t.val, 0] ∧ win0_3.index t = ![0, 0] ∧
    win0_4.index t = ![0, 0, 0] ∧ win0_5.index t = ![0, 0] ∧ win0_6.index t = ![t.val, 0] ∧ win0_7.index t = ![t.val, 0] ∧ win0_8.index t = ![0, 0, 0] ∧
    win0_9.index t = ![0, 0] ∧ win0_10.index t = ![0, 0] :=
  (by decide +kernel : ∀ t : Fin grid0.N, win0_0.index t = ![t.val, 1] ∧ win0_1.index t = ![t.val, 2] ∧ win0_2.index t = ![t.val, 0] ∧ win0_3.index t = ![0, 0] ∧
    win0_4.index t = ![0, 0, 0] ∧ win0_5.index t = ![0, 0] ∧ win0_6.index t = ![t.val, 0] ∧ win0_7.index t = ![t.val, 0] ∧ win0_8.index t = ![0, 0, 0] ∧
    win0_9.index t = ![0, 0] ∧ win0_10.index t = ![0, 0])
def t0_L : Fin cfg0.N := ⟨7, by decide⟩
theorem ptlt (t : Fin cfg0.N) : t.val < 8 := lt_of_lt_of_eq t.isLt N_0
/-- Row `r` of point `t`'s block among all the rows, and block `j` of 128 rows of point `t` among all of them. -/
def rowOf (t : Fin cfg0.N) (r : Fin 1024) : Fin 8192 := ⟨t.val * 1024 + r.val, by have := ptlt t; omega⟩
def qOf (t : Fin cfg0.N) (j : Fin 8) : Fin 64 := ⟨t.val * 8 + j.val, by have := ptlt t; omega⟩

theorem V_z : (V m c main_v8 : FVec Ideal S8192x1536 .f32) = shapeCast S8192x1536 (aZ m c) shapeCasts_S4x2048x1536_S8192x1536 := by
  unfold V V0; rw [List.flatten_cons, List.flatten_cons, List.flatten_cons, List.flatten_cons, List.flatten_cons, List.flatten_nil, List.append_nil]; simp only [List.cons_append, List.nil_append]; after_results_simp; try rfl
theorem V_d : (V m c main_v9 : FVec Ideal S8192x512 .f32) = shapeCast S8192x512 (aD m c) shapeCasts_S4x2048x512_S8192x512 := by
  unfold V V0; rw [List.flatten_cons, List.flatten_cons, List.flatten_cons, List.flatten_cons, List.flatten_cons, List.flatten_nil, List.append_nil]; simp only [List.cons_append, List.nil_append]; after_results_simp; try rfl
theorem V_g : (V m c main_v10 : FVec Ideal S1x512 .f32) = broadcastInDim S1x512 ![1] bcast_S512_S1x512_1 (aG m c) := by
  unfold V V0; rw [List.flatten_cons, List.flatten_cons, List.flatten_cons, List.flatten_cons, List.flatten_cons, List.flatten_nil, List.append_nil]; simp only [List.cons_append, List.nil_append]; after_results_simp; try rfl
/-- The lower triangle's mask. -/
abbrev trilK : IVec S128x128 1 := select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))
theorem V_m : (V m c main_v1 : IVec S128x128 1) = trilK := by
  unfold V V0; rw [List.flatten_cons, List.flatten_cons, List.flatten_cons, List.flatten_cons, List.flatten_cons, List.flatten_nil, List.append_nil]; simp only [List.cons_append, List.nil_append]; after_results_simp; try rfl
theorem V_w : (V m c main_v4 : FVec Ideal S4x128x128 .bf16) = truncf .bf16 (select (broadcastInDim S4x128x128 ![0, 1, 2] bcast_S1x128x128_S4x128x128_0_1_2 (broadcastInDim S1x128x128 ![1, 2] bcast_S128x128_S1x128x128_1_2 trilK)) (aW m c)
    (broadcastInDim S4x128x128 ![] bcast_S_S4x128x128 (constant S_ .f32 0x00000000#32)) : FVec Ideal S4x128x128 .f32) bitsLt_bf16_f32 := by
  unfold V V0; rw [List.flatten_cons, List.flatten_cons, List.flatten_cons, List.flatten_cons, List.flatten_cons, List.flatten_nil, List.append_nil]; simp only [List.cons_append, List.nil_append]; after_results_simp; try rfl
theorem V_b : (V m c main_v7 : FVec Ideal S128x512 .f32) = shapeCast S128x512 (broadcastInDim S128x4x128 ![0, 1] bcast_S128x4_S128x4x128_0_1 (transpose S128x4 [1, 0] (aB m c) transposes_S4x128_S128x4_1_0) : FVec Ideal S128x4x128 .f32) shapeCasts_S128x4x128_S128x512 := by
  unfold V V0; rw [List.flatten_cons, List.flatten_cons, List.flatten_cons, List.flatten_cons, List.flatten_cons, List.flatten_nil, List.append_nil]; simp only [List.cons_append, List.nil_append]; after_results_simp; try rfl

theorem tril_at (t s : Fin 128) : trilK (ix2 t s) = if s.val ≤ t.val then 1#1 else 0#1 := by
  pointwise
  rw [show IntOp.addi (BitVec.ofNat 32 t.val) 0#32 = BitVec.ofNat 32 t.val from BitVec.add_zero _]

  word_cmp

section Blocks
variable (hZ : IsReal (aZ m c)) (hD : IsReal (aD m c)) (hG : IsReal (aG m c)) (hW : IsReal (aW m c)) (hB : IsReal (aB m c))

include hZ in
theorem blk0_at (t : Fin cfg0.N) (r : Fin 1024) (k : Fin 512) : (iblk m c 0 t : FVec Ideal S1024x512 .f32) (ix2 r k) = ((uOf (aZ m c) (rowOf t r) k : ℝ) : EReal) := by
  rw [uOf, ← flat_coe hZ]
  have h : (iblk m c 0 t : FVec Ideal S1024x512 .f32) (ix2 r k) = (V m c main_v8 : FVec Ideal S8192x1536 .f32) (ix2 (rowOf t r) ⟨512 + k.val, by omega⟩) := by
    blk_point [iblk, idx t, rowOf]
  rw [h, V_z]
  pointwise
include hZ in
theorem blk1_at (t : Fin cfg0.N) (r : Fin 1024) (k : Fin 512) : (iblk m c 1 t : FVec Ideal S1024x512 .f32) (ix2 r k) = ((vOf (aZ m c) (rowOf t r) k : ℝ) : EReal) := by
  rw [vOf, ← flat_coe hZ]
  have h : (iblk m c 1 t : FVec Ideal S1024x512 .f32) (ix2 r k) = (V m c main_v8 : FVec Ideal S8192x1536 .f32) (ix2 (rowOf t r) ⟨1024 + k.val, by omega⟩) := by
    blk_point [iblk, idx t, rowOf]
  rw [h, V_z]
  pointwise
include hD in
theorem blk2_at (t : Fin cfg0.N) (r : Fin 1024) (k : Fin 512) : (iblk m c 2 t : FVec Ideal S1024x512 .f32) (ix2 r k) = ((flat (aD m c) (rowOf t r) k : ℝ) : EReal) := by
  rw [← flat_coe hD]
  have h : (iblk m c 2 t : FVec Ideal S1024x512 .f32) (ix2 r k) = (V m c main_v9 : FVec Ideal S8192x512 .f32) (ix2 (rowOf t r) k) := by
    blk_point [iblk, idx t, rowOf]
  rw [h, V_d]
  pointwise
include hG in
theorem blk3_at (t : Fin cfg0.N) (k : Fin 512) : (iblk m c 3 t : FVec Ideal S1x512 .f32) (ix2 (0 : Fin 1) k) = ((vec (aG m c) k : ℝ) : EReal) := by
  rw [← vec_coe hG]
  have h : (iblk m c 3 t : FVec Ideal S1x512 .f32) (ix2 (0 : Fin 1) k) = (V m c main_v10 : FVec Ideal S1x512 .f32) (ix2 (0 : Fin 1) k) := by
    blk_point [iblk, idx t]
  rw [h, V_g]
  pointwise
include hW in
theorem blk4_at (t : Fin cfg0.N) (h : Fin 4) (r s : Fin 128) : (iblk m c 4 t : FVec Ideal S4x128x128 .bf16) (ix3 h r s) = ((wOf (aW m c) h r s : ℝ) : EReal) := by
  have h : (iblk m c 4 t : FVec Ideal S4x128x128 .bf16) (ix3 h r s) = (V m c main_v4 : FVec Ideal S4x128x128 .bf16) (ix3 h r s) := by
    blk_point [iblk, idx t]
  rw [h, V_w]
  pointwise [tril_at]
  unfold wOf
  split
  · exact hW.coe _
  · rfl
include hB in
theorem blk5_at (t : Fin cfg0.N) (h : Fin 4) (r s : Fin 128) : (iblk m c 5 t : FVec Ideal S128x512 .f32) (ix2 r (col h s)) = ((mat (aB m c) h r : ℝ) : EReal) := by
  rw [← mat_coe hB]
  have e : (iblk m c 5 t : FVec Ideal S128x512 .f32) (ix2 r (col h s)) = (V m c main_v7 : FVec Ideal S128x512 .f32) (ix2 r (col h s)) := by
    blk_point [iblk, idx t, col]
  rw [e, V_b]
  pointwise [col]

end Blocks
end Cert.Kernel2Ideal.Value
end
-- ==== Proof.GmTiles.lean ====
/- The gated unit's kernel: what it writes block by block, the gradients of the two halves of its input. -/
module

public import proofs.«01_k».proof.Proof.GmBlocks
@[expose] public section

set_option maxRecDepth 16384
noncomputable section
open Idealize.ShloMosaic Idealize.ShloMosaic.TcCoe Idealize.SL.Sem
open Idealize.ShloMosaic.Pipeline (Dat)
open Cert.RealOps Cert.Gm
namespace Cert.Kernel2Ideal.Value
open Cert.Kernel2Ideal Cert.Kernel2Ideal.Gen
variable (m : (ℓ : Loc nD τ sig) → Buf (Elt Ideal) ℓ) (c : Dev nD)
/-- The 128 rows of point `t`'s block from row `o` on. -/
def rows (x : Fin 8192 → Fin 512 → ℝ) (t : Fin cfg0.N) (o : ℕ) (ho : o + 128 ≤ 1024) (r : Fin 128) (k : Fin 512) : ℝ := x (rowOf t ⟨o + r.val, by omega⟩) k
/-- They are block `t * 8 + o / 128`. -/
theorem rows_eq (x : Fin 8192 → Fin 512 → ℝ) (t : Fin cfg0.N) (o : ℕ) (ho : o + 128 ≤ 1024) (hm : o % 128 = 0) :
    rows x t o ho = blk x ⟨(t.val * 1024 + o) / 128, by have := ptlt t; omega⟩ := by
  funext r k
  exact congrArg (fun n => x n k) (Fin.ext (by simp only [rowOf]; omega))
/-- The two gradients over all rows. -/
def duAll (n : Fin 8192) (k : Fin 512) : ℝ :=
  du (blk (uOf (aZ m c)) ⟨n.val / 128, by omega⟩) (blk (vOf (aZ m c)) ⟨n.val / 128, by omega⟩) (blk (flat (aD m c)) ⟨n.val / 128, by omega⟩) (vec (aG m c)) (wOf (aW m c)) (mat (aB m c)) ⟨k.val / 128, by omega⟩ ⟨n.val % 128, by omega⟩ ⟨k.val % 128, by omega⟩
def dvAll (n : Fin 8192) (k : Fin 512) : ℝ :=
  dv (blk (uOf (aZ m c)) ⟨n.val / 128, by omega⟩) (blk (vOf (aZ m c)) ⟨n.val / 128, by omega⟩) (blk (flat (aD m c)) ⟨n.val / 128, by omega⟩) (vec (aG m c)) (wOf (aW m c)) ⟨k.val / 128, by omega⟩ ⟨n.val % 128, by omega⟩ ⟨k.val % 128, by omega⟩

theorem ldU (hZ : IsReal (aZ m c)) (t : Fin cfg0.N) (o : ℕ) (ho : o + 128 ≤ 1024) (hb) (r : Fin 128) (k : Fin 512) :
    View.ld (iblk m c 0 t : FVec Ideal S1024x512 .f32) (Rect.unit (s := S1024x512) ![o, 0] ![128, 512] hb) (ix2 r k) = ((rows (uOf (aZ m c)) t o ho r k : ℝ) : EReal) := by
  pointwise [blk0_at m c hZ t, rows]
theorem ldV (hZ : IsReal (aZ m c)) (t : Fin cfg0.N) (o : ℕ) (ho : o + 128 ≤ 1024) (hb) (r : Fin 128) (k : Fin 512) :
    View.ld (iblk m c 1 t : FVec Ideal S1024x512 .f32) (Rect.unit (s := S1024x512) ![o, 0] ![128, 512] hb) (ix2 r k) = ((rows (vOf (aZ m c)) t o ho r k : ℝ) : EReal) := by
  pointwise [blk1_at m c hZ t, rows]
theorem ldD (hD : IsReal (aD m c)) (t : Fin cfg0.N) (o : ℕ) (ho : o + 128 ≤ 1024) (hb) (r : Fin 128) (k : Fin 512) :
    View.ld (iblk m c 2 t : FVec Ideal S1024x512 .f32) (Rect.unit (s := S1024x512) ![o, 0] ![128, 512] hb) (ix2 r k) = ((rows (flat (aD m c)) t o ho r k : ℝ) : EReal) := by
  pointwise [blk2_at m c hD t, rows]
theorem ldG (hG : IsReal (aG m c)) (t : Fin cfg0.N) (h : Fin 4) (o : ℕ) (ho : o = h.val * 128) (hb) (k : Fin 128) :
    View.ld (iblk m c 3 t : FVec Ideal S1x512 .f32) (Rect.unit (s := S1x512) ![0, o] ![1, 128] hb) (ix2 (0 : Fin 1) k) = ((vec (aG m c) (col h k) : ℝ) : EReal) := by
  subst ho
  pointwise [blk3_at m c hG t, col]
theorem ldW (hW : IsReal (aW m c)) (t : Fin cfg0.N) (h : Fin 4) (o : ℕ) (ho : o = h.val) (hb) (r k : Fin 128) :
    View.ld (iblk m c 4 t : FVec Ideal S4x128x128 .bf16) (Rect.unit (s := S4x128x128) ![o, 0, 0] ![1, 128, 128] hb) (ix3 (0 : Fin 1) r k) = ((wOf (aW m c) h r k : ℝ) : EReal) := by
  subst ho
  pointwise [blk4_at m c hW t]
theorem ldB (hB : IsReal (aB m c)) (t : Fin cfg0.N) (h : Fin 4) (o : ℕ) (ho : o = h.val * 128) (hb) (r k : Fin 128) :
    View.ld (iblk m c 5 t : FVec Ideal S128x512 .f32) (Rect.unit (s := S128x512) ![0, o] ![128, 128] hb) (ix2 r k) = ((mat (aB m c) h r : ℝ) : EReal) := by
  subst ho
  refine Eq.trans ?_ (blk5_at m c hB t h r k)
  pointwise [col]

section Piece
variable {u v d : W512} {g0 g1 g2 g3 : Vec Ideal S1x128 .f32} {w0 w1 w2 w3 : Vec Ideal S1x128x128 .bf16} {b0 b1 b2 b3 : W128}
  (t : Fin cfg0.N) (o : ℕ) (ho : o + 128 ≤ 1024) (hm : o % 128 = 0)
  (hu : ∀ r k, u (ix2 r k) = ((rows (uOf (aZ m c)) t o ho r k : ℝ) : EReal)) (hv : ∀ r k, v (ix2 r k) = ((rows (vOf (aZ m c)) t o ho r k : ℝ) : EReal))
  (hd : ∀ r k, d (ix2 r k) = ((rows (flat (aD m c)) t o ho r k : ℝ) : EReal))
  (hg0 : ∀ k, g0 (ix2 (0 : Fin 1) k) = ((vec (aG m c) (col 0 k) : ℝ) : EReal)) (hg1 : ∀ k, g1 (ix2 (0 : Fin 1) k) = ((vec (aG m c) (col 1 k) : ℝ) : EReal))
  (hg2 : ∀ k, g2 (ix2 (0 : Fin 1) k) = ((vec (aG m c) (col 2 k) : ℝ) : EReal)) (hg3 : ∀ k, g3 (ix2 (0 : Fin 1) k) = ((vec (aG m c) (col 3 k) : ℝ) : EReal))
  (hw0 : ∀ r k, w0 (ix3 (0 : Fin 1) r k) = ((wOf (aW m c) 0 r k : ℝ) : EReal)) (hw1 : ∀ r k, w1 (ix3 (0 : Fin 1) r k) = ((wOf (aW m c) 1 r k : ℝ) : EReal))
  (hw2 : ∀ r k, w2 (ix3 (0 : Fin 1) r k) = ((wOf (aW m c) 2 r k : ℝ) : EReal)) (hw3 : ∀ r k, w3 (ix3 (0 : Fin 1) r k) = ((wOf (aW m c) 3 r k : ℝ) : EReal))
  (hb0 : ∀ r k, b0 (ix2 r k) = ((mat (aB m c) 0 r : ℝ) : EReal)) (hb1 : ∀ r k, b1 (ix2 r k) = ((mat (aB m c) 1 r : ℝ) : EReal))
  (hb2 : ∀ r k, b2 (ix2 r k) = ((mat (aB m c) 2 r : ℝ) : EReal)) (hb3 : ∀ r k, b3 (ix2 r k) = ((mat (aB m c) 3 r : ℝ) : EReal))
  (x : S128x512.Idx) (y : S1024x512.Idx) (e0 : (y 0).val = o + (x 0).val) (e1 : (y 1).val = (x 1).val)

include hm hu hv hd hg0 hg1 hg2 hg3 hw0 hw1 hw2 hw3 e0 e1 in
theorem dv_piece : dvK u v d g0 g1 g2 g3 w0 w1 w2 w3 x = ((dvAll m c (rowOf t (y 0)) (y 1) : ℝ) : EReal) := by
  idx_vars x
  idx_vars y
  have l1 : x1.val < 512 := x1.isLt
  have l0 : x0.val < 128 := x0.isLt
  have hk : x1 = col ⟨x1.val / 128, by omega⟩ ⟨x1.val % 128, by omega⟩ := Fin.ext (by simp only [col]; omega)
  have e := dvK_at hu hv hd hg0 hg1 hg2 hg3 hw0 hw1 hw2 hw3 ⟨x1.val / 128, by omega⟩ x0 ⟨x1.val % 128, by omega⟩
  rw [← hk] at e
  refine e.trans ?_
  rw [rows_eq _ t o ho hm, rows_eq _ t o ho hm, rows_eq _ t o ho hm, dvAll]
  change y0.val = o + x0.val at e0
  change y1.val = x1.val at e1
  have hn : (rowOf t y0).val = t.val * 1024 + o + x0.val := by simp only [rowOf]; omega
  congr 2
  · congr 1; exact Fin.ext (by simp only [hn]; omega)
  · congr 1; exact Fin.ext (by simp only [hn]; omega)
  · congr 1; exact Fin.ext (by simp only [hn]; omega)
  · exact Fin.ext (by simp only [e1])
  · exact Fin.ext (by simp only [hn]; omega)
  · exact Fin.ext (by simp only [e1])
include hm hu hv hd hg0 hg1 hg2 hg3 hw0 hw1 hw2 hw3 hb0 hb1 hb2 hb3 e0 e1 in
theorem du_piece : duK u v d g0 g1 g2 g3 w0 w1 w2 w3 b0 b1 b2 b3 x = ((duAll m c (rowOf t (y 0)) (y 1) : ℝ) : EReal) := by
  idx_vars x
  idx_vars y
  have l1 : x1.val < 512 := x1.isLt
  have l0 : x0.val < 128 := x0.isLt
  have hk : x1 = col ⟨x1.val / 128, by omega⟩ ⟨x1.val % 128, by omega⟩ := Fin.ext (by simp only [col]; omega)
  have e := duK_at hu hv hd hg0 hg1 hg2 hg3 hw0 hw1 hw2 hw3 hb0 hb1 hb2 hb3 ⟨x1.val / 128, by omega⟩ x0 ⟨x1.val % 128, by omega⟩
  rw [← hk] at e
  refine e.trans ?_
  rw [rows_eq _ t o ho hm, rows_eq _ t o ho hm, rows_eq _ t o ho hm, duAll]
  change y0.val = o + x0.val at e0
  change y1.val = x1.val at e1
  have hn : (rowOf t y0).val = t.val * 1024 + o + x0.val := by simp only [rowOf]; omega
  congr 2
  · congr 1; exact Fin.ext (by simp only [hn]; omega)
  · congr 1; exact Fin.ext (by simp only [hn]; omega)
  · congr 1; exact Fin.ext (by simp only [hn]; omega)
  · exact Fin.ext (by simp only [e1])
  · exact Fin.ext (by simp only [hn]; omega)
  · exact Fin.ext (by simp only [e1])
end Piece

section Tiles
variable (hZ : IsReal (aZ m c)) (hD : IsReal (aD m c)) (hG : IsReal (aG m c)) (hW : IsReal (aW m c)) (hB : IsReal (aB m c))
theorem emb6 (t : Fin cfg0.N) (y : S1024x512.Idx) : (win0_6.blk t).view.emb y = (ix2 (rowOf t (y 0)) (y 1) : S8192x512.Idx) := by
  idx_vars y
  blk_ext [idx t, rowOf]
theorem emb7 (t : Fin cfg0.N) (y : S1024x512.Idx) : (win0_7.blk t).view.emb y = (ix2 (rowOf t (y 0)) (y 1) : S8192x512.Idx) := by
  idx_vars y
  blk_ext [idx t, rowOf]

set_option maxHeartbeats 8000000 in
include hZ hD hG hW in
/-- The second gradient's array: eight stores a point. -/
theorem arr7_at : (dats m 0 c).arrAt 7 cfg0.N = (fun i => ((dvAll m c (i 0) (i 1) : ℝ) : EReal) : FVec Ideal S8192x512 .f32) := by
  refine (dats m 0 c).arrAt_eq_of_covers 7 _ (by decide +kernel) fun t _ y => ?_
  rw [after0_7]
  have q0 : View.read (Elt Ideal) (ms0_0 t).view ((hs0_0 t).unread (iblk m c 0 t)) = iblk m c 0 t := (hs0_0 t).read_unread _
  have q1 : View.read (Elt Ideal) (ms0_1 t).view ((hs0_1 t).unread (iblk m c 1 t)) = iblk m c 1 t := (hs0_1 t).read_unread _
  have q2 : View.read (Elt Ideal) (ms0_2 t).view ((hs0_2 t).unread (iblk m c 2 t)) = iblk m c 2 t := (hs0_2 t).read_unread _
  have q3 : View.read (Elt Ideal) (ms0_3 t).view ((hs0_3 t).unread (iblk m c 3 t)) = iblk m c 3 t := (hs0_3 t).read_unread _
  have q4 : View.read (Elt Ideal) (ms0_4 t).view ((hs0_4 t).unread (iblk m c 4 t)) = iblk m c 4 t := (hs0_4 t).read_unread _
  by_cases h : t.val % 8 = 0
  all_goals
    first | rw [outsAt0_A m c t h] | rw [outsAt0_B m c t h]
    frame_out
    clear h
    blk_simp
    rw [emb7]
    canon_tiles y h
    all_goals
      try rw [q0]
      try rw [q1]
      try rw [q2]
      try rw [q3]
      try rw [q4]
      first
      | exact dv_piece m c t _ (by omega) (by omega) (ldU m c hZ t _ _ _) (ldV m c hZ t _ _ _) (ldD m c hD t _ _ _)
            (ldG m c hG t 0 _ rfl _) (ldG m c hG t 1 _ rfl _) (ldG m c hG t 2 _ rfl _) (ldG m c hG t 3 _ rfl _)
            (ldW m c hW t 0 _ rfl _) (ldW m c hW t 1 _ rfl _) (ldW m c hW t 2 _ rfl _) (ldW m c hW t 3 _ rfl _) _ _ h0 h1
      | exact dv_piece m c t 0 (by omega) (by omega) (ldU m c hZ t _ _ _) (ldV m c hZ t _ _ _) (ldD m c hD t _ _ _)
            (ldG m c hG t 0 _ rfl _) (ldG m c hG t 1 _ rfl _) (ldG m c hG t 2 _ rfl _) (ldG m c hG t 3 _ rfl _)
            (ldW m c hW t 0 _ rfl _) (ldW m c hW t 1 _ rfl _) (ldW m c hW t 2 _ rfl _) (ldW m c hW t 3 _ rfl _) _ _ (h0.trans (Nat.zero_add _).symm) h1

set_option maxHeartbeats 8000000 in
include hZ hD hG hW hB in
/-- The first gradient's array. -/
theorem arr6_at : (dats m 0 c).arrAt 6 cfg0.N = (fun i => ((duAll m c (i 0) (i 1) : ℝ) : EReal) : FVec Ideal S8192x512 .f32) := by
  refine (dats m 0 c).arrAt_eq_of_covers 6 _ (by decide +kernel) fun t _ y => ?_
  rw [after0_6]
  have q0 : View.read (Elt Ideal) (ms0_0 t).view ((hs0_0 t).unread (iblk m c 0 t)) = iblk m c 0 t := (hs0_0 t).read_unread _
  have q1 : View.read (Elt Ideal) (ms0_1 t).view ((hs0_1 t).unread (iblk m c 1 t)) = iblk m c 1 t := (hs0_1 t).read_unread _
  have q2 : View.read (Elt Ideal) (ms0_2 t).view ((hs0_2 t).unread (iblk m c 2 t)) = iblk m c 2 t := (hs0_2 t).read_unread _
  have q3 : View.read (Elt Ideal) (ms0_3 t).view ((hs0_3 t).unread (iblk m c 3 t)) = iblk m c 3 t := (hs0_3 t).read_unread _
  have q4 : View.read (Elt Ideal) (ms0_4 t).view ((hs0_4 t).unread (iblk m c 4 t)) = iblk m c 4 t := (hs0_4 t).read_unread _
  have q5 : View.read (Elt Ideal) (ms0_5 t).view ((hs0_5 t).unread (iblk m c 5 t)) = iblk m c 5 t := (hs0_5 t).read_unread _
  by_cases h : t.val % 8 = 0
  all_goals
    first | rw [outsAt0_A m c t h] | rw [outsAt0_B m c t h]
    frame_out
    clear h
    blk_simp
    rw [emb6]
    canon_tiles y h
    all_goals
      try rw [q0]
      try rw [q1]
      try rw [q2]
      try rw [q3]
      try rw [q4]
      try rw [q5]
      first
      | exact du_piece m c t _ (by omega) (by omega) (ldU m c hZ t _ _ _) (ldV m c hZ t _ _ _) (ldD m c hD t _ _ _)
            (ldG m c hG t 0 _ rfl _) (ldG m c hG t 1 _ rfl _) (ldG m c hG t 2 _ rfl _) (ldG m c hG t 3 _ rfl _)
            (ldW m c hW t 0 _ rfl _) (ldW m c hW t 1 _ rfl _) (ldW m c hW t 2 _ rfl _) (ldW m c hW t 3 _ rfl _) (ldB m c hB t 0 _ rfl _) (ldB m c hB t 1 _ rfl _) (ldB m c hB t 2 _ rfl _) (ldB m c hB t 3 _ rfl _) _ _ h0 h1
      | exact du_piece m c t 0 (by omega) (by omega) (ldU m c hZ t _ _ _) (ldV m c hZ t _ _ _) (ldD m c hD t _ _ _)
            (ldG m c hG t 0 _ rfl _) (ldG m c hG t 1 _ rfl _) (ldG m c hG t 2 _ rfl _) (ldG m c hG t 3 _ rfl _)
            (ldW m c hW t 0 _ rfl _) (ldW m c hW t 1 _ rfl _) (ldW m c hW t 2 _ rfl _) (ldW m c hW t 3 _ rfl _) (ldB m c hB t 0 _ rfl _) (ldB m c hB t 1 _ rfl _) (ldB m c hB t 2 _ rfl _) (ldB m c hB t 3 _ rfl _) _ _ (h0.trans (Nat.zero_add _).symm) h1
end Tiles
end Cert.Kernel2Ideal.Value
end
-- ==== Proof.GmAcc.lean ====
/- The gated unit's kernel: the three gradients it adds up over the points, eight blocks of 128 rows a point. -/
module

public import proofs.«01_k».proof.Proof.GmTiles
public import Idealize.ShloMosaic.Lib.Pipeline.ReadBack
@[expose] public section

set_option maxRecDepth 16384
noncomputable section
open Idealize.ShloMosaic Idealize.ShloMosaic.TcCoe Idealize.SL.Sem
open Idealize.ShloMosaic.Pipeline (Dat)
open Cert.RealOps Cert.Gm
namespace Cert.Kernel2Ideal.Value
open Cert.Kernel2Ideal Cert.Kernel2Ideal.Gen
variable (m : (ℓ : Loc nD τ sig) → Buf (Elt Ideal) ℓ) (c : Dev nD)

/-- Block `q`'s part of each sum: of the bias's gradient before the lanes are added, of the gain's row by row, of the weights'. -/
def dbB (q : Fin 64) (r : Fin 128) (k : Fin 512) : ℝ := blk (flat (aD m c)) q r k * gelu (blk (uOf (aZ m c)) q r k)
def dgB (q : Fin 64) (r : Fin 128) (k : Fin 512) : ℝ :=
  dg (blk (uOf (aZ m c)) q) (blk (vOf (aZ m c)) q) (blk (flat (aD m c)) q) (wOf (aW m c)) ⟨k.val / 128, by omega⟩ r ⟨k.val % 128, by omega⟩
def dwB (q : Fin 64) (h : Fin 4) (r s : Fin 128) : ℝ :=
  dw (blk (uOf (aZ m c)) q) (blk (vOf (aZ m c)) q) (blk (flat (aD m c)) q) (vec (aG m c)) h r s

/-- Eight additions in turn. -/
theorem sum8 (f : Fin 8 → ℝ) : 0 + f 0 + f 1 + f 2 + f 3 + f 4 + f 5 + f 6 + f 7 = ∑ j, f j := by rw [Fin.sum_univ_eight, zero_add]
/-- One more addition of a real. -/
theorem add_step {x P : EReal} {S a : ℝ} (h : x = P + ((S : ℝ) : EReal)) : x + ((a : ℝ) : EReal) = P + ((S + a : ℝ) : EReal) := by
  rw [h, EReal.coe_add, add_assoc]
/-- Rows `o` on of point `t` are its block `j`. -/
theorem rows_qOf (x : Fin 8192 → Fin 512 → ℝ) (t : Fin cfg0.N) (o : ℕ) (ho : o + 128 ≤ 1024) (j : Fin 8) (hj : o = j.val * 128) : rows x t o ho = blk x (qOf t j) := by
  rw [rows_eq x t o ho (by omega)]
  exact congrArg (blk x) (Fin.ext (by simp only [qOf]; omega))

/-- One more block in the gain's sum, from its rows' values: the 128 rows are added by eights. -/
theorem rows8_step (t : Fin cfg0.N) (j : Fin 8) {X : FVec Ideal S8x512 .f32} {P : EReal} {S : ℝ} {y : S8x512.Idx} (x : W512)
    (e : ∀ (h : Fin 4) (r e : Fin 128), x (ix2 r (col h e)) =
      ((dg (blk (uOf (aZ m c)) (qOf t j)) (blk (vOf (aZ m c)) (qOf t j)) (blk (flat (aD m c)) (qOf t j)) (wOf (aW m c)) h r e : ℝ) : EReal))
    (hX : X y = P + ((S : ℝ) : EReal)) :
    addf (shapeCast S8x512 X shapeCasts_S8x512_S8x512) (multiReduction .add [0] S8x512 (shapeCast S16x8x512 x shapeCasts_S128x512_S16x8x512)
      0x00000000#32 reduces_S16x8x512_S8x512 (.inl rfl) rfl) y
    = P + ((S + ∑ i : Fin 16, dgB m c (qOf t j) ⟨i.val * 8 + (y 0).val, by have := (y 0).isLt; change (y 0).val < 8 at this; omega⟩ (y 1) : ℝ) : EReal) := by
  have e' : ∀ (r : Fin 128) (k : Fin 512), x (ix2 r k) = ((dgB m c (qOf t j) r k : ℝ) : EReal) := fun r k => by
    have hk : k = col ⟨k.val / 128, by omega⟩ ⟨k.val % 128, by omega⟩ := Fin.ext (by simp only [col]; omega)
    have := e ⟨k.val / 128, by omega⟩ r ⟨k.val % 128, by omega⟩
    rwa [← hk] at this
  idx_vars y
  pointwise [e']
  rw [← coe_sum]
  exact add_step hX

section Steps
variable (hZ : IsReal (aZ m c)) (hD : IsReal (aD m c)) (hG : IsReal (aG m c)) (hW : IsReal (aW m c)) (t : Fin cfg0.N) (j : Fin 8) (o : ℕ)(hj : o = j.val * 128)

include hZ hD hj in
theorem db_step {X : W512} {P : EReal} {S : ℝ} {y : S128x512.Idx} (hb hb') (hX : X y = P + ((S : ℝ) : EReal)) :
    addf (same X) (dsK (View.ld (iblk m c 0 t : FVec Ideal S1024x512 .f32) (Rect.unit (s := S1024x512) ![o, 0] ![128, 512] hb))
      (View.ld (iblk m c 2 t : FVec Ideal S1024x512 .f32) (Rect.unit (s := S1024x512) ![o, 0] ![128, 512] hb'))) y
    = P + ((S + dbB m c (qOf t j) (y 0) (y 1) : ℝ) : EReal) := by
  have hu := ldU m c hZ t o (by omega) hb
  have hd := ldD m c hD t o (by omega) hb'
  rw [rows_qOf _ t o _ j hj] at hu hd
  have e := dsK_at hu hd
  generalize View.ld (iblk m c 0 t : FVec Ideal S1024x512 .f32) (Rect.unit (s := S1024x512) ![o, 0] ![128, 512] hb) = u at e ⊢
  generalize View.ld (iblk m c 2 t : FVec Ideal S1024x512 .f32) (Rect.unit (s := S1024x512) ![o, 0] ![128, 512] hb') = d at e ⊢
  idx_vars y
  pointwise [e]
  exact add_step hX

include hZ hD hW hj in
theorem dg_step {X : FVec Ideal S8x512 .f32} {P : EReal} {S : ℝ} {y : S8x512.Idx} (hb hb' hb'' h0 h1 h2 h3) (hX : X y = P + ((S : ℝ) : EReal)) :
    addf (shapeCast S8x512 X shapeCasts_S8x512_S8x512) (multiReduction .add [0] S8x512 (shapeCast S16x8x512
      (dgrK (View.ld (iblk m c 0 t : FVec Ideal S1024x512 .f32) (Rect.unit (s := S1024x512) ![o, 0] ![128, 512] hb))
        (View.ld (iblk m c 1 t : FVec Ideal S1024x512 .f32) (Rect.unit (s := S1024x512) ![o, 0] ![128, 512] hb'))
        (View.ld (iblk m c 2 t : FVec Ideal S1024x512 .f32) (Rect.unit (s := S1024x512) ![o, 0] ![128, 512] hb''))
        (View.ld (iblk m c 4 t : FVec Ideal S4x128x128 .bf16) (Rect.unit (s := S4x128x128) ![0, 0, 0] ![1, 128, 128] h0))
        (View.ld (iblk m c 4 t : FVec Ideal S4x128x128 .bf16) (Rect.unit (s := S4x128x128) ![1, 0, 0] ![1, 128, 128] h1))
        (View.ld (iblk m c 4 t : FVec Ideal S4x128x128 .bf16) (Rect.unit (s := S4x128x128) ![2, 0, 0] ![1, 128, 128] h2))
        (View.ld (iblk m c 4 t : FVec Ideal S4x128x128 .bf16) (Rect.unit (s := S4x128x128) ![3, 0, 0] ![1, 128, 128] h3)))
      shapeCasts_S128x512_S16x8x512) 0x00000000#32 reduces_S16x8x512_S8x512 (.inl rfl) rfl) y
    = P + ((S + ∑ i : Fin 16, dgB m c (qOf t j) ⟨i.val * 8 + (y 0).val, by have := (y 0).isLt; change (y 0).val < 8 at this; omega⟩ (y 1) : ℝ) : EReal) := by
  have hu := ldU m c hZ t o (by omega) hb
  have hv := ldV m c hZ t o (by omega) hb'
  have hd := ldD m c hD t o (by omega) hb''
  rw [rows_qOf _ t o _ j hj] at hu hv hd
  exact rows8_step m c t j _ (dgrK_at hu hv hd (ldW m c hW t 0 _ rfl h0) (ldW m c hW t 1 _ rfl h1) (ldW m c hW t 2 _ rfl h2) (ldW m c hW t 3 _ rfl h3)) hX

section Dw
variable {a s : W128} {g : Vec Ideal S1x128 .f32} {h : Fin 4} {o}
/-- One head of one block, from the block's loads. -/
theorem dw_step {X : Vec Ideal S1x128x128 .f32} {P : EReal} {S : ℝ} (z : Fin 1) (r k : Fin 128)
    (ha : ∀ r e, a (ix2 r e) = ((act (blk (vOf (aZ m c)) (qOf t j)) h r e : ℝ) : EReal))
    (hs : ∀ r e, s (ix2 r e) = ((dgate (blk (uOf (aZ m c)) (qOf t j)) (blk (flat (aD m c)) (qOf t j)) h r e : ℝ) : EReal))
    (hg : ∀ e, g (ix2 (0 : Fin 1) e) = ((vec (aG m c) (col h e) : ℝ) : EReal)) (hX : X (ix3 z r k) = P + ((S : ℝ) : EReal)) :
    dwK a s g X (ix3 z r k) = P + ((S + dwB m c (qOf t j) h r k : ℝ) : EReal) := by
  rw [dwK_at a s g _ _ _ ha hs hg X z r k]
  exact add_step hX
end Dw
end Steps

/-- The value of the zero each sum starts from, and the sum before the point. -/
theorem base0 {x : EReal} (h : x = 0) : x = 0 + (((0 : ℝ)) : EReal) := by rw [h, EReal.coe_zero, add_zero]
theorem baseX (x : EReal) : x = x + (((0 : ℝ)) : EReal) := by rw [EReal.coe_zero, add_zero]

section Points
variable (hZ : IsReal (aZ m c)) (hD : IsReal (aD m c)) (hG : IsReal (aG m c)) (hW : IsReal (aW m c))

set_option maxHeartbeats 8000000 in
include hZ hD in
theorem arr9_at : (dats m 0 c).arrAt 9 cfg0.N = (fun i => ((∑ t : Fin cfg0.N, ∑ j : Fin 8, dbB m c (qOf t j) (i 0) (i 1) : ℝ) : EReal) : FVec Ideal S128x512 .f32) := by
  refine (dats m 0 c).arrAt_eq_of_after_last 9 t0_L (by decide +kernel) _ fun y => ?_
  blk_simp
  rw [after0_9, Pipeline.eq_sum_fin_of_reset_step_apply_last (fun n h => (outsAt0 m c n h).2.2.2.1) 8 (fun _ => 0)
    (fun t y => ((∑ j : Fin 8, dbB m c (qOf t j) (y 0) (y 1) : ℝ) : EReal))
    (fun t h y => by rw [outsAt0_A m c t h]; frame_out; refine ((db_step m c hZ hD t 7 896 rfl _ _ (db_step m c hZ hD t 6 768 rfl _ _ (db_step m c hZ hD t 5 640 rfl _ _ (db_step m c hZ hD t 4 512 rfl _ _ (db_step m c hZ hD t 3 384 rfl _ _ (db_step m c hZ hD t 2 256 rfl _ _ (db_step m c hZ hD t 1 128 rfl _ _ (db_step m c hZ hD t 0 0 rfl _ _ (base0 ?_)))))))))).trans (congrArg (fun s : ℝ => _ + ((s : ℝ) : EReal)) (sum8 fun j => dbB m c (qOf t j) (y 0) (y 1))); idx_vars y; pointwise [k0_pay4])
    (fun t h y => by rw [outsAt0_B m c t h]; frame_out; exact ((db_step m c hZ hD t 7 896 rfl _ _ (db_step m c hZ hD t 6 768 rfl _ _ (db_step m c hZ hD t 5 640 rfl _ _ (db_step m c hZ hD t 4 512 rfl _ _ (db_step m c hZ hD t 3 384 rfl _ _ (db_step m c hZ hD t 2 256 rfl _ _ (db_step m c hZ hD t 1 128 rfl _ _ (db_step m c hZ hD t 0 0 rfl _ _ (baseX _)))))))))).trans (congrArg (fun s : ℝ => _ + ((s : ℝ) : EReal)) (sum8 fun j => dbB m c (qOf t j) (y 0) (y 1)))) (le_of_eq N_0) t0_L rfl y, zero_add]
  exact (coe_sum _ _).symm

set_option maxHeartbeats 8000000 in
include hZ hD hW in
theorem arr10_at : (dats m 0 c).arrAt 10 cfg0.N = (fun i => ((∑ t : Fin cfg0.N, ∑ j : Fin 8, ∑ p : Fin 16,
    dgB m c (qOf t j) ⟨p.val * 8 + (i 0).val, by have := (i 0).isLt; change (i 0).val < 8 at this; omega⟩ (i 1) : ℝ) : EReal) : FVec Ideal S8x512 .f32) := by
  refine (dats m 0 c).arrAt_eq_of_after_last 10 t0_L (by decide +kernel) _ fun y => ?_
  blk_simp
  rw [after0_10, Pipeline.eq_sum_fin_of_reset_step_apply_last (fun n h => (outsAt0 m c n h).2.2.2.2) 8 (fun _ => 0)
    (fun t y => ((∑ j : Fin 8, ∑ i : Fin 16, dgB m c (qOf t j) ⟨i.val * 8 + (y 0).val, by have := (y 0).isLt; change (y 0).val < 8 at this; omega⟩ (y 1) : ℝ) : EReal))
    (fun t h y => by rw [outsAt0_A m c t h]; frame_out; refine ((dg_step m c hZ hD hW t 7 896 rfl _ _ _ _ _ _ _ (dg_step m c hZ hD hW t 6 768 rfl _ _ _ _ _ _ _ (dg_step m c hZ hD hW t 5 640 rfl _ _ _ _ _ _ _ (dg_step m c hZ hD hW t 4 512 rfl _ _ _ _ _ _ _ (dg_step m c hZ hD hW t 3 384 rfl _ _ _ _ _ _ _ (dg_step m c hZ hD hW t 2 256 rfl _ _ _ _ _ _ _ (dg_step m c hZ hD hW t 1 128 rfl _ _ _ _ _ _ _ (dg_step m c hZ hD hW t 0 0 rfl _ _ _ _ _ _ _ (base0 ?_)))))))))).trans (congrArg (fun s : ℝ => _ + ((s : ℝ) : EReal))
      (sum8 fun j => ∑ i : Fin 16, dgB m c (qOf t j) ⟨i.val * 8 + (y 0).val, by have := (y 0).isLt; change (y 0).val < 8 at this; omega⟩ (y 1))); idx_vars y; pointwise [k0_pay5])
    (fun t h y => by rw [outsAt0_B m c t h]; frame_out; exact ((dg_step m c hZ hD hW t 7 896 rfl _ _ _ _ _ _ _ (dg_step m c hZ hD hW t 6 768 rfl _ _ _ _ _ _ _ (dg_step m c hZ hD hW t 5 640 rfl _ _ _ _ _ _ _ (dg_step m c hZ hD hW t 4 512 rfl _ _ _ _ _ _ _ (dg_step m c hZ hD hW t 3 384 rfl _ _ _ _ _ _ _ (dg_step m c hZ hD hW t 2 256 rfl _ _ _ _ _ _ _ (dg_step m c hZ hD hW t 1 128 rfl _ _ _ _ _ _ _ (dg_step m c hZ hD hW t 0 0 rfl _ _ _ _ _ _ _ (baseX _)))))))))).trans (congrArg (fun s : ℝ => _ + ((s : ℝ) : EReal))
      (sum8 fun j => ∑ i : Fin 16, dgB m c (qOf t j) ⟨i.val * 8 + (y 0).val, by have := (y 0).isLt; change (y 0).val < 8 at this; omega⟩ (y 1)))) (le_of_eq N_0) t0_L rfl y, zero_add]
  exact (coe_sum _ _).symm
end Points

section DwSteps
variable (hZ : IsReal (aZ m c)) (hD : IsReal (aD m c)) (hG : IsReal (aG m c)) (t : Fin cfg0.N) (j : Fin 8) (o : ℕ) (hj : o = j.val * 128)
include hZ hD hG hj
theorem dw0_step (hb hb' hb'' hg) {X : Vec Ideal S1x128x128 .f32} {P : EReal} {S : ℝ} {z : S1x128x128.Idx} (hX : X z = P + ((S : ℝ) : EReal)) :
    dwK (hd0 (geluV (View.ld (iblk m c 1 t : FVec Ideal S1024x512 .f32) (Rect.unit (s := S1024x512) ![o, 0] ![128, 512] hb))))
      (hd0 (dsK (View.ld (iblk m c 0 t : FVec Ideal S1024x512 .f32) (Rect.unit (s := S1024x512) ![o, 0] ![128, 512] hb'))
        (View.ld (iblk m c 2 t : FVec Ideal S1024x512 .f32) (Rect.unit (s := S1024x512) ![o, 0] ![128, 512] hb''))))
      (View.ld (iblk m c 3 t : FVec Ideal S1x512 .f32) (Rect.unit (s := S1x512) ![0, 0] ![1, 128] hg)) X z
    = P + ((S + dwB m c (qOf t j) 0 (z 1) (z 2) : ℝ) : EReal) := by
  have hv := ldV m c hZ t o (by omega) hb
  have hu := ldU m c hZ t o (by omega) hb'
  have hd := ldD m c hD t o (by omega) hb''
  rw [rows_qOf _ t o _ j hj] at hu hv hd
  idx_vars z
  exact dw_step m c t j z0 z1 z2 (fun r e => (hd0_at _ r e).trans (geluV_at _ _ hv r _)) (fun r e => (hd0_at _ r e).trans (dsK_at hu hd r _)) (ldG m c hG t 0 _ rfl hg) hX
theorem dw1_step (hb hb' hb'' hg) {X : Vec Ideal S1x128x128 .f32} {P : EReal} {S : ℝ} {z : S1x128x128.Idx} (hX : X z = P + ((S : ℝ) : EReal)) :
    dwK (hd1 (geluV (View.ld (iblk m c 1 t : FVec Ideal S1024x512 .f32) (Rect.unit (s := S1024x512) ![o, 0] ![128, 512] hb))))
      (hd1 (dsK (View.ld (iblk m c 0 t : FVec Ideal S1024x512 .f32) (Rect.unit (s := S1024x512) ![o, 0] ![128, 512] hb'))
        (View.ld (iblk m c 2 t : FVec Ideal S1024x512 .f32) (Rect.unit (s := S1024x512) ![o, 0] ![128, 512] hb''))))
      (View.ld (iblk m c 3 t : FVec Ideal S1x512 .f32) (Rect.unit (s := S1x512) ![0, 128] ![1, 128] hg)) X z
    = P + ((S + dwB m c (qOf t j) 1 (z 1) (z 2) : ℝ) : EReal) := by
  have hv := ldV m c hZ t o (by omega) hb
  have hu := ldU m c hZ t o (by omega) hb'
  have hd := ldD m c hD t o (by omega) hb''
  rw [rows_qOf _ t o _ j hj] at hu hv hd
  idx_vars z
  exact dw_step m c t j z0 z1 z2 (fun r e => (hd1_at _ r e).trans (geluV_at _ _ hv r _)) (fun r e => (hd1_at _ r e).trans (dsK_at hu hd r _)) (ldG m c hG t 1 _ rfl hg) hX
theorem dw2_step (hb hb' hb'' hg) {X : Vec Ideal S1x128x128 .f32} {P : EReal} {S : ℝ} {z : S1x128x128.Idx} (hX : X z = P + ((S : ℝ) : EReal)) :
    dwK (hd2 (geluV (View.ld (iblk m c 1 t : FVec Ideal S1024x512 .f32) (Rect.unit (s := S1024x512) ![o, 0] ![128, 512] hb))))
      (hd2 (dsK (View.ld (iblk m c 0 t : FVec Ideal S1024x512 .f32) (Rect.unit (s := S1024x512) ![o, 0] ![128, 512] hb'))
        (View.ld (iblk m c 2 t : FVec Ideal S1024x512 .f32) (Rect.unit (s := S1024x512) ![o, 0] ![128, 512] hb''))))
      (View.ld (iblk m c 3 t : FVec Ideal S1x512 .f32) (Rect.unit (s := S1x512) ![0, 256] ![1, 128] hg)) X z
    = P + ((S + dwB m c (qOf t j) 2 (z 1) (z 2) : ℝ) : EReal) := by
  have hv := ldV m c hZ t o (by omega) hb
  have hu := ldU m c hZ t o (by omega) hb'
  have hd := ldD m c hD t o (by omega) hb''
  rw [rows_qOf _ t o _ j hj] at hu hv hd
  idx_vars z
  exact dw_step m c t j z0 z1 z2 (fun r e => (hd2_at _ r e).trans (geluV_at _ _ hv r _)) (fun r e => (hd2_at _ r e).trans (dsK_at hu hd r _)) (ldG m c hG t 2 _ rfl hg) hX
theorem dw3_step (hb hb' hb'' hg) {X : Vec Ideal S1x128x128 .f32} {P : EReal} {S : ℝ} {z : S1x128x128.Idx} (hX : X z = P + ((S : ℝ) : EReal)) :
    dwK (hd3 (geluV (View.ld (iblk m c 1 t : FVec Ideal S1024x512 .f32) (Rect.unit (s := S1024x512) ![o, 0] ![128, 512] hb))))
      (hd3 (dsK (View.ld (iblk m c 0 t : FVec Ideal S1024x512 .f32) (Rect.unit (s := S1024x512) ![o, 0] ![128, 512] hb'))
        (View.ld (iblk m c 2 t : FVec Ideal S1024x512 .f32) (Rect.unit (s := S1024x512) ![o, 0] ![128, 512] hb''))))
      (View.ld (iblk m c 3 t : FVec Ideal S1x512 .f32) (Rect.unit (s := S1x512) ![0, 384] ![1, 128] hg)) X z
    = P + ((S + dwB m c (qOf t j) 3 (z 1) (z 2) : ℝ) : EReal) := by
  have hv := ldV m c hZ t o (by omega) hb
  have hu := ldU m c hZ t o (by omega) hb'
  have hd := ldD m c hD t o (by omega) hb''
  rw [rows_qOf _ t o _ j hj] at hu hv hd
  idx_vars z
  exact dw_step m c t j z0 z1 z2 (fun r e => (hd3_at _ r e).trans (geluV_at _ _ hv r _)) (fun r e => (hd3_at _ r e).trans (dsK_at hu hd r _)) (ldG m c hG t 3 _ rfl hg) hX
end DwSteps

/-- A head of what the point starts from. -/
theorem ldAcc (X : Vec Ideal S4x128x128 .f32) (h : Fin 4) (b) (z : S1x128x128.Idx) :
    (View.ld X (Rect.unit (s := S4x128x128) ![h.val, 0, 0] ![1, 128, 128] b) : Vec Ideal S1x128x128 .f32) z = X (ix3 h (z 1) (z 2)) + (((0 : ℝ)) : EReal) := by
  rw [EReal.coe_zero, add_zero]
  idx_vars z
  obtain rfl : z0 = 0 := Subsingleton.elim _ _
  pointwise []

/-- Four stores, one a head, hide what was stored before them. -/
theorem canon_heads (G : S4x128x128.Idx → EReal) (L' : List (View.Piece (Elt Ideal) S4x128x128 .f32)) {w0 w1 w2 w3 : Vec Ideal S1x128x128 .f32} {b0 b1 b2 b3}
    (h3 : ∀ z : S1x128x128.Idx, w3 z = G (ix3 3 (z 1) (z 2))) (h2 : ∀ z : S1x128x128.Idx, w2 z = G (ix3 2 (z 1) (z 2)))
    (h1 : ∀ z : S1x128x128.Idx, w1 z = G (ix3 1 (z 1) (z 2))) (h0 : ∀ z : S1x128x128.Idx, w0 z = G (ix3 0 (z 1) (z 2))) (y : S4x128x128.Idx) :
    View.canon ((⟨Rect.unit (s := S4x128x128) ![3, 0, 0] ![1, 128, 128] b3, w3⟩ : View.Piece (Elt Ideal) S4x128x128 .f32) :: ⟨Rect.unit (s := S4x128x128) ![2, 0, 0] ![1, 128, 128] b2, w2⟩ ::
      ⟨Rect.unit (s := S4x128x128) ![1, 0, 0] ![1, 128, 128] b1, w1⟩ :: ⟨Rect.unit (s := S4x128x128) ![0, 0, 0] ![1, 128, 128] b0, w0⟩ :: L') y = G y := by
  have hc : ∀ (h : Fin 4) (b) (z : S1x128x128.Idx), (Rect.unit (s := S4x128x128) ![h.val, 0, 0] ![1, 128, 128] b).emb z = (ix3 h (z 1) (z 2) : S4x128x128.Idx) := fun h b z => by
    idx_vars z
    obtain rfl : z0 = 0 := Subsingleton.elim _ _
    blk_ext []
  have hm : ∀ (h : Fin 4) (b) (r s : Fin 128), (ix3 h r s : S4x128x128.Idx) ∈ (Rect.unit (s := S4x128x128) ![h.val, 0, 0] ![1, 128, 128] b).set := fun h b r s => by
    have e := hc h b (ix3 0 r s)
    have i := (Rect.unit (s := S4x128x128) ![h.val, 0, 0] ![1, 128, 128] b).idx_mem (ix3 (0 : Fin 1) r s)
    change (Rect.unit (s := S4x128x128) ![h.val, 0, 0] ![1, 128, 128] b).emb (ix3 (0 : Fin 1) r s) ∈ _ at i
    rw [e] at i
    exact i
  refine View.canon_append_of_pieces G L' [⟨Rect.unit (s := S4x128x128) ![3, 0, 0] ![1, 128, 128] b3, w3⟩, ⟨Rect.unit (s := S4x128x128) ![2, 0, 0] ![1, 128, 128] b2, w2⟩,
      ⟨Rect.unit (s := S4x128x128) ![1, 0, 0] ![1, 128, 128] b1, w1⟩, ⟨Rect.unit (s := S4x128x128) ![0, 0, 0] ![1, 128, 128] b0, w0⟩] ?_ y ?_
  · simp only [List.forall_mem_cons, List.not_mem_nil, false_implies, implies_true, and_true]
    exact ⟨fun z => (h3 z).trans (congrArg G (hc 3 b3 z).symm), fun z => (h2 z).trans (congrArg G (hc 2 b2 z).symm), fun z => (h1 z).trans (congrArg G (hc 1 b1 z).symm),
      fun z => (h0 z).trans (congrArg G (hc 0 b0 z).symm)⟩
  · idx_vars y
    match y0 with
    | 3 => exact ⟨_, List.mem_cons_self, hm 3 b3 y1 y2⟩
    | 2 => exact ⟨_, List.mem_cons_of_mem _ List.mem_cons_self, hm 2 b2 y1 y2⟩
    | 1 => exact ⟨_, List.mem_cons_of_mem _ (List.mem_cons_of_mem _ List.mem_cons_self), hm 1 b1 y1 y2⟩
    | 0 => exact ⟨_, List.mem_cons_of_mem _ (List.mem_cons_of_mem _ (List.mem_cons_of_mem _ List.mem_cons_self)), hm 0 b0 y1 y2⟩

section PointsW
variable (hZ : IsReal (aZ m c)) (hD : IsReal (aD m c)) (hG : IsReal (aG m c))
set_option maxHeartbeats 8000000 in
include hZ hD hG in
theorem arr8_at : (dats m 0 c).arrAt 8 cfg0.N = (fun i => ((∑ t : Fin cfg0.N, ∑ j : Fin 8, dwB m c (qOf t j) (i 0) (i 1) (i 2) : ℝ) : EReal) : FVec Ideal S4x128x128 .f32) := by
  refine (dats m 0 c).arrAt_eq_of_after_last 8 t0_L (by decide +kernel) _ fun y => ?_
  blk_simp
  rw [after0_8, Pipeline.eq_sum_fin_of_reset_step_apply_last (fun n h => (outsAt0 m c n h).2.2.1) 8 (fun _ => 0)
    (fun t y => ((∑ j : Fin 8, dwB m c (qOf t j) (y 0) (y 1) (y 2) : ℝ) : EReal))
    (fun t h y => by
      rw [outsAt0_A m c t h]
      frame_out [View.readCov_skip, View.readCov_cons_toLoadRect, View.readCov_fill]
      refine canon_heads (fun y => 0 + ((∑ j : Fin 8, dwB m c (qOf t j) (y 0) (y 1) (y 2) : ℝ) : EReal)) _ (fun z => ?_) (fun z => ?_) (fun z => ?_) (fun z => ?_) y
      · exact ((dw3_step m c hZ hD hG t 7 896 rfl _ _ _ _ (dw3_step m c hZ hD hG t 6 768 rfl _ _ _ _ (dw3_step m c hZ hD hG t 5 640 rfl _ _ _ _ (dw3_step m c hZ hD hG t 4 512 rfl _ _ _ _ (dw3_step m c hZ hD hG t 3 384 rfl _ _ _ _ (dw3_step m c hZ hD hG t 2 256 rfl _ _ _ _ (dw3_step m c hZ hD hG t 1 128 rfl _ _ _ _ (dw3_step m c hZ hD hG t 0 0 rfl _ _ _ _ (base0 (by idx_vars z; pointwise [k0_pay3]))))))))))).trans (congrArg (fun s : ℝ => _ + ((s : ℝ) : EReal)) (sum8 fun j => dwB m c (qOf t j) 3 (z 1) (z 2)))
      · exact ((dw2_step m c hZ hD hG t 7 896 rfl _ _ _ _ (dw2_step m c hZ hD hG t 6 768 rfl _ _ _ _ (dw2_step m c hZ hD hG t 5 640 rfl _ _ _ _ (dw2_step m c hZ hD hG t 4 512 rfl _ _ _ _ (dw2_step m c hZ hD hG t 3 384 rfl _ _ _ _ (dw2_step m c hZ hD hG t 2 256 rfl _ _ _ _ (dw2_step m c hZ hD hG t 1 128 rfl _ _ _ _ (dw2_step m c hZ hD hG t 0 0 rfl _ _ _ _ (base0 (by idx_vars z; pointwise [k0_pay3]))))))))))).trans (congrArg (fun s : ℝ => _ + ((s : ℝ) : EReal)) (sum8 fun j => dwB m c (qOf t j) 2 (z 1) (z 2)))
      · exact ((dw1_step m c hZ hD hG t 7 896 rfl _ _ _ _ (dw1_step m c hZ hD hG t 6 768 rfl _ _ _ _ (dw1_step m c hZ hD hG t 5 640 rfl _ _ _ _ (dw1_step m c hZ hD hG t 4 512 rfl _ _ _ _ (dw1_step m c hZ hD hG t 3 384 rfl _ _ _ _ (dw1_step m c hZ hD hG t 2 256 rfl _ _ _ _ (dw1_step m c hZ hD hG t 1 128 rfl _ _ _ _ (dw1_step m c hZ hD hG t 0 0 rfl _ _ _ _ (base0 (by idx_vars z; pointwise [k0_pay3]))))))))))).trans (congrArg (fun s : ℝ => _ + ((s : ℝ) : EReal)) (sum8 fun j => dwB m c (qOf t j) 1 (z 1) (z 2)))
      · exact ((dw0_step m c hZ hD hG t 7 896 rfl _ _ _ _ (dw0_step m c hZ hD hG t 6 768 rfl _ _ _ _ (dw0_step m c hZ hD hG t 5 640 rfl _ _ _ _ (dw0_step m c hZ hD hG t 4 512 rfl _ _ _ _ (dw0_step m c hZ hD hG t 3 384 rfl _ _ _ _ (dw0_step m c hZ hD hG t 2 256 rfl _ _ _ _ (dw0_step m c hZ hD hG t 1 128 rfl _ _ _ _ (dw0_step m c hZ hD hG t 0 0 rfl _ _ _ _ (base0 (by idx_vars z; pointwise [k0_pay3]))))))))))).trans (congrArg (fun s : ℝ => _ + ((s : ℝ) : EReal)) (sum8 fun j => dwB m c (qOf t j) 0 (z 1) (z 2))))
    (fun t h y => by
      rw [outsAt0_B m c t h]
      frame_out [View.readCov_skip, View.readCov_cons_toLoadRect, View.readCov_fill]
      refine canon_heads (fun y => (outsAt0 m c (t.val - 1) (Nat.lt_of_le_of_lt (Nat.sub_le _ _) t.isLt)).2.2.1 y + ((∑ j : Fin 8, dwB m c (qOf t j) (y 0) (y 1) (y 2) : ℝ) : EReal)) _
        (fun z => ?_) (fun z => ?_) (fun z => ?_) (fun z => ?_) y
      · exact ((dw3_step m c hZ hD hG t 7 896 rfl _ _ _ _ (dw3_step m c hZ hD hG t 6 768 rfl _ _ _ _ (dw3_step m c hZ hD hG t 5 640 rfl _ _ _ _ (dw3_step m c hZ hD hG t 4 512 rfl _ _ _ _ (dw3_step m c hZ hD hG t 3 384 rfl _ _ _ _ (dw3_step m c hZ hD hG t 2 256 rfl _ _ _ _ (dw3_step m c hZ hD hG t 1 128 rfl _ _ _ _ (dw3_step m c hZ hD hG t 0 0 rfl _ _ _ _ (ldAcc _ 3 _ z)))))))))).trans (congrArg (fun s : ℝ => _ + ((s : ℝ) : EReal)) (sum8 fun j => dwB m c (qOf t j) 3 (z 1) (z 2)))
      · exact ((dw2_step m c hZ hD hG t 7 896 rfl _ _ _ _ (dw2_step m c hZ hD hG t 6 768 rfl _ _ _ _ (dw2_step m c hZ hD hG t 5 640 rfl _ _ _ _ (dw2_step m c hZ hD hG t 4 512 rfl _ _ _ _ (dw2_step m c hZ hD hG t 3 384 rfl _ _ _ _ (dw2_step m c hZ hD hG t 2 256 rfl _ _ _ _ (dw2_step m c hZ hD hG t 1 128 rfl _ _ _ _ (dw2_step m c hZ hD hG t 0 0 rfl _ _ _ _ (ldAcc _ 2 _ z)))))))))).trans (congrArg (fun s : ℝ => _ + ((s : ℝ) : EReal)) (sum8 fun j => dwB m c (qOf t j) 2 (z 1) (z 2)))
      · exact ((dw1_step m c hZ hD hG t 7 896 rfl _ _ _ _ (dw1_step m c hZ hD hG t 6 768 rfl _ _ _ _ (dw1_step m c hZ hD hG t 5 640 rfl _ _ _ _ (dw1_step m c hZ hD hG t 4 512 rfl _ _ _ _ (dw1_step m c hZ hD hG t 3 384 rfl _ _ _ _ (dw1_step m c hZ hD hG t 2 256 rfl _ _ _ _ (dw1_step m c hZ hD hG t 1 128 rfl _ _ _ _ (dw1_step m c hZ hD hG t 0 0 rfl _ _ _ _ (ldAcc _ 1 _ z)))))))))).trans (congrArg (fun s : ℝ => _ + ((s : ℝ) : EReal)) (sum8 fun j => dwB m c (qOf t j) 1 (z 1) (z 2)))
      · exact ((dw0_step m c hZ hD hG t 7 896 rfl _ _ _ _ (dw0_step m c hZ hD hG t 6 768 rfl _ _ _ _ (dw0_step m c hZ hD hG t 5 640 rfl _ _ _ _ (dw0_step m c hZ hD hG t 4 512 rfl _ _ _ _ (dw0_step m c hZ hD hG t 3 384 rfl _ _ _ _ (dw0_step m c hZ hD hG t 2 256 rfl _ _ _ _ (dw0_step m c hZ hD hG t 1 128 rfl _ _ _ _ (dw0_step m c hZ hD hG t 0 0 rfl _ _ _ _ (ldAcc _ 0 _ z)))))))))).trans (congrArg (fun s : ℝ => _ + ((s : ℝ) : EReal)) (sum8 fun j => dwB m c (qOf t j) 0 (z 1) (z 2)))) (le_of_eq N_0) t0_L rfl y, zero_add]
  exact (coe_sum _ _).symm
end PointsW

end Cert.Kernel2Ideal.Value
end
-- ==== Proof.GmResults.lean ====
/- The five results of the gated unit's gradient, as arrays computed from the arguments. -/
module

public import proofs.«01_k».proof.Proof.GmSpec
public import Idealize.ShloMosaic.Lib.Pointwise
@[expose] public section

noncomputable section
open Idealize.ShloMosaic
open Cert.RealOps
namespace Cert.Gm
variable (Z : FVec Ideal (⟨3, ![4, 2048, 1536]⟩ : Shape) .f32) (D : FVec Ideal (⟨3, ![4, 2048, 512]⟩ : Shape) .f32) (G : FVec Ideal (⟨1, ![512]⟩ : Shape) .f32)
  (W : FVec Ideal (⟨3, ![4, 128, 128]⟩ : Shape) .f32) (B : FVec Ideal (⟨2, ![4, 128]⟩ : Shape) .f32)

/-- The gradients of the two inputs, row by row. -/
def duAt (n : Fin 8192) (k : Fin 512) : ℝ :=
  du (blk (uOf Z) ⟨n.val / 128, by omega⟩) (blk (vOf Z) ⟨n.val / 128, by omega⟩) (blk (flat D) ⟨n.val / 128, by omega⟩) (vec G) (wOf W) (mat B)
    ⟨k.val / 128, by omega⟩ ⟨n.val % 128, by omega⟩ ⟨k.val % 128, by omega⟩
def dvAt (n : Fin 8192) (k : Fin 512) : ℝ :=
  dv (blk (uOf Z) ⟨n.val / 128, by omega⟩) (blk (vOf Z) ⟨n.val / 128, by omega⟩) (blk (flat D) ⟨n.val / 128, by omega⟩) (vec G) (wOf W)
    ⟨k.val / 128, by omega⟩ ⟨n.val % 128, by omega⟩ ⟨k.val % 128, by omega⟩
/-- The gradients of the weights, the bias and the gain: sums over the 64 blocks. -/
def dwAt (h : Fin 4) (t s : Fin 128) : ℝ :=
  if s.val ≤ t.val then ∑ q : Fin 64, dw (blk (uOf Z) q) (blk (vOf Z) q) (blk (flat D) q) (vec G) h t s else 0
def dbAt (h : Fin 4) (r : Fin 128) : ℝ := ∑ q : Fin 64, ∑ e, dgate (blk (uOf Z) q) (blk (flat D) q) h r e
def dgAt (h : Fin 4) (e : Fin 128) : ℝ := ∑ q : Fin 64, ∑ r, dg (blk (uOf Z) q) (blk (vOf Z) q) (blk (flat D) q) (wOf W) h r e

/-- The same as arrays. -/
def duArr : FVec Ideal (⟨2, ![8192, 512]⟩ : Shape) .f32 := fun i => ((duAt Z D G W B (i 0) (i 1) : ℝ) : EReal)
def dvArr : FVec Ideal (⟨2, ![8192, 512]⟩ : Shape) .f32 := fun i => ((dvAt Z D G W (i 0) (i 1) : ℝ) : EReal)
def dwArr : FVec Ideal (⟨3, ![4, 128, 128]⟩ : Shape) .f32 := fun i => ((dwAt Z D G (i 0) (i 1) (i 2) : ℝ) : EReal)
def dbArr : FVec Ideal (⟨2, ![4, 128]⟩ : Shape) .f32 := fun i => ((dbAt Z D (i 0) (i 1) : ℝ) : EReal)
def dgArr : FVec Ideal (⟨1, ![512]⟩ : Shape) .f32 := fun i =>
  ((dgAt Z D W ⟨(i 0).val / 128, by have := (i 0).isLt; change (i 0).val < 512 at this; omega⟩ ⟨(i 0).val % 128, by omega⟩ : ℝ) : EReal)

/-- Blocks counted by sequences. -/
theorem sum_blockOf {R : Type*} [AddCommMonoid R] (f : Fin 64 → R) : ∑ b : Fin 4, ∑ q : Fin 16, f (blockOf b q) = ∑ q, f q :=
  (Fin.sum_univ_tiles 4 16 (by norm_num) f).symm
/-- Rows counted by eights, the lanes of the groups last. -/
theorem sum_eights {R : Type*} [AddCommMonoid R] (f : Fin 128 → R) : ∑ s : Fin 8, ∑ p : Fin 16, f ⟨p.val * 8 + s.val, by omega⟩ = ∑ r, f r := by
  rw [Finset.sum_comm]
  exact (Fin.sum_univ_tiles 16 8 (by norm_num) f).symm
end Cert.Gm
end
-- ==== Proof.GmTail.lean ====
/- The gated unit's kernel: its five results. -/
module

public import proofs.«01_k».proof.Proof.GmAcc
public import proofs.«01_k».proof.Proof.GmResults
@[expose] public section

set_option maxRecDepth 16384
noncomputable section
open Idealize.ShloMosaic Idealize.ShloMosaic.TcCoe Idealize.SL.Sem
open Idealize.ShloMosaic.Pipeline (Dat)
open Cert.RealOps Cert.Gm
namespace Cert.Kernel2Ideal.Value
open Cert.Kernel2Ideal Cert.Kernel2Ideal.Gen
variable (m : (ℓ : Loc nD τ sig) → Buf (Elt Ideal) ℓ)

section Tail
variable (c : Dev nD) (hZ : IsReal (aZ m c)) (hD : IsReal (aD m c)) (hG : IsReal (aG m c)) (hW : IsReal (aW m c))

/-- Blocks counted by grid points. -/
theorem sum_qOf {R : Type*} [AddCommMonoid R] (f : Fin 64 → R) : ∑ t : Fin cfg0.N, ∑ j : Fin 8, f (qOf t j) = ∑ q, f q :=
  (Fin.sum_univ_tiles 8 8 (by norm_num) f).symm

/-- The contents of a buffer the host lines after the region write. -/
abbrev tail (b : Ref sig .tc) := Pipeline.afterTail₀ cfgs (dats m) 0 (V0 m) [hostOps1, hostOps1_1, hostOps1_2] c b

/-- An array the region wrote, as the host lines read it. -/
theorem wa (w : Fin 11) : Pipeline.withArrays (cfgs 0).spec c (V0 m c) (fun w => (dats m 0 c).arrAt w (cfgs 0).N) (Proc.tc.devRef (Pipeline.arrRef spec0 w)) = (dats m 0 c).arrAt w cfg0.N :=
  Pipeline.withArrays_arr_shared spec0 c (V0 m c) _ ((dats m 0 c).arrAt_sharedIn launch₀0.sharedIn (V0 m c) (A_eq m c) cfg0.N) w
theorem wa8 : Pipeline.withArrays (cfgs 0).spec c (V0 m c) (fun w => (dats m 0 c).arrAt w (cfgs 0).N) (Proc.tc.devRef main_v11_2) = (dats m 0 c).arrAt 8 cfg0.N := wa m c 8
theorem wa9 : Pipeline.withArrays (cfgs 0).spec c (V0 m c) (fun w => (dats m 0 c).arrAt w (cfgs 0).N) (Proc.tc.devRef main_v11_3) = (dats m 0 c).arrAt 9 cfg0.N := wa m c 9
theorem wa10 : Pipeline.withArrays (cfgs 0).spec c (V0 m c) (fun w => (dats m 0 c).arrAt w (cfgs 0).N) (Proc.tc.devRef main_v11_4) = (dats m 0 c).arrAt 10 cfg0.N := wa m c 10

theorem wa_mask : Pipeline.withArrays (cfgs 0).spec c (V0 m c) (fun w => (dats m 0 c).arrAt w (cfgs 0).N) (Proc.tc.devRef main_v1) = trilK :=
  (Pipeline.withArrays_of_ne spec0 c _ _ main_v1 (by decide)).trans (V_m m c)

include hZ hD hG in
theorem tail_dw : (tail m c main_v13 : FVec Ideal S4x128x128 .f32) = dwArr (aZ m c) (aD m c) (aG m c) := by
  unfold tail Pipeline.afterTail₀; rw [List.flatten_cons, List.flatten_cons, List.flatten_cons, List.flatten_nil, List.append_nil]; simp only [List.cons_append, List.nil_append]; after_results_simp
  rw [wa8, arr8_at m c hZ hD hG, wa_mask]
  change select (broadcastInDim S4x128x128 ![0, 1, 2] bcast_S1x128x128_S4x128x128_0_1_2 (broadcastInDim S1x128x128 ![1, 2] bcast_S128x128_S1x128x128_1_2 trilK))
    (fun i => ((∑ t : Fin cfg0.N, ∑ j : Fin 8, dwB m c (qOf t j) (i 0) (i 1) (i 2) : ℝ) : EReal) : FVec Ideal S4x128x128 .f32)
    (broadcastInDim S4x128x128 ![] bcast_S_S4x128x128 (constant (F := Ideal) S_ .f32 0#32) : FVec Ideal S4x128x128 .f32) = _
  funext i
  idx_vars i
  pointwise [tril_at]
  rw [sum_qOf fun q => dwB m c q i0 i1 i2]
  split
  · rename_i h
    exact congrArg (fun a : ℝ => (a : EReal)) (if_pos h).symm
  · rename_i h
    exact congrArg (fun a : ℝ => (a : EReal)) (if_neg h).symm

include hZ hD in
theorem tail_db : (tail m c main_v16 : FVec Ideal S4x128 .f32) = dbArr (aZ m c) (aD m c) := by
  unfold tail Pipeline.afterTail₀; rw [List.flatten_cons, List.flatten_cons, List.flatten_cons, List.flatten_nil, List.append_nil]; simp only [List.cons_append, List.nil_append]; after_results_simp
  rw [wa9, arr9_at m c hZ hD]
  funext i
  idx_vars i
  pointwise
  simp only [← coe_sum]
  refine congrArg (fun a : ℝ => (a : EReal)) ?_
  refine Eq.trans (Finset.sum_congr rfl fun e _ => sum_qOf fun q => dbB m c q i1 (col i0 e)) ?_
  exact Finset.sum_comm

include hZ hD hW in
theorem tail_dg : (tail m c main_v17 : FVec Ideal S512 .f32) = dgArr (aZ m c) (aD m c) (aW m c) := by
  unfold tail Pipeline.afterTail₀; rw [List.flatten_cons, List.flatten_cons, List.flatten_cons, List.flatten_nil, List.append_nil]; simp only [List.cons_append, List.nil_append]; after_results_simp
  rw [wa10, arr10_at m c hZ hD hW]
  funext i
  idx_vars i
  pointwise
  simp only [← coe_sum]
  refine congrArg (fun a : ℝ => (a : EReal)) ?_
  refine Eq.trans (Finset.sum_congr rfl fun e _ => sum_qOf fun q => ∑ p : Fin 16, dgB m c q ⟨p.val * 8 + e.val, by omega⟩ i0) ?_
  rw [Finset.sum_comm]
  exact Finset.sum_congr rfl fun q _ => sum_eights fun r => dgB m c q r i0
end Tail

/-- The kernel's run: it ends with the five results and its arguments unchanged. -/
theorem run_real (ρ : Dev nD → PrngReg) (hZ : ∀ c, IsReal (aZ m c)) (hD : ∀ c, IsReal (aD m c)) (hG : ∀ c, IsReal (aG m c)) (hW : ∀ c, IsReal (aW m c)) (hB : ∀ c, IsReal (aB m c)) :
    θ_run defs (onTc (τ := τ) (main (F := Ideal))) ⟨m, fun _ => 0, ρ⟩ fun r => ∀ c : Dev nD,
      r.2.mem ((c.tc : Thread nD τ).loc main_v11_0) = duArr (aZ m c) (aD m c) (aG m c) (aW m c) (aB m c)
      ∧ r.2.mem ((c.tc : Thread nD τ).loc main_v11_1) = dvArr (aZ m c) (aD m c) (aG m c) (aW m c)
      ∧ r.2.mem ((c.tc : Thread nD τ).loc main_v13) = dwArr (aZ m c) (aD m c) (aG m c)
      ∧ r.2.mem ((c.tc : Thread nD τ).loc main_v16) = dbArr (aZ m c) (aD m c)
      ∧ r.2.mem ((c.tc : Thread nD τ).loc main_v17) = dgArr (aZ m c) (aD m c) (aW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h.1 c).1, (h.1 c).2.1, (h.1 c).2.2.1, (h.1 c).2.2.2.1, (h.1 c).2.2.2.2, h.2 c⟩)
    (θ_run_and ((θ_run defs _ _).mono (fun _ h (c : Dev nD) => (⟨((h c).1 6).trans (arr6_at m c (hZ c) (hD c) (hG c) (hW c) (hB c)), ((h c).1 7).trans (arr7_at m c (hZ c) (hD c) (hG c) (hW c)),
      ((h c).2 main_v13 (Pipeline.mem_restRefs_of main_v13 (by decide) (by decide))).trans (tail_dw m c (hZ c) (hD c) (hG c)),
      ((h c).2 main_v16 (Pipeline.mem_restRefs_of main_v16 (by decide) (by decide))).trans (tail_db m c (hZ c) (hD c)),
      ((h c).2 main_v17 (Pipeline.mem_restRefs_of main_v17 (by decide) (by decide))).trans (tail_dg m c (hZ c) (hD c) (hW c))⟩ :
        _ ∧ _ ∧ _ ∧ _ ∧ _)) (run_main m ρ)) (unchanged m ρ))
end Cert.Kernel2Ideal.Value
end
-- ==== Proof.GmRef.lean ====
/- The gated unit's reference at real arguments: what each operation of the derivative computes. -/
module

public import proofs.«01_k».proof.Proof.Gen.Reference2Ideal.Run
public import proofs.«01_k».proof.Proof.GmSpec
public import Idealize.ShloMosaic.Lib.Pointwise
public import Idealize.ShloMosaic.Lib.WordCmp
@[expose] public section

set_option maxRecDepth 16384
noncomputable section
open Idealize.ShloMosaic Idealize.ShloMosaic.TcCoe Idealize.SL.Sem
open Cert.RealOps Cert.Gm
namespace Cert.Reference2Ideal.Value
open Cert.Reference2Ideal Cert.Reference2Ideal.Gen
variable (V0 : Valuation τ sig (Elt Ideal))

/-- The five arguments. -/
abbrev aZ : FVec Ideal S4x2048x1536 .f32 := V0 (Proc.devRef .tc main_arg0)
abbrev aD : FVec Ideal S4x2048x512 .f32 := V0 (Proc.devRef .tc main_arg1)
abbrev aG : FVec Ideal S512 .f32 := V0 (Proc.devRef .tc main_arg2)
abbrev aW : FVec Ideal S4x128x128 .f32 := V0 (Proc.devRef .tc main_arg3)
abbrev aB : FVec Ideal S4x128 .f32 := V0 (Proc.devRef .tc main_arg4)

section Results
variable (hZ : IsReal (aZ V0)) (hD : IsReal (aD V0)) (hG : IsReal (aG V0)) (hW : IsReal (aW V0)) (hB : IsReal (aB V0))

include hZ in
theorem v0_at (b : Fin 4) (i : Fin 2048) (k : Fin 512) : (res_main_v0 (F := Ideal) V0 : FVec Ideal S4x2048x512 .f32) (ix3 b i k) =
    ((uOf (aZ V0) ⟨b.val * 2048 + i.val, by omega⟩ k : ℝ) : EReal) := by
  have h0 := flat_coe' hZ
  unfold res_main_v0
  pointwise [h0]
  rfl

include hZ in
theorem v1_at (b : Fin 4) (i : Fin 2048) (k : Fin 512) : (res_main_v1 (F := Ideal) V0 : FVec Ideal S4x2048x512 .f32) (ix3 b i k) =
    ((vOf (aZ V0) ⟨b.val * 2048 + i.val, by omega⟩ k : ℝ) : EReal) := by
  have h0 := flat_coe' hZ
  unfold res_main_v1
  pointwise [h0]
  rfl

theorem v2_at (i : S_.Idx) : (res_main_v2 (F := Ideal) V0 : FVec Ideal S_ .f32) i = ((geluC : ℝ) : EReal) := by
  unfold res_main_v2
  pointwise [ofBits_44715, ofBits_million]
  rw [div_real _ (by norm_num), geluC]; norm_num

theorem v24_at (i : S_.Idx) : (res_main_v24 (F := Ideal) V0 : FVec Ideal S_ .f32) i = ((geluC : ℝ) : EReal) := v2_at V0 i

/-- The argument of the tanh, with the cube multiplied out first. -/
theorem th_eq (x : ℝ) : Real.tanh (geluK * (x + geluC * (x * x * x))) = th x := by unfold th; congr 1; ring

include hZ in
theorem v13_at (b : Fin 4) (i : Fin 2048) (k : Fin 512) : (res_main_v13 (F := Ideal) V0 : FVec Ideal S4x2048x512 .f32) (ix3 b i k) =
    ((th (uOf (aZ V0) ⟨b.val * 2048 + i.val, by omega⟩ k) : ℝ) : EReal) := by
  unfold res_main_v13
  pointwise [v0_at V0 hZ, v2_at V0, ofBits_geluK]
  simp only [← EReal.coe_mul, ← EReal.coe_add]
  rw [tanh_real, th_eq]

include hZ in
theorem v35_at (b : Fin 4) (i : Fin 2048) (k : Fin 512) : (res_main_v35 (F := Ideal) V0 : FVec Ideal S4x2048x512 .f32) (ix3 b i k) =
    ((th (vOf (aZ V0) ⟨b.val * 2048 + i.val, by omega⟩ k) : ℝ) : EReal) := by
  unfold res_main_v35
  pointwise [v1_at V0 hZ, v24_at V0, ofBits_geluK]
  simp only [← EReal.coe_mul, ← EReal.coe_add]
  rw [tanh_real, th_eq]

include hZ in
theorem v22_at (b : Fin 4) (i : Fin 2048) (k : Fin 512) : (res_main_v22 (F := Ideal) V0 : FVec Ideal S4x2048x512 .f32) (ix3 b i k) =
    ((1 / 2 * (1 + th (uOf (aZ V0) ⟨b.val * 2048 + i.val, by omega⟩ k)) : ℝ) : EReal) := by
  unfold res_main_v22
  pointwise [v13_at V0 hZ, ofBits_half]
  simp only [← EReal.coe_one, ← EReal.coe_mul, ← EReal.coe_add]

include hZ in
theorem v44_at (b : Fin 4) (i : Fin 2048) (k : Fin 512) : (res_main_v44 (F := Ideal) V0 : FVec Ideal S4x2048x512 .f32) (ix3 b i k) =
    ((1 / 2 * (1 + th (vOf (aZ V0) ⟨b.val * 2048 + i.val, by omega⟩ k)) : ℝ) : EReal) := by
  unfold res_main_v44
  pointwise [v35_at V0 hZ, ofBits_half]
  simp only [← EReal.coe_one, ← EReal.coe_mul, ← EReal.coe_add]

/-- Row `b · 2048 + (q · 128 + r)` is row `r` of block `b · 16 + q`. -/
theorem blk_at {d : ℕ} (x : Fin 8192 → Fin d → ℝ) (b : Fin 4) (q : Fin 16) (r : Fin 128) (k : Fin d) (h : _) :
    x ⟨b.val * 2048 + (q.val * 128 + r.val), h⟩ k = x ⟨(blockOf b q).val * 128 + r.val, by omega⟩ k :=
  congrArg (fun n => x n k) (Fin.ext (by simp only [blockOf]; omega))

include hZ in
theorem v46_at (b : Fin 4) (q : Fin 16) (r : Fin 128) (h : Fin 4) (e : Fin 128) : (res_main_v46 (F := Ideal) V0 : FVec Ideal S4x16x128x4x128 .f32) (ix5 b q r h e) =
    ((act (blk (vOf (aZ V0)) (blockOf b q)) h r e : ℝ) : EReal) := by
  unfold res_main_v46
  pointwise [v1_at V0 hZ, v44_at V0 hZ]
  rw [← EReal.coe_mul, blk_at (vOf (aZ V0)), act, gelu]
  congr 1
  simp only [blk, col]; ring

include hZ in
theorem v54_at (b : Fin 4) (q : Fin 16) (r : Fin 128) (h : Fin 4) (z : Fin 1) : (res_main_v54 (F := Ideal) V0 : FVec Ideal S4x16x128x4x1 .f32) (ix5 b q r h z) =
    ((msq (act (blk (vOf (aZ V0)) (blockOf b q)) h r) : ℝ) : EReal) := by
  unfold res_main_v54
  pointwise [v46_at V0 hZ, ofBits_128, ofBits_eps, msq_128]

include hZ in
theorem v55_at (b : Fin 4) (q : Fin 16) (r : Fin 128) (h : Fin 4) (z : Fin 1) : (res_main_v55 (F := Ideal) V0 : FVec Ideal S4x16x128x4x1 .f32) (ix5 b q r h z) =
    ((rms (act (blk (vOf (aZ V0)) (blockOf b q)) h r) : ℝ) : EReal) := by
  unfold res_main_v55
  pointwise [v54_at V0 hZ]
  rw [rsqrt_msq]

include hZ in
theorem v60_at (b : Fin 4) (q : Fin 16) (r : Fin 128) (h : Fin 4) (e : Fin 128) : (res_main_v60 (F := Ideal) V0 : FVec Ideal S4x16x128x4x128 .f32) (ix5 b q r h e) =
    ((xhat (blk (vOf (aZ V0)) (blockOf b q)) h r e : ℝ) : EReal) := by
  unfold res_main_v60
  pointwise [v46_at V0 hZ, v55_at V0 hZ]
  rw [← EReal.coe_mul, xhat]

include hG in
theorem v61_at (x y z : Fin 1) (h : Fin 4) (e : Fin 128) : (res_main_v61 (F := Ideal) V0 : FVec Ideal S1x1x1x4x128 .f32) (ix5 x y z h e) =
    ((vec (aG V0) (col h e) : ℝ) : EReal) := by
  have h1 := vec_coe hG
  unfold res_main_v61
  pointwise [h1]
  rfl

include hZ hG in
theorem v63_at (b : Fin 4) (q : Fin 16) (r : Fin 128) (h : Fin 4) (e : Fin 128) : (res_main_v63 (F := Ideal) V0 : FVec Ideal S4x16x128x4x128 .f32) (ix5 b q r h e) =
    ((vn (blk (vOf (aZ V0)) (blockOf b q)) (vec (aG V0)) h r e : ℝ) : EReal) := by
  unfold res_main_v63
  pointwise [v60_at V0 hZ, v61_at V0 hG]
  rw [← EReal.coe_mul, vn]

theorem mask_at (h : Fin 4) (t s : Fin 128) : (res_main_v68_1 (F := Ideal) V0 : IVec S4x128x128 1) (ix3 h t s) = if s.val ≤ t.val then 1#1 else 0#1 := by
  unfold res_main_v68_1
  pointwise []
  rw [show IntOp.addi (BitVec.ofNat 32 t.val) 0#32 = BitVec.ofNat 32 t.val from BitVec.add_zero _]
  word_cmp

include hW in
theorem w_at (h : Fin 4) (t s : Fin 128) : (res_main_v68_0 (F := Ideal) V0 : FVec Ideal S4x128x128 .f32) (ix3 h t s) = ((wOf (aW V0) h t s : ℝ) : EReal) := by
  unfold res_main_v68_0
  pointwise [mask_at V0]
  unfold wOf
  by_cases hst : s.val ≤ t.val
  · rw [if_pos hst, if_pos hst]; exact hW.coe _
  · rw [if_neg hst, if_neg hst]; rfl

include hZ hG hW hB in
theorem v75_at (b : Fin 4) (q : Fin 16) (r : Fin 128) (h : Fin 4) (e : Fin 128) :
    (res_main_v75 (F := Ideal) V0 : FVec Ideal S4x2048x512 .f32) (ix3 b ⟨q.val * 128 + r.val, by omega⟩ ⟨h.val * 128 + e.val, by omega⟩) =
    ((gate (blk (vOf (aZ V0)) (blockOf b q)) (vec (aG V0)) (wOf (aW V0)) (mat (aB V0)) h r e : ℝ) : EReal) := by
  have h4 := mat_coe hB
  unfold res_main_v75
  pointwise [v63_at V0 hZ hG, w_at V0 hW, h4]
  simp only [← EReal.coe_mul, ← EReal.coe_add, ← coe_sum, gate]
  exact congrArg (fun x : ℝ => ((x + _ : ℝ) : EReal)) (Finset.sum_congr rfl fun s _ => mul_comm _ _)

include hZ hD hG hW hB in
theorem v78_at (b : Fin 4) (q : Fin 16) (r : Fin 128) (h : Fin 4) (e : Fin 128) :
    (res_main_v78 (F := Ideal) V0 : FVec Ideal S4x2048x512 .f32) (ix3 b ⟨q.val * 128 + r.val, by omega⟩ ⟨h.val * 128 + e.val, by omega⟩) =
    ((blk (flat (aD V0)) (blockOf b q) r (col h e) * gate (blk (vOf (aZ V0)) (blockOf b q)) (vec (aG V0)) (wOf (aW V0)) (mat (aB V0)) h r e : ℝ) : EReal) := by
  have h1 := flat_coe' hD
  unfold res_main_v78
  pointwise [v75_at V0 hZ hG hW hB, h1]
  rw [← EReal.coe_mul, blk_at (flat (aD V0))]
  rfl

include hZ hD in
theorem v79_at (b : Fin 4) (q : Fin 16) (r : Fin 128) (h : Fin 4) (e : Fin 128) : (res_main_v79 (F := Ideal) V0 : FVec Ideal S4x16x128x4x128 .f32) (ix5 b q r h e) =
    ((dgate (blk (uOf (aZ V0)) (blockOf b q)) (blk (flat (aD V0)) (blockOf b q)) h r e : ℝ) : EReal) := by
  have h1 := flat_coe' hD
  unfold res_main_v79 res_main_v23
  pointwise [v0_at V0 hZ, v22_at V0 hZ, h1]
  rw [← EReal.coe_mul, ← EReal.coe_mul, blk_at (flat (aD V0)), blk_at (uOf (aZ V0)), dgate, gelu]
  congr 1
  simp only [blk, col]; ring

include hZ hD in
theorem v84_at (b : Fin 4) (q : Fin 16) (r : Fin 128) (h : Fin 4) (e : Fin 128) : (res_main_v84 (F := Ideal) V0 : FVec Ideal S4x4x16x128x128 .f32) (ix5 h b q e r) =
    ((dgate (blk (uOf (aZ V0)) (blockOf b q)) (blk (flat (aD V0)) (blockOf b q)) h r e : ℝ) : EReal) := by
  unfold res_main_v84
  pointwise [v79_at V0 hZ hD]

include hZ hD hW in
theorem v87_at (b : Fin 4) (q : Fin 16) (r : Fin 128) (h : Fin 4) (e : Fin 128) : (res_main_v87 (F := Ideal) V0 : FVec Ideal S4x16x128x4x128 .f32) (ix5 b q r h e) =
    ((dvn (blk (uOf (aZ V0)) (blockOf b q)) (blk (flat (aD V0)) (blockOf b q)) (wOf (aW V0)) h r e : ℝ) : EReal) := by
  unfold res_main_v87
  pointwise [v84_at V0 hZ hD, w_at V0 hW]
  simp only [← EReal.coe_mul, ← coe_sum, dvn]
  exact congrArg (fun x : ℝ => (x : EReal)) (Finset.sum_congr rfl fun s _ => mul_comm _ _)

include hZ hD hG hW in
theorem v93_at (b : Fin 4) (q : Fin 16) (r : Fin 128) (h : Fin 4) (e : Fin 128) : (res_main_v93 (F := Ideal) V0 : FVec Ideal S4x16x128x4x128 .f32) (ix5 b q r h e) =
    ((dvn (blk (uOf (aZ V0)) (blockOf b q)) (blk (flat (aD V0)) (blockOf b q)) (wOf (aW V0)) h r e * vec (aG V0) (col h e) : ℝ) : EReal) := by
  unfold res_main_v93
  pointwise [v87_at V0 hZ hD hW, v61_at V0 hG]
  rw [← EReal.coe_mul]

include hZ hD hG hW in
theorem v110_at (b : Fin 4) (q : Fin 16) (r : Fin 128) (h : Fin 4) (e : Fin 128) :
    (res_main_v110 (F := Ideal) V0 : FVec Ideal S4x2048x512 .f32) (ix3 b ⟨q.val * 128 + r.val, by omega⟩ ⟨h.val * 128 + e.val, by omega⟩) =
    ((rmsGrad (act (blk (vOf (aZ V0)) (blockOf b q)) h r) (fun e => dvn (blk (uOf (aZ V0)) (blockOf b q)) (blk (flat (aD V0)) (blockOf b q)) (wOf (aW V0)) h r e * vec (aG V0) (col h e)) e : ℝ) : EReal) := by
  unfold res_main_v110 res_main_v104
  pointwise [v93_at V0 hZ hD hG hW, v46_at V0 hZ, v54_at V0 hZ, v55_at V0 hZ, ofBits_128, ofBits_neg_half]
  simp only [div_msq, div_128, ← EReal.coe_mul, ← EReal.coe_add, ← coe_sum, Fin.sum_univ_one, Finset.sum_const, Finset.card_univ, Fintype.card_fin, one_smul]
  rw [← rmsGrad_eq]
  norm_num

include hZ hD hG hW hB in
/-- The gradient of the gate's half of the row. -/
theorem du_at (b : Fin 4) (i : Fin 2048) (k : Fin 512) (h : Fin 4) (e : Fin 128) (q : Fin 16) (r : Fin 128) (hi : i.val = q.val * 128 + r.val) (hk : k = col h e) :
    (shapeCast S8192x512 (addf (addf (mulf (res_main_v78 V0) (res_main_v22 V0)) (res_main_v129 V0)) (mulf (mulf (broadcastInDim S4x2048x512 ![] bcast_S_S4x2048x512 (res_main_v2 V0)) (res_main_v129 V0)) (mulf (broadcastInDim S4x2048x512 ![] bcast_S_S4x2048x512 (constant S_ .f32 0x40400000#32)) (mulf (res_main_v0 V0) (res_main_v0 V0))))) shapeCasts_S4x2048x512_S8192x512 : FVec Ideal S8192x512 .f32)
      (ix2 ⟨b.val * 2048 + i.val, by omega⟩ k) =
    ((du (blk (uOf (aZ V0)) (blockOf b q)) (blk (vOf (aZ V0)) (blockOf b q)) (blk (flat (aD V0)) (blockOf b q)) (vec (aG V0)) (wOf (aW V0)) (mat (aB V0)) h r e : ℝ) : EReal) := by
  obtain ⟨i, hi'⟩ := i
  obtain rfl : i = q.val * 128 + r.val := hi
  subst hk
  have e0 := v78_at V0 hZ hD hG hW hB b q r h e
  unfold res_main_v129
  pointwise [v22_at V0 hZ, v13_at V0 hZ, v2_at V0, v0_at V0 hZ, ofBits_three, ofBits_half, ofBits_geluK]
  have hm : (b.val * 2048 + (q.val * 128 + r.val)) % 2048 = q.val * 128 + r.val := by omega
  simp only [hm]
  rw [show res_main_v78 V0 (ix3 b ⟨q.val * 128 + r.val, hi'⟩ (col h e)) = _ from e0]
  simp only [← EReal.coe_one, ← EReal.coe_mul, ← EReal.coe_add, ← EReal.coe_sub, blk_at (uOf (aZ V0))]
  refine congrArg _ ?_
  simp only [du, dgelu, blk, geluC]
  ring

include hZ hD hG hW in
/-- The gradient of the value's half of the row. -/
theorem dv_at (b : Fin 4) (i : Fin 2048) (k : Fin 512) (h : Fin 4) (e : Fin 128) (q : Fin 16) (r : Fin 128) (hi : i.val = q.val * 128 + r.val) (hk : k = col h e) :
    (shapeCast S8192x512 (addf (addf (mulf (res_main_v110 V0) (res_main_v44 V0)) (res_main_v117 V0)) (mulf (mulf (broadcastInDim S4x2048x512 ![] bcast_S_S4x2048x512 (res_main_v24 V0)) (res_main_v117 V0)) (mulf (broadcastInDim S4x2048x512 ![] bcast_S_S4x2048x512 (constant S_ .f32 0x40400000#32)) (mulf (res_main_v1 V0) (res_main_v1 V0))))) shapeCasts_S4x2048x512_S8192x512 : FVec Ideal S8192x512 .f32)
      (ix2 ⟨b.val * 2048 + i.val, by omega⟩ k) =
    ((dv (blk (uOf (aZ V0)) (blockOf b q)) (blk (vOf (aZ V0)) (blockOf b q)) (blk (flat (aD V0)) (blockOf b q)) (vec (aG V0)) (wOf (aW V0)) h r e : ℝ) : EReal) := by
  obtain ⟨i, hi'⟩ := i
  obtain rfl : i = q.val * 128 + r.val := hi
  subst hk
  have e0 := v110_at V0 hZ hD hG hW b q r h e
  unfold res_main_v117
  pointwise [v44_at V0 hZ, v35_at V0 hZ, v24_at V0, v1_at V0 hZ, ofBits_three, ofBits_half, ofBits_geluK]
  have hm : (b.val * 2048 + (q.val * 128 + r.val)) % 2048 = q.val * 128 + r.val := by omega
  simp only [hm]
  rw [show res_main_v110 V0 (ix3 b ⟨q.val * 128 + r.val, hi'⟩ (col h e)) = _ from e0]
  simp only [← EReal.coe_one, ← EReal.coe_mul, ← EReal.coe_add, ← EReal.coe_sub, blk_at (vOf (aZ V0))]
  refine congrArg _ ?_
  simp only [dv, dgelu, blk, geluC]
  ring

/-- The contraction index of the weight's gradient: batch, block and channel. -/
def bqe : Fin 4 × Fin 16 × Fin 128 ≃ dot_S4x4x16x128x128_S4x16x128x4x128_S4x128x128_123_014_4_2_0_3.contr.Idx where
  toFun p := fun a => match a with
    | ⟨0, _⟩ => p.1
    | ⟨1, _⟩ => p.2.1
    | ⟨2, _⟩ => p.2.2
  invFun k := (k ⟨0, by decide⟩, k ⟨1, by decide⟩, k ⟨2, by decide⟩)
  left_inv _ := rfl
  right_inv k := by
    funext a
    match a with
    | ⟨0, _⟩ => rfl
    | ⟨1, _⟩ => rfl
    | ⟨2, _⟩ => rfl

/-- The product summed over batch, block and channel. -/
theorem dot_bqe (L : FVec Ideal S4x4x16x128x128 .f32) (R : FVec Ideal S4x16x128x4x128 .f32) (h : Fin 4) (t s : Fin 128) :
    Ideal.matmul dot_S4x4x16x128x128_S4x16x128x4x128_S4x128x128_123_014_4_2_0_3 L R (fun _ => 0) (ix3 h t s) =
    ∑ b : Fin 4, ∑ q : Fin 16, ∑ e : Fin 128, L (ix5 h b q e t) * R (ix5 b q s h e) := by
  refine (zero_add _).trans ((Equiv.sum_comp bqe _).symm.trans ?_)
  simp only [Fintype.sum_prod_type]
  refine Finset.sum_congr rfl fun b _ => Finset.sum_congr rfl fun q _ => Finset.sum_congr rfl fun e _ => ?_
  refine congrArg₂ (· * ·) (congrArg L ?_) (congrArg R ?_)
  all_goals
    funext x; apply Fin.ext
    match x with
    | ⟨0, _⟩ => rfl
    | ⟨1, _⟩ => rfl
    | ⟨2, _⟩ => rfl
    | ⟨3, _⟩ => rfl
    | ⟨4, _⟩ => rfl

include hZ hD hG in
theorem dw_at (h : Fin 4) (t s : Fin 128) :
    (select (res_main_v68_1 V0) (Host.dotGeneral (φ₁ := .f32) (φ₂ := .f32) dot_S4x4x16x128x128_S4x16x128x4x128_S4x128x128_123_014_4_2_0_3 none (res_main_v84 V0) (res_main_v63 V0)) (broadcastInDim S4x128x128 ![] bcast_S_S4x128x128 (constant S_ .f32 0x00000000#32)) : FVec Ideal S4x128x128 .f32)
      (ix3 h t s) = ((if s.val ≤ t.val then ∑ b, ∑ q, dw (blk (uOf (aZ V0)) (blockOf b q)) (blk (vOf (aZ V0)) (blockOf b q)) (blk (flat (aD V0)) (blockOf b q)) (vec (aG V0)) h t s else 0 : ℝ) : EReal) := by
  pointwise [mask_at V0]
  rw [dot_bqe]
  simp only [v84_at V0 hZ hD, v63_at V0 hZ hG, ← EReal.coe_mul, ← coe_sum]
  split
  · rfl
  · rfl

include hZ hD in
theorem db_at (h : Fin 4) (r : Fin 128) :
    (transpose S4x128 [1, 0] (Host.reduceAdd (shapeCast _ (Host.reduceAdd (res_main_v79 V0) (constant S_ .f32 0x00000000#32) reducesTo_S4x16x128x4x128_S128x4_d0_1_4 h_S_) shapeCasts_S128x4_S1x1x128x4x1) (constant S_ .f32 0x00000000#32) reducesTo_S1x1x128x4x1_S128x4_d0_1_4 h_S_) transposes_S128x4_S4x128_1_0 : FVec Ideal S4x128 .f32)
      (ix2 h r) = ((∑ b, ∑ q, ∑ e, dgate (blk (uOf (aZ V0)) (blockOf b q)) (blk (flat (aD V0)) (blockOf b q)) h r e : ℝ) : EReal) := by
  pointwise [hostReduceAdd_outer, v79_at V0 hZ hD]
  simp only [Fin.sum_univ_one, ← coe_sum]

include hZ hD hW in
theorem dg_at (h : Fin 4) (e : Fin 128) :
    (shapeCast S512 (Host.reduceAdd (shapeCast _ (Host.reduceAdd (mulf (res_main_v60 V0) (res_main_v87 V0)) (constant S_ .f32 0x00000000#32) reducesTo_S4x16x128x4x128_S4x128_d0_1_2 h_S_) shapeCasts_S4x128_S1x1x1x4x128) (constant S_ .f32 0x00000000#32) reducesTo_S1x1x1x4x128_S4x128_d0_1_2 h_S_) shapeCasts_S4x128_S512 : FVec Ideal S512 .f32)
      (ix1 ⟨h.val * 128 + e.val, by omega⟩) = ((∑ b, ∑ q, ∑ r, dg (blk (uOf (aZ V0)) (blockOf b q)) (blk (vOf (aZ V0)) (blockOf b q)) (blk (flat (aD V0)) (blockOf b q)) (wOf (aW V0)) h r e : ℝ) : EReal) := by
  pointwise [hostReduceAdd_first, v60_at V0 hZ, v87_at V0 hZ hD hW]
  simp only [Fin.sum_univ_one, ← EReal.coe_mul, ← coe_sum]
  exact congrArg _ (Finset.sum_congr rfl fun b _ => Finset.sum_congr rfl fun q _ => Finset.sum_congr rfl fun r _ => mul_comm _ _)
end Results
end Cert.Reference2Ideal.Value
end
-- ==== Proof.GmProof.lean ====
/- The gated unit's claim: kernel and reference end with the same five results. -/
module

public import proofs.«01_k».proof.Defs
public import proofs.«01_k».proof.Proof.Gen.Pre_finite2
public import proofs.«01_k».proof.Proof.GmTail
public import proofs.«01_k».proof.Proof.GmRef
public import Idealize.ShloMosaic.Lib.Claim

@[expose] public section

set_option maxRecDepth 16384

noncomputable section

open Idealize.ShloMosaic Idealize.SL.Sem
open Cert.RealOps

namespace Cert.Reference2Ideal.Value
open Cert.Reference2Ideal Cert.Reference2Ideal.Gen Cert.Gm
open Idealize.ShloMosaic.StableHlo (launchContents)

/-- The reference's run: it ends with the five results and its arguments unchanged. -/
theorem run_real (m : (ℓ : Loc nD τ sig) → Buf (Elt Ideal) ℓ) (ρ : Dev nD → PrngReg)
    (hZ : ∀ c, IsReal (aZ (launchContents m c))) (hD : ∀ c, IsReal (aD (launchContents m c))) (hG : ∀ c, IsReal (aG (launchContents m c)))
    (hW : ∀ c, IsReal (aW (launchContents m c))) (hB : ∀ c, IsReal (aB (launchContents m c))) :
    θ_run defs (onTc (τ := τ) (main (F := Ideal))) ⟨m, fun _ => 0, ρ⟩ fun r => ∀ c : Dev nD,
      r.2.mem ((c.tc : Thread nD τ).loc main_v135) = duArr (aZ (launchContents m c)) (aD (launchContents m c)) (aG (launchContents m c)) (aW (launchContents m c)) (aB (launchContents m c))
      ∧ r.2.mem ((c.tc : Thread nD τ).loc main_v136) = dvArr (aZ (launchContents m c)) (aD (launchContents m c)) (aG (launchContents m c)) (aW (launchContents m c))
      ∧ r.2.mem ((c.tc : Thread nD τ).loc main_v88) = dwArr (aZ (launchContents m c)) (aD (launchContents m c)) (aG (launchContents m c))
      ∧ r.2.mem ((c.tc : Thread nD τ).loc main_v83) = dbArr (aZ (launchContents m c)) (aD (launchContents m c))
      ∧ r.2.mem ((c.tc : Thread nD τ).loc main_v109) = dgArr (aZ (launchContents m c)) (aD (launchContents m c)) (aW (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2.1.trans ?_, (h c).2.2.1.trans ?_, (h c).2.2.2.1.trans ?_, (h c).2.2.2.2.1.trans ?_, (h c).2.2.2.2.2⟩) (run m ρ)
  · clear h
    have hz := hZ c; have hd := hD c; have hg := hG c; have hw := hW c; have hb := hB c
    generalize StableHlo.launchContents m c = V0 at hz hd hg hw hb ⊢
    clear hZ hD hG hW hB
    funext j
    idx_vars j
    have l0 : j0.val < 8192 := j0.isLt
    have l1 : j1.val < 512 := j1.isLt
    have e := du_at V0 hz hd hg hw hb ⟨j0.val / 2048, by omega⟩ ⟨j0.val % 2048, by omega⟩ j1 ⟨j1.val / 128, by omega⟩ ⟨j1.val % 128, by omega⟩
      ⟨j0.val % 2048 / 128, by omega⟩ ⟨j0.val % 128, by omega⟩ (by simp only []; omega) (Fin.ext (by simp only [col]; omega))
    rw [show (⟨j0.val / 2048 * 2048 + j0.val % 2048, by omega⟩ : Fin 8192) = j0 from Fin.ext (by simp only []; omega),
      show blockOf ⟨j0.val / 2048, by omega⟩ ⟨j0.val % 2048 / 128, by omega⟩ = ⟨j0.val / 128, by omega⟩ from Fin.ext (by simp only [blockOf]; omega)] at e
    exact e
  · clear h
    have hz := hZ c; have hd := hD c; have hg := hG c; have hw := hW c; have hb := hB c
    generalize StableHlo.launchContents m c = V0 at hz hd hg hw hb ⊢
    clear hZ hD hG hW hB
    funext j
    idx_vars j
    have l0 : j0.val < 8192 := j0.isLt
    have l1 : j1.val < 512 := j1.isLt
    have e := dv_at V0 hz hd hg hw ⟨j0.val / 2048, by omega⟩ ⟨j0.val % 2048, by omega⟩ j1 ⟨j1.val / 128, by omega⟩ ⟨j1.val % 128, by omega⟩
      ⟨j0.val % 2048 / 128, by omega⟩ ⟨j0.val % 128, by omega⟩ (by simp only []; omega) (Fin.ext (by simp only [col]; omega))
    rw [show (⟨j0.val / 2048 * 2048 + j0.val % 2048, by omega⟩ : Fin 8192) = j0 from Fin.ext (by simp only []; omega),
      show blockOf ⟨j0.val / 2048, by omega⟩ ⟨j0.val % 2048 / 128, by omega⟩ = ⟨j0.val / 128, by omega⟩ from Fin.ext (by simp only [blockOf]; omega)] at e
    exact e
  · clear h
    have hz := hZ c; have hd := hD c; have hg := hG c; have hw := hW c; have hb := hB c
    generalize StableHlo.launchContents m c = V0 at hz hd hg hw hb ⊢
    clear hZ hD hG hW hB
    funext j
    idx_vars j
    have e := dw_at V0 hz hd hg j0 j1 j2
    rw [sum_blockOf fun q => dw (blk (uOf (aZ V0)) q) (blk (vOf (aZ V0)) q) (blk (flat (aD V0)) q) (vec (aG V0)) j0 j1 j2] at e
    exact e
  · clear h
    have hz := hZ c; have hd := hD c; have hg := hG c; have hw := hW c; have hb := hB c
    generalize StableHlo.launchContents m c = V0 at hz hd hg hw hb ⊢
    clear hZ hD hG hW hB
    funext j
    idx_vars j
    have e := db_at V0 hz hd j0 j1
    rw [sum_blockOf fun q => ∑ e, dgate (blk (uOf (aZ V0)) q) (blk (flat (aD V0)) q) j0 j1 e] at e
    exact e
  · clear h
    have hz := hZ c; have hd := hD c; have hg := hG c; have hw := hW c; have hb := hB c
    generalize StableHlo.launchContents m c = V0 at hz hd hg hw hb ⊢
    clear hZ hD hG hW hB
    funext j
    idx_vars j
    have l0 : j0.val < 512 := j0.isLt
    have e := dg_at V0 hz hd hw ⟨j0.val / 128, by omega⟩ ⟨j0.val % 128, by omega⟩
    rw [sum_blockOf fun q => ∑ r, dg (blk (uOf (aZ V0)) q) (blk (vOf (aZ V0)) q) (blk (flat (aD V0)) q) (wOf (aW V0)) ⟨j0.val / 128, by omega⟩ r ⟨j0.val % 128, by omega⟩,
      show (⟨j0.val / 128 * 128 + j0.val % 128, by omega⟩ : Fin 512) = j0 from Fin.ext (by simp only []; omega)] at e
    exact e
end Cert.Reference2Ideal.Value

namespace Cert.Gm

/-- What the precondition says: the five arrays hold reals. -/
theorem isReal_of_pre {z : FVec Ideal (⟨3, ![4, 2048, 1536]⟩ : Shape) .f32} {d : FVec Ideal (⟨3, ![4, 2048, 512]⟩ : Shape) .f32} {g : FVec Ideal (⟨1, ![512]⟩ : Shape) .f32}
    {w : FVec Ideal (⟨3, ![4, 128, 128]⟩ : Shape) .f32} {b : FVec Ideal (⟨2, ![4, 128]⟩ : Shape) .f32}
    (h : Cert.Pre_finite2.fn (F := Ideal) z d g w b = fun _ => 1#1) : IsReal z ∧ IsReal d ∧ IsReal g ∧ IsReal w ∧ IsReal b := by
  have e := congrFun h ix0
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨isReal_of_all _ _ _ _ _ _ e0, isReal_of_all _ _ _ _ _ _ e1, isReal_of_all _ _ _ _ _ _ e2, isReal_of_all _ _ _ _ _ _ e3, isReal_of_all _ _ _ _ _ _ e4⟩

theorem algebraic : Cert.algebraic_Kernel2Ideal_Reference2Ideal_pre_finite2 := by
  intro m g m' g' hp ha
  have hr := fun c => isReal_of_pre (hp c)
  have e0 : ∀ c, Reference2Ideal.Value.aZ (StableHlo.launchContents m' c) = Kernel2Ideal.Value.aZ m c := fun c => (ha c).1
  have e1 : ∀ c, Reference2Ideal.Value.aD (StableHlo.launchContents m' c) = Kernel2Ideal.Value.aD m c := fun c => (ha c).2.1
  have e2 : ∀ c, Reference2Ideal.Value.aG (StableHlo.launchContents m' c) = Kernel2Ideal.Value.aG m c := fun c => (ha c).2.2.1
  have e3 : ∀ c, Reference2Ideal.Value.aW (StableHlo.launchContents m' c) = Kernel2Ideal.Value.aW m c := fun c => (ha c).2.2.2.1
  have e4 : ∀ c, Reference2Ideal.Value.aB (StableHlo.launchContents m' c) = Kernel2Ideal.Value.aB m c := fun c => (ha c).2.2.2.2
  have R := Reference2Ideal.Value.run_real m' g' (fun c => e0 c ▸ (hr c).1) (fun c => e1 c ▸ (hr c).2.1) (fun c => e2 c ▸ (hr c).2.2.1)
    (fun c => e3 c ▸ (hr c).2.2.2.1) (fun c => e4 c ▸ (hr c).2.2.2.2)
  have R' := (θ_run Reference2Ideal.defs _ _).mono (fun r h c => by
    obtain ⟨h1, h2, h3, h4, h5, h6⟩ := h c
    rw [e0, e1, e2, e3, e4] at h1
    rw [e0, e1, e2, e3] at h2
    rw [e0, e1, e2] at h3
    rw [e0, e1] at h4
    rw [e0, e1, e3] at h5
    exact And.intro h1 (And.intro h2 (And.intro h3 (And.intro h4 (And.intro h5 h6))))) R
  exact ⟨_, _, _, _, _, Kernel2Ideal.Value.run_real m g (fun c => (hr c).1) (fun c => (hr c).2.1) (fun c => (hr c).2.2.1) (fun c => (hr c).2.2.2.1) (fun c => (hr c).2.2.2.2), R'⟩

/-- The reference runs, leaves its arguments unchanged, and every counter ends at zero. -/
theorem frame_ref : Cert.quiescent_Reference2Ideal := fun m g _ => (θ_run Reference2Ideal.defs _ _).mono
    (fun r h => ⟨fun c => (h c).2.2.2.2.2, sem_eq_zero_of_no_sems (by decide) r.2⟩) (Reference2Ideal.Value.run (F := Ideal) m g)

end Cert.Gm

end
-- ==== Proof.MixOutSpec.lean ====
/- The gradients of the output projection with its two norms, over the reals: what both programs of that call compute. -/
module

public import proofs.«01_k».proof.Proof.LossSpec

@[expose] public section

noncomputable section

open Idealize.ShloMosaic
open Cert.RealOps
open Cert.Loss (sumRows)

namespace Cert.Mix

theorem ofBits_512 : Ideal.ofBits .f32 0x44000000#32 = ((512 : ℝ) : EReal) := by
  simp [Ideal.ofBits, Ideal.ieee]; norm_num; rw [← EReal.coe_mul]; norm_num

/-- `msq` as the programs compute it, on a row of 512. -/
theorem msq_512 (x : Fin 512 → ℝ) :
    Ideal.div (∑ k, (x k : EReal) * (x k : EReal)) ((512 : ℝ) : EReal) + ((eps : ℝ) : EReal) = ((msq x : ℝ) : EReal) := by
  simp only [← EReal.coe_mul, ← coe_sum]
  rw [div_real _ (by norm_num), ← EReal.coe_add, msq]
  norm_num

theorem div_512 (a : ℝ) : Ideal.div (a : EReal) ((512 : ℝ) : EReal) = ((a / 512 : ℝ) : EReal) := div_real a (by norm_num)

/-- A sum over the points' blocks of `M` rows is the sum over the batch. -/
theorem sum_points {N : ℕ} (M : ℕ) (h : N * M = 8192) (f : Fin 8192 → ℝ) (g : Fin N → Fin M → Fin 8192) (hg : ∀ t r, (g t r).val = t.val * M + r.val) :
    ∑ t, ∑ r, f (g t r) = sumRows f := by
  rw [sumRows, ← Fin.sum_univ_tiles 4 2048 (by norm_num) f, Fin.sum_univ_tiles N M h f]
  exact Finset.sum_congr rfl fun t _ => Finset.sum_congr rfl fun r _ => congrArg f (Fin.ext (hg t r))

/-- The same, the rows of a block added by eights and the eight lanes last. -/
theorem sum_lanes {N : ℕ} (M : ℕ) (h : N * (M * 8) = 8192) (f : Fin 8192 → ℝ) (g : Fin N → Fin (M * 8) → Fin 8192) (hg : ∀ t r, (g t r).val = t.val * (M * 8) + r.val)
    (l : Fin 8 → Fin M → Fin (M * 8)) (hl : ∀ s p, (l s p).val = p.val * 8 + s.val) :
    ∑ s, ∑ t, ∑ p, f (g t (l s p)) = sumRows f := by
  rw [sumRows, ← sum_rows8 N M h f]
  exact Finset.sum_congr rfl fun s _ => Finset.sum_congr rfl fun t _ => Finset.sum_congr rfl fun p _ => congrArg f (Fin.ext ((hg t _).trans (congrArg (t.val * (M * 8) + ·) (hl s p))))

end Cert.Mix

namespace Cert.MixOut

/-- The two halves of the projection's rows: those of the first group's columns, and those of the second's. -/
def lo (k : Fin 512) : Fin 1024 := ⟨k.val, by omega⟩
def hi (k : Fin 512) : Fin 1024 := ⟨512 + k.val, by omega⟩

variable (X : Fin 8192 → Fin 512 → ℝ) (G : Fin 512 → ℝ) (W : Fin 1024 → Fin 1024 → ℝ) (D : Fin 8192 → Fin 1024 → ℝ) (e : Fin 512 → Fin 1024)

/-- One row: the cotangent `d` through the product, at the half `e`. -/
def dynOf (d : Fin 1024 → ℝ) (k : Fin 512) : ℝ := ∑ j, d j * W (e k) j
/-- The gradients of one group: of its row, and the row's parts of the gain's and of the weights'. -/
def dyOf (n : Fin 8192) (k : Fin 512) : ℝ := rmsGrad (X n) (fun k => dynOf W e (D n) k * G k) k
def dgOf (n : Fin 8192) (k : Fin 512) : ℝ := dynOf W e (D n) k * (X n k * rms (X n))
def dwOf (n : Fin 8192) (k : Fin 512) (j : Fin 1024) : ℝ := X n k * rms (X n) * G k * D n j

variable (x y : FVec Ideal (⟨3, ![4, 2048, 512]⟩ : Shape) .f32) (g h : FVec Ideal (⟨1, ![512]⟩ : Shape) .f32)
  (w : FVec Ideal (⟨2, ![1024, 1024]⟩ : Shape) .f32) (d : FVec Ideal (⟨3, ![4, 2048, 1024]⟩ : Shape) .f32)

/-- The results as arrays: of one group's input and gain, at the half `e`; of the weights. -/
def dyArr : FVec Ideal (⟨2, ![8192, 512]⟩ : Shape) .f32 := fun i => ((dyOf (flat x) (vec g) (mat w) (flat d) e (i 0) (i 1) : ℝ) : EReal)
def dgArr : FVec Ideal (⟨1, ![512]⟩ : Shape) .f32 := fun i => ((sumRows fun n => dgOf (flat x) (mat w) (flat d) e n (i 0) : ℝ) : EReal)
def dwAt (i j : Fin 1024) : ℝ :=
  if hi : i.val < 512 then sumRows fun n => dwOf (flat x) (vec g) (flat d) n ⟨i.val, hi⟩ j
  else sumRows fun n => dwOf (flat y) (vec h) (flat d) n ⟨i.val - 512, by omega⟩ j
def dwArr : FVec Ideal (⟨2, ![1024, 1024]⟩ : Shape) .f32 := fun i => ((dwAt x y g h d (i 0) (i 1) : ℝ) : EReal)

end Cert.MixOut

end
-- ==== Proof.MixOutKernel.lean ====
/- The output projection's backward call: what one point computes, the contents of the five arrays, and the run. -/
module

public import proofs.«01_k».proof.Proof.Gen.Kernel3Ideal.Frame
public import proofs.«01_k».proof.Proof.MixOutSpec
public import Idealize.ShloMosaic.Lib.Pipeline.ValueKit
public import Idealize.ShloMosaic.Lib.Pipeline.ReadBack
public import Idealize.ShloMosaic.Lib.Pointwise
@[expose] public section

set_option maxRecDepth 16384
noncomputable section
open Idealize.ShloMosaic Idealize.ShloMosaic.TcCoe Idealize.SL.Sem
open Idealize.ShloMosaic.Pipeline (Dat)
open Cert.RealOps Cert.Mix Cert.MixOut
open Cert.Loss (sumRows)
namespace Cert.Kernel3Ideal.Value
open Cert.Kernel3Ideal Cert.Kernel3Ideal.Gen

section Body
variable (v3 : FVec Ideal S512x1024 .f32) (v6 : FVec Ideal S1x512 .f32) (v8 : FVec Ideal S512x512 .f32) (v22 : FVec Ideal S512x1024 .bf16)
  (D : Fin 512 → Fin 1024 → ℝ) (G : Fin 512 → ℝ) (A : Fin 512 → Fin 512 → ℝ) (W : Fin 512 → Fin 1024 → ℝ)
  (h3 : ∀ r j, v3 (ix2 r j) = ((D r j : ℝ) : EReal)) (h6 : ∀ k : Fin 512, v6 (ix2 (0 : Fin 1) k) = ((G k : ℝ) : EReal))
  (h8 : ∀ r k, v8 (ix2 r k) = ((A r k : ℝ) : EReal)) (h22 : ∀ k j, v22 (ix2 k j) = ((W k j : ℝ) : EReal))

include h8 in
theorem pay10_at (r : Fin 512) : k0_pay10 (F := Ideal) v8 (ix2 r (0 : Fin 1)) = ((rms (A r) : ℝ) : EReal) := by
  pointwise [k0_pay10, k0_pay9, h8]
  rw [ofBits_512, ofBits_eps, msq_512, rsqrt_msq]
include h8 in
theorem pay11_at (r k : Fin 512) : k0_pay11 (F := Ideal) v8 (ix2 r k) = ((A r k * rms (A r) : ℝ) : EReal) := by
  pointwise [k0_pay11, k0_pay9, h8, pay10_at v8 A h8]
  rw [EReal.coe_mul]
include h3 h22 in
theorem pay12_at (r k : Fin 512) : k0_pay12 (F := Ideal) v3 v22 (ix2 r k) = ((∑ j, D r j * W k j : ℝ) : EReal) := by
  pointwise [k0_pay12, k0_pay7, h3, h22]
  simp only [← EReal.coe_mul, ← coe_sum]
include h3 h6 h22 in
theorem pay14_at (r k : Fin 512) : k0_pay14 (F := Ideal) v3 v6 v22 (ix2 r k) = (((∑ j, D r j * W k j) * G k : ℝ) : EReal) := by
  pointwise [k0_pay14, k0_pay8, h6, pay12_at v3 v22 D W h3 h22]
  rw [EReal.coe_mul]
include h3 h6 h8 h22 in
theorem pay15_at (r : Fin 512) : k0_pay15 (F := Ideal) v3 v6 v8 v22 (ix2 r (0 : Fin 1)) = ((∑ k, (∑ j, D r j * W k j) * G k * (A r k * rms (A r)) : ℝ) : EReal) := by
  pointwise [k0_pay15, pay14_at v3 v6 v22 D G W h3 h6 h22, pay11_at v8 A h8]
  simp only [← EReal.coe_mul, ← coe_sum]

/-- The group's gradient, from its block, gain, half of the weights and the cotangent. -/
abbrev dyK : FVec Ideal S512x512 .f32 :=
  k0_pay16 (k0_pay10 v8) (k0_pay11 v8) (k0_pay14 v3 v6 v22) (k0_pay15 v3 v6 v8 v22) (Scalar.ofBits .f32 0x44000000#32)

include h3 h6 h8 h22 in
theorem dyK_at (r k : Fin 512) : dyK v3 v6 v8 v22 (ix2 r k) = ((rmsGrad (A r) (fun k => (∑ j, D r j * W k j) * G k) k : ℝ) : EReal) := by
  pointwise [k0_pay16, pay10_at v8 A h8, pay11_at v8 A h8, pay14_at v3 v6 v22 D G W h3 h6 h22, pay15_at v3 v6 v8 v22 D G A W h3 h6 h8 h22]
  rw [ofBits_512, div_512]
  simp only [← EReal.coe_mul, ← EReal.coe_sub]
  rw [rmsGrad]
  norm_num
include h3 h6 h8 in
theorem pay13_at (acc : FVec Ideal S512x1024 .f32) (k : Fin 512) (j : Fin 1024) :
    k0_pay13 (F := Ideal) v3 v6 v8 acc (ix2 k j) = acc (ix2 k j) + ((∑ r, A r k * rms (A r) * G k * D r j : ℝ) : EReal) := by
  pointwise [k0_pay13, k0_pay7, k0_pay8, h3, h6, pay11_at v8 A h8]
  simp only [← EReal.coe_mul, ← coe_sum]
include h3 h8 h22 in
theorem pay17_at (acc : FVec Ideal S8x512 .f32) (s : Fin 8) (k : Fin 512) :
    k0_pay17 (F := Ideal) (k0_pay11 v8) (k0_pay12 v3 v22) acc (ix2 s k) = acc (ix2 s k) +
      ((∑ p : Fin 64, (∑ j, D ⟨p.val * 8 + s.val, by omega⟩ j * W k j) * (A ⟨p.val * 8 + s.val, by omega⟩ k * rms (A ⟨p.val * 8 + s.val, by omega⟩)) : ℝ) : EReal) := by
  pointwise [k0_pay17, pay11_at v8 A h8, pay12_at v3 v22 D W h3 h22]
  simp only [← EReal.coe_mul, ← coe_sum]

/-- The second group's operations are the first's. -/
theorem pay2_eq : k0_pay2 (F := Ideal) (k0_pay18 v6) (k0_pay20 v8) (k0_pay21 v8) (k0_pay22 (k0_pay7 v3) v22) = dyK v3 v6 v8 v22 := rfl
theorem pay3_eq (acc : FVec Ideal S8x512 .f32) : k0_pay3 (F := Ideal) (k0_pay21 v8) (k0_pay22 (k0_pay7 v3) v22) acc = k0_pay17 (k0_pay11 v8) (k0_pay12 v3 v22) acc := rfl
theorem pay1_eq (acc : FVec Ideal S512x1024 .f32) : k0_pay1 (F := Ideal) (k0_pay23 acc) (k0_pay24 (k0_pay7 v3) v6 v8) = k0_pay13 v3 v6 v8 acc := rfl
end Body

variable (m : (ℓ : Loc nD τ sig) → Buf (Elt Ideal) ℓ) (c : Dev nD)

/-- The six arguments on a core: the two groups' outputs, their gains, the weights, the cotangent. -/
abbrev aX : FVec Ideal S4x2048x512 .f32 := m ((c.tc : Thread nD τ).loc main_arg0)
abbrev aY : FVec Ideal S4x2048x512 .f32 := m ((c.tc : Thread nD τ).loc main_arg1)
abbrev aG : FVec Ideal S512 .f32 := m ((c.tc : Thread nD τ).loc main_arg2)
abbrev aH : FVec Ideal S512 .f32 := m ((c.tc : Thread nD τ).loc main_arg3)
abbrev aW : FVec Ideal S1024x1024 .f32 := m ((c.tc : Thread nD τ).loc main_arg4)
abbrev aD : FVec Ideal S4x2048x1024 .f32 := m ((c.tc : Thread nD τ).loc main_arg5)

theorem idx : ∀ t : Fin cfg0.N, win0_0.index t = ![t.val, 0] ∧ win0_1.index t = ![t.val, 0] ∧ win0_2.index t = ![0, 0] ∧ win0_3.index t = ![0, 0] ∧ win0_4.index t = ![0, 0]
    ∧ win0_5.index t = ![t.val, 0] ∧ win0_6.index t = ![t.val, 0] ∧ win0_7.index t = ![t.val, 0] ∧ win0_8.index t = ![0, 0] ∧ win0_9.index t = ![0, 0] ∧ win0_10.index t = ![0, 0] :=
  (by decide +kernel : ∀ t : Fin grid0.N, win0_0.index t = ![t.val, 0] ∧ win0_1.index t = ![t.val, 0] ∧ win0_2.index t = ![0, 0] ∧ win0_3.index t = ![0, 0] ∧ win0_4.index t = ![0, 0]
    ∧ win0_5.index t = ![t.val, 0] ∧ win0_6.index t = ![t.val, 0] ∧ win0_7.index t = ![t.val, 0] ∧ win0_8.index t = ![0, 0] ∧ win0_9.index t = ![0, 0] ∧ win0_10.index t = ![0, 0])

/-- The last point of the grid. -/
def t0_L : Fin cfg0.N := ⟨15, by decide⟩
theorem ptlt (t : Fin cfg0.N) : t.val < 16 := lt_of_lt_of_eq t.isLt N_0
/-- The row of the batch that row `r` of point `t`'s block is. -/
def rowOf (t : Fin cfg0.N) (r : Fin 512) : Fin 8192 := ⟨t.val * 512 + r.val, by have := ptlt t; omega⟩

theorem V_x : (V m c main_v0 : FVec Ideal S8192x512 .f32) = shapeCast S8192x512 (aX m c) shapeCasts_S4x2048x512_S8192x512 := by
  unfold V V0; rw [List.flatten_cons, List.flatten_nil, List.append_nil]; after_results_simp; rfl
theorem V_y : (V m c main_v1 : FVec Ideal S8192x512 .f32) = shapeCast S8192x512 (aY m c) shapeCasts_S4x2048x512_S8192x512 := by
  unfold V V0; rw [List.flatten_cons, List.flatten_nil, List.append_nil]; after_results_simp; rfl
theorem V_g : (V m c main_v2 : FVec Ideal S1x512 .f32) = broadcastInDim S1x512 ![1] bcast_S512_S1x512_1 (aG m c) := by
  unfold V V0; rw [List.flatten_cons, List.flatten_nil, List.append_nil]; after_results_simp
theorem V_h : (V m c main_v3 : FVec Ideal S1x512 .f32) = broadcastInDim S1x512 ![1] bcast_S512_S1x512_1 (aH m c) := by
  unfold V V0; rw [List.flatten_cons, List.flatten_nil, List.append_nil]; after_results_simp
theorem V_w : (V m c main_v4 : FVec Ideal S1024x1024 .bf16) = truncf .bf16 (aW m c) bitsLt_bf16_f32 := by
  unfold V V0; rw [List.flatten_cons, List.flatten_nil, List.append_nil]; after_results_simp
theorem V_d : (V m c main_v5 : FVec Ideal S8192x1024 .f32) = shapeCast S8192x1024 (aD m c) shapeCasts_S4x2048x1024_S8192x1024 := by
  unfold V V0; rw [List.flatten_cons, List.flatten_nil, List.append_nil]; after_results_simp; rfl

section Blocks
variable (hX : IsReal (aX m c)) (hY : IsReal (aY m c)) (hG : IsReal (aG m c)) (hH : IsReal (aH m c)) (hW : IsReal (aW m c)) (hD : IsReal (aD m c)) (t : Fin cfg0.N)
include hX in
theorem blk0_at (r k : Fin 512) : (iblk m c 0 t : FVec Ideal S512x512 .f32) (ix2 r k) = ((flat (aX m c) (rowOf t r) k : ℝ) : EReal) := by
  rw [← flat_coe hX]
  have h : (iblk m c 0 t : FVec Ideal S512x512 .f32) (ix2 r k) = (V m c main_v0 : FVec Ideal S8192x512 .f32) (ix2 (rowOf t r) k) := by
    blk_point [iblk, idx t, rowOf]
  rw [h, V_x]
  pointwise
include hY in
theorem blk1_at (r k : Fin 512) : (iblk m c 1 t : FVec Ideal S512x512 .f32) (ix2 r k) = ((flat (aY m c) (rowOf t r) k : ℝ) : EReal) := by
  rw [← flat_coe hY]
  have h : (iblk m c 1 t : FVec Ideal S512x512 .f32) (ix2 r k) = (V m c main_v1 : FVec Ideal S8192x512 .f32) (ix2 (rowOf t r) k) := by
    blk_point [iblk, idx t, rowOf]
  rw [h, V_y]
  pointwise
include hG in
theorem blk2_at (k : Fin 512) : (iblk m c 2 t : FVec Ideal S1x512 .f32) (ix2 (0 : Fin 1) k) = ((vec (aG m c) k : ℝ) : EReal) := by
  rw [← vec_coe hG]
  have h : (iblk m c 2 t : FVec Ideal S1x512 .f32) (ix2 (0 : Fin 1) k) = (V m c main_v2 : FVec Ideal S1x512 .f32) (ix2 (0 : Fin 1) k) := by
    blk_point [iblk, idx t]
  rw [h, V_g]
  pointwise
include hH in
theorem blk3_at (k : Fin 512) : (iblk m c 3 t : FVec Ideal S1x512 .f32) (ix2 (0 : Fin 1) k) = ((vec (aH m c) k : ℝ) : EReal) := by
  rw [← vec_coe hH]
  have h : (iblk m c 3 t : FVec Ideal S1x512 .f32) (ix2 (0 : Fin 1) k) = (V m c main_v3 : FVec Ideal S1x512 .f32) (ix2 (0 : Fin 1) k) := by
    blk_point [iblk, idx t]
  rw [h, V_h]
  pointwise
include hW in
theorem blk4_at (i j : Fin 1024) : (iblk m c 4 t : FVec Ideal S1024x1024 .bf16) (ix2 i j) = ((mat (aW m c) i j : ℝ) : EReal) := by
  rw [← mat_coe hW]
  have h : (iblk m c 4 t : FVec Ideal S1024x1024 .bf16) (ix2 i j) = (V m c main_v4 : FVec Ideal S1024x1024 .bf16) (ix2 i j) := by
    blk_point [iblk, idx t]
  rw [h, V_w]
  pointwise
include hD in
theorem blk5_at (r : Fin 512) (j : Fin 1024) : (iblk m c 5 t : FVec Ideal S512x1024 .f32) (ix2 r j) = ((flat (aD m c) (rowOf t r) j : ℝ) : EReal) := by
  rw [← flat_coe hD]
  have h : (iblk m c 5 t : FVec Ideal S512x1024 .f32) (ix2 r j) = (V m c main_v5 : FVec Ideal S8192x1024 .f32) (ix2 (rowOf t r) j) := by
    blk_point [iblk, idx t, rowOf]
  rw [h, V_d]
  pointwise
include hW in
theorem ldLo (hb) (k : Fin 512) (j : Fin 1024) :
    View.ld (iblk m c 4 t : FVec Ideal S1024x1024 .bf16) (Rect.unit (s := S1024x1024) ![0, 0] ![512, 1024] hb) (ix2 k j) = ((mat (aW m c) (lo k) j : ℝ) : EReal) := by
  pointwise [blk4_at m c hW t, lo]
include hW in
theorem ldHi (hb) (k : Fin 512) (j : Fin 1024) :
    View.ld (iblk m c 4 t : FVec Ideal S1024x1024 .bf16) (Rect.unit (s := S1024x1024) ![512, 0] ![512, 1024] hb) (ix2 k j) = ((mat (aW m c) (hi k) j : ℝ) : EReal) := by
  pointwise [blk4_at m c hW t, hi]
theorem emb6 (r k : Fin 512) : (win0_6.blk t).view.emb (ix2 r k) = (ix2 (rowOf t r) k : S8192x512.Idx) := by blk_ext [idx t, rowOf]
theorem emb7 (r k : Fin 512) : (win0_7.blk t).view.emb (ix2 r k) = (ix2 (rowOf t r) k : S8192x512.Idx) := by blk_ext [idx t, rowOf]
end Blocks

section Arrays
variable (hX : IsReal (aX m c)) (hY : IsReal (aY m c)) (hG : IsReal (aG m c)) (hH : IsReal (aH m c)) (hW : IsReal (aW m c)) (hD : IsReal (aD m c))

include hX hG hW hD in
theorem arr6_at : (dats m 0 c).arrAt 6 cfg0.N = dyArr lo (aX m c) (aG m c) (aW m c) (aD m c) := by
  refine (dats m 0 c).arrAt_eq_of_covers 6 _ (by decide +kernel) fun t _ y => ?_
  rw [after0_6]
  by_cases h : t.val % 16 = 0
  all_goals
    first | rw [outsAt0_A m c t h] | rw [outsAt0_B m c t h]
    frame_out
    idx_vars y
    blk_simp
    rw [emb6]
    exact dyK_at _ _ _ _ _ _ _ _ (blk5_at m c hD t) (blk2_at m c hG t) (blk0_at m c hX t) (ldLo m c hW t _) y0 y1

include hY hH hW hD in
theorem arr7_at : (dats m 0 c).arrAt 7 cfg0.N = dyArr hi (aY m c) (aH m c) (aW m c) (aD m c) := by
  refine (dats m 0 c).arrAt_eq_of_covers 7 _ (by decide +kernel) fun t _ y => ?_
  rw [after0_7]
  by_cases h : t.val % 16 = 0
  all_goals
    first | rw [outsAt0_A m c t h] | rw [outsAt0_B m c t h]
    frame_out
    idx_vars y
    blk_simp
    rw [emb7]
    exact (congrFun (pay2_eq _ _ _ _) _).trans (dyK_at _ _ _ _ _ _ _ _ (blk5_at m c hD t) (blk3_at m c hH t) (blk1_at m c hY t) (ldHi m c hW t _) y0 y1)

include hX hW hD in
theorem arr9_at : (dats m 0 c).arrAt 9 cfg0.N = (fun i => ((∑ t : Fin cfg0.N, ∑ p : Fin 64, dgOf (flat (aX m c)) (mat (aW m c)) (flat (aD m c)) lo
    (rowOf t ⟨p.val * 8 + (i 0).val, by have := (i 0).isLt; change (i 0).val < 8 at this; omega⟩) (i 1) : ℝ) : EReal) : FVec Ideal S8x512 .f32) := by
  have hp := fun (t : Fin cfg0.N) hb => pay17_at _ _ _ _ _ _ (blk5_at m c hD t) (blk0_at m c hX t) (ldLo m c hW t hb)
  refine (dats m 0 c).arrAt_eq_of_after_last 9 t0_L (by decide +kernel) _ fun j => ?_
  blk_simp
  rw [after0_9, Pipeline.eq_sum_fin_of_reset_step_apply_last (fun n h => (outsAt0 m c n h).2.2.2.1) 16 (fun _ => 0)
    (fun t j => ((∑ p : Fin 64, dgOf (flat (aX m c)) (mat (aW m c)) (flat (aD m c)) lo (rowOf t ⟨p.val * 8 + (j 0).val, by have := (j 0).isLt; change (j 0).val < 8 at this; omega⟩) (j 1) : ℝ) : EReal))
    (fun t h j => by rw [outsAt0_A m c t h]; frame_out; idx_vars j; rw [hp]; pointwise [k0_pay5]; rfl)
    (fun t h j => by rw [outsAt0_B m c t h]; frame_out; idx_vars j; rw [hp]; rfl) (le_of_eq N_0) t0_L rfl j, zero_add]
  exact (coe_sum _ _).symm

include hY hW hD in
theorem arr10_at : (dats m 0 c).arrAt 10 cfg0.N = (fun i => ((∑ t : Fin cfg0.N, ∑ p : Fin 64, dgOf (flat (aY m c)) (mat (aW m c)) (flat (aD m c)) hi
    (rowOf t ⟨p.val * 8 + (i 0).val, by have := (i 0).isLt; change (i 0).val < 8 at this; omega⟩) (i 1) : ℝ) : EReal) : FVec Ideal S8x512 .f32) := by
  have hp := fun (t : Fin cfg0.N) hb => pay17_at _ _ _ _ _ _ (blk5_at m c hD t) (blk1_at m c hY t) (ldHi m c hW t hb)
  refine (dats m 0 c).arrAt_eq_of_after_last 10 t0_L (by decide +kernel) _ fun j => ?_
  blk_simp
  rw [after0_10, Pipeline.eq_sum_fin_of_reset_step_apply_last (fun n h => (outsAt0 m c n h).2.2.2.2) 16 (fun _ => 0)
    (fun t j => ((∑ p : Fin 64, dgOf (flat (aY m c)) (mat (aW m c)) (flat (aD m c)) hi (rowOf t ⟨p.val * 8 + (j 0).val, by have := (j 0).isLt; change (j 0).val < 8 at this; omega⟩) (j 1) : ℝ) : EReal))
    (fun t h j => by rw [outsAt0_A m c t h]; frame_out; idx_vars j; rw [pay3_eq, hp]; pointwise [k0_pay6]; rfl)
    (fun t h j => by rw [outsAt0_B m c t h]; frame_out; idx_vars j; rw [pay3_eq, hp]; rfl) (le_of_eq N_0) t0_L rfl j, zero_add]
  exact (coe_sum _ _).symm

/-- An array written in two halves of 512 rows: the last two stores hide what was there before. -/
theorem canon_halves (G : S1024x1024.Idx → EReal) (L' : List (View.Piece (Elt Ideal) S1024x1024 .f32)) {w0 w1 : Vec Ideal S512x1024 .f32} {b0 b1}
    (h1 : ∀ (k : Fin 512) (j : Fin 1024), w1 (ix2 k j) = G (ix2 (hi k) j)) (h0 : ∀ (k : Fin 512) (j : Fin 1024), w0 (ix2 k j) = G (ix2 (lo k) j)) (y : S1024x1024.Idx) :
    View.canon ((⟨Rect.unit (s := S1024x1024) ![512, 0] ![512, 1024] b1, w1⟩ : View.Piece (Elt Ideal) S1024x1024 .f32) :: ⟨Rect.unit (s := S1024x1024) ![0, 0] ![512, 1024] b0, w0⟩ :: L') y = G y := by
  have c1 : ∀ k j, (Rect.unit (s := S1024x1024) ![512, 0] ![512, 1024] b1).emb (ix2 k j) = (ix2 (hi k) j : S1024x1024.Idx) := fun k j => by blk_ext [hi]
  have c0 : ∀ k j, (Rect.unit (s := S1024x1024) ![0, 0] ![512, 1024] b0).emb (ix2 k j) = (ix2 (lo k) j : S1024x1024.Idx) := fun k j => by blk_ext [lo]
  refine View.canon_append_of_pieces G L' [⟨Rect.unit (s := S1024x1024) ![512, 0] ![512, 1024] b1, w1⟩, ⟨Rect.unit (s := S1024x1024) ![0, 0] ![512, 1024] b0, w0⟩] ?_ y ?_
  · simp only [List.forall_mem_cons, List.not_mem_nil, false_implies, implies_true, and_true]
    refine ⟨fun z => ?_, fun z => ?_⟩
    · idx_vars z; exact (h1 z0 z1).trans (congrArg G (c1 z0 z1).symm)
    · idx_vars z; exact (h0 z0 z1).trans (congrArg G (c0 z0 z1).symm)
  · idx_vars y
    by_cases h : y0.val < 512
    · have i := (Rect.unit (s := S1024x1024) ![0, 0] ![512, 1024] b0).idx_mem (ix2 (⟨y0.val, h⟩ : Fin 512) y1)
      change (Rect.unit (s := S1024x1024) ![0, 0] ![512, 1024] b0).emb (ix2 (⟨y0.val, h⟩ : Fin 512) y1) ∈ _ at i
      rw [c0] at i
      exact ⟨_, List.mem_cons_of_mem _ List.mem_cons_self, i⟩
    · have i := (Rect.unit (s := S1024x1024) ![512, 0] ![512, 1024] b1).idx_mem (ix2 (⟨y0.val - 512, by omega⟩ : Fin 512) y1)
      change (Rect.unit (s := S1024x1024) ![512, 0] ![512, 1024] b1).emb (ix2 (⟨y0.val - 512, by omega⟩ : Fin 512) y1) ∈ _ at i
      rw [c1, show hi ⟨y0.val - 512, by omega⟩ = y0 from Fin.ext (by simp only [hi]; omega)] at i
      exact ⟨_, List.mem_cons_self, i⟩

/-- What a point adds to the weights' gradient, at row `i`. -/
def dwP (t : Fin cfg0.N) (i j : Fin 1024) : ℝ :=
  if h : i.val < 512 then ∑ r, dwOf (flat (aX m c)) (vec (aG m c)) (flat (aD m c)) (rowOf t r) ⟨i.val, h⟩ j
  else ∑ r, dwOf (flat (aY m c)) (vec (aH m c)) (flat (aD m c)) (rowOf t r) ⟨i.val - 512, by omega⟩ j
theorem dwP_lo (t : Fin cfg0.N) (k : Fin 512) (j : Fin 1024) : dwP m c t (lo k) j = ∑ r, dwOf (flat (aX m c)) (vec (aG m c)) (flat (aD m c)) (rowOf t r) k j :=
  dif_pos k.isLt
theorem dwP_hi (t : Fin cfg0.N) (k : Fin 512) (j : Fin 1024) : dwP m c t (hi k) j = ∑ r, dwOf (flat (aY m c)) (vec (aH m c)) (flat (aD m c)) (rowOf t r) k j := by
  rw [dwP, dif_neg (by simp only [hi]; omega)]
  exact congrArg (fun k => ∑ r, dwOf (flat (aY m c)) (vec (aH m c)) (flat (aD m c)) (rowOf t r) k j) (Fin.ext (by simp only [hi]; omega))

set_option maxHeartbeats 4000000 in
include hX hY hG hH hD in
theorem arr8_at : (dats m 0 c).arrAt 8 cfg0.N = (fun i => ((∑ t : Fin cfg0.N, dwP m c t (i 0) (i 1) : ℝ) : EReal) : FVec Ideal S1024x1024 .f32) := by
  have h0 := fun (t : Fin cfg0.N) => pay13_at _ _ _ _ _ _ (blk5_at m c hD t) (blk2_at m c hG t) (blk0_at m c hX t)
  have h1 := fun (t : Fin cfg0.N) => pay13_at _ _ _ _ _ _ (blk5_at m c hD t) (blk3_at m c hH t) (blk1_at m c hY t)
  refine (dats m 0 c).arrAt_eq_of_after_last 8 t0_L (by decide +kernel) _ fun j => ?_
  blk_simp
  rw [after0_8, Pipeline.eq_sum_fin_of_reset_step_apply_last (fun n h => (outsAt0 m c n h).2.2.1) 16 (fun _ => 0)
    (fun t j => ((dwP m c t (j 0) (j 1) : ℝ) : EReal))
    (fun t h j => by
      rw [outsAt0_A m c t h]
      frame_out [View.readCov_skip, View.readCov_cons_toLoadRect, View.readCov_fill]
      refine canon_halves (fun y => 0 + ((dwP m c t (y 0) (y 1) : ℝ) : EReal)) _ (fun k j => ?_) (fun k j => ?_) j
      · rw [pay1_eq, h1]; pointwise [k0_pay4]; rw [dwP_hi]; rfl
      · rw [h0]; pointwise [k0_pay4]; rw [dwP_lo]; rfl)
    (fun t h j => by
      rw [outsAt0_B m c t h]
      frame_out [View.readCov_skip, View.readCov_cons_toLoadRect, View.readCov_fill]
      refine canon_halves (fun y => (outsAt0 m c (t.val - 1) (Nat.lt_of_le_of_lt (Nat.sub_le _ _) t.isLt)).2.2.1 y + ((dwP m c t (y 0) (y 1) : ℝ) : EReal)) _ (fun k j => ?_) (fun k j => ?_) j
      · rw [pay1_eq, h1]; pointwise; rw [dwP_hi]; rfl
      · rw [h0]; pointwise; rw [dwP_lo]; rfl) (le_of_eq N_0) t0_L rfl j, zero_add]
  exact (coe_sum _ _).symm
end Arrays

section Tail
variable (hX : IsReal (aX m c)) (hY : IsReal (aY m c)) (hG : IsReal (aG m c)) (hH : IsReal (aH m c)) (hW : IsReal (aW m c)) (hD : IsReal (aD m c))
include hX hY hG hH hD in
theorem arr8_eq : (dats m 0 c).arrAt 8 cfg0.N = dwArr (aX m c) (aY m c) (aG m c) (aH m c) (aD m c) := by
  rw [arr8_at m c hX hY hG hH hD]
  funext i
  refine congrArg (fun a : ℝ => (a : EReal)) ?_
  unfold dwAt
  split
  · rename_i h
    refine Eq.trans (Finset.sum_congr rfl fun t _ => dif_pos h) ?_
    exact sum_points 512 rfl (fun n => dwOf (flat (aX m c)) (vec (aG m c)) (flat (aD m c)) n ⟨(i 0).val, h⟩ (i 1)) rowOf fun _ _ => rfl
  · rename_i h
    refine Eq.trans (Finset.sum_congr rfl fun t _ => dif_neg h) ?_
    exact sum_points 512 rfl (fun n => dwOf (flat (aY m c)) (vec (aH m c)) (flat (aD m c)) n ⟨(i 0).val - 512, by have := (i 0).isLt; change (i 0).val < 1024 at this; omega⟩ (i 1)) rowOf fun _ _ => rfl

/-- The contents of a buffer the host lines after the region write. -/
abbrev tail (b : Ref sig .tc) := Pipeline.afterTail₀ cfgs (dats m) 0 (V0 m) [hostOps1] c b
theorem hinj0 : Function.Injective (Pipeline.arrRef spec0) := winFacts0.arr_inj
theorem wa9 : Pipeline.withArrays (cfgs 0).spec c (V0 m c) (fun w => (dats m 0 c).arrAt w (cfgs 0).N) (Proc.tc.devRef main_v6_3) = (dats m 0 c).arrAt 9 cfg0.N :=
  Pipeline.withArrays_arr spec0 hinj0 c (V0 m c) _ 9
theorem wa10 : Pipeline.withArrays (cfgs 0).spec c (V0 m c) (fun w => (dats m 0 c).arrAt w (cfgs 0).N) (Proc.tc.devRef main_v6_4) = (dats m 0 c).arrAt 10 cfg0.N :=
  Pipeline.withArrays_arr spec0 hinj0 c (V0 m c) _ 10

include hX hW hD in
theorem tail_dg : (tail m c main_v7 : FVec Ideal S512 .f32) = dgArr lo (aX m c) (aW m c) (aD m c) := by
  unfold tail Pipeline.afterTail₀; rw [List.flatten_cons, List.flatten_nil, List.append_nil]; after_results_simp
  rw [wa9, arr9_at m c hX hW hD]
  funext i
  idx_vars i
  pointwise
  rw [← coe_sum]
  exact congrArg (fun a : ℝ => (a : EReal)) (sum_lanes 64 rfl (fun n => dgOf (flat (aX m c)) (mat (aW m c)) (flat (aD m c)) lo n i0) rowOf (fun _ _ => rfl) (fun s p => ⟨p.val * 8 + s.val, by omega⟩) fun _ _ => rfl)
include hY hW hD in
theorem tail_dh : (tail m c main_v8 : FVec Ideal S512 .f32) = dgArr hi (aY m c) (aW m c) (aD m c) := by
  unfold tail Pipeline.afterTail₀; rw [List.flatten_cons, List.flatten_nil, List.append_nil]; after_results_simp
  rw [wa10, arr10_at m c hY hW hD]
  funext i
  idx_vars i
  pointwise
  rw [← coe_sum]
  exact congrArg (fun a : ℝ => (a : EReal)) (sum_lanes 64 rfl (fun n => dgOf (flat (aY m c)) (mat (aW m c)) (flat (aD m c)) hi n i0) rowOf (fun _ _ => rfl) (fun s p => ⟨p.val * 8 + s.val, by omega⟩) fun _ _ => rfl)
end Tail

/-- The kernel's run: it ends with the five results and its arguments unchanged. -/
theorem run_real (ρ : Dev nD → PrngReg) (hX : ∀ c, IsReal (aX m c)) (hY : ∀ c, IsReal (aY m c)) (hG : ∀ c, IsReal (aG m c)) (hH : ∀ c, IsReal (aH m c)) (hW : ∀ c, IsReal (aW m c)) (hD : ∀ c, IsReal (aD m c)) :
    θ_run defs (onTc (τ := τ) (main (F := Ideal))) ⟨m, fun _ => 0, ρ⟩ fun r => ∀ c : Dev nD,
      r.2.mem ((c.tc : Thread nD τ).loc main_v6_0) = dyArr lo (aX m c) (aG m c) (aW m c) (aD m c)
      ∧ r.2.mem ((c.tc : Thread nD τ).loc main_v6_1) = dyArr hi (aY m c) (aH m c) (aW m c) (aD m c)
      ∧ r.2.mem ((c.tc : Thread nD τ).loc main_v6_2) = dwArr (aX m c) (aY m c) (aG m c) (aH m c) (aD m c)
      ∧ r.2.mem ((c.tc : Thread nD τ).loc main_v7) = dgArr lo (aX m c) (aW m c) (aD m c)
      ∧ r.2.mem ((c.tc : Thread nD τ).loc main_v8) = dgArr hi (aY m c) (aW m c) (aD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h.1 c).1, (h.1 c).2.1, (h.1 c).2.2.1, (h.1 c).2.2.2.1, (h.1 c).2.2.2.2, h.2 c⟩)
    (θ_run_and ((θ_run defs _ _).mono (fun _ h (c : Dev nD) => (⟨((h c).1 6).trans (arr6_at m c (hX c) (hG c) (hW c) (hD c)), ((h c).1 7).trans (arr7_at m c (hY c) (hH c) (hW c) (hD c)),
      ((h c).1 8).trans (arr8_eq m c (hX c) (hY c) (hG c) (hH c) (hD c)),
      ((h c).2 main_v7 (Pipeline.mem_restRefs_of main_v7 (by decide) (by decide))).trans (tail_dg m c (hX c) (hW c) (hD c)),
      ((h c).2 main_v8 (Pipeline.mem_restRefs_of main_v8 (by decide) (by decide))).trans (tail_dh m c (hY c) (hW c) (hD c))⟩ :
        _ ∧ _ ∧ _ ∧ _ ∧ _)) (run_main m ρ)) (unchanged m ρ))
end Cert.Kernel3Ideal.Value
end
-- ==== Proof.MixOutProof.lean ====
/- The output projection's claim: the reference's results, and that kernel and reference end with the same five. -/
module

public import proofs.«01_k».proof.Defs
public import proofs.«01_k».proof.Proof.Gen.Pre_finite3
public import proofs.«01_k».proof.Proof.Gen.Reference3Ideal.Run
public import proofs.«01_k».proof.Proof.MixOutKernel
public import Idealize.ShloMosaic.Lib.Pointwise
public import Idealize.ShloMosaic.Lib.Claim

@[expose] public section

set_option maxRecDepth 16384

noncomputable section

open Idealize.ShloMosaic Idealize.SL.Sem
open Cert.RealOps Cert.Mix Cert.MixOut
open Cert.Loss (sumRows)

namespace Cert.Reference3Ideal.Value
open Cert.Reference3Ideal
variable (m : (ℓ : Loc nD τ sig) → Buf (Elt Ideal) ℓ) (c : Dev nD)

/-- The six arguments on a core. -/
abbrev aX : FVec Ideal S4x2048x512 .f32 := m ((c.tc : Thread nD τ).loc main_arg0)
abbrev aY : FVec Ideal S4x2048x512 .f32 := m ((c.tc : Thread nD τ).loc main_arg1)
abbrev aG : FVec Ideal S512 .f32 := m ((c.tc : Thread nD τ).loc main_arg2)
abbrev aH : FVec Ideal S512 .f32 := m ((c.tc : Thread nD τ).loc main_arg3)
abbrev aW : FVec Ideal S1024x1024 .f32 := m ((c.tc : Thread nD τ).loc main_arg4)
abbrev aD : FVec Ideal S4x2048x1024 .f32 := m ((c.tc : Thread nD τ).loc main_arg5)

/-- The contraction index of the weights' gradient: sequence and position. -/
def bie : Fin 4 × Fin 2048 ≃ dot_S4x2048x1024_S4x2048x1024_S1024x1024_01_01_2_2_n_n.contr.Idx where
  toFun p := fun a => match a with
    | ⟨0, _⟩ => p.1
    | ⟨1, _⟩ => p.2
  invFun k := (k ⟨0, by decide⟩, k ⟨1, by decide⟩)
  left_inv _ := rfl
  right_inv k := by
    funext a
    match a with
    | ⟨0, _⟩ => rfl
    | ⟨1, _⟩ => rfl

/-- The product summed over sequence and position. -/
theorem dot_bie (L R : FVec Ideal S4x2048x1024 .f32) (i j : Fin 1024) :
    Ideal.matmul dot_S4x2048x1024_S4x2048x1024_S1024x1024_01_01_2_2_n_n L R (fun _ => 0) (ix2 i j) = ∑ b : Fin 4, ∑ r : Fin 2048, L (ix3 b r i) * R (ix3 b r j) := by
  refine (zero_add _).trans ((Equiv.sum_comp bie _).symm.trans ?_)
  simp only [Fintype.sum_prod_type]
  refine Finset.sum_congr rfl fun b _ => Finset.sum_congr rfl fun r _ => ?_
  refine congrArg₂ (· * ·) (congrArg L ?_) (congrArg R ?_)
  all_goals
    funext x; apply Fin.ext
    match x with
    | ⟨0, _⟩ => rfl
    | ⟨1, _⟩ => rfl
    | ⟨2, _⟩ => rfl

section Results
variable (hX : IsReal (aX m c)) (hY : IsReal (aY m c)) (hG : IsReal (aG m c)) (hH : IsReal (aH m c)) (hW : IsReal (aW m c)) (hD : IsReal (aD m c))

/-- The reference's formula of a group's row is the spec's. -/
theorem dy_row (v : Fin 512 → ℝ) (d : Fin 1024 → ℝ) (W : Fin 1024 → Fin 1024 → ℝ) (g : Fin 512 → ℝ) (e : Fin 512 → Fin 1024) (k : Fin 512) :
    (∑ x, (d x : EReal) * (W (e k) x : EReal)) * (g k : EReal) * Ideal.rsqrt (msq v : EReal) + (v k : EReal) * (∑ _x : Fin 1, Ideal.div ((∑ x, (v x : EReal) * ((∑ y, (d y : EReal) * (W (e x) y : EReal)) * (g x : EReal))) *
      (((-(1 / 2) : ℝ) : EReal) * Ideal.div (Ideal.rsqrt (msq v : EReal)) (msq v : EReal))) ((512 : ℝ) : EReal))
      + (∑ _x : Fin 1, Ideal.div ((∑ x, (v x : EReal) * ((∑ y, (d y : EReal) * (W (e x) y : EReal)) * (g x : EReal))) *
      (((-(1 / 2) : ℝ) : EReal) * Ideal.div (Ideal.rsqrt (msq v : EReal)) (msq v : EReal))) ((512 : ℝ) : EReal)) * (v k : EReal)
      = ((rmsGrad v (fun k => dynOf W e d k * g k) k : ℝ) : EReal) := by
  simp only [rsqrt_msq, div_msq, ← EReal.coe_mul, ← coe_sum, div_512, Fin.sum_univ_one, ← EReal.coe_add]
  refine congrArg (fun a : ℝ => (a : EReal)) ?_
  have h := rmsGrad_eq v (fun k => dynOf W e d k * g k) k
  push_cast at h
  rw [← h]
  simp only [dynOf]

include hX hG hW hD in
theorem dx_eq : (res_out0 (F := Ideal) m c : FVec Ideal S8192x512 .f32) = dyArr lo (aX m c) (aG m c) (aW m c) (aD m c) := by
  unfold res_out0 res_main_v79
  have h0 := flat_coe hX
  have h1 := vec_coe hG
  have h2 := mat_coe hW
  have h3 := flat_coe hD
  funext j
  idx_vars j
  pointwise [h0, h1, h2, h3, ofBits_512, ofBits_eps, ofBits_half, ofBits_neg_half, ofBits_two, msq_512]
  exact dy_row _ _ _ _ lo j1
include hY hH hW hD in
theorem dy_eq : (res_out1 (F := Ideal) m c : FVec Ideal S8192x512 .f32) = dyArr hi (aY m c) (aH m c) (aW m c) (aD m c) := by
  unfold res_out1 res_main_v80
  have h0 := flat_coe hY
  have h1 := vec_coe hH
  have h2 := mat_coe hW
  have h3 := flat_coe hD
  funext j
  idx_vars j
  pointwise [h0, h1, h2, h3, ofBits_512, ofBits_eps, ofBits_half, ofBits_neg_half, ofBits_two, msq_512]
  exact dy_row _ _ _ _ hi j1
end Results

/-- The reference's run: it ends with the five results and its arguments unchanged. -/
theorem run_real (ρ : Dev nD → PrngReg) (hX : ∀ c, IsReal (aX m c)) (hY : ∀ c, IsReal (aY m c)) (hG : ∀ c, IsReal (aG m c)) (hH : ∀ c, IsReal (aH m c)) (hW : ∀ c, IsReal (aW m c)) (hD : ∀ c, IsReal (aD m c)) :
    θ_run defs (onTc (τ := τ) (main (F := Ideal))) ⟨m, fun _ => 0, ρ⟩ fun r => ∀ c : Dev nD,
      r.2.mem ((c.tc : Thread nD τ).loc main_v79) = dyArr lo (aX m c) (aG m c) (aW m c) (aD m c)
      ∧ r.2.mem ((c.tc : Thread nD τ).loc main_v80) = dyArr hi (aY m c) (aH m c) (aW m c) (aD m c)
      ∧ r.2.mem ((c.tc : Thread nD τ).loc main_v35) = dwArr (aX m c) (aY m c) (aG m c) (aH m c) (aD m c)
      ∧ r.2.mem ((c.tc : Thread nD τ).loc main_v64) = dgArr lo (aX m c) (aW m c) (aD m c)
      ∧ r.2.mem ((c.tc : Thread nD τ).loc main_v44) = dgArr hi (aY m c) (aW m c) (aD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans (dx_eq m c (hX c) (hG c) (hW c) (hD c)), (h c).2.1.trans (dy_eq m c (hY c) (hH c) (hW c) (hD c)),
    (h c).2.2.1.trans ?_, (h c).2.2.2.1.trans ?_, (h c).2.2.2.2.1.trans ?_, (h c).2.2.2.2.2⟩) (run m ρ)
  all_goals
    clear h
    have h0 := flat_coe' (hX c)
    have h1 := flat_coe' (hY c)
    have h2 := vec_coe (hG c)
    have h3 := vec_coe (hH c)
    have h4 := mat_coe (hW c)
    have h5 := flat_coe' (hD c)
  · funext j
    idx_vars j
    pointwise [h2, h3, dot_bie, ofBits_512, ofBits_eps]
    by_cases hj : j0.val < 512
    · simp only [dif_pos hj, h0, h5, msq_512, rsqrt_msq]
      simp only [← EReal.coe_mul, ← coe_sum]
      refine congrArg (fun a : ℝ => (a : EReal)) (Eq.trans ?_ (dif_pos hj).symm)
      exact Finset.sum_congr rfl fun b _ => Finset.sum_congr rfl fun r _ => mul_comm _ _
    · simp only [dif_neg hj, h1, h5, msq_512, rsqrt_msq]
      simp only [← EReal.coe_mul, ← coe_sum]
      refine congrArg (fun a : ℝ => (a : EReal)) (Eq.trans ?_ (dif_neg hj).symm)
      exact Finset.sum_congr rfl fun b _ => Finset.sum_congr rfl fun r _ => mul_comm _ _
  · funext j
    idx_vars j
    pointwise [hostReduceAdd_lead, h0, h4, h5, ofBits_512, ofBits_eps, msq_512]
    simp only [rsqrt_msq, ← EReal.coe_mul, ← coe_sum, Fin.sum_univ_one]
    exact congrArg (fun a : ℝ => (a : EReal)) (Finset.sum_congr rfl fun b _ => Finset.sum_congr rfl fun r _ => mul_comm _ _)
  · funext j
    idx_vars j
    pointwise [hostReduceAdd_lead, h1, h4, h5, ofBits_512, ofBits_eps, msq_512]
    simp only [rsqrt_msq, ← EReal.coe_mul, ← coe_sum, Fin.sum_univ_one]
    exact congrArg (fun a : ℝ => (a : EReal)) (Finset.sum_congr rfl fun b _ => Finset.sum_congr rfl fun r _ => mul_comm _ _)
end Cert.Reference3Ideal.Value

namespace Cert.MixOut

/-- What the precondition says: the six arrays hold reals. -/
theorem isReal_of_pre {x y : FVec Ideal (⟨3, ![4, 2048, 512]⟩ : Shape) .f32} {g h : FVec Ideal (⟨1, ![512]⟩ : Shape) .f32}
    {w : FVec Ideal (⟨2, ![1024, 1024]⟩ : Shape) .f32} {d : FVec Ideal (⟨3, ![4, 2048, 1024]⟩ : Shape) .f32}
    (hp : Cert.Pre_finite3.fn (F := Ideal) x y g h w d = fun _ => 1#1) : IsReal x ∧ IsReal y ∧ IsReal g ∧ IsReal h ∧ IsReal w ∧ IsReal d := by
  obtain ⟨e, h5⟩ := IntOp.andi_eq_one.1 (congrFun hp ix0)
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨isReal_of_all _ _ _ _ _ _ h0, isReal_of_all _ _ _ _ _ _ h1, isReal_of_all _ _ _ _ _ _ h2, isReal_of_all _ _ _ _ _ _ h3, isReal_of_all _ _ _ _ _ _ h4, isReal_of_all _ _ _ _ _ _ h5⟩

theorem algebraic : Cert.algebraic_Kernel3Ideal_Reference3Ideal_pre_finite3 := by
  intro m g m' g' hp ha
  have hr := fun c => isReal_of_pre (hp c)
  have e0 : ∀ c, Reference3Ideal.Value.aX m' c = Kernel3Ideal.Value.aX m c := fun c => (ha c).1
  have e1 : ∀ c, Reference3Ideal.Value.aY m' c = Kernel3Ideal.Value.aY m c := fun c => (ha c).2.1
  have e2 : ∀ c, Reference3Ideal.Value.aG m' c = Kernel3Ideal.Value.aG m c := fun c => (ha c).2.2.1
  have e3 : ∀ c, Reference3Ideal.Value.aH m' c = Kernel3Ideal.Value.aH m c := fun c => (ha c).2.2.2.1
  have e4 : ∀ c, Reference3Ideal.Value.aW m' c = Kernel3Ideal.Value.aW m c := fun c => (ha c).2.2.2.2.1
  have e5 : ∀ c, Reference3Ideal.Value.aD m' c = Kernel3Ideal.Value.aD m c := fun c => (ha c).2.2.2.2.2
  have R := Reference3Ideal.Value.run_real m' g' (fun c => e0 c ▸ (hr c).1) (fun c => e1 c ▸ (hr c).2.1) (fun c => e2 c ▸ (hr c).2.2.1)
    (fun c => e3 c ▸ (hr c).2.2.2.1) (fun c => e4 c ▸ (hr c).2.2.2.2.1) (fun c => e5 c ▸ (hr c).2.2.2.2.2)
  have R' := (θ_run Reference3Ideal.defs _ _).mono (fun r h c => by
    obtain ⟨h1, h2, h3, h4, h5, h6⟩ := h c
    rw [e0, e2, e4, e5] at h1
    rw [e1, e3, e4, e5] at h2
    rw [e0, e1, e2, e3, e5] at h3
    rw [e0, e4, e5] at h4
    rw [e1, e4, e5] at h5
    exact And.intro h1 (And.intro h2 (And.intro h3 (And.intro h4 (And.intro h5 h6))))) R
  exact ⟨_, _, _, _, _, Kernel3Ideal.Value.run_real m g (fun c => (hr c).1) (fun c => (hr c).2.1) (fun c => (hr c).2.2.1)
    (fun c => (hr c).2.2.2.1) (fun c => (hr c).2.2.2.2.1) (fun c => (hr c).2.2.2.2.2), R'⟩

/-- The reference runs, leaves its arguments unchanged, and every counter ends at zero. -/
theorem frame_ref : Cert.quiescent_Reference3Ideal := fun m g _ => (θ_run Reference3Ideal.defs _ _).mono
    (fun r h => ⟨fun c => (h c).2.2.2.2.2, sem_eq_zero_of_no_sems (by decide) r.2⟩) (Reference3Ideal.Value.run (F := Ideal) m g)

end Cert.MixOut

end
-- ==== Proof.MixInSpec.lean ====
/- The input projection with its norm over the reals: what the backward call returns. -/
module

public import proofs.«01_k».proof.Proof.MixOutSpec

@[expose] public section

noncomputable section

open Idealize.ShloMosaic
open Cert.RealOps
open Cert.Loss (sumRows)

namespace Cert.MixIn

/-- Column `j` of the third `s` of the projection's 1536. -/
def col (s : Fin 3) (j : Fin 512) : Fin 1536 := ⟨s.val * 512 + j.val, by omega⟩
/-- Three blocks of columns side by side. -/
def side (P : Fin 3 → Fin 512 → ℝ) (j : Fin 1536) : ℝ := P ⟨j.val / 512, by omega⟩ ⟨j.val % 512, by omega⟩

theorem side_col (P : Fin 3 → Fin 512 → ℝ) (s : Fin 3) (j : Fin 512) : side P (col s j) = P s j :=
  congrArg₂ P (Fin.ext (by simp only [col]; omega)) (Fin.ext (by simp only [col]; omega))

/-- A sum over the columns is the three blocks' sums. -/
theorem sum_side (P : Fin 3 → Fin 512 → ℝ) (w : Fin 1536 → ℝ) : ∑ s, ∑ j, P s j * w (col s j) = ∑ j, side P j * w j := by
  rw [Fin.sum_univ_tiles 3 512 (by norm_num) fun j => side P j * w j]
  exact Finset.sum_congr rfl fun s _ => Finset.sum_congr rfl fun j _ => by rw [← side_col P s j]; rfl

variable (X : Fin 8192 → Fin 1024 → ℝ) (G : Fin 1024 → ℝ) (W : Fin 1024 → Fin 1536 → ℝ) (P : Fin 3 → Fin 8192 → Fin 512 → ℝ) (E : Fin 8192 → Fin 1024 → ℝ)

/-- The cotangent of the normed row through the product, at row `n`. -/
def dnOf (n : Fin 8192) (k : Fin 1024) : ℝ := ∑ j, side (fun s => P s n) j * W k j
/-- The gradients: of the row (the residual's cotangent added), and the row's parts of the gain's and of the weights'. -/
def dxOf (n : Fin 8192) (k : Fin 1024) : ℝ := E n k + rmsGrad (X n) (fun k => dnOf W P n k * G k) k
def dgOf (n : Fin 8192) (k : Fin 1024) : ℝ := dnOf W P n k * (X n k * rms (X n))
def dwOf (n : Fin 8192) (k : Fin 1024) (j : Fin 1536) : ℝ := side (fun s => P s n) j * (X n k * rms (X n) * G k)

variable (x d : FVec Ideal (⟨3, ![4, 2048, 1024]⟩ : Shape) .f32) (g : FVec Ideal (⟨1, ![1024]⟩ : Shape) .f32)
  (w : FVec Ideal (⟨2, ![1024, 1536]⟩ : Shape) .f32) (p q r : FVec Ideal (⟨3, ![4, 2048, 512]⟩ : Shape) .f32)

/-- The three cotangents' rows. -/
def cots : Fin 3 → Fin 8192 → Fin 512 → ℝ := ![flat p, flat q, flat r]

/-- The results as arrays. -/
def dxArr : FVec Ideal (⟨2, ![8192, 1024]⟩ : Shape) .f32 := fun i => ((dxOf (flat x) (vec g) (mat w) (cots p q r) (flat d) (i 0) (i 1) : ℝ) : EReal)
def dwArr : FVec Ideal (⟨2, ![1024, 1536]⟩ : Shape) .f32 := fun i => ((sumRows fun n => dwOf (flat x) (vec g) (cots p q r) n (i 0) (i 1) : ℝ) : EReal)
def dgArr : FVec Ideal (⟨1, ![1024]⟩ : Shape) .f32 := fun i => ((sumRows fun n => dgOf (flat x) (mat w) (cots p q r) n (i 0) : ℝ) : EReal)

end Cert.MixIn

end
-- ==== Proof.MixInKernel.lean ====
/- The input projection's backward call: what one point computes, the contents of the three arrays, and the run. -/
module

public import proofs.«01_k».proof.Proof.Gen.Kernel4Ideal.Frame
public import proofs.«01_k».proof.Proof.MixInSpec
public import Idealize.ShloMosaic.Lib.Pipeline.ValueKit
public import Idealize.ShloMosaic.Lib.Pipeline.ReadBack
public import Idealize.ShloMosaic.Lib.Pointwise
@[expose] public section

set_option maxRecDepth 16384
noncomputable section
open Idealize.ShloMosaic Idealize.ShloMosaic.TcCoe Idealize.SL.Sem
open Idealize.ShloMosaic.Pipeline (Dat)
open Cert.RealOps Cert.Mix Cert.MixIn
open Cert.Loss (sumRows)
namespace Cert.Kernel4Ideal.Value
open Cert.Kernel4Ideal Cert.Kernel4Ideal.Gen

section Body
variable (x e : FVec Ideal S512x1024 .f32) (g : FVec Ideal S1x1024 .f32) (z0 z1 z2 : FVec Ideal S512x512 .f32) (w0 w1 w2 : FVec Ideal S1024x512 .bf16)
  (A E : Fin 512 → Fin 1024 → ℝ) (G : Fin 1024 → ℝ) (P : Fin 3 → Fin 512 → Fin 512 → ℝ) (U : Fin 3 → Fin 1024 → Fin 512 → ℝ)
  (hx : ∀ r k, x (ix2 r k) = ((A r k : ℝ) : EReal)) (hg : ∀ k : Fin 1024, g (ix2 (0 : Fin 1) k) = ((G k : ℝ) : EReal))
  (he : ∀ r k, e (ix2 r k) = ((E r k : ℝ) : EReal))
  (hz0 : ∀ r j, z0 (ix2 r j) = ((P 0 r j : ℝ) : EReal)) (hz1 : ∀ r j, z1 (ix2 r j) = ((P 1 r j : ℝ) : EReal)) (hz2 : ∀ r j, z2 (ix2 r j) = ((P 2 r j : ℝ) : EReal))
  (hw0 : ∀ k j, w0 (ix2 k j) = ((U 0 k j : ℝ) : EReal)) (hw1 : ∀ k j, w1 (ix2 k j) = ((U 1 k j : ℝ) : EReal)) (hw2 : ∀ k j, w2 (ix2 k j) = ((U 2 k j : ℝ) : EReal))

include hx in
theorem rms_at (r : Fin 512) : k0_pay7 (F := Ideal) x (ix2 r (0 : Fin 1)) = ((rms (A r) : ℝ) : EReal) := by
  pointwise [k0_pay7, k0_pay6, hx]
  rw [ofBits_1024, ofBits_eps, msq_1024, rsqrt_msq]
include hx in
theorem xh_at (r : Fin 512) (k : Fin 1024) : k0_pay8 (F := Ideal) x (ix2 r k) = ((A r k * rms (A r) : ℝ) : EReal) := by
  pointwise [k0_pay8, k0_pay6, hx, rms_at x A hx]
  rw [EReal.coe_mul]
include hx hg in
theorem xn_at (r : Fin 512) (k : Fin 1024) : k0_pay9 (F := Ideal) g x (ix2 r k) = ((A r k * rms (A r) * G k : ℝ) : EReal) := by
  pointwise [k0_pay9, k0_pay5, hg, xh_at x A hx]
  rw [EReal.coe_mul, EReal.coe_mul, EReal.coe_mul]

/-- The cotangent of the normed row: the three products, added from zero. -/
abbrev dnK : FVec Ideal S512x1024 .f32 := k0_pay17 (k0_pay11 z0 w0) (k0_pay13 z1) w1 z2 w2
include hz0 hz1 hz2 hw0 hw1 hw2 in
theorem dnK_at (r : Fin 512) (k : Fin 1024) : dnK z0 z1 z2 w0 w1 w2 (ix2 r k) = ((∑ s, ∑ j, P s r j * U s k j : ℝ) : EReal) := by
  pointwise [k0_pay17, k0_pay11, k0_pay13, k0_pay10, k0_pay14, k0_pay16, hz0, hz1, hz2, hw0, hw1, hw2]
  simp only [← EReal.coe_mul, ← coe_sum, ← EReal.coe_add, Fin.sum_univ_three]

/-- The input's gradient, the residual's cotangent added. -/
abbrev dxK : FVec Ideal S512x1024 .f32 := k0_pay1 (k0_pay19 (k0_pay5 g) (k0_pay7 x) (k0_pay8 x) (k0_pay11 z0 w0) (k0_pay13 z1) w1 z2 w2) e
include hx hg he hz0 hz1 hz2 hw0 hw1 hw2 in
theorem dxK_at (r : Fin 512) (k : Fin 1024) : dxK x e g z0 z1 z2 w0 w1 w2 (ix2 r k) =
    ((E r k + rmsGrad (A r) (fun k => (∑ s, ∑ j, P s r j * U s k j) * G k) k : ℝ) : EReal) := by
  pointwise [k0_pay1, k0_pay19, k0_pay5, hg, he, rms_at x A hx, xh_at x A hx, dnK_at z0 z1 z2 w0 w1 w2 P U hz0 hz1 hz2 hw0 hw1 hw2]
  rw [ofBits_1024]
  simp only [← EReal.coe_mul, ← coe_sum]
  rw [div_1024]
  simp only [← EReal.coe_mul, ← EReal.coe_sub, ← EReal.coe_add]
  rw [rmsGrad]
  norm_num
include hx hg hz0 in
theorem dw0_at (acc : FVec Ideal S512x1024 .f32) (j : Fin 512) (k : Fin 1024) :
    k0_pay12 (F := Ideal) g x z0 acc (ix2 j k) = acc (ix2 j k) + ((∑ r, P 0 r j * (A r k * rms (A r) * G k) : ℝ) : EReal) := by
  pointwise [k0_pay12, k0_pay10, hz0, xn_at x g A G hx hg]
  simp only [← EReal.coe_mul, ← coe_sum]
include hx hg hz1 in
theorem dw1_at (acc : FVec Ideal S512x1024 .f32) (j : Fin 512) (k : Fin 1024) :
    k0_pay15 (F := Ideal) (k0_pay9 g x) (k0_pay13 z1) acc (ix2 j k) = acc (ix2 j k) + ((∑ r, P 1 r j * (A r k * rms (A r) * G k) : ℝ) : EReal) := by
  pointwise [k0_pay15, k0_pay14, k0_pay13, hz1, xn_at x g A G hx hg]
  simp only [← EReal.coe_mul, ← coe_sum]
include hx hg hz2 in
theorem dw2_at (acc : FVec Ideal S512x1024 .f32) (j : Fin 512) (k : Fin 1024) :
    k0_pay18 (F := Ideal) (k0_pay9 g x) z2 acc (ix2 j k) = acc (ix2 j k) + ((∑ r, P 2 r j * (A r k * rms (A r) * G k) : ℝ) : EReal) := by
  pointwise [k0_pay18, k0_pay16, hz2, xn_at x g A G hx hg]
  simp only [← EReal.coe_mul, ← coe_sum]
include hx hz0 hz1 hz2 hw0 hw1 hw2 in
theorem dg_at (acc : FVec Ideal S8x1024 .f32) (s : Fin 8) (k : Fin 1024) :
    k0_pay2 (F := Ideal) (k0_pay20 (k0_pay8 x) (k0_pay11 z0 w0) (k0_pay13 z1) w1 z2 w2) acc (ix2 s k) = acc (ix2 s k) +
      ((∑ p : Fin 64, (∑ b, ∑ j, P b ⟨p.val * 8 + s.val, by omega⟩ j * U b k j) * (A ⟨p.val * 8 + s.val, by omega⟩ k * rms (A ⟨p.val * 8 + s.val, by omega⟩)) : ℝ) : EReal) := by
  pointwise [k0_pay2, k0_pay20, xh_at x A hx, dnK_at z0 z1 z2 w0 w1 w2 P U hz0 hz1 hz2 hw0 hw1 hw2]
  simp only [← EReal.coe_mul, ← coe_sum]
end Body

variable (m : (ℓ : Loc nD τ sig) → Buf (Elt Ideal) ℓ) (c : Dev nD)

/-- The seven arguments on a core: the input, the norm's gain, the weights, the three cotangents and the residual's. -/
abbrev aX : FVec Ideal S4x2048x1024 .f32 := m ((c.tc : Thread nD τ).loc main_arg0)
abbrev aG : FVec Ideal S1024 .f32 := m ((c.tc : Thread nD τ).loc main_arg1)
abbrev aW : FVec Ideal S1024x1536 .f32 := m ((c.tc : Thread nD τ).loc main_arg2)
abbrev aP : FVec Ideal S4x2048x512 .f32 := m ((c.tc : Thread nD τ).loc main_arg3)
abbrev aQ : FVec Ideal S4x2048x512 .f32 := m ((c.tc : Thread nD τ).loc main_arg4)
abbrev aR : FVec Ideal S4x2048x512 .f32 := m ((c.tc : Thread nD τ).loc main_arg5)
abbrev aD : FVec Ideal S4x2048x1024 .f32 := m ((c.tc : Thread nD τ).loc main_arg6)

theorem idx : ∀ t : Fin cfg0.N, win0_0.index t = ![t.val, 0] ∧ win0_1.index t = ![0, 0] ∧ win0_2.index t = ![t.val, 0] ∧ win0_3.index t = ![t.val, 0] ∧ win0_4.index t = ![t.val, 0]
    ∧ win0_5.index t = ![t.val, 0] ∧ win0_6.index t = ![0, 0] ∧ win0_7.index t = ![t.val, 0] ∧ win0_8.index t = ![0, 0] ∧ win0_9.index t = ![0, 0] :=
  (by decide +kernel : ∀ t : Fin grid0.N, win0_0.index t = ![t.val, 0] ∧ win0_1.index t = ![0, 0] ∧ win0_2.index t = ![t.val, 0] ∧ win0_3.index t = ![t.val, 0] ∧ win0_4.index t = ![t.val, 0]
    ∧ win0_5.index t = ![t.val, 0] ∧ win0_6.index t = ![0, 0] ∧ win0_7.index t = ![t.val, 0] ∧ win0_8.index t = ![0, 0] ∧ win0_9.index t = ![0, 0])

/-- The last point of the grid. -/
def t0_L : Fin cfg0.N := ⟨15, by decide⟩
theorem ptlt (t : Fin cfg0.N) : t.val < 16 := lt_of_lt_of_eq t.isLt N_0
/-- The row of the batch that row `r` of point `t`'s block is. -/
def rowOf (t : Fin cfg0.N) (r : Fin 512) : Fin 8192 := ⟨t.val * 512 + r.val, by have := ptlt t; omega⟩

theorem V_x : (V m c main_v0 : FVec Ideal S8192x1024 .f32) = shapeCast S8192x1024 (aX m c) shapeCasts_S4x2048x1024_S8192x1024 := by
  unfold V V0; rw [List.flatten_cons, List.flatten_nil, List.append_nil]; after_results_simp; rfl
theorem V_g : (V m c main_v1 : FVec Ideal S1x1024 .f32) = broadcastInDim S1x1024 ![1] bcast_S1024_S1x1024_1 (aG m c) := by
  unfold V V0; rw [List.flatten_cons, List.flatten_nil, List.append_nil]; after_results_simp
theorem V_p : (V m c main_v2 : FVec Ideal S8192x512 .f32) = shapeCast S8192x512 (aP m c) shapeCasts_S4x2048x512_S8192x512 := by
  unfold V V0; rw [List.flatten_cons, List.flatten_nil, List.append_nil]; after_results_simp; rfl
theorem V_q : (V m c main_v3 : FVec Ideal S8192x512 .f32) = shapeCast S8192x512 (aQ m c) shapeCasts_S4x2048x512_S8192x512 := by
  unfold V V0; rw [List.flatten_cons, List.flatten_nil, List.append_nil]; after_results_simp; rfl
theorem V_r : (V m c main_v4 : FVec Ideal S8192x512 .f32) = shapeCast S8192x512 (aR m c) shapeCasts_S4x2048x512_S8192x512 := by
  unfold V V0; rw [List.flatten_cons, List.flatten_nil, List.append_nil]; after_results_simp; rfl
theorem V_d : (V m c main_v5 : FVec Ideal S8192x1024 .f32) = shapeCast S8192x1024 (aD m c) shapeCasts_S4x2048x1024_S8192x1024 := by
  unfold V V0; rw [List.flatten_cons, List.flatten_nil, List.append_nil]; after_results_simp; rfl
theorem V_w : (V m c main_v6 : FVec Ideal S1024x1536 .bf16) = truncf .bf16 (aW m c) bitsLt_bf16_f32 := by
  unfold V V0; rw [List.flatten_cons, List.flatten_nil, List.append_nil]; after_results_simp

/-- The three cotangents' rows. -/
abbrev cot := cots (aP m c) (aQ m c) (aR m c)

section Blocks
variable (hX : IsReal (aX m c)) (hG : IsReal (aG m c)) (hW : IsReal (aW m c)) (hP : IsReal (aP m c)) (hQ : IsReal (aQ m c)) (hR : IsReal (aR m c)) (hD : IsReal (aD m c)) (t : Fin cfg0.N)
include hX in
theorem blk0_at (r : Fin 512) (k : Fin 1024) : (iblk m c 0 t : FVec Ideal S512x1024 .f32) (ix2 r k) = ((flat (aX m c) (rowOf t r) k : ℝ) : EReal) := by
  rw [← flat_coe hX]
  have h : (iblk m c 0 t : FVec Ideal S512x1024 .f32) (ix2 r k) = (V m c main_v0 : FVec Ideal S8192x1024 .f32) (ix2 (rowOf t r) k) := by
    blk_point [iblk, idx t, rowOf]
  rw [h, V_x]
  pointwise
include hG in
theorem blk1_at (k : Fin 1024) : (iblk m c 1 t : FVec Ideal S1x1024 .f32) (ix2 (0 : Fin 1) k) = ((vec (aG m c) k : ℝ) : EReal) := by
  rw [← vec_coe hG]
  have h : (iblk m c 1 t : FVec Ideal S1x1024 .f32) (ix2 (0 : Fin 1) k) = (V m c main_v1 : FVec Ideal S1x1024 .f32) (ix2 (0 : Fin 1) k) := by
    blk_point [iblk, idx t]
  rw [h, V_g]
  pointwise
include hP in
theorem blk2_at (r j : Fin 512) : (iblk m c 2 t : FVec Ideal S512x512 .f32) (ix2 r j) = ((cot m c 0 (rowOf t r) j : ℝ) : EReal) := by
  refine Eq.trans ?_ (flat_coe hP _ _)
  have h : (iblk m c 2 t : FVec Ideal S512x512 .f32) (ix2 r j) = (V m c main_v2 : FVec Ideal S8192x512 .f32) (ix2 (rowOf t r) j) := by
    blk_point [iblk, idx t, rowOf]
  rw [h, V_p]
  pointwise
include hQ in
theorem blk3_at (r j : Fin 512) : (iblk m c 3 t : FVec Ideal S512x512 .f32) (ix2 r j) = ((cot m c 1 (rowOf t r) j : ℝ) : EReal) := by
  refine Eq.trans ?_ (flat_coe hQ _ _)
  have h : (iblk m c 3 t : FVec Ideal S512x512 .f32) (ix2 r j) = (V m c main_v3 : FVec Ideal S8192x512 .f32) (ix2 (rowOf t r) j) := by
    blk_point [iblk, idx t, rowOf]
  rw [h, V_q]
  pointwise
include hR in
theorem blk4_at (r j : Fin 512) : (iblk m c 4 t : FVec Ideal S512x512 .f32) (ix2 r j) = ((cot m c 2 (rowOf t r) j : ℝ) : EReal) := by
  refine Eq.trans ?_ (flat_coe hR _ _)
  have h : (iblk m c 4 t : FVec Ideal S512x512 .f32) (ix2 r j) = (V m c main_v4 : FVec Ideal S8192x512 .f32) (ix2 (rowOf t r) j) := by
    blk_point [iblk, idx t, rowOf]
  rw [h, V_r]
  pointwise
include hD in
theorem blk5_at (r : Fin 512) (k : Fin 1024) : (iblk m c 5 t : FVec Ideal S512x1024 .f32) (ix2 r k) = ((flat (aD m c) (rowOf t r) k : ℝ) : EReal) := by
  rw [← flat_coe hD]
  have h : (iblk m c 5 t : FVec Ideal S512x1024 .f32) (ix2 r k) = (V m c main_v5 : FVec Ideal S8192x1024 .f32) (ix2 (rowOf t r) k) := by
    blk_point [iblk, idx t, rowOf]
  rw [h, V_d]
  pointwise
include hW in
theorem blk6_at (k : Fin 1024) (j : Fin 1536) : (iblk m c 6 t : FVec Ideal S1024x1536 .bf16) (ix2 k j) = ((mat (aW m c) k j : ℝ) : EReal) := by
  rw [← mat_coe hW]
  have h : (iblk m c 6 t : FVec Ideal S1024x1536 .bf16) (ix2 k j) = (V m c main_v6 : FVec Ideal S1024x1536 .bf16) (ix2 k j) := by
    blk_point [iblk, idx t]
  rw [h, V_w]
  pointwise
/-- The third `s` of the weights' columns. -/
abbrev third (s : Fin 3) (k : Fin 1024) (j : Fin 512) : ℝ := mat (aW m c) k (col s j)
include hW in
theorem ld0 (hb) (k : Fin 1024) (j : Fin 512) :
    View.ld (iblk m c 6 t : FVec Ideal S1024x1536 .bf16) (Rect.unit (s := S1024x1536) ![0, 0] ![1024, 512] hb) (ix2 k j) = ((third m c 0 k j : ℝ) : EReal) := by
  pointwise [blk6_at m c hW t]
  exact congrArg (fun i => ((mat (aW m c) k i : ℝ) : EReal)) (Fin.ext (by simp [col]))
include hW in
theorem ld1 (hb) (k : Fin 1024) (j : Fin 512) :
    View.ld (iblk m c 6 t : FVec Ideal S1024x1536 .bf16) (Rect.unit (s := S1024x1536) ![0, 512] ![1024, 512] hb) (ix2 k j) = ((third m c 1 k j : ℝ) : EReal) := by
  pointwise [blk6_at m c hW t]
  exact congrArg (fun i => ((mat (aW m c) k i : ℝ) : EReal)) (Fin.ext (by simp [col]))
include hW in
theorem ld2 (hb) (k : Fin 1024) (j : Fin 512) :
    View.ld (iblk m c 6 t : FVec Ideal S1024x1536 .bf16) (Rect.unit (s := S1024x1536) ![0, 1024] ![1024, 512] hb) (ix2 k j) = ((third m c 2 k j : ℝ) : EReal) := by
  pointwise [blk6_at m c hW t]
  exact congrArg (fun i => ((mat (aW m c) k i : ℝ) : EReal)) (Fin.ext (by simp [col]))
theorem emb7 (r : Fin 512) (k : Fin 1024) : (win0_7.blk t).view.emb (ix2 r k) = (ix2 (rowOf t r) k : S8192x1024.Idx) := by blk_ext [idx t, rowOf]
theorem dn_eq (n : Fin 8192) (k : Fin 1024) : ∑ s, ∑ j, cot m c s n j * third m c s k j = dnOf (mat (aW m c)) (cot m c) n k :=
  sum_side (fun s => cot m c s n) (mat (aW m c) k)
end Blocks

section Arrays
variable (hX : IsReal (aX m c)) (hG : IsReal (aG m c)) (hW : IsReal (aW m c)) (hP : IsReal (aP m c)) (hQ : IsReal (aQ m c)) (hR : IsReal (aR m c)) (hD : IsReal (aD m c))

include hX hG hW hP hQ hR hD in
theorem arr7_at : (dats m 0 c).arrAt 7 cfg0.N = dxArr (aX m c) (aD m c) (aG m c) (aW m c) (aP m c) (aQ m c) (aR m c) := by
  refine (dats m 0 c).arrAt_eq_of_covers 7 _ (by decide +kernel) fun t _ y => ?_
  rw [after0_7]
  by_cases h : t.val % 16 = 0
  all_goals
    first | rw [outsAt0_A m c t h] | rw [outsAt0_B m c t h]
    frame_out
    idx_vars y
    blk_simp
    rw [emb7]
    refine (dxK_at _ _ _ _ _ _ _ _ _ _ _ _ (fun s r j => cot m c s (rowOf t r) j) (third m c) (blk0_at m c hX t) (blk1_at m c hG t) (blk5_at m c hD t) (blk2_at m c hP t) (blk3_at m c hQ t) (blk4_at m c hR t)
      (ld0 m c hW t _) (ld1 m c hW t _) (ld2 m c hW t _) y0 y1).trans ?_
    simp only [dn_eq]
    rfl

include hX hW hP hQ hR in
theorem arr9_at : (dats m 0 c).arrAt 9 cfg0.N = (fun i => ((∑ t : Fin cfg0.N, ∑ p : Fin 64, dgOf (flat (aX m c)) (mat (aW m c)) (cot m c)
    (rowOf t ⟨p.val * 8 + (i 0).val, by have := (i 0).isLt; change (i 0).val < 8 at this; omega⟩) (i 1) : ℝ) : EReal) : FVec Ideal S8x1024 .f32) := by
  have hp := fun (t : Fin cfg0.N) b0 b1 b2 acc (s : Fin 8) (k : Fin 1024) => (dg_at _ _ _ _ _ _ _ _ (fun s r j => cot m c s (rowOf t r) j) (third m c) (blk0_at m c hX t) (blk2_at m c hP t) (blk3_at m c hQ t) (blk4_at m c hR t)
    (ld0 m c hW t b0) (ld1 m c hW t b1) (ld2 m c hW t b2) acc s k)
  simp only [dn_eq] at hp
  refine (dats m 0 c).arrAt_eq_of_after_last 9 t0_L (by decide +kernel) _ fun j => ?_
  blk_simp
  rw [after0_9, Pipeline.eq_sum_fin_of_reset_step_apply_last (fun n h => (outsAt0 m c n h).2.2) 16 (fun _ => 0)
    (fun t j => ((∑ p : Fin 64, dgOf (flat (aX m c)) (mat (aW m c)) (cot m c) (rowOf t ⟨p.val * 8 + (j 0).val, by have := (j 0).isLt; change (j 0).val < 8 at this; omega⟩) (j 1) : ℝ) : EReal))
    (fun t h j => by rw [outsAt0_A m c t h]; frame_out; idx_vars j; rw [hp]; pointwise [k0_pay4]; rfl)
    (fun t h j => by rw [outsAt0_B m c t h]; frame_out; idx_vars j; rw [hp]; rfl) (le_of_eq N_0) t0_L rfl j, zero_add]
  exact (coe_sum _ _).symm

/-- An array written in three thirds of 512 rows: the last three stores hide what was there before. -/
theorem canon_thirds (F : S1536x1024.Idx → EReal) (L' : List (View.Piece (Elt Ideal) S1536x1024 .f32)) {w0 w1 w2 : Vec Ideal S512x1024 .f32} {b0 b1 b2}
    (h2 : ∀ (j : Fin 512) (k : Fin 1024), w2 (ix2 j k) = F (ix2 (col 2 j) k)) (h1 : ∀ (j : Fin 512) (k : Fin 1024), w1 (ix2 j k) = F (ix2 (col 1 j) k))
    (h0 : ∀ (j : Fin 512) (k : Fin 1024), w0 (ix2 j k) = F (ix2 (col 0 j) k)) (y : S1536x1024.Idx) :
    View.canon ((⟨Rect.unit (s := S1536x1024) ![1024, 0] ![512, 1024] b2, w2⟩ : View.Piece (Elt Ideal) S1536x1024 .f32) :: ⟨Rect.unit (s := S1536x1024) ![512, 0] ![512, 1024] b1, w1⟩
      :: ⟨Rect.unit (s := S1536x1024) ![0, 0] ![512, 1024] b0, w0⟩ :: L') y = F y := by
  have c2 : ∀ j k, (Rect.unit (s := S1536x1024) ![1024, 0] ![512, 1024] b2).emb (ix2 j k) = (ix2 (col 2 j) k : S1536x1024.Idx) := fun j k => by blk_ext [col]
  have c1 : ∀ j k, (Rect.unit (s := S1536x1024) ![512, 0] ![512, 1024] b1).emb (ix2 j k) = (ix2 (col 1 j) k : S1536x1024.Idx) := fun j k => by blk_ext [col]
  have c0 : ∀ j k, (Rect.unit (s := S1536x1024) ![0, 0] ![512, 1024] b0).emb (ix2 j k) = (ix2 (col 0 j) k : S1536x1024.Idx) := fun j k => by blk_ext [col]
  refine View.canon_append_of_pieces F L' [⟨Rect.unit (s := S1536x1024) ![1024, 0] ![512, 1024] b2, w2⟩, ⟨Rect.unit (s := S1536x1024) ![512, 0] ![512, 1024] b1, w1⟩,
    ⟨Rect.unit (s := S1536x1024) ![0, 0] ![512, 1024] b0, w0⟩] ?_ y ?_
  · simp only [List.forall_mem_cons, List.not_mem_nil, false_implies, implies_true, and_true]
    refine ⟨fun z => ?_, fun z => ?_, fun z => ?_⟩
    · idx_vars z; exact (h2 z0 z1).trans (congrArg F (c2 z0 z1).symm)
    · idx_vars z; exact (h1 z0 z1).trans (congrArg F (c1 z0 z1).symm)
    · idx_vars z; exact (h0 z0 z1).trans (congrArg F (c0 z0 z1).symm)
  · idx_vars y
    have l0 : y0.val < 1536 := y0.isLt
    by_cases hl : y0.val < 512
    · have i := (Rect.unit (s := S1536x1024) ![0, 0] ![512, 1024] b0).idx_mem (ix2 (⟨y0.val, hl⟩ : Fin 512) y1)
      change (Rect.unit (s := S1536x1024) ![0, 0] ![512, 1024] b0).emb (ix2 (⟨y0.val, hl⟩ : Fin 512) y1) ∈ _ at i
      rw [c0, show col 0 ⟨y0.val, hl⟩ = y0 from Fin.ext (by simp [col])] at i
      exact ⟨_, List.mem_cons_of_mem _ (List.mem_cons_of_mem _ List.mem_cons_self), i⟩
    · by_cases hh : y0.val < 1024
      · have i := (Rect.unit (s := S1536x1024) ![512, 0] ![512, 1024] b1).idx_mem (ix2 (⟨y0.val - 512, by omega⟩ : Fin 512) y1)
        change (Rect.unit (s := S1536x1024) ![512, 0] ![512, 1024] b1).emb (ix2 (⟨y0.val - 512, by omega⟩ : Fin 512) y1) ∈ _ at i
        rw [c1, show col 1 ⟨y0.val - 512, by omega⟩ = y0 from Fin.ext (by simp [col]; omega)] at i
        exact ⟨_, List.mem_cons_of_mem _ List.mem_cons_self, i⟩
      · have i := (Rect.unit (s := S1536x1024) ![1024, 0] ![512, 1024] b2).idx_mem (ix2 (⟨y0.val - 1024, by omega⟩ : Fin 512) y1)
        change (Rect.unit (s := S1536x1024) ![1024, 0] ![512, 1024] b2).emb (ix2 (⟨y0.val - 1024, by omega⟩ : Fin 512) y1) ∈ _ at i
        rw [c2, show col 2 ⟨y0.val - 1024, by omega⟩ = y0 from Fin.ext (by simp [col]; omega)] at i
        exact ⟨_, List.mem_cons_self, i⟩

/-- What a point adds to the weights' gradient, at column `j` of the projection. -/
def dwP (t : Fin cfg0.N) (j : Fin 1536) (k : Fin 1024) : ℝ := ∑ r, dwOf (flat (aX m c)) (vec (aG m c)) (cot m c) (rowOf t r) k j
theorem dwP_col (t : Fin cfg0.N) (s : Fin 3) (j : Fin 512) (k : Fin 1024) : dwP m c t (col s j) k =
    ∑ r, cot m c s (rowOf t r) j * (flat (aX m c) (rowOf t r) k * rms (flat (aX m c) (rowOf t r)) * vec (aG m c) k) :=
  Finset.sum_congr rfl fun r _ => by rw [dwOf, side_col]

set_option maxHeartbeats 4000000 in
include hX hG hP hQ hR in
theorem arr8_at : (dats m 0 c).arrAt 8 cfg0.N = (fun i => ((∑ t : Fin cfg0.N, dwP m c t (i 0) (i 1) : ℝ) : EReal) : FVec Ideal S1536x1024 .f32) := by
  have h0 := fun (t : Fin cfg0.N) acc j k => (dw0_at _ _ _ _ _ (fun s r j => cot m c s (rowOf t r) j) (blk0_at m c hX t) (blk1_at m c hG t) (blk2_at m c hP t) acc j k)
  have h1 := fun (t : Fin cfg0.N) acc j k => (dw1_at _ _ _ _ _ (fun s r j => cot m c s (rowOf t r) j) (blk0_at m c hX t) (blk1_at m c hG t) (blk3_at m c hQ t) acc j k)
  have h2 := fun (t : Fin cfg0.N) acc j k => (dw2_at _ _ _ _ _ (fun s r j => cot m c s (rowOf t r) j) (blk0_at m c hX t) (blk1_at m c hG t) (blk4_at m c hR t) acc j k)
  simp only [← dwP_col] at h0 h1 h2
  refine (dats m 0 c).arrAt_eq_of_after_last 8 t0_L (by decide +kernel) _ fun j => ?_
  blk_simp
  rw [after0_8, Pipeline.eq_sum_fin_of_reset_step_apply_last (fun n h => (outsAt0 m c n h).2.1) 16 (fun _ => 0)
    (fun t j => ((dwP m c t (j 0) (j 1) : ℝ) : EReal))
    (fun t h j => by
      rw [outsAt0_A m c t h]
      frame_out [View.readCov_skip, View.readCov_cons_toLoadRect, View.readCov_fill]
      refine canon_thirds (fun y => 0 + ((dwP m c t (y 0) (y 1) : ℝ) : EReal)) _ (fun j k => ?_) (fun j k => ?_) (fun j k => ?_) j
      · rw [h2]; pointwise [k0_pay3]
      · rw [h1]; pointwise [k0_pay3]
      · rw [h0]; pointwise [k0_pay3])
    (fun t h j => by
      rw [outsAt0_B m c t h]
      frame_out [View.readCov_skip, View.readCov_cons_toLoadRect, View.readCov_fill]
      refine canon_thirds (fun y => (outsAt0 m c (t.val - 1) (Nat.lt_of_le_of_lt (Nat.sub_le _ _) t.isLt)).2.1 y + ((dwP m c t (y 0) (y 1) : ℝ) : EReal)) _ (fun j k => ?_) (fun j k => ?_) (fun j k => ?_) j
      · rw [h2]; pointwise; rfl
      · rw [h1]; pointwise; rfl
      · rw [h0]; pointwise; rw [show (⟨j.val, by omega⟩ : Fin 1536) = col 0 j from Fin.ext (by simp [col])]) (le_of_eq N_0) t0_L rfl j, zero_add]
  exact (coe_sum _ _).symm
end Arrays

section Tail
variable (hX : IsReal (aX m c)) (hG : IsReal (aG m c)) (hW : IsReal (aW m c)) (hP : IsReal (aP m c)) (hQ : IsReal (aQ m c)) (hR : IsReal (aR m c))

/-- The contents of a buffer the host lines after the region write. -/
abbrev tail (b : Ref sig .tc) := Pipeline.afterTail₀ cfgs (dats m) 0 (V0 m) [hostOps1] c b
theorem hinj0 : Function.Injective (Pipeline.arrRef spec0) := winFacts0.arr_inj
theorem wa8 : Pipeline.withArrays (cfgs 0).spec c (V0 m c) (fun w => (dats m 0 c).arrAt w (cfgs 0).N) (Proc.tc.devRef main_v7_1) = (dats m 0 c).arrAt 8 cfg0.N :=
  Pipeline.withArrays_arr spec0 hinj0 c (V0 m c) _ 8
theorem wa9 : Pipeline.withArrays (cfgs 0).spec c (V0 m c) (fun w => (dats m 0 c).arrAt w (cfgs 0).N) (Proc.tc.devRef main_v7_2) = (dats m 0 c).arrAt 9 cfg0.N :=
  Pipeline.withArrays_arr spec0 hinj0 c (V0 m c) _ 9

include hX hG hP hQ hR in
theorem tail_dw : (tail m c main_v8 : FVec Ideal S1024x1536 .f32) = dwArr (aX m c) (aG m c) (aP m c) (aQ m c) (aR m c) := by
  unfold tail Pipeline.afterTail₀; rw [List.flatten_cons, List.flatten_nil, List.append_nil]; after_results_simp
  rw [wa8, arr8_at m c hX hG hP hQ hR]
  funext i
  idx_vars i
  pointwise
  exact congrArg (fun a : ℝ => (a : EReal)) (sum_points 512 rfl (fun n => dwOf (flat (aX m c)) (vec (aG m c)) (cot m c) n i0 i1) rowOf fun _ _ => rfl)
include hX hW hP hQ hR in
theorem tail_dg : (tail m c main_v9 : FVec Ideal S1024 .f32) = dgArr (aX m c) (aW m c) (aP m c) (aQ m c) (aR m c) := by
  unfold tail Pipeline.afterTail₀; rw [List.flatten_cons, List.flatten_nil, List.append_nil]; after_results_simp
  rw [wa9, arr9_at m c hX hW hP hQ hR]
  funext i
  idx_vars i
  pointwise
  rw [← coe_sum]
  exact congrArg (fun a : ℝ => (a : EReal)) (sum_lanes 64 rfl (fun n => dgOf (flat (aX m c)) (mat (aW m c)) (cot m c) n i0) rowOf (fun _ _ => rfl) (fun s p => ⟨p.val * 8 + s.val, by omega⟩) fun _ _ => rfl)
end Tail

/-- The kernel's run: it ends with the three results and its arguments unchanged. -/
theorem run_real (ρ : Dev nD → PrngReg) (hX : ∀ c, IsReal (aX m c)) (hG : ∀ c, IsReal (aG m c)) (hW : ∀ c, IsReal (aW m c)) (hP : ∀ c, IsReal (aP m c)) (hQ : ∀ c, IsReal (aQ m c)) (hR : ∀ c, IsReal (aR m c)) (hD : ∀ c, IsReal (aD m c)) :
    θ_run defs (onTc (τ := τ) (main (F := Ideal))) ⟨m, fun _ => 0, ρ⟩ fun r => ∀ c : Dev nD,
      r.2.mem ((c.tc : Thread nD τ).loc main_v7_0) = dxArr (aX m c) (aD m c) (aG m c) (aW m c) (aP m c) (aQ m c) (aR m c)
      ∧ r.2.mem ((c.tc : Thread nD τ).loc main_v8) = dwArr (aX m c) (aG m c) (aP m c) (aQ m c) (aR m c)
      ∧ r.2.mem ((c.tc : Thread nD τ).loc main_v9) = dgArr (aX m c) (aW m c) (aP m c) (aQ m c) (aR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ⟨(h.1 c).1, (h.1 c).2.1, (h.1 c).2.2, h.2 c⟩)
    (θ_run_and ((θ_run defs _ _).mono (fun _ h (c : Dev nD) => (⟨((h c).1 7).trans (arr7_at m c (hX c) (hG c) (hW c) (hP c) (hQ c) (hR c) (hD c)),
      ((h c).2 main_v8 (Pipeline.mem_restRefs_of main_v8 (by decide) (by decide))).trans (tail_dw m c (hX c) (hG c) (hP c) (hQ c) (hR c)),
      ((h c).2 main_v9 (Pipeline.mem_restRefs_of main_v9 (by decide) (by decide))).trans (tail_dg m c (hX c) (hW c) (hP c) (hQ c) (hR c))⟩ :
        _ ∧ _ ∧ _)) (run_main m ρ)) (unchanged m ρ))
end Cert.Kernel4Ideal.Value
end
-- ==== Proof.MixInProof.lean ====
/- The input projection's claim: the reference's results, and that kernel and reference end with the same three. -/
module

public import proofs.«01_k».proof.Defs
public import proofs.«01_k».proof.Proof.Gen.Pre_finite4
public import proofs.«01_k».proof.Proof.Gen.Reference4Ideal.Run
public import proofs.«01_k».proof.Proof.MixInKernel
public import Idealize.ShloMosaic.Lib.Pointwise
public import Idealize.ShloMosaic.Lib.Claim

@[expose] public section

set_option maxRecDepth 16384

noncomputable section

open Idealize.ShloMosaic Idealize.SL.Sem
open Cert.RealOps Cert.Mix Cert.MixIn
open Cert.Loss (sumRows)

namespace Cert.Reference4Ideal.Value
open Cert.Reference4Ideal Cert.Reference4Ideal.Gen
variable (m : (ℓ : Loc nD τ sig) → Buf (Elt Ideal) ℓ) (c : Dev nD)

/-- The seven arguments on a core. -/
abbrev aX : FVec Ideal S4x2048x1024 .f32 := m ((c.tc : Thread nD τ).loc main_arg0)
abbrev aG : FVec Ideal S1024 .f32 := m ((c.tc : Thread nD τ).loc main_arg1)
abbrev aW : FVec Ideal S1024x1536 .f32 := m ((c.tc : Thread nD τ).loc main_arg2)
abbrev aP : FVec Ideal S4x2048x512 .f32 := m ((c.tc : Thread nD τ).loc main_arg3)
abbrev aQ : FVec Ideal S4x2048x512 .f32 := m ((c.tc : Thread nD τ).loc main_arg4)
abbrev aR : FVec Ideal S4x2048x512 .f32 := m ((c.tc : Thread nD τ).loc main_arg5)
abbrev aD : FVec Ideal S4x2048x1024 .f32 := m ((c.tc : Thread nD τ).loc main_arg6)

/-- The contraction index of the weights' gradient: sequence and position. -/
def bie : Fin 4 × Fin 2048 ≃ dot_S4x2048x1536_S4x2048x1024_S1536x1024_01_01_2_2_n_n.contr.Idx where
  toFun p := fun a => match a with
    | ⟨0, _⟩ => p.1
    | ⟨1, _⟩ => p.2
  invFun k := (k ⟨0, by decide⟩, k ⟨1, by decide⟩)
  left_inv _ := rfl
  right_inv k := by
    funext a
    match a with
    | ⟨0, _⟩ => rfl
    | ⟨1, _⟩ => rfl

/-- The product summed over sequence and position. -/
theorem dot_bie (L : FVec Ideal S4x2048x1536 .f32) (R : FVec Ideal S4x2048x1024 .f32) (i : Fin 1536) (j : Fin 1024) :
    Ideal.matmul dot_S4x2048x1536_S4x2048x1024_S1536x1024_01_01_2_2_n_n L R (fun _ => 0) (ix2 i j) = ∑ b : Fin 4, ∑ r : Fin 2048, L (ix3 b r i) * R (ix3 b r j) := by
  refine (zero_add _).trans ((Equiv.sum_comp bie _).symm.trans ?_)
  simp only [Fintype.sum_prod_type]
  refine Finset.sum_congr rfl fun b _ => Finset.sum_congr rfl fun r _ => ?_
  refine congrArg₂ (· * ·) (congrArg L ?_) (congrArg R ?_)
  all_goals
    funext x; apply Fin.ext
    match x with
    | ⟨0, _⟩ => rfl
    | ⟨1, _⟩ => rfl
    | ⟨2, _⟩ => rfl

/-- The three cotangents' row, each block put at its columns with zeros around it, and added. -/
theorem side_if (p q r : Fin 512 → ℝ) (j : Fin 1536) :
    (((if h : 1024 ≤ j.val ∧ j.val - 1024 < 512 then ((r ⟨j.val - 1024, h.2⟩ : ℝ) : EReal) else 0) + if h : 512 ≤ j.val ∧ j.val - 512 < 512 then ((q ⟨j.val - 512, h.2⟩ : ℝ) : EReal) else 0)
      + if h : j.val < 512 then ((p ⟨j.val, h⟩ : ℝ) : EReal) else 0) = ((side ![p, q, r] j : ℝ) : EReal) := by
  have hj := j.isLt
  by_cases h0 : j.val < 512
  · rw [dif_neg (by omega), dif_neg (by omega), dif_pos h0, zero_add, zero_add]
    have e : j = col 0 ⟨j.val, h0⟩ := Fin.ext (by simp [col])
    conv_rhs => rw [e, side_col]
    rfl
  · by_cases h1 : j.val < 1024
    · rw [dif_neg (by omega), dif_pos (by omega), dif_neg h0, zero_add, add_zero]
      have e : j = col 1 ⟨j.val - 512, by omega⟩ := Fin.ext (by simp [col]; omega)
      conv_rhs => rw [e, side_col]
      rfl
    · rw [dif_pos (by omega), dif_neg (by omega), dif_neg h0, add_zero, add_zero]
      have e : j = col 2 ⟨j.val - 1024, by omega⟩ := Fin.ext (by simp [col]; omega)
      conv_rhs => rw [e, side_col]
      rfl
theorem side_cots (p q r : FVec Ideal S4x2048x512 .f32) (n : Fin 8192) : ![flat p n, flat q n, flat r n] = fun s => cots p q r s n := by
  funext s; fin_cases s <;> rfl

/-- The three cotangents, each put at its columns with zeros around it, and added. -/
def placed : FVec Ideal S4x2048x1536 .f32 :=
  addf (addf (pad S4x2048x1536 ![0, 0, 1024] ![0, 0, 0] ![0, 0, 0] (m ((c.tc : Thread nD τ).loc main_arg5)) (constant S_ .f32 0x00000000#32) pads_S4x2048x512_S4x2048x1536_000_000_102400 h_S_) (pad S4x2048x1536 ![0, 0, 512] ![0, 0, 512] ![0, 0, 0] (m ((c.tc : Thread nD τ).loc main_arg4)) (constant S_ .f32 0x00000000#32) pads_S4x2048x512_S4x2048x1536_000_000_5125120 h_S_)) (pad S4x2048x1536 ![0, 0, 0] ![0, 0, 1024] ![0, 0, 0] (m ((c.tc : Thread nD τ).loc main_arg3)) (constant S_ .f32 0x00000000#32) pads_S4x2048x512_S4x2048x1536_000_000_010240 h_S_)
theorem pads_at {p q r : FVec Ideal S4x2048x512 .f32} (hp : IsReal p) (hq : IsReal q) (hr : IsReal r) (b : Fin 4) (i : Fin 2048) (j : Fin 1536) :
    addf (addf (pad S4x2048x1536 ![0, 0, 1024] ![0, 0, 0] ![0, 0, 0] r (constant S_ .f32 0x00000000#32) pads_S4x2048x512_S4x2048x1536_000_000_102400 h_S_)
      (pad S4x2048x1536 ![0, 0, 512] ![0, 0, 512] ![0, 0, 0] q (constant S_ .f32 0x00000000#32) pads_S4x2048x512_S4x2048x1536_000_000_5125120 h_S_))
      (pad S4x2048x1536 ![0, 0, 0] ![0, 0, 1024] ![0, 0, 0] p (constant S_ .f32 0x00000000#32) pads_S4x2048x512_S4x2048x1536_000_000_010240 h_S_) (ix3 b i j)
      = ((side (fun s => cots p q r s ⟨b.val * 2048 + i.val, by omega⟩) j : ℝ) : EReal) := by
  pointwise [flat_coe' hp, flat_coe' hq, flat_coe' hr]
  rw [side_if, side_cots]
theorem placed_at (hP : IsReal (aP m c)) (hQ : IsReal (aQ m c)) (hR : IsReal (aR m c)) (b : Fin 4) (i : Fin 2048) (j : Fin 1536) :
    placed m c (ix3 b i j) = ((side (fun s => cots (aP m c) (aQ m c) (aR m c) s ⟨b.val * 2048 + i.val, by omega⟩) j : ℝ) : EReal) :=
  pads_at hP hQ hR b i j
theorem placed_row (hP : IsReal (aP m c)) (hQ : IsReal (aQ m c)) (hR : IsReal (aR m c)) (n : Fin 8192) (j : Fin 1536) :
    placed m c (ix3 ⟨n.val / 2048, by omega⟩ ⟨n.val % 2048, by omega⟩ j) = ((side (fun s => cots (aP m c) (aQ m c) (aR m c) s n) j : ℝ) : EReal) := by
  rw [placed_at m c hP hQ hR]
  exact congrArg (fun n => ((side (fun s => cots (aP m c) (aQ m c) (aR m c) s n) j : ℝ) : EReal)) (Fin.ext (by simp only []; omega))

section Results
variable (hX : IsReal (aX m c)) (hG : IsReal (aG m c)) (hW : IsReal (aW m c)) (hP : IsReal (aP m c)) (hQ : IsReal (aQ m c)) (hR : IsReal (aR m c)) (hD : IsReal (aD m c))

/-- The reference's formula of a row is the spec's. -/
theorem dx_row (v e : Fin 1024 → ℝ) (d : Fin 1536 → ℝ) (W : Fin 1024 → Fin 1536 → ℝ) (g : Fin 1024 → ℝ) (k : Fin 1024) :
    (e k : EReal) + (∑ x, (d x : EReal) * (W k x : EReal)) * (g k : EReal) * Ideal.rsqrt (msq v : EReal)
      + (v k : EReal) * (∑ _x : Fin 1, Ideal.div ((∑ x, (v x : EReal) * ((∑ y, (d y : EReal) * (W x y : EReal)) * (g x : EReal))) *
      (((-(1 / 2) : ℝ) : EReal) * Ideal.div (Ideal.rsqrt (msq v : EReal)) (msq v : EReal))) ((1024 : ℝ) : EReal))
      + (∑ _x : Fin 1, Ideal.div ((∑ x, (v x : EReal) * ((∑ y, (d y : EReal) * (W x y : EReal)) * (g x : EReal))) *
      (((-(1 / 2) : ℝ) : EReal) * Ideal.div (Ideal.rsqrt (msq v : EReal)) (msq v : EReal))) ((1024 : ℝ) : EReal)) * (v k : EReal)
      = ((e k + rmsGrad v (fun k => (∑ x, d x * W k x) * g k) k : ℝ) : EReal) := by
  simp only [rsqrt_msq, div_msq, ← EReal.coe_mul, ← coe_sum, div_1024, Fin.sum_univ_one, ← EReal.coe_add]
  refine congrArg (fun a : ℝ => (a : EReal)) ?_
  have h := rmsGrad_eq v (fun k => (∑ x, d x * W k x) * g k) k
  push_cast at h
  rw [← h]
  ring

/-- An array of the batch read as rows. -/
theorem flat_rows (Y : FVec Ideal S4x2048x1024 .f32) (f : Fin 8192 → Fin 1024 → ℝ) (h : ∀ (b : Fin 4) (i : Fin 2048) (k : Fin 1024), Y (ix3 b i k) = ((f ⟨b.val * 2048 + i.val, by omega⟩ k : ℝ) : EReal)) :
    shapeCast S8192x1024 Y shapeCasts_S4x2048x1024_S8192x1024 = fun i => ((f (i 0) (i 1) : ℝ) : EReal) := by
  funext j
  idx_vars j
  pointwise [h]
  exact congrArg (fun n => ((f n j1 : ℝ) : EReal)) (Fin.ext (by simp only []; omega))

include hX hG hW hP hQ hR hD in
theorem dx_eq : (res_out0 (F := Ideal) m c : FVec Ideal S8192x1024 .f32) = dxArr (aX m c) (aD m c) (aG m c) (aW m c) (aP m c) (aQ m c) (aR m c) := by
  unfold res_out0 res_main_v49
  have h0 := flat_coe' hX
  have h1 := vec_coe hG
  have h2 := mat_coe hW
  have h3 := placed_at m c hP hQ hR
  have h6 := flat_coe' hD
  rw [← placed]
  refine flat_rows _ (dxOf (flat (aX m c)) (vec (aG m c)) (mat (aW m c)) (cots (aP m c) (aQ m c) (aR m c)) (flat (aD m c))) fun b i k => ?_
  pointwise [h0, h1, h2, h3, h6, ofBits_1024, ofBits_eps, ofBits_half, ofBits_neg_half, ofBits_two, msq_1024]
  exact dx_row _ _ _ _ _ k
end Results

/-- The reference's run: it ends with the three results and its arguments unchanged. -/
theorem run_real (ρ : Dev nD → PrngReg) (hX : ∀ c, IsReal (aX m c)) (hG : ∀ c, IsReal (aG m c)) (hW : ∀ c, IsReal (aW m c)) (hP : ∀ c, IsReal (aP m c)) (hQ : ∀ c, IsReal (aQ m c)) (hR : ∀ c, IsReal (aR m c)) (hD : ∀ c, IsReal (aD m c)) :
    θ_run defs (onTc (τ := τ) (main (F := Ideal))) ⟨m, fun _ => 0, ρ⟩ fun r => ∀ c : Dev nD,
      r.2.mem ((c.tc : Thread nD τ).loc main_v49) = dxArr (aX m c) (aD m c) (aG m c) (aW m c) (aP m c) (aQ m c) (aR m c)
      ∧ r.2.mem ((c.tc : Thread nD τ).loc main_v26) = dwArr (aX m c) (aG m c) (aP m c) (aQ m c) (aR m c)
      ∧ r.2.mem ((c.tc : Thread nD τ).loc main_v33) = dgArr (aX m c) (aW m c) (aP m c) (aQ m c) (aR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ⟨(h c).1.trans (dx_eq m c (hX c) (hG c) (hW c) (hP c) (hQ c) (hR c) (hD c)),
    (h c).2.1.trans ?_, (h c).2.2.1.trans ?_, (h c).2.2.2⟩) (run m ρ)
  all_goals
    clear h
    have h0 := flat_coe' (hX c)
    have h1 := vec_coe (hG c)
    have h2 := mat_coe (hW c)
    have h3 := placed_at m c (hP c) (hQ c) (hR c)
  · funext j
    idx_vars j
    rw [← placed]
    pointwise [dot_bie, h0, h1, h3, ofBits_1024, ofBits_eps, msq_1024]
    simp only [rsqrt_msq]
    simp only [← EReal.coe_mul, ← coe_sum]
    rfl
  · funext j
    idx_vars j
    rw [← placed]
    pointwise [hostReduceAdd_lead, h0, h2, h3, ofBits_1024, ofBits_eps, msq_1024]
    simp only [rsqrt_msq]
    simp only [← EReal.coe_mul, ← coe_sum, Fin.sum_univ_one]
    exact congrArg (fun a : ℝ => (a : EReal)) (Finset.sum_congr rfl fun b _ => Finset.sum_congr rfl fun r _ => mul_comm _ _)
end Cert.Reference4Ideal.Value

namespace Cert.MixIn

/-- What the precondition says: the seven arrays hold reals. -/
theorem isReal_of_pre {x d : FVec Ideal (⟨3, ![4, 2048, 1024]⟩ : Shape) .f32} {g : FVec Ideal (⟨1, ![1024]⟩ : Shape) .f32}
    {w : FVec Ideal (⟨2, ![1024, 1536]⟩ : Shape) .f32} {p q r : FVec Ideal (⟨3, ![4, 2048, 512]⟩ : Shape) .f32}
    (h : Cert.Pre_finite4.fn (F := Ideal) x g w p q r d = fun _ => 1#1) : IsReal x ∧ IsReal g ∧ IsReal w ∧ IsReal p ∧ IsReal q ∧ IsReal r ∧ IsReal d := by
  obtain ⟨e, h6⟩ := IntOp.andi_eq_one.1 (congrFun h ix0)
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨isReal_of_all _ _ _ _ _ _ h0, isReal_of_all _ _ _ _ _ _ h1, isReal_of_all _ _ _ _ _ _ h2, isReal_of_all _ _ _ _ _ _ h3, isReal_of_all _ _ _ _ _ _ h4, isReal_of_all _ _ _ _ _ _ h5, isReal_of_all _ _ _ _ _ _ h6⟩

theorem algebraic : Cert.algebraic_Kernel4Ideal_Reference4Ideal_pre_finite4 := by
  intro m g m' g' hp ha
  have hr := fun c => isReal_of_pre (hp c)
  have e0 : ∀ c, Reference4Ideal.Value.aX m' c = Kernel4Ideal.Value.aX m c := fun c => (ha c).1
  have e1 : ∀ c, Reference4Ideal.Value.aG m' c = Kernel4Ideal.Value.aG m c := fun c => (ha c).2.1
  have e2 : ∀ c, Reference4Ideal.Value.aW m' c = Kernel4Ideal.Value.aW m c := fun c => (ha c).2.2.1
  have e3 : ∀ c, Reference4Ideal.Value.aP m' c = Kernel4Ideal.Value.aP m c := fun c => (ha c).2.2.2.1
  have e4 : ∀ c, Reference4Ideal.Value.aQ m' c = Kernel4Ideal.Value.aQ m c := fun c => (ha c).2.2.2.2.1
  have e5 : ∀ c, Reference4Ideal.Value.aR m' c = Kernel4Ideal.Value.aR m c := fun c => (ha c).2.2.2.2.2.1
  have e6 : ∀ c, Reference4Ideal.Value.aD m' c = Kernel4Ideal.Value.aD m c := fun c => (ha c).2.2.2.2.2.2
  have R := Reference4Ideal.Value.run_real m' g' (fun c => e0 c ▸ (hr c).1) (fun c => e1 c ▸ (hr c).2.1) (fun c => e2 c ▸ (hr c).2.2.1)
    (fun c => e3 c ▸ (hr c).2.2.2.1) (fun c => e4 c ▸ (hr c).2.2.2.2.1) (fun c => e5 c ▸ (hr c).2.2.2.2.2.1) (fun c => e6 c ▸ (hr c).2.2.2.2.2.2)
  have R' := (θ_run Reference4Ideal.defs _ _).mono (fun r h c => by
    obtain ⟨h1, h2, h3, h4⟩ := h c
    rw [e0, e1, e2, e3, e4, e5, e6] at h1
    rw [e0, e1, e3, e4, e5] at h2
    rw [e0, e2, e3, e4, e5] at h3
    exact And.intro h1 (And.intro h2 (And.intro h3 h4))) R
  exact ⟨_, _, _, Kernel4Ideal.Value.run_real m g (fun c => (hr c).1) (fun c => (hr c).2.1) (fun c => (hr c).2.2.1)
    (fun c => (hr c).2.2.2.1) (fun c => (hr c).2.2.2.2.1) (fun c => (hr c).2.2.2.2.2.1) (fun c => (hr c).2.2.2.2.2.2), R'⟩

/-- The reference runs, leaves its arguments unchanged, and every counter ends at zero. -/
theorem frame_ref : Cert.quiescent_Reference4Ideal := fun m g _ => (θ_run Reference4Ideal.defs _ _).mono
    (fun r h => ⟨fun c => (h c).2.2.2, sem_eq_zero_of_no_sems (by decide) r.2⟩) (Reference4Ideal.Value.run (F := Ideal) m g)

end Cert.MixIn

end
-- ==== Proof.FwdSpec.lean ====
/- The forward calls' mathematics over the extended reals: no entry need be finite. -/
module

public import proofs.«01_k».proof.Proof.RealOps

@[expose] public section

noncomputable section

open Idealize.ShloMosaic

namespace Cert.Fwd

/-- The reciprocal root mean square of a row of as many entries as the word `D` says. -/
def rs (D : BitVec 32) {n : ℕ} (v : Fin n → EReal) : EReal :=
  Ideal.rsqrt (Ideal.div (∑ k, v k * v k) (Ideal.ofBits .f32 D) + Ideal.ofBits .f32 0x358637BD#32)

/-- Row `n` of a batch of four sequences of 2048 positions. -/
def row {d : ℕ} (x : FVec Ideal (⟨3, ![4, 2048, d]⟩ : Shape) .f32) (n : Fin 8192) (k : Fin d) : EReal :=
  x (ix3 (⟨n.val / 2048, by omega⟩ : Fin 4) (⟨n.val % 2048, by omega⟩ : Fin 2048) k)

/-- The input projection: each row normed, with its gain, times the weights. -/
def zArr (x : FVec Ideal (⟨3, ![4, 2048, 1024]⟩ : Shape) .f32) (g : FVec Ideal (⟨1, ![1024]⟩ : Shape) .f32) (w : FVec Ideal (⟨2, ![1024, 1536]⟩ : Shape) .f32) :
    FVec Ideal (⟨2, ![8192, 1536]⟩ : Shape) .f32 :=
  fun i => ∑ k : Fin 1024, (row x (i 0) k * rs 0x44800000#32 (row x (i 0)) * g (ix1 k)) * w (ix2 k (i 1))

/-- The output projection: the residual, and the two groups' normed rows times their halves of the weights. -/
def oArr (y y' : FVec Ideal (⟨3, ![4, 2048, 512]⟩ : Shape) .f32) (g g' : FVec Ideal (⟨1, ![512]⟩ : Shape) .f32) (w : FVec Ideal (⟨2, ![1024, 1024]⟩ : Shape) .f32)
    (x : FVec Ideal (⟨3, ![4, 2048, 1024]⟩ : Shape) .f32) : FVec Ideal (⟨2, ![8192, 1024]⟩ : Shape) .f32 :=
  fun i => row x (i 0) (i 1) + (∑ k : Fin 512, (row y (i 0) k * rs 0x44000000#32 (row y (i 0)) * g (ix1 k)) * w (ix2 (Fin.castAdd 512 k : Fin 1024) (i 1)))
    + ∑ k : Fin 512, (row y' (i 0) k * rs 0x44000000#32 (row y' (i 0)) * g' (ix1 k)) * w (ix2 (Fin.natAdd 512 k : Fin 1024) (i 1))

end Cert.Fwd

end
-- ==== Proof.GmFwd.lean ====
/- The gated unit's forward call: kernel and reference end with the same array, whatever the arguments hold. -/
module

public import proofs.«01_k».proof.Defs
public import proofs.«01_k».proof.Proof.Gen.Kernel5Ideal.Frame
public import proofs.«01_k».proof.Proof.Gen.Reference5Ideal.Run
public import proofs.«01_k».proof.Proof.FwdSpec
public import proofs.«01_k».proof.Proof.GmSpec
public import Idealize.ShloMosaic.Lib.Pipeline.ValueKit
public import Idealize.ShloMosaic.Lib.Pointwise
public import Idealize.ShloMosaic.Lib.WordCmp
public import Idealize.ShloMosaic.Lib.Claim
@[expose] public section

set_option maxRecDepth 16384
noncomputable section
open Idealize.ShloMosaic Idealize.ShloMosaic.TcCoe Idealize.SL.Sem
open Idealize.ShloMosaic.Pipeline (Dat)
open Cert.RealOps Cert.Fwd
open Cert.Gm (geluC col)

namespace Cert.GmFwd
/-- The gelu with a tanh, over the extended reals. -/
def geluE (x : EReal) : EReal :=
  Ideal.ofBits .f32 0x3F000000#32 * x * (1 + Ideal.tanh (Ideal.ofBits .f32 0x3F4C422A#32 * (x + ((geluC : ℝ) : EReal) * x * x * x)))
/-- The same with the cube and the half multiplied first. -/
theorem geluE_cube (x : EReal) :
    x * (Ideal.ofBits .f32 0x3F000000#32 * (1 + Ideal.tanh (Ideal.ofBits .f32 0x3F4C422A#32 * (x + ((geluC : ℝ) : EReal) * (x * x * x))))) = geluE x := by
  unfold geluE
  rw [← mul_assoc, mul_comm x (Ideal.ofBits .f32 0x3F000000#32), ← mul_assoc ((geluC : ℝ) : EReal) (x * x) x, ← mul_assoc ((geluC : ℝ) : EReal) x x]
/-- Row `r` and column `e` of head `h` of a chunk of 128 rows: the gelu of `u` times the gate. -/
def chunk (U V : Fin 128 → Fin 512 → EReal) (G : Fin 512 → EReal) (W : Fin 4 → Fin 128 → Fin 128 → EReal) (B : Fin 4 → Fin 128 → EReal)
    (h : Fin 4) (r e : Fin 128) : EReal :=
  geluE (U r (col h e)) * ((∑ s : Fin 128, W h r s * (geluE (V s (col h e)) * rs 0x43000000#32 (fun k : Fin 128 => geluE (V s (col h k))) * G (col h e))) + B h r)
/-- The weights' lower triangle. -/
def low (w : FVec Ideal (⟨3, ![4, 128, 128]⟩ : Shape) .f32) (h : Fin 4) (r s : Fin 128) : EReal := if s.val ≤ r.val then w (ix3 h r s) else 0
/-- Rows of chunk `q` in the column block that starts at column `o`. -/
def part (z : FVec Ideal (⟨3, ![4, 2048, 1536]⟩ : Shape) .f32) (o : ℕ) (ho : o + 512 ≤ 1536) (n : Fin 8192) (k : Fin 512) : EReal := row z n ⟨o + k.val, by omega⟩
def rows (x : Fin 8192 → Fin 512 → EReal) (q : Fin 64) (r : Fin 128) (k : Fin 512) : EReal := x ⟨q.val * 128 + r.val, by omega⟩ k
/-- The unit's output. -/
def yArr (z : FVec Ideal (⟨3, ![4, 2048, 1536]⟩ : Shape) .f32) (g : FVec Ideal (⟨1, ![512]⟩ : Shape) .f32) (w : FVec Ideal (⟨3, ![4, 128, 128]⟩ : Shape) .f32)
    (b : FVec Ideal (⟨2, ![4, 128]⟩ : Shape) .f32) (n : Fin 8192) (k : Fin 512) : EReal :=
  chunk (rows (part z 512 (by omega)) ⟨n.val / 128, by omega⟩) (rows (part z 1024 (by omega)) ⟨n.val / 128, by omega⟩) (fun k => g (ix1 k)) (low w) (fun h r => b (ix2 h r))
    ⟨k.val / 128, by omega⟩ ⟨n.val % 128, by omega⟩ ⟨k.val % 128, by omega⟩
end Cert.GmFwd
open Cert.GmFwd

namespace Cert.Kernel5Ideal.Value
open Cert.Kernel5Ideal Cert.Kernel5Ideal.Gen
abbrev W512 := FVec Ideal S128x512 .f32
abbrev W128 := FVec Ideal S128x128 .f32
abbrev k1 (w : BitVec 32) : FVec Ideal S128x1 .f32 := broadcast S128x1 (Scalar.ofBits (F := Ideal) .f32 w)

/-- One head's gate: the normed rows with the gain, mixed by the head's weights, and the bias. -/
def gateK (a : W128) (g : Vec Ideal S1x128 .f32) (w : Vec Ideal S1x128x128 .bf16) (b : W128) : W128 :=
  addf (matmul (φ₁ := .bf16) (φ₂ := .bf16) dot_S128x128_S128x128_S128x128_1_0_0_1_n_n none (shapeCast S128x128 w shapeCasts_S1x128x128_S128x128)
    (truncf .bf16 (mulf (mulf a (broadcastTo S128x128 (rsqrt (addf (divf (shapeCast S128x1 (multiReduction .add [1] S128 (mulf a a) 0x00000000#32
      reduces_S128x128_S128 (.inl rfl) rfl) shapeCasts_S128_S128x1) (k1 0x43000000#32)) (k1 0x358637BD#32))) broadcasts_S128x1_S128x128))
      (broadcastTo S128x128 (shapeCast S1x128 g shapeCasts_S1x128_S1x128) broadcasts_S1x128_S128x128)) bitsLt_bf16_f32)
    (constant S128x128 .f32 0x00000000#32)) (shapeCast S128x128 b shapeCasts_S128x128_S128x128)
def hd0 (x : W512) : W128 := extractStridedSlice S128x128 ![0, 0] x slices_S128x512_o0_0_S128x128
def hd1 (x : W512) : W128 := extractStridedSlice S128x128 ![0, 128] x slices_S128x512_o0_128_S128x128
def hd2 (x : W512) : W128 := extractStridedSlice S128x128 ![0, 256] x slices_S128x512_o0_256_S128x128
def hd3 (x : W512) : W128 := extractStridedSlice S128x128 ![0, 384] x slices_S128x512_o0_384_S128x128
/-- The four heads side by side. -/
def cat (a b c d : W128) : W512 :=
  concatenate S128x512 1 [⟨S128x128, a⟩, ⟨S128x128, b⟩, ⟨S128x128, c⟩, ⟨S128x128, d⟩] concatenates_S128x128_S128x128_S128x128_S128x128_S128x512_d1
/-- What is stored of a chunk. -/
def chunkK (u v : W512) (g0 g1 g2 g3 : Vec Ideal S1x128 .f32) (w0 w1 w2 w3 : Vec Ideal S1x128x128 .bf16) (b0 b1 b2 b3 : W128) : W512 :=
  mulf (k0_pay1 u) (cat (gateK (hd0 (k0_pay2 v)) g0 w0 b0) (gateK (hd1 (k0_pay2 v)) g1 w1 b1) (gateK (hd2 (k0_pay2 v)) g2 w2 b2) (gateK (hd3 (k0_pay2 v)) g3 w3 b3))

theorem named_c : (Named.named κ "gelu_c" 0x3D372713#32 : Ideal .f32) = ((geluC : ℝ) : EReal) := by
  unfold geluC
  rfl
theorem gelu1_at (x : W512) (r : Fin 128) (k : Fin 512) : k0_pay1 (F := Ideal) x (ix2 r k) = geluE (x (ix2 r k)) := by
  pointwise [k0_pay1, named_c]
  rfl
theorem gelu2_at (x : W512) (r : Fin 128) (k : Fin 512) : k0_pay2 (F := Ideal) x (ix2 r k) = geluE (x (ix2 r k)) := gelu1_at x r k
theorem gate_at (a : W128) (g : Vec Ideal S1x128 .f32) (w : Vec Ideal S1x128x128 .bf16) (b : W128) (r e : Fin 128) : gateK a g w b (ix2 r e) =
    (∑ s : Fin 128, w (ix3 (0 : Fin 1) r s) * (a (ix2 s e) * rs 0x43000000#32 (fun k : Fin 128 => a (ix2 s k)) * g (ix2 (0 : Fin 1) e))) + b (ix2 r e) := by
  pointwise [gateK]
  rfl
theorem hd0_at (x : W512) (r k : Fin 128) : hd0 x (ix2 r k) = x (ix2 r (col 0 k)) := by pointwise [hd0]; exact congrArg (fun j => x (ix2 r j)) (Fin.ext (by simp [col]))
theorem hd1_at (x : W512) (r k : Fin 128) : hd1 x (ix2 r k) = x (ix2 r (col 1 k)) := by pointwise [hd1]; exact congrArg (fun j => x (ix2 r j)) (Fin.ext (by simp [col]))
theorem hd2_at (x : W512) (r k : Fin 128) : hd2 x (ix2 r k) = x (ix2 r (col 2 k)) := by pointwise [hd2]; exact congrArg (fun j => x (ix2 r j)) (Fin.ext (by simp [col]))
theorem hd3_at (x : W512) (r k : Fin 128) : hd3 x (ix2 r k) = x (ix2 r (col 3 k)) := by pointwise [hd3]; exact congrArg (fun j => x (ix2 r j)) (Fin.ext (by simp [col]))

/-- A column of the four heads side by side is a column of its head. -/
theorem cat_at (a b c d : W128) (Z : Fin 4 → Fin 128 → Fin 128 → EReal) (h0 : ∀ r k, a (ix2 r k) = Z 0 r k) (h1 : ∀ r k, b (ix2 r k) = Z 1 r k)
    (h2 : ∀ r k, c (ix2 r k) = Z 2 r k) (h3 : ∀ r k, d (ix2 r k) = Z 3 r k) (h : Fin 4) (r e : Fin 128) : cat a b c d (ix2 r (col h e)) = Z h r e := by
  match h with
  | 0 => pointwise [cat, col, h0]
  | 1 => pointwise [cat, col, h1]
  | 2 =>
    pointwise [cat, col, h2]
    rw [dif_neg (by omega), dif_neg (by omega), dif_pos (by omega)]
    exact congrArg (Z 2 r) (Fin.ext (by simp only []; omega))
  | 3 =>
    pointwise [cat, col, h3]
    rw [dif_neg (by omega), dif_neg (by omega), dif_neg (by omega)]
    exact congrArg (Z 3 r) (Fin.ext (by simp only []; omega))

section Chunk
variable {u v : W512} {g0 g1 g2 g3 : Vec Ideal S1x128 .f32} {w0 w1 w2 w3 : Vec Ideal S1x128x128 .bf16} {b0 b1 b2 b3 : W128}
  {U V : Fin 128 → Fin 512 → EReal} {G : Fin 512 → EReal} {W : Fin 4 → Fin 128 → Fin 128 → EReal} {B : Fin 4 → Fin 128 → EReal}
  (hu : ∀ r k, u (ix2 r k) = U r k) (hv : ∀ r k, v (ix2 r k) = V r k)
  (hg0 : ∀ k, g0 (ix2 (0 : Fin 1) k) = G (col 0 k)) (hg1 : ∀ k, g1 (ix2 (0 : Fin 1) k) = G (col 1 k)) (hg2 : ∀ k, g2 (ix2 (0 : Fin 1) k) = G (col 2 k)) (hg3 : ∀ k, g3 (ix2 (0 : Fin 1) k) = G (col 3 k))
  (hw0 : ∀ r k, w0 (ix3 (0 : Fin 1) r k) = W 0 r k) (hw1 : ∀ r k, w1 (ix3 (0 : Fin 1) r k) = W 1 r k) (hw2 : ∀ r k, w2 (ix3 (0 : Fin 1) r k) = W 2 r k) (hw3 : ∀ r k, w3 (ix3 (0 : Fin 1) r k) = W 3 r k)
  (hb0 : ∀ r k, b0 (ix2 r k) = B 0 r) (hb1 : ∀ r k, b1 (ix2 r k) = B 1 r) (hb2 : ∀ r k, b2 (ix2 r k) = B 2 r) (hb3 : ∀ r k, b3 (ix2 r k) = B 3 r)
include hu hv hg0 hg1 hg2 hg3 hw0 hw1 hw2 hw3 hb0 hb1 hb2 hb3 in
theorem chunkK_at (h : Fin 4) (r e : Fin 128) : chunkK u v g0 g1 g2 g3 w0 w1 w2 w3 b0 b1 b2 b3 (ix2 r (col h e)) = chunk U V G W B h r e := by
  unfold chunkK chunk
  change k0_pay1 u (ix2 r (col h e)) * cat _ _ _ _ (ix2 r (col h e)) = _
  rw [gelu1_at, hu, cat_at _ _ _ _ (fun h r e => (∑ s : Fin 128, W h r s * (geluE (V s (col h e)) * rs 0x43000000#32 (fun k : Fin 128 => geluE (V s (col h k))) * G (col h e))) + B h r)]
  · intro r e; simp only [gate_at, hd0_at, gelu2_at, hv, hg0, hw0, hb0]
  · intro r e; simp only [gate_at, hd1_at, gelu2_at, hv, hg1, hw1, hb1]
  · intro r e; simp only [gate_at, hd2_at, gelu2_at, hv, hg2, hw2, hb2]
  · intro r e; simp only [gate_at, hd3_at, gelu2_at, hv, hg3, hw3, hb3]
end Chunk

section Contents
variable (m : (ℓ : Loc nD τ sig) → Buf (Elt Ideal) ℓ) (c : Dev nD)

/-- The four arguments on a core. -/
abbrev aZ : FVec Ideal S4x2048x1536 .f32 := m ((c.tc : Thread nD τ).loc main_arg0)
abbrev aG : FVec Ideal S512 .f32 := m ((c.tc : Thread nD τ).loc main_arg1)
abbrev aW : FVec Ideal S4x128x128 .f32 := m ((c.tc : Thread nD τ).loc main_arg2)
abbrev aB : FVec Ideal S4x128 .f32 := m ((c.tc : Thread nD τ).loc main_arg3)

theorem idx : ∀ t : Fin cfg0.N, win0_0.index t = ![t.val, 1] ∧ win0_1.index t = ![t.val, 2] ∧ win0_2.index t = ![0, 0] ∧ win0_3.index t = ![0, 0, 0]
    ∧ win0_4.index t = ![0, 0] ∧ win0_5.index t = ![t.val, 0] :=
  (by decide +kernel : ∀ t : Fin grid0.N, win0_0.index t = ![t.val, 1] ∧ win0_1.index t = ![t.val, 2] ∧ win0_2.index t = ![0, 0] ∧ win0_3.index t = ![0, 0, 0]
    ∧ win0_4.index t = ![0, 0] ∧ win0_5.index t = ![t.val, 0])
theorem ptlt (t : Fin cfg0.N) : t.val < 8 := lt_of_lt_of_eq t.isLt N_0
/-- The row of the batch that row `r` of point `t`'s block is. -/
def rowOf (t : Fin cfg0.N) (r : Fin 1024) : Fin 8192 := ⟨t.val * 1024 + r.val, by have := ptlt t; omega⟩

theorem V_z : (V m c main_v8 : FVec Ideal S8192x1536 .f32) = shapeCast S8192x1536 (aZ m c) shapeCasts_S4x2048x1536_S8192x1536 := by
  unfold V; rw [List.flatten_cons, List.flatten_cons, List.flatten_cons, List.flatten_cons, List.flatten_cons, List.flatten_nil, List.append_nil]; simp only [List.cons_append, List.nil_append]; after_results_simp; try rfl
theorem V_g : (V m c main_v9 : FVec Ideal S1x512 .f32) = broadcastInDim S1x512 ![1] bcast_S512_S1x512_1 (aG m c) := by
  unfold V; rw [List.flatten_cons, List.flatten_cons, List.flatten_cons, List.flatten_cons, List.flatten_cons, List.flatten_nil, List.append_nil]; simp only [List.cons_append, List.nil_append]; after_results_simp; try rfl
/-- The lower triangle's mask. -/
abbrev trilK : IVec S128x128 1 := select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))
theorem V_w : (V m c main_v4 : FVec Ideal S4x128x128 .bf16) = truncf .bf16 (select (broadcastInDim S4x128x128 ![0, 1, 2] bcast_S1x128x128_S4x128x128_0_1_2 (broadcastInDim S1x128x128 ![1, 2] bcast_S128x128_S1x128x128_1_2 trilK)) (aW m c)
    (broadcastInDim S4x128x128 ![] bcast_S_S4x128x128 (constant S_ .f32 0x00000000#32)) : FVec Ideal S4x128x128 .f32) bitsLt_bf16_f32 := by
  unfold V; rw [List.flatten_cons, List.flatten_cons, List.flatten_cons, List.flatten_cons, List.flatten_cons, List.flatten_nil, List.append_nil]; simp only [List.cons_append, List.nil_append]; after_results_simp; try rfl
theorem V_b : (V m c main_v7 : FVec Ideal S128x512 .f32) = shapeCast S128x512 (broadcastInDim S128x4x128 ![0, 1] bcast_S128x4_S128x4x128_0_1 (transpose S128x4 [1, 0] (aB m c) transposes_S4x128_S128x4_1_0) : FVec Ideal S128x4x128 .f32) shapeCasts_S128x4x128_S128x512 := by
  unfold V; rw [List.flatten_cons, List.flatten_cons, List.flatten_cons, List.flatten_cons, List.flatten_cons, List.flatten_nil, List.append_nil]; simp only [List.cons_append, List.nil_append]; after_results_simp; try rfl
theorem tril_at (t s : Fin 128) : trilK (ix2 t s) = if s.val ≤ t.val then 1#1 else 0#1 := by
  pointwise
  rw [show IntOp.addi (BitVec.ofNat 32 t.val) 0#32 = BitVec.ofNat 32 t.val from BitVec.add_zero _]
  word_cmp

variable (t : Fin cfg0.N)
theorem blk0_at (r : Fin 1024) (k : Fin 512) : (iblk m c 0 t : FVec Ideal S1024x512 .f32) (ix2 r k) = part (aZ m c) 512 (by omega) (rowOf t r) k := by
  have h : (iblk m c 0 t : FVec Ideal S1024x512 .f32) (ix2 r k) = (V m c main_v8 : FVec Ideal S8192x1536 .f32) (ix2 (rowOf t r) ⟨512 + k.val, by omega⟩) := by
    blk_point [iblk, idx t, rowOf]
  rw [h, V_z, part, row]
  pointwise
theorem blk1_at (r : Fin 1024) (k : Fin 512) : (iblk m c 1 t : FVec Ideal S1024x512 .f32) (ix2 r k) = part (aZ m c) 1024 (by omega) (rowOf t r) k := by
  have h : (iblk m c 1 t : FVec Ideal S1024x512 .f32) (ix2 r k) = (V m c main_v8 : FVec Ideal S8192x1536 .f32) (ix2 (rowOf t r) ⟨1024 + k.val, by omega⟩) := by
    blk_point [iblk, idx t, rowOf]
  rw [h, V_z, part, row]
  pointwise
theorem blk2_at (k : Fin 512) : (iblk m c 2 t : FVec Ideal S1x512 .f32) (ix2 (0 : Fin 1) k) = aG m c (ix1 k) := by
  have h : (iblk m c 2 t : FVec Ideal S1x512 .f32) (ix2 (0 : Fin 1) k) = (V m c main_v9 : FVec Ideal S1x512 .f32) (ix2 (0 : Fin 1) k) := by
    blk_point [iblk, idx t]
  rw [h, V_g]
  pointwise
theorem blk3_at (h : Fin 4) (r s : Fin 128) : (iblk m c 3 t : FVec Ideal S4x128x128 .bf16) (ix3 h r s) = low (aW m c) h r s := by
  have h : (iblk m c 3 t : FVec Ideal S4x128x128 .bf16) (ix3 h r s) = (V m c main_v4 : FVec Ideal S4x128x128 .bf16) (ix3 h r s) := by
    blk_point [iblk, idx t]
  rw [h, V_w]
  pointwise [tril_at]
  unfold low
  split <;> rfl
theorem blk4_at (h : Fin 4) (r s : Fin 128) : (iblk m c 4 t : FVec Ideal S128x512 .f32) (ix2 r (col h s)) = aB m c (ix2 h r) := by
  have e : (iblk m c 4 t : FVec Ideal S128x512 .f32) (ix2 r (col h s)) = (V m c main_v7 : FVec Ideal S128x512 .f32) (ix2 r (col h s)) := by
    blk_point [iblk, idx t, col]
  rw [e, V_b]
  pointwise [col]

/-- The chunk of 128 rows of point `t`'s block from row `o` on. -/
def qOf (t : Fin cfg0.N) (o : ℕ) (ho : o + 128 ≤ 1024) : Fin 64 := ⟨(t.val * 1024 + o) / 128, by have := ptlt t; omega⟩
theorem rows_at (x : Fin 8192 → Fin 512 → EReal) (o : ℕ) (ho : o + 128 ≤ 1024) (hm : o % 128 = 0) (r : Fin 128) (k : Fin 512) (hr : _) :
    x (rowOf t ⟨o + r.val, hr⟩) k = rows x (qOf t o ho) r k :=
  congrArg (fun n => x n k) (Fin.ext (by simp only [rowOf, qOf]; omega))
theorem ldU (o : ℕ) (ho : o + 128 ≤ 1024) (hm : o % 128 = 0) (hb) (r : Fin 128) (k : Fin 512) :
    View.ld (iblk m c 0 t : FVec Ideal S1024x512 .f32) (Rect.unit (s := S1024x512) ![o, 0] ![128, 512] hb) (ix2 r k) = rows (part (aZ m c) 512 (by omega)) (qOf t o ho) r k := by
  rw [← rows_at t _ o ho hm r k (by omega)]
  pointwise [blk0_at m c t]
theorem ldV (o : ℕ) (ho : o + 128 ≤ 1024) (hm : o % 128 = 0) (hb) (r : Fin 128) (k : Fin 512) :
    View.ld (iblk m c 1 t : FVec Ideal S1024x512 .f32) (Rect.unit (s := S1024x512) ![o, 0] ![128, 512] hb) (ix2 r k) = rows (part (aZ m c) 1024 (by omega)) (qOf t o ho) r k := by
  rw [← rows_at t _ o ho hm r k (by omega)]
  pointwise [blk1_at m c t]
theorem ldG (h : Fin 4) (o : ℕ) (ho : o = h.val * 128) (hb) (k : Fin 128) :
    View.ld (iblk m c 2 t : FVec Ideal S1x512 .f32) (Rect.unit (s := S1x512) ![0, o] ![1, 128] hb) (ix2 (0 : Fin 1) k) = aG m c (ix1 (col h k)) := by
  subst ho
  pointwise [blk2_at m c t, col]
theorem ldW (h : Fin 4) (o : ℕ) (ho : o = h.val) (hb) (r k : Fin 128) :
    View.ld (iblk m c 3 t : FVec Ideal S4x128x128 .bf16) (Rect.unit (s := S4x128x128) ![o, 0, 0] ![1, 128, 128] hb) (ix3 (0 : Fin 1) r k) = low (aW m c) h r k := by
  subst ho
  pointwise [blk3_at m c t]
theorem ldB (h : Fin 4) (o : ℕ) (ho : o = h.val * 128) (hb) (r k : Fin 128) :
    View.ld (iblk m c 4 t : FVec Ideal S128x512 .f32) (Rect.unit (s := S128x512) ![0, o] ![128, 128] hb) (ix2 r k) = aB m c (ix2 h r) := by
  subst ho
  refine Eq.trans ?_ (blk4_at m c t h r k)
  pointwise [col]

section Piece
variable {u v : W512} {g0 g1 g2 g3 : Vec Ideal S1x128 .f32} {w0 w1 w2 w3 : Vec Ideal S1x128x128 .bf16} {b0 b1 b2 b3 : W128}
  (o : ℕ) (ho : o + 128 ≤ 1024) (hm : o % 128 = 0)
  (hu : ∀ r k, u (ix2 r k) = rows (part (aZ m c) 512 (by omega)) (qOf t o ho) r k) (hv : ∀ r k, v (ix2 r k) = rows (part (aZ m c) 1024 (by omega)) (qOf t o ho) r k)
  (hg0 : ∀ k, g0 (ix2 (0 : Fin 1) k) = aG m c (ix1 (col 0 k))) (hg1 : ∀ k, g1 (ix2 (0 : Fin 1) k) = aG m c (ix1 (col 1 k))) (hg2 : ∀ k, g2 (ix2 (0 : Fin 1) k) = aG m c (ix1 (col 2 k))) (hg3 : ∀ k, g3 (ix2 (0 : Fin 1) k) = aG m c (ix1 (col 3 k)))
  (hw0 : ∀ r k, w0 (ix3 (0 : Fin 1) r k) = low (aW m c) 0 r k) (hw1 : ∀ r k, w1 (ix3 (0 : Fin 1) r k) = low (aW m c) 1 r k) (hw2 : ∀ r k, w2 (ix3 (0 : Fin 1) r k) = low (aW m c) 2 r k) (hw3 : ∀ r k, w3 (ix3 (0 : Fin 1) r k) = low (aW m c) 3 r k)
  (hb0 : ∀ r k, b0 (ix2 r k) = aB m c (ix2 0 r)) (hb1 : ∀ r k, b1 (ix2 r k) = aB m c (ix2 1 r)) (hb2 : ∀ r k, b2 (ix2 r k) = aB m c (ix2 2 r)) (hb3 : ∀ r k, b3 (ix2 r k) = aB m c (ix2 3 r))
  (x : S128x512.Idx) (y : S1024x512.Idx) (e0 : (y 0).val = o + (x 0).val) (e1 : (y 1).val = (x 1).val)
include hm hu hv hg0 hg1 hg2 hg3 hw0 hw1 hw2 hw3 hb0 hb1 hb2 hb3 e0 e1 in
theorem piece : chunkK u v g0 g1 g2 g3 w0 w1 w2 w3 b0 b1 b2 b3 x = yArr (aZ m c) (aG m c) (aW m c) (aB m c) (rowOf t (y 0)) (y 1) := by
  idx_vars x
  idx_vars y
  have l1 : x1.val < 512 := x1.isLt
  have l0 : x0.val < 128 := x0.isLt
  have hk : x1 = col ⟨x1.val / 128, by omega⟩ ⟨x1.val % 128, by omega⟩ := Fin.ext (by simp only [col]; omega)
  have e := chunkK_at (G := fun k => aG m c (ix1 k)) (B := fun h r => aB m c (ix2 h r)) hu hv hg0 hg1 hg2 hg3 hw0 hw1 hw2 hw3 hb0 hb1 hb2 hb3 ⟨x1.val / 128, by omega⟩ x0 ⟨x1.val % 128, by omega⟩
  rw [← hk] at e
  refine e.trans ?_
  change y0.val = o + x0.val at e0
  change y1.val = x1.val at e1
  have hn : (rowOf t y0).val = t.val * 1024 + o + x0.val := by simp only [rowOf]; omega
  have hq : qOf t o ho = ⟨(rowOf t y0).val / 128, by omega⟩ := Fin.ext (by simp only [qOf, hn]; omega)
  have hr : x0 = ⟨(rowOf t y0).val % 128, by omega⟩ := Fin.ext (by simp only [hn]; omega)
  have hy : y1 = x1 := Fin.ext e1
  subst hy
  unfold yArr
  rw [hq]
  exact congrArg (fun r => chunk _ _ _ _ _ _ r _) hr
end Piece

theorem emb5 (y : S1024x512.Idx) : (win0_5.blk t).view.emb y = (ix2 (rowOf t (y 0)) (y 1) : S8192x512.Idx) := by
  idx_vars y
  blk_ext [idx t, rowOf]

set_option maxHeartbeats 8000000 in
/-- The array the call writes: eight chunks a point. -/
theorem arr5 : (dats m 0 c).arrAt 5 cfg0.N = (fun i => yArr (aZ m c) (aG m c) (aW m c) (aB m c) (i 0) (i 1) : FVec Ideal S8192x512 .f32) := by
  refine (dats m 0 c).arrAt_eq_of_covers 5 _ (by decide +kernel) fun t _ y => ?_
  rw [after0_5]
  have h : True := trivial
  frame_out
  clear h
  blk_simp
  rw [emb5]
  canon_tiles y h
  all_goals
    first
    | exact piece m c t _ (by omega) (by omega) (ldU m c t _ _ (by omega) _) (ldV m c t _ _ (by omega) _)
          (ldG m c t 0 _ rfl _) (ldG m c t 1 _ rfl _) (ldG m c t 2 _ rfl _) (ldG m c t 3 _ rfl _)
          (ldW m c t 0 _ rfl _) (ldW m c t 1 _ rfl _) (ldW m c t 2 _ rfl _) (ldW m c t 3 _ rfl _) (ldB m c t 0 _ rfl _) (ldB m c t 1 _ rfl _) (ldB m c t 2 _ rfl _) (ldB m c t 3 _ rfl _) _ _ h0 h1
    | exact piece m c t 0 (by omega) (by omega) (ldU m c t _ _ (by omega) _) (ldV m c t _ _ (by omega) _)
          (ldG m c t 0 _ rfl _) (ldG m c t 1 _ rfl _) (ldG m c t 2 _ rfl _) (ldG m c t 3 _ rfl _)
          (ldW m c t 0 _ rfl _) (ldW m c t 1 _ rfl _) (ldW m c t 2 _ rfl _) (ldW m c t 3 _ rfl _) (ldB m c t 0 _ rfl _) (ldB m c t 1 _ rfl _) (ldB m c t 2 _ rfl _) (ldB m c t 3 _ rfl _) _ _ (h0.trans (Nat.zero_add _).symm) h1
end Contents

/-- The kernel's run: it ends with the unit's output and its arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = (fun i => yArr (aZ m c) (aG m c) (aW m c) (aB m c) (i 0) (i 1) : FVec Ideal S8192x512 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have a : θ_run defs (onTc (τ := τ) (main (F := Ideal))) ⟨m, fun _ => 0, ρ⟩ fun r => ∀ c : Dev nD,
      r.2.mem ((c.tc : Thread nD τ).loc main_v10) = (fun i => yArr (aZ m c) (aG m c) (aW m c) (aB m c) (i 0) (i 1) : FVec Ideal S8192x512 .f32) :=
    (θ_run defs _ _).mono (fun _ h c => ((h c).1 5).trans (arr5 m c)) (run_main m ρ)
  exact (θ_run defs _ _).mono (fun _ h c => ⟨h.1 c, h.2 c⟩) (θ_run_and a (unchanged m ρ))
end Cert.Kernel5Ideal.Value

namespace Cert.Reference5Ideal.Value
open Cert.Reference5Ideal Cert.Reference5Ideal.Gen
variable (m : (ℓ : Loc nD τ sig) → Buf (Elt Ideal) ℓ) (c : Dev nD)

/-- The four arguments on a core. -/
abbrev aZ : FVec Ideal S4x2048x1536 .f32 := m ((c.tc : Thread nD τ).loc main_arg0)
abbrev aG : FVec Ideal S512 .f32 := m ((c.tc : Thread nD τ).loc main_arg1)
abbrev aW : FVec Ideal S4x128x128 .f32 := m ((c.tc : Thread nD τ).loc main_arg2)
abbrev aB : FVec Ideal S4x128 .f32 := m ((c.tc : Thread nD τ).loc main_arg3)

/-- The quotient of the two constants. -/
theorem quot : Ideal.div (Ideal.ofBits .f32 0x472EAB00#32) (Ideal.ofBits .f32 0x49742400#32) = ((geluC : ℝ) : EReal) := by
  rw [Cert.Gm.ofBits_44715, Cert.Gm.ofBits_million, div_real _ (by norm_num), geluC]; norm_num

/-- The mask's entries. -/
theorem mask_at (r s : Fin 128) : Scalar.select (IntOp.cmpi CmpIPredicate.sge (IntOp.addi (BitVec.ofNat 32 r.val) 0#32) (BitVec.ofNat 32 s.val)) 1#1 0#1 =
    if s.val ≤ r.val then 1#1 else 0#1 := by
  rw [show IntOp.addi (BitVec.ofNat 32 r.val) 0#32 = BitVec.ofNat 32 r.val from BitVec.add_zero _]
  word_cmp
/-- A row of a chunk, as an entry of the batch. -/
theorem rows_row (z : FVec Ideal S4x2048x1536 .f32) (o : ℕ) (ho : o + 512 ≤ 1536) (b : Fin 4) (q : Fin 16) (r : Fin 128) (h : Fin 4) (e : Fin 128) :
    rows (part z o ho) ⟨b.val * 16 + q.val, by omega⟩ r (col h e) = z (ix3 b ⟨q.val * 128 + r.val, by omega⟩ ⟨o + (h.val * 128 + e.val), by omega⟩) := by
  unfold rows part row
  congr 1
  have a0 : (⟨((b.val * 16 + q.val) * 128 + r.val) / 2048, by omega⟩ : Fin 4) = b := Fin.ext (by simp only []; omega)
  have a1 : (⟨((b.val * 16 + q.val) * 128 + r.val) % 2048, by omega⟩ : Fin 2048) = ⟨q.val * 128 + r.val, by omega⟩ := Fin.ext (by simp only []; omega)
  simp only [a0, a1, col]

set_option maxHeartbeats 4000000 in
theorem res_at (b : Fin 4) (q : Fin 16) (r : Fin 128) (h : Fin 4) (e : Fin 128) :
    (res_main_v58 (F := Ideal) m c : FVec Ideal S8192x512 .f32) (ix2 ⟨b.val * 2048 + (q.val * 128 + r.val), by omega⟩ ⟨h.val * 128 + e.val, by omega⟩) =
    chunk (rows (part (aZ m c) 512 (by omega)) ⟨b.val * 16 + q.val, by omega⟩) (rows (part (aZ m c) 1024 (by omega)) ⟨b.val * 16 + q.val, by omega⟩)
      (fun k => aG m c (ix1 k)) (low (aW m c)) (fun h r => aB m c (ix2 h r)) h r e := by
  unfold res_main_v58
  pointwise [quot, geluE_cube]
  have hm : (b.val * 2048 + (q.val * 128 + r.val)) % 2048 = q.val * 128 + r.val := by omega
  simp only [hm]
  unfold chunk
  simp only [rows_row, mask_at]
  refine congrArg₂ (· * ·) rfl (congrArg (· + _) (Finset.sum_congr rfl fun s _ => ?_))
  unfold low
  by_cases hs : s.val ≤ r.val
  · rw [if_pos hs, if_pos hs]
    exact mul_comm _ _
  · rw [if_neg hs, if_neg hs, zero_mul]
    rfl

/-- The reference's run: it ends with the unit's output and its arguments unchanged. -/
theorem run_value (ρ : Dev nD → PrngReg) :
    θ_run defs (onTc (τ := τ) (main (F := Ideal))) ⟨m, fun _ => 0, ρ⟩ fun r => ∀ c : Dev nD,
      r.2.mem ((c.tc : Thread nD τ).loc main_v58) = (fun i => yArr (aZ m c) (aG m c) (aW m c) (aB m c) (i 0) (i 1) : FVec Ideal S8192x512 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (run m ρ)
  clear h
  funext j
  idx_vars j
  have l0 : j0.val < 8192 := j0.isLt
  have l1 : j1.val < 512 := j1.isLt
  have e := res_at m c ⟨j0.val / 2048, by omega⟩ ⟨j0.val % 2048 / 128, by omega⟩ ⟨j0.val % 128, by omega⟩ ⟨j1.val / 128, by omega⟩ ⟨j1.val % 128, by omega⟩
  have i0 : (⟨j0.val / 2048 * 2048 + (j0.val % 2048 / 128 * 128 + j0.val % 128), by omega⟩ : Fin 8192) = j0 := Fin.ext (by simp only []; omega)
  have i1 : (⟨j1.val / 128 * 128 + j1.val % 128, by omega⟩ : Fin 512) = j1 := Fin.ext (by simp only []; omega)
  have iq : (⟨j0.val / 2048 * 16 + j0.val % 2048 / 128, by omega⟩ : Fin 64) = ⟨j0.val / 128, by omega⟩ := Fin.ext (by simp only []; omega)
  simp only [i0, i1, iq] at e
  exact e
end Cert.Reference5Ideal.Value

namespace Cert.GmFwd
theorem algebraic : Cert.algebraic_Kernel5Ideal_Reference5Ideal := by
  intro m g m' g' _ ha
  have e0 : ∀ c, Reference5Ideal.Value.aZ m' c = Kernel5Ideal.Value.aZ m c := fun c => (ha c).1
  have e1 : ∀ c, Reference5Ideal.Value.aG m' c = Kernel5Ideal.Value.aG m c := fun c => (ha c).2.1
  have e2 : ∀ c, Reference5Ideal.Value.aW m' c = Kernel5Ideal.Value.aW m c := fun c => (ha c).2.2.1
  have e3 : ∀ c, Reference5Ideal.Value.aB m' c = Kernel5Ideal.Value.aB m c := fun c => (ha c).2.2.2
  have R' := (θ_run Reference5Ideal.defs _ _).mono (fun r h c => by
    obtain ⟨h1, h4⟩ := h c
    rw [e0, e1, e2, e3] at h1
    exact And.intro h1 h4) (Reference5Ideal.Value.run_value m' g')
  exact ⟨_, Kernel5Ideal.Value.run_value m g, R'⟩

/-- The reference runs, leaves its arguments unchanged, and every counter ends at zero. -/
theorem frame_ref : Cert.quiescent_Reference5Ideal := fun m g _ => (θ_run Reference5Ideal.defs _ _).mono
    (fun r h => ⟨fun c => (h c).2, sem_eq_zero_of_no_sems (by decide) r.2⟩) (Reference5Ideal.Value.run (F := Ideal) m g)
end Cert.GmFwd

end
-- ==== Proof.MixInFwd.lean ====
/- The input projection's forward call: kernel and reference end with the same array, whatever the arguments hold. -/
module

public import proofs.«01_k».proof.Defs
public import proofs.«01_k».proof.Proof.Gen.Kernel6Ideal.Frame
public import proofs.«01_k».proof.Proof.Gen.Reference6Ideal.Run
public import proofs.«01_k».proof.Proof.FwdSpec
public import Idealize.ShloMosaic.Lib.Pipeline.ValueKit
public import Idealize.ShloMosaic.Lib.Pointwise
public import Idealize.ShloMosaic.Lib.Claim
@[expose] public section

set_option maxRecDepth 16384
noncomputable section
open Idealize.ShloMosaic Idealize.ShloMosaic.TcCoe Idealize.SL.Sem
open Idealize.ShloMosaic.Pipeline (Dat)
open Cert.RealOps Cert.Fwd
namespace Cert.Kernel6Ideal.Value
open Cert.Kernel6Ideal Cert.Kernel6Ideal.Gen

/-- One point: the block's rows normed, times the weights. -/
theorem pay_at (x : FVec Ideal S1024x1024 .f32) (g : FVec Ideal S1x1024 .f32) (w : FVec Ideal S1024x1536 .bf16) (r : Fin 1024) (j : Fin 1536) :
    k0_pay1 (F := Ideal) x g w (ix2 r j) = ∑ k : Fin 1024, (x (ix2 r k) * rs 0x44800000#32 (fun k : Fin 1024 => x (ix2 r k)) * g (ix2 (0 : Fin 1) k)) * w (ix2 k j) := by
  pointwise [k0_pay1]
  rfl

section Contents
variable (m : (ℓ : Loc nD τ sig) → Buf (Elt Ideal) ℓ) (c : Dev nD)

/-- The three arguments on a core. -/
abbrev aX : FVec Ideal S4x2048x1024 .f32 := m ((c.tc : Thread nD τ).loc main_arg0)
abbrev aG : FVec Ideal S1024 .f32 := m ((c.tc : Thread nD τ).loc main_arg1)
abbrev aW : FVec Ideal S1024x1536 .f32 := m ((c.tc : Thread nD τ).loc main_arg2)

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, win0_0.index t = ![t.val, 0] ∧ win0_1.index t = ![0, 0] ∧ win0_2.index t = ![0, 0] ∧ win0_3.index t = ![t.val, 0])
theorem ptlt (t : Fin cfg0.N) : t.val < 8 := lt_of_lt_of_eq t.isLt N_0
/-- The row of the batch that row `r` of point `t`'s block is. -/
def rowOf (t : Fin cfg0.N) (r : Fin 1024) : Fin 8192 := ⟨t.val * 1024 + r.val, by have := ptlt t; omega⟩

theorem V_x : (V m c main_v0 : FVec Ideal S8192x1024 .f32) = shapeCast S8192x1024 (aX m c) shapeCasts_S4x2048x1024_S8192x1024 := by
  unfold V; after_results_simp; rfl
theorem V_g : (V m c main_v1 : FVec Ideal S1x1024 .f32) = broadcastInDim S1x1024 ![1] bcast_S1024_S1x1024_1 (aG m c) := by
  unfold V; after_results_simp
theorem V_w : (V m c main_v2 : FVec Ideal S1024x1536 .bf16) = truncf .bf16 (aW m c) bitsLt_bf16_f32 := by
  unfold V; after_results_simp

variable (t : Fin cfg0.N)
theorem blk0_at (r k : Fin 1024) : (iblk m c 0 t : FVec Ideal S1024x1024 .f32) (ix2 r k) = row (aX m c) (rowOf t r) k := by
  have h : (iblk m c 0 t : FVec Ideal S1024x1024 .f32) (ix2 r k) = (V m c main_v0 : FVec Ideal S8192x1024 .f32) (ix2 (rowOf t r) k) := by
    blk_point [iblk, idx t, rowOf]
  rw [h, V_x, row]
  pointwise
theorem blk1_at (k : Fin 1024) : (iblk m c 1 t : FVec Ideal S1x1024 .f32) (ix2 (0 : Fin 1) k) = aG m c (ix1 k) := by
  have h : (iblk m c 1 t : FVec Ideal S1x1024 .f32) (ix2 (0 : Fin 1) k) = (V m c main_v1 : FVec Ideal S1x1024 .f32) (ix2 (0 : Fin 1) k) := by
    blk_point [iblk, idx t]
  rw [h, V_g]
  pointwise
theorem blk2_at (k : Fin 1024) (j : Fin 1536) : (iblk m c 2 t : FVec Ideal S1024x1536 .bf16) (ix2 k j) = aW m c (ix2 k j) := by
  have h : (iblk m c 2 t : FVec Ideal S1024x1536 .bf16) (ix2 k j) = (V m c main_v2 : FVec Ideal S1024x1536 .bf16) (ix2 k j) := by
    blk_point [iblk, idx t]
  rw [h, V_w]
  pointwise
theorem emb3 (r : Fin 1024) (k : Fin 1536) : (win0_3.blk t).view.emb (ix2 r k) = (ix2 (rowOf t r) k : S8192x1536.Idx) := by blk_ext [idx t, rowOf]

theorem arr3 : (dats m 0 c).arrAt 3 cfg0.N = zArr (aX m c) (aG m c) (aW m c) := by
  refine (dats m 0 c).arrAt_eq_of_covers 3 _ (by decide +kernel) fun t _ y => ?_
  rw [after0_3]
  frame_out
  idx_vars y
  blk_simp
  rw [emb3, pay_at]
  simp only [blk0_at, blk1_at, blk2_at]
  rfl
end Contents

/-- The kernel's run: it ends with the projection and its arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = zArr (aX m c) (aG m c) (aW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have a : θ_run defs (onTc (τ := τ) (main (F := Ideal))) ⟨m, fun _ => 0, ρ⟩ fun r => ∀ c : Dev nD, r.2.mem ((c.tc : Thread nD τ).loc main_v3) = zArr (aX m c) (aG m c) (aW m c) :=
    (θ_run defs _ _).mono (fun _ h c => ((h c).1 3).trans (arr3 m c)) (run_main m ρ)
  exact (θ_run defs _ _).mono (fun _ h c => ⟨h.1 c, h.2 c⟩) (θ_run_and a (unchanged m ρ))
end Cert.Kernel6Ideal.Value

namespace Cert.Reference6Ideal.Value
open Cert.Reference6Ideal Cert.Reference6Ideal.Gen
variable (m : (ℓ : Loc nD τ sig) → Buf (Elt Ideal) ℓ) (c : Dev nD)

/-- The three arguments on a core. -/
abbrev aX : FVec Ideal S4x2048x1024 .f32 := m ((c.tc : Thread nD τ).loc main_arg0)
abbrev aG : FVec Ideal S1024 .f32 := m ((c.tc : Thread nD τ).loc main_arg1)
abbrev aW : FVec Ideal S1024x1536 .f32 := m ((c.tc : Thread nD τ).loc main_arg2)

/-- The reference's run: it ends with the projection and its arguments unchanged. -/
theorem run_value (ρ : Dev nD → PrngReg) :
    θ_run defs (onTc (τ := τ) (main (F := Ideal))) ⟨m, fun _ => 0, ρ⟩ fun r => ∀ c : Dev nD,
      r.2.mem ((c.tc : Thread nD τ).loc main_v14) = zArr (aX m c) (aG m c) (aW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (run m ρ)
  clear h
  funext j
  idx_vars j
  pointwise
  rfl
end Cert.Reference6Ideal.Value

namespace Cert.MixInFwd

theorem algebraic : Cert.algebraic_Kernel6Ideal_Reference6Ideal := by
  intro m g m' g' _ ha
  have e0 : ∀ c, Reference6Ideal.Value.aX m' c = Kernel6Ideal.Value.aX m c := fun c => (ha c).1
  have e1 : ∀ c, Reference6Ideal.Value.aG m' c = Kernel6Ideal.Value.aG m c := fun c => (ha c).2.1
  have e2 : ∀ c, Reference6Ideal.Value.aW m' c = Kernel6Ideal.Value.aW m c := fun c => (ha c).2.2
  have R' := (θ_run Reference6Ideal.defs _ _).mono (fun r h c => by
    obtain ⟨h1, h4⟩ := h c
    rw [e0, e1, e2] at h1
    exact And.intro h1 h4) (Reference6Ideal.Value.run_value m' g')
  exact ⟨_, Kernel6Ideal.Value.run_value m g, R'⟩

/-- The reference runs, leaves its arguments unchanged, and every counter ends at zero. -/
theorem frame_ref : Cert.quiescent_Reference6Ideal := fun m g _ => (θ_run Reference6Ideal.defs _ _).mono
    (fun r h => ⟨fun c => (h c).2, sem_eq_zero_of_no_sems (by decide) r.2⟩) (Reference6Ideal.Value.run (F := Ideal) m g)

end Cert.MixInFwd

end
-- ==== Proof.MixOutFwd.lean ====
/- The output projection's forward call: kernel and reference end with the same array, whatever the arguments hold. -/
module

public import proofs.«01_k».proof.Defs
public import proofs.«01_k».proof.Proof.Gen.Kernel7Ideal.Frame
public import proofs.«01_k».proof.Proof.Gen.Reference7Ideal.Run
public import proofs.«01_k».proof.Proof.FwdSpec
public import Idealize.ShloMosaic.Lib.Pipeline.ValueKit
public import Idealize.ShloMosaic.Lib.Pointwise
public import Idealize.ShloMosaic.Lib.Claim
@[expose] public section

set_option maxRecDepth 16384
noncomputable section
open Idealize.ShloMosaic Idealize.ShloMosaic.TcCoe Idealize.SL.Sem
open Idealize.ShloMosaic.Pipeline (Dat)
open Cert.RealOps Cert.Fwd
namespace Cert.Kernel7Ideal.Value
open Cert.Kernel7Ideal Cert.Kernel7Ideal.Gen

/-- One point: the residual's block, and the two groups' rows normed, times their halves of the weights. -/
theorem pay_at (y y' : FVec Ideal S1024x512 .f32) (g g' : FVec Ideal S1x512 .f32) (w w' : FVec Ideal S512x1024 .bf16) (x : FVec Ideal S1024x1024 .f32) (r j : Fin 1024) :
    k0_pay1 (F := Ideal) (k0_pay2 y g x w) (k0_pay3 y' g') w' (ix2 r j) =
      x (ix2 r j) + (∑ k : Fin 512, (y (ix2 r k) * rs 0x44000000#32 (fun k : Fin 512 => y (ix2 r k)) * g (ix2 (0 : Fin 1) k)) * w (ix2 k j))
        + ∑ k : Fin 512, (y' (ix2 r k) * rs 0x44000000#32 (fun k : Fin 512 => y' (ix2 r k)) * g' (ix2 (0 : Fin 1) k)) * w' (ix2 k j) := by
  pointwise [k0_pay1, k0_pay2, k0_pay3]
  rfl

section Contents
variable (m : (ℓ : Loc nD τ sig) → Buf (Elt Ideal) ℓ) (c : Dev nD)

/-- The six arguments on a core. -/
abbrev aY : FVec Ideal S4x2048x512 .f32 := m ((c.tc : Thread nD τ).loc main_arg0)
abbrev aZ : FVec Ideal S4x2048x512 .f32 := m ((c.tc : Thread nD τ).loc main_arg1)
abbrev aG : FVec Ideal S512 .f32 := m ((c.tc : Thread nD τ).loc main_arg2)
abbrev aH : FVec Ideal S512 .f32 := m ((c.tc : Thread nD τ).loc main_arg3)
abbrev aW : FVec Ideal S1024x1024 .f32 := m ((c.tc : Thread nD τ).loc main_arg4)
abbrev aX : FVec Ideal S4x2048x1024 .f32 := m ((c.tc : Thread nD τ).loc main_arg5)

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![t.val, 0])
theorem ptlt (t : Fin cfg0.N) : t.val < 8 := lt_of_lt_of_eq t.isLt N_0
/-- The row of the batch that row `r` of point `t`'s block is. -/
def rowOf (t : Fin cfg0.N) (r : Fin 1024) : Fin 8192 := ⟨t.val * 1024 + r.val, by have := ptlt t; omega⟩

theorem V_y : (V m c main_v0 : FVec Ideal S8192x512 .f32) = shapeCast S8192x512 (aY m c) shapeCasts_S4x2048x512_S8192x512 := by
  unfold V; after_results_simp; rfl
theorem V_z : (V m c main_v1 : FVec Ideal S8192x512 .f32) = shapeCast S8192x512 (aZ m c) shapeCasts_S4x2048x512_S8192x512 := by
  unfold V; after_results_simp; rfl
theorem V_g : (V m c main_v2 : FVec Ideal S1x512 .f32) = broadcastInDim S1x512 ![1] bcast_S512_S1x512_1 (aG m c) := by
  unfold V; after_results_simp
theorem V_h : (V m c main_v3 : FVec Ideal S1x512 .f32) = broadcastInDim S1x512 ![1] bcast_S512_S1x512_1 (aH m c) := by
  unfold V; after_results_simp
theorem V_w : (V m c main_v4 : FVec Ideal S1024x1024 .bf16) = truncf .bf16 (aW m c) bitsLt_bf16_f32 := by
  unfold V; after_results_simp
theorem V_x : (V m c main_v5 : FVec Ideal S8192x1024 .f32) = shapeCast S8192x1024 (aX m c) shapeCasts_S4x2048x1024_S8192x1024 := by
  unfold V; after_results_simp; rfl

variable (t : Fin cfg0.N)
theorem blk0_at (r : Fin 1024) (k : Fin 512) : (iblk m c 0 t : FVec Ideal S1024x512 .f32) (ix2 r k) = row (aY m c) (rowOf t r) k := by
  have h : (iblk m c 0 t : FVec Ideal S1024x512 .f32) (ix2 r k) = (V m c main_v0 : FVec Ideal S8192x512 .f32) (ix2 (rowOf t r) k) := by
    blk_point [iblk, idx t, rowOf]
  rw [h, V_y, row]
  pointwise
theorem blk1_at (r : Fin 1024) (k : Fin 512) : (iblk m c 1 t : FVec Ideal S1024x512 .f32) (ix2 r k) = row (aZ m c) (rowOf t r) k := by
  have h : (iblk m c 1 t : FVec Ideal S1024x512 .f32) (ix2 r k) = (V m c main_v1 : FVec Ideal S8192x512 .f32) (ix2 (rowOf t r) k) := by
    blk_point [iblk, idx t, rowOf]
  rw [h, V_z, row]
  pointwise
theorem blk2_at (k : Fin 512) : (iblk m c 2 t : FVec Ideal S1x512 .f32) (ix2 (0 : Fin 1) k) = aG m c (ix1 k) := by
  have h : (iblk m c 2 t : FVec Ideal S1x512 .f32) (ix2 (0 : Fin 1) k) = (V m c main_v2 : FVec Ideal S1x512 .f32) (ix2 (0 : Fin 1) k) := by
    blk_point [iblk, idx t]
  rw [h, V_g]
  pointwise
theorem blk3_at (k : Fin 512) : (iblk m c 3 t : FVec Ideal S1x512 .f32) (ix2 (0 : Fin 1) k) = aH m c (ix1 k) := by
  have h : (iblk m c 3 t : FVec Ideal S1x512 .f32) (ix2 (0 : Fin 1) k) = (V m c main_v3 : FVec Ideal S1x512 .f32) (ix2 (0 : Fin 1) k) := by
    blk_point [iblk, idx t]
  rw [h, V_h]
  pointwise
theorem blk4_at (k j : Fin 1024) : (iblk m c 4 t : FVec Ideal S1024x1024 .bf16) (ix2 k j) = aW m c (ix2 k j) := by
  have h : (iblk m c 4 t : FVec Ideal S1024x1024 .bf16) (ix2 k j) = (V m c main_v4 : FVec Ideal S1024x1024 .bf16) (ix2 k j) := by
    blk_point [iblk, idx t]
  rw [h, V_w]
  pointwise
theorem blk5_at (r : Fin 1024) (k : Fin 1024) : (iblk m c 5 t : FVec Ideal S1024x1024 .f32) (ix2 r k) = row (aX m c) (rowOf t r) k := by
  have h : (iblk m c 5 t : FVec Ideal S1024x1024 .f32) (ix2 r k) = (V m c main_v5 : FVec Ideal S8192x1024 .f32) (ix2 (rowOf t r) k) := by
    blk_point [iblk, idx t, rowOf]
  rw [h, V_x, row]
  pointwise
/-- The two halves of the weights, as the body loads them. -/
theorem ld0 (hb) (k : Fin 512) (j : Fin 1024) : View.ld (iblk m c 4 t : FVec Ideal S1024x1024 .bf16) (Rect.unit (s := S1024x1024) ![0, 0] ![512, 1024] hb) (ix2 k j) = aW m c (ix2 (Fin.castAdd 512 k : Fin 1024) j) := by
  pointwise [blk4_at m c t]
  exact congrArg (fun a => aW m c (ix2 a j)) (Fin.ext (by simp))
theorem ld1 (hb) (k : Fin 512) (j : Fin 1024) : View.ld (iblk m c 4 t : FVec Ideal S1024x1024 .bf16) (Rect.unit (s := S1024x1024) ![512, 0] ![512, 1024] hb) (ix2 k j) = aW m c (ix2 (Fin.natAdd 512 k : Fin 1024) j) := by
  pointwise [blk4_at m c t]
  rfl
theorem emb6 (r k : Fin 1024) : (win0_6.blk t).view.emb (ix2 r k) = (ix2 (rowOf t r) k : S8192x1024.Idx) := by blk_ext [idx t, rowOf]

theorem arr6 : (dats m 0 c).arrAt 6 cfg0.N = oArr (aY m c) (aZ m c) (aG m c) (aH m c) (aW m c) (aX m c) := by
  refine (dats m 0 c).arrAt_eq_of_covers 6 _ (by decide +kernel) fun t _ y => ?_
  rw [after0_6]
  frame_out
  idx_vars y
  blk_simp
  rw [emb6, pay_at]
  simp only [blk0_at, blk1_at, blk2_at, blk3_at, blk5_at, r0_3, r0_4]
  simp only [show S512x1024.size = ![512, 1024] from rfl, ld0, ld1]
  rfl
end Contents

/-- The kernel's run: it ends with the projection and its arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = oArr (aY m c) (aZ m c) (aG m c) (aH m c) (aW m c) (aX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have a : θ_run defs (onTc (τ := τ) (main (F := Ideal))) ⟨m, fun _ => 0, ρ⟩ fun r => ∀ c : Dev nD, r.2.mem ((c.tc : Thread nD τ).loc main_v6) = oArr (aY m c) (aZ m c) (aG m c) (aH m c) (aW m c) (aX m c) :=
    (θ_run defs _ _).mono (fun _ h c => ((h c).1 6).trans (arr6 m c)) (run_main m ρ)
  exact (θ_run defs _ _).mono (fun _ h c => ⟨h.1 c, h.2 c⟩) (θ_run_and a (unchanged m ρ))
end Cert.Kernel7Ideal.Value

namespace Cert.Reference7Ideal.Value
open Cert.Reference7Ideal Cert.Reference7Ideal.Gen
variable (m : (ℓ : Loc nD τ sig) → Buf (Elt Ideal) ℓ) (c : Dev nD)

/-- The six arguments on a core. -/
abbrev aY : FVec Ideal S4x2048x512 .f32 := m ((c.tc : Thread nD τ).loc main_arg0)
abbrev aZ : FVec Ideal S4x2048x512 .f32 := m ((c.tc : Thread nD τ).loc main_arg1)
abbrev aG : FVec Ideal S512 .f32 := m ((c.tc : Thread nD τ).loc main_arg2)
abbrev aH : FVec Ideal S512 .f32 := m ((c.tc : Thread nD τ).loc main_arg3)
abbrev aW : FVec Ideal S1024x1024 .f32 := m ((c.tc : Thread nD τ).loc main_arg4)
abbrev aX : FVec Ideal S4x2048x1024 .f32 := m ((c.tc : Thread nD τ).loc main_arg5)

/-- A sum over the two groups' columns, the first group's and the second's. -/
theorem sum_groups (f : Fin 1024 → EReal) : ∑ k, f k = (∑ k : Fin 512, f (Fin.castAdd 512 k : Fin 1024)) + ∑ k : Fin 512, f (Fin.natAdd 512 k : Fin 1024) :=
  Fin.sum_univ_add (a := 512) (b := 512) f

/-- One group's rows, normed, with the gain. -/
def nrm (y : FVec Ideal S4x2048x512 .f32) (g : FVec Ideal S512 .f32) : FVec Ideal S4x2048x512 .f32 :=
  mulf (mulf y (broadcastInDim S4x2048x512 ![0, 1, 2] bcast_S4x2048x1_S4x2048x512_0_1_2 (Host.rsqrt (addf (Host.divf (broadcastInDim S4x2048x1 ![0, 1] bcast_S4x2048_S4x2048x1_0_1
      (Host.reduceAdd (mulf y y) (constant S_ .f32 0x00000000#32) reducesTo_S4x2048x512_S4x2048_d2 h_S_)) (broadcastInDim S4x2048x1 ![] bcast_S_S4x2048x1 (constant S_ .f32 0x44000000#32)))
      (broadcastInDim S4x2048x1 ![] bcast_S_S4x2048x1 (constant S_ .f32 0x358637BD#32))))))
    (broadcastInDim S4x2048x512 ![0, 1, 2] bcast_S1x1x512_S4x2048x512_0_1_2 (broadcastInDim S1x1x512 ![2] bcast_S512_S1x1x512_2 g))
theorem nrm_at (y : FVec Ideal S4x2048x512 .f32) (g : FVec Ideal S512 .f32) (b : Fin 4) (i : Fin 2048) (k : Fin 512) :
    nrm y g (ix3 b i k) = y (ix3 b i k) * rs 0x44000000#32 (fun k : Fin 512 => y (ix3 b i k)) * g (ix1 k) := by
  pointwise [nrm]
  rfl
/-- The two groups side by side. -/
def both (a b : FVec Ideal S4x2048x512 .f32) : FVec Ideal S4x2048x1024 .f32 :=
  concatenate S4x2048x1024 2 [⟨S4x2048x512, a⟩, ⟨S4x2048x512, b⟩] concatenates_S4x2048x512_S4x2048x512_S4x2048x1024_d2
theorem both_lo (a b : FVec Ideal S4x2048x512 .f32) (p : Fin 4) (i : Fin 2048) (k : Fin 512) : both a b (ix3 p i (Fin.castAdd 512 k : Fin 1024)) = a (ix3 p i k) := by
  pointwise [both]
  exact dif_pos k.isLt
theorem both_hi (a b : FVec Ideal S4x2048x512 .f32) (p : Fin 4) (i : Fin 2048) (k : Fin 512) : both a b (ix3 p i (Fin.natAdd 512 k : Fin 1024)) = b (ix3 p i k) := by
  pointwise [both]
  rw [dif_neg (by simp)]
  exact congrArg (fun a => b (ix3 p i a)) (Fin.ext (by simp))
/-- The residual, and the rows times the weights. -/
def proj (a : FVec Ideal S4x2048x1024 .f32) (w : FVec Ideal S1024x1024 .f32) (x : FVec Ideal S4x2048x1024 .f32) : FVec Ideal S8192x1024 .f32 :=
  shapeCast _ (addf x (Host.dotGeneral dot_S4x2048x1024_S1024x1024_S4x2048x1024_2_0_01_1_n_n none a w)) shapeCasts_S4x2048x1024_S8192x1024
theorem proj_at (a : FVec Ideal S4x2048x1024 .f32) (w : FVec Ideal S1024x1024 .f32) (x : FVec Ideal S4x2048x1024 .f32) (n : Fin 8192) (j : Fin 1024) :
    proj a w x (ix2 n j) = x (ix3 (⟨n.val / 2048, by omega⟩ : Fin 4) (⟨n.val % 2048, by omega⟩ : Fin 2048) j)
      + ∑ k : Fin 1024, a (ix3 (⟨n.val / 2048, by omega⟩ : Fin 4) (⟨n.val % 2048, by omega⟩ : Fin 2048) k) * w (ix2 k j) := by
  pointwise [proj]

/-- The reference's run: it ends with the projection and its arguments unchanged. -/
theorem run_value (ρ : Dev nD → PrngReg) :
    θ_run defs (onTc (τ := τ) (main (F := Ideal))) ⟨m, fun _ => 0, ρ⟩ fun r => ∀ c : Dev nD,
      r.2.mem ((c.tc : Thread nD τ).loc main_v29) = oArr (aY m c) (aZ m c) (aG m c) (aH m c) (aW m c) (aX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ?_, (h c).2⟩) (run m ρ)
  clear h
  funext j
  idx_vars j
  refine (proj_at (both (nrm (aY m c) (aG m c)) (nrm (aZ m c) (aH m c))) (aW m c) (aX m c) j0 j1).trans ?_
  rw [sum_groups, ← add_assoc]
  simp only [both_lo, both_hi, nrm_at]
  rfl
end Cert.Reference7Ideal.Value

namespace Cert.MixOutFwd

theorem algebraic : Cert.algebraic_Kernel7Ideal_Reference7Ideal := by
  intro m g m' g' _ ha
  have e0 : ∀ c, Reference7Ideal.Value.aY m' c = Kernel7Ideal.Value.aY m c := fun c => (ha c).1
  have e1 : ∀ c, Reference7Ideal.Value.aZ m' c = Kernel7Ideal.Value.aZ m c := fun c => (ha c).2.1
  have e2 : ∀ c, Reference7Ideal.Value.aG m' c = Kernel7Ideal.Value.aG m c := fun c => (ha c).2.2.1
  have e3 : ∀ c, Reference7Ideal.Value.aH m' c = Kernel7Ideal.Value.aH m c := fun c => (ha c).2.2.2.1
  have e4 : ∀ c, Reference7Ideal.Value.aW m' c = Kernel7Ideal.Value.aW m c := fun c => (ha c).2.2.2.2.1
  have e5 : ∀ c, Reference7Ideal.Value.aX m' c = Kernel7Ideal.Value.aX m c := fun c => (ha c).2.2.2.2.2
  have R' := (θ_run Reference7Ideal.defs _ _).mono (fun r h c => by
    obtain ⟨h1, h4⟩ := h c
    rw [e0, e1, e2, e3, e4, e5] at h1
    exact And.intro h1 h4) (Reference7Ideal.Value.run_value m' g')
  exact ⟨_, Kernel7Ideal.Value.run_value m g, R'⟩

/-- The reference runs, leaves its arguments unchanged, and every counter ends at zero. -/
theorem frame_ref : Cert.quiescent_Reference7Ideal := fun m g _ => (θ_run Reference7Ideal.defs _ _).mono
    (fun r h => ⟨fun c => (h c).2, sem_eq_zero_of_no_sems (by decide) r.2⟩) (Reference7Ideal.Value.run (F := Ideal) m g)

end Cert.MixOutFwd

end
-- ==== Proof.FfnSpec.lean ====
/- The feed-forward block's mathematics over the extended reals: no entry need be finite. -/
module

public import proofs.«01_k».proof.Proof.FwdSpec

@[expose] public section

noncomputable section

open Idealize.ShloMosaic

namespace Cert.Ffn
open Cert.Fwd

/-- The normed rows, with the gain. -/
def nArr (x : FVec Ideal (⟨3, ![4, 2048, 1024]⟩ : Shape) .f32) (g : FVec Ideal (⟨1, ![1024]⟩ : Shape) .f32) (n : Fin 8192) (k : Fin 1024) : EReal :=
  row x n k * rs 0x44800000#32 (row x n) * g (ix1 k)

/-- A row times a column. -/
def dot (a b : Fin 1024 → EReal) : EReal := ∑ k, a k * b k

/-- The gate's value and the linear part's, as the product with the output weights reads them. -/
def glu (a b : EReal) : EReal := a * Ideal.logistic a * b

/-- The product with the input weights: the gate's columns, then the linear part's. -/
def hArr (x : FVec Ideal (⟨3, ![4, 2048, 1024]⟩ : Shape) .f32) (g : FVec Ideal (⟨1, ![1024]⟩ : Shape) .f32) (w : FVec Ideal (⟨2, ![1024, 5632]⟩ : Shape) .f32)
    (n : Fin 8192) (q : Fin 5632) : EReal := dot (nArr x g n) fun k => w (ix2 k q)

/-- Column `c` of chunk `j` of the gate's columns (`p = 0`) or of the linear part's (`p = 1`). -/
def colOf (p : Fin 2) (j : Fin 4) (c : Fin 704) : Fin 5632 := ⟨(4 * p.val + j.val) * 704 + c.val, by omega⟩
/-- Row `c` of chunk `j` of the output weights. -/
def rowsOf (j : Fin 4) (c : Fin 704) : Fin 2816 := ⟨j.val * 704 + c.val, by omega⟩

/-- Chunk `j`'s part of a row times a column of the output weights. -/
def part (x : FVec Ideal (⟨3, ![4, 2048, 1024]⟩ : Shape) .f32) (g : FVec Ideal (⟨1, ![1024]⟩ : Shape) .f32) (w : FVec Ideal (⟨2, ![1024, 5632]⟩ : Shape) .f32)
    (v : FVec Ideal (⟨2, ![2816, 1024]⟩ : Shape) .f32) (n : Fin 8192) (d : Fin 1024) (j : Fin 4) : EReal :=
  ∑ c : Fin 704, glu (hArr x g w n (colOf 0 j c)) (hArr x g w n (colOf 1 j c)) * v (ix2 (rowsOf j c) d)

/-- Half, as the programs write it. -/
abbrev half : EReal := Ideal.ofBits .f32 0x3F000000#32

/-- The block's output: the residual, and half of each chunk's part. -/
def yArr (x : FVec Ideal (⟨3, ![4, 2048, 1024]⟩ : Shape) .f32) (g : FVec Ideal (⟨1, ![1024]⟩ : Shape) .f32) (w : FVec Ideal (⟨2, ![1024, 5632]⟩ : Shape) .f32)
    (v : FVec Ideal (⟨2, ![2816, 1024]⟩ : Shape) .f32) : FVec Ideal (⟨2, ![8192, 1024]⟩ : Shape) .f32 :=
  fun i => row x (i 0) (i 1) + ∑ j : Fin 4, half * part x g w v (i 0) (i 1) j

theorem half_eq : half = ((1 / 2 : ℝ) : EReal) := Cert.RealOps.ofBits_half

/-- Multiplying by a half goes into a sum, whatever is added. -/
theorem half_add (a b : EReal) : half * (a + b) = half * a + half * b := by
  rw [half_eq]
  exact EReal.left_distrib_of_nonneg_of_ne_top (by norm_num) (EReal.coe_ne_top _) a b

theorem half_sum {n : ℕ} (f : Fin n → EReal) : half * ∑ j, f j = ∑ j, half * f j := by
  induction n with
  | zero => rw [Fin.sum_univ_zero, Fin.sum_univ_zero, mul_zero]
  | succ n ih => rw [Fin.sum_univ_succ, Fin.sum_univ_succ, half_add, ih]

/-- A sum over a chunk's columns, piece by piece. -/
theorem sum_pieces (f : Fin 704 → EReal) : ∑ c, f c = (∑ c : Fin 256, f ⟨c.val, by omega⟩) + (∑ c : Fin 256, f ⟨256 + c.val, by omega⟩) + ∑ c : Fin 192, f ⟨512 + c.val, by omega⟩ := by
  have h := Fin.sum_univ_add (a := 512) (b := 192) f
  have h' := Fin.sum_univ_add (a := 256) (b := 256) fun c : Fin 512 => f (Fin.castAdd 192 c)
  rw [h'] at h
  exact h

/-- A sum over all the hidden columns, chunk by chunk. -/
theorem sum_chunks (f : Fin 2816 → EReal) : ∑ q, f q = ∑ j : Fin 4, ∑ c : Fin 704, f (rowsOf j c) := by
  rw [← Finset.sum_product', ← Finset.univ_product_univ.symm]
  refine (Fintype.sum_equiv (finProdFinEquiv (m := 4) (n := 704)) (fun p => f (rowsOf p.1 p.2)) f fun p => ?_).symm
  exact congrArg f (Fin.ext (by simp only [rowsOf, finProdFinEquiv_apply_val]; omega))

end Cert.Ffn

end
-- ==== Proof.FfnBlocks.lean ====
/- The feed-forward block's forward call: what one point computes, and the blocks it reads. -/
module

public import proofs.«01_k».proof.Defs
public import proofs.«01_k».proof.Proof.Gen.Kernel8Ideal.Frame
public import proofs.«01_k».proof.Proof.FfnSpec
public import Idealize.ShloMosaic.Lib.Pipeline.ValueKit
public import Idealize.ShloMosaic.Lib.Pointwise
public import Idealize.ShloMosaic.Lib.Claim
@[expose] public section

set_option maxRecDepth 16384
noncomputable section
open Idealize.ShloMosaic Idealize.ShloMosaic.TcCoe Idealize.SL.Sem
open Idealize.ShloMosaic.Pipeline (Dat)
open Cert.RealOps Cert.Fwd Cert.Ffn
namespace Cert.Kernel8Ideal.Value
open Cert.Kernel8Ideal Cert.Kernel8Ideal.Gen

/-- The normed block. -/
theorem norm_at (x : FVec Ideal S1024x1024 .f32) (g : FVec Ideal S1x1024 .f32) (r k : Fin 1024) :
    k0_pay5 (F := Ideal) x g (ix2 r k) = x (ix2 r k) * rs 0x44800000#32 (fun k : Fin 1024 => x (ix2 r k)) * g (ix2 (0 : Fin 1) k) := by
  pointwise [k0_pay5, k0_pay4]
  rfl

/-- The first piece's columns of the products with the input weights, gate and linear part. -/
theorem g0_at (b : FVec Ideal S1024x1024 .bf16) (w : FVec Ideal S1x1024x256 .bf16) (r : Fin 1024) (c : Fin 256) :
    k0_pay8 (F := Ideal) b w (ix2 r c) = dot (fun k => b (ix2 r k)) fun k => w (ix3 (0 : Fin 1) k c) := by
  pointwise [k0_pay8, k0_pay6]
  rfl
theorem u0_at (b : FVec Ideal S1024x1024 .bf16) (w : FVec Ideal S1x1024x256 .bf16) (r : Fin 1024) (c : Fin 256) :
    k0_pay9 (F := Ideal) b w (ix2 r c) = dot (fun k => b (ix2 r k)) fun k => w (ix3 (0 : Fin 1) k c) := by
  pointwise [k0_pay9, k0_pay6]
  rfl
/-- The second piece's. -/
theorem g1_at (b : FVec Ideal S1024x1024 .bf16) (w : FVec Ideal S1x1024x256 .bf16) (r : Fin 1024) (c : Fin 256) :
    k0_pay14 (F := Ideal) b w (ix2 r c) = dot (fun k => b (ix2 r k)) fun k => w (ix3 (0 : Fin 1) k c) := by
  pointwise [k0_pay14]
  rfl
theorem u1_at (b : FVec Ideal S1024x1024 .bf16) (w : FVec Ideal S1x1024x256 .bf16) (r : Fin 1024) (c : Fin 256) :
    k0_pay15 (F := Ideal) b w (ix2 r c) = dot (fun k => b (ix2 r k)) fun k => w (ix3 (0 : Fin 1) k c) := by
  pointwise [k0_pay15]
  rfl
/-- The third piece's. -/
theorem g2_at (b : FVec Ideal S1024x1024 .bf16) (w : FVec Ideal S1x1024x192 .bf16) (r : Fin 1024) (c : Fin 192) :
    k0_pay19 (F := Ideal) b w (ix2 r c) = dot (fun k => b (ix2 r k)) fun k => w (ix3 (0 : Fin 1) k c) := by
  pointwise [k0_pay19]
  rfl
theorem u2_at (b : FVec Ideal S1024x1024 .bf16) (w : FVec Ideal S1x1024x192 .bf16) (r : Fin 1024) (c : Fin 192) :
    k0_pay20 (F := Ideal) b w (ix2 r c) = dot (fun k => b (ix2 r k)) fun k => w (ix3 (0 : Fin 1) k c) := by
  pointwise [k0_pay20]
  rfl

/-- The first piece, gated. -/
theorem a0_at (b : FVec Ideal S1024x1024 .bf16) (w w' : FVec Ideal S1x1024x256 .bf16) (r : Fin 1024) (c : Fin 256) :
    k0_pay12 (F := Ideal) b w w' (ix2 r c) = glu (dot (fun k => b (ix2 r k)) fun k => w (ix3 (0 : Fin 1) k c)) (dot (fun k => b (ix2 r k)) fun k => w' (ix3 (0 : Fin 1) k c)) := by
  rw [← g0_at, ← u0_at]
  pointwise [k0_pay12]
  rfl
/-- The chunk's rows of the output weights. -/
theorem v_at (v : FVec Ideal S2x352x1024 .bf16) (c : Fin 704) (d : Fin 1024) :
    k0_pay7 (F := Ideal) v (ix2 c d) = v (ix3 (⟨c.val / 352, by omega⟩ : Fin 2) (⟨c.val % 352, by omega⟩ : Fin 352) d) := by
  pointwise [k0_pay7]
theorem v0_at (v : FVec Ideal S2x352x1024 .bf16) (c : Fin 256) (d : Fin 1024) :
    k0_pay13 (F := Ideal) v (ix2 c d) = k0_pay7 v (ix2 (⟨c.val, by omega⟩ : Fin 704) d) := by
  pointwise [k0_pay13]
/-- The first two pieces, times their rows of the output weights. -/
theorem p01_at (b : FVec Ideal S1024x1024 .bf16) (v : FVec Ideal S704x1024 .bf16) (a : FVec Ideal S1024x256 .bf16) (v0 : FVec Ideal S256x1024 .bf16) (w w' : FVec Ideal S1x1024x256 .bf16) (r d : Fin 1024) :
    k0_pay18 (F := Ideal) b v a v0 (constant S1024x1024 .f32 0x00000000#32) w w' (ix2 r d) = (∑ c : Fin 256, a (ix2 r c) * v0 (ix2 c d))
      + ∑ c : Fin 256, glu (k0_pay14 (F := Ideal) b w (ix2 r c)) (k0_pay15 (F := Ideal) b w' (ix2 r c)) * v (ix2 (⟨256 + c.val, by omega⟩ : Fin 704) d) := by
  pointwise [k0_pay18]
  rfl
/-- One point's addition to the output's block. -/
theorem p_at (v : FVec Ideal S704x1024 .bf16) (s : FVec Ideal S1024x1024 .f32) (g u : FVec Ideal S1024x192 .f32) (y : FVec Ideal S1024x1024 .f32) (r d : Fin 1024) :
    k0_pay3 (F := Ideal) v s g u y (ix2 r d) = y (ix2 r d) + half * (s (ix2 r d) + ∑ c : Fin 192, glu (g (ix2 r c)) (u (ix2 r c)) * v (ix2 (⟨512 + c.val, by omega⟩ : Fin 704) d)) := by
  pointwise [k0_pay3]
  rfl

/-- The normed block, read back, is the normed block; the residual's block is the input's. -/
theorem same (b : FVec Ideal S1024x1024 .bf16) : k0_pay6 (F := Ideal) b = b := by
  funext i; idx_vars i; pointwise [k0_pay6]
theorem res_at (x : FVec Ideal S1024x1024 .f32) (r k : Fin 1024) : k0_pay4 (F := Ideal) x (ix2 r k) = x (ix2 r k) := by
  pointwise [k0_pay4]
/-- The six pieces, as they are stored. -/
theorem sg0_at (b : FVec Ideal S1024x1024 .bf16) (w : FVec Ideal S1x1024x256 .bf16) (r : Fin 1024) (q : Fin 256) :
    k0_pay10 (F := Ideal) b w (ix4 (0 : Fin 1) (0 : Fin 1) r q) = dot (fun k => b (ix2 r k)) fun k => w (ix3 (0 : Fin 1) k q) := by
  rw [← g0_at]
  pointwise [k0_pay10]
theorem su0_at (b : FVec Ideal S1024x1024 .bf16) (w : FVec Ideal S1x1024x256 .bf16) (r : Fin 1024) (q : Fin 256) :
    k0_pay11 (F := Ideal) b w (ix4 (0 : Fin 1) (0 : Fin 1) r q) = dot (fun k => b (ix2 r k)) fun k => w (ix3 (0 : Fin 1) k q) := by
  rw [← u0_at]
  pointwise [k0_pay11]
theorem sg1_at (b : FVec Ideal S1024x1024 .bf16) (w : FVec Ideal S1x1024x256 .bf16) (r : Fin 1024) (q : Fin 256) :
    k0_pay16 (F := Ideal) b w (ix4 (0 : Fin 1) (0 : Fin 1) r q) = dot (fun k => b (ix2 r k)) fun k => w (ix3 (0 : Fin 1) k q) := by
  rw [← g1_at]
  pointwise [k0_pay16]
theorem su1_at (b : FVec Ideal S1024x1024 .bf16) (w : FVec Ideal S1x1024x256 .bf16) (r : Fin 1024) (q : Fin 256) :
    k0_pay17 (F := Ideal) b w (ix4 (0 : Fin 1) (0 : Fin 1) r q) = dot (fun k => b (ix2 r k)) fun k => w (ix3 (0 : Fin 1) k q) := by
  rw [← u1_at]
  pointwise [k0_pay17]
theorem sg2_at (b : FVec Ideal S1024x1024 .bf16) (w : FVec Ideal S1x1024x192 .bf16) (r : Fin 1024) (q : Fin 192) :
    k0_pay1 (F := Ideal) (k0_pay21 (F := Ideal) b w) (ix4 (0 : Fin 1) (0 : Fin 1) r q) = dot (fun k => b (ix2 r k)) fun k => w (ix3 (0 : Fin 1) k q) := by
  rw [← g2_at]
  pointwise [k0_pay1, k0_pay21]
theorem su2_at (b : FVec Ideal S1024x1024 .bf16) (w : FVec Ideal S1x1024x192 .bf16) (r : Fin 1024) (q : Fin 192) :
    k0_pay2 (F := Ideal) (k0_pay20 (F := Ideal) b w) (ix4 (0 : Fin 1) (0 : Fin 1) r q) = dot (fun k => b (ix2 r k)) fun k => w (ix3 (0 : Fin 1) k q) := by
  rw [← u2_at]
  pointwise [k0_pay2]

end Cert.Kernel8Ideal.Value

end
-- ==== Proof.FfnKernel.lean ====
/- The feed-forward block's forward call: the three arrays it ends with. -/
module

public import proofs.«01_k».proof.Proof.FfnBlocks
@[expose] public section

set_option maxRecDepth 16384
noncomputable section
open Idealize.ShloMosaic Idealize.ShloMosaic.TcCoe Idealize.SL.Sem
open Idealize.ShloMosaic.Pipeline (Dat)
open Cert.RealOps Cert.Fwd Cert.Ffn
namespace Cert.Kernel8Ideal.Value
open Cert.Kernel8Ideal Cert.Kernel8Ideal.Gen

variable (m : (ℓ : Loc nD τ sig) → Buf (Elt Ideal) ℓ) (c : Dev nD)

/-- The four arguments on a core. -/
abbrev aX : FVec Ideal S4x2048x1024 .f32 := m ((c.tc : Thread nD τ).loc main_arg0)
abbrev aG : FVec Ideal S1024 .f32 := m ((c.tc : Thread nD τ).loc main_arg1)
abbrev aW : FVec Ideal S1024x5632 .f32 := m ((c.tc : Thread nD τ).loc main_arg2)
abbrev aV : FVec Ideal S2816x1024 .f32 := m ((c.tc : Thread nD τ).loc main_arg3)

theorem idx : ∀ t : Fin cfg0.N, win0_0.index t = ![t.val / 4, 0] ∧ win0_1.index t = ![0, 0] ∧ win0_2.index t = ![t.val % 4, 0, 0] ∧ win0_3.index t = ![t.val % 4 + 4, 0, 0]
    ∧ win0_4.index t = ![t.val % 4, 0, 0] ∧ win0_5.index t = ![t.val / 4, 0] ∧ win0_6.index t = ![t.val / 4, 0] ∧ win0_7.index t = ![t.val % 4, 0, t.val / 4, 0] :=
  (by decide +kernel : ∀ t : Fin grid0.N, win0_0.index t = ![t.val / 4, 0] ∧ win0_1.index t = ![0, 0] ∧ win0_2.index t = ![t.val % 4, 0, 0] ∧ win0_3.index t = ![t.val % 4 + 4, 0, 0]
    ∧ win0_4.index t = ![t.val % 4, 0, 0] ∧ win0_5.index t = ![t.val / 4, 0] ∧ win0_6.index t = ![t.val / 4, 0] ∧ win0_7.index t = ![t.val % 4, 0, t.val / 4, 0])
theorem ptlt (t : Fin cfg0.N) : t.val < 32 := lt_of_lt_of_eq t.isLt N_0
/-- The row of the batch that row `r` of point `t`'s block is, and the chunk of the hidden columns the point works on. -/
def rowOf (t : Fin cfg0.N) (r : Fin 1024) : Fin 8192 := ⟨t.val / 4 * 1024 + r.val, by have := ptlt t; omega⟩
def chunk (t : Fin cfg0.N) : Fin 4 := ⟨t.val % 4, by omega⟩

theorem V_x : (V m c main_v5 : FVec Ideal S8192x1024 .f32) = shapeCast S8192x1024 (aX m c) shapeCasts_S4x2048x1024_S8192x1024 := by
  unfold V V0; rw [List.flatten_cons, List.flatten_nil, List.append_nil]; after_results_simp; rfl
theorem V_g : (V m c main_v6 : FVec Ideal S1x1024 .f32) = broadcastInDim S1x1024 ![1] bcast_S1024_S1x1024_1 (aG m c) := by
  unfold V V0; rw [List.flatten_cons, List.flatten_nil, List.append_nil]; after_results_simp
theorem V_w : (V m c main_v2 : FVec Ideal S8x1024x704 .bf16) = truncf .bf16 (transpose S8x1024x704 [1, 0, 2] (shapeCast S1024x8x704 (aW m c) shapeCasts_S1024x5632_S1024x8x704) transposes_S1024x8x704_S8x1024x704_1_0_2) bitsLt_bf16_f32 := by
  unfold V V0; rw [List.flatten_cons, List.flatten_nil, List.append_nil]; after_results_simp; rfl
theorem V_v : (V m c main_v4 : FVec Ideal S8x352x1024 .bf16) = truncf .bf16 (shapeCast S8x352x1024 (aV m c) shapeCasts_S2816x1024_S8x352x1024) bitsLt_bf16_f32 := by
  unfold V V0; rw [List.flatten_cons, List.flatten_nil, List.append_nil]; after_results_simp; rfl

variable (t : Fin cfg0.N)
theorem blk0_at (r k : Fin 1024) : (iblk m c 0 t : FVec Ideal S1024x1024 .f32) (ix2 r k) = row (aX m c) (rowOf t r) k := by
  have h : (iblk m c 0 t : FVec Ideal S1024x1024 .f32) (ix2 r k) = (V m c main_v5 : FVec Ideal S8192x1024 .f32) (ix2 (rowOf t r) k) := by
    blk_point [iblk, idx t, rowOf]
  rw [h, V_x, row]
  pointwise
theorem blk1_at (k : Fin 1024) : (iblk m c 1 t : FVec Ideal S1x1024 .f32) (ix2 (0 : Fin 1) k) = aG m c (ix1 k) := by
  have h : (iblk m c 1 t : FVec Ideal S1x1024 .f32) (ix2 (0 : Fin 1) k) = (V m c main_v6 : FVec Ideal S1x1024 .f32) (ix2 (0 : Fin 1) k) := by
    blk_point [iblk, idx t]
  rw [h, V_g]
  pointwise
theorem blk2_at (k : Fin 1024) (q : Fin 704) : (iblk m c 2 t : FVec Ideal S1x1024x704 .bf16) (ix3 (0 : Fin 1) k q) = aW m c (ix2 k (colOf 0 (chunk t) q)) := by
  have h : (iblk m c 2 t : FVec Ideal S1x1024x704 .bf16) (ix3 (0 : Fin 1) k q) = (V m c main_v2 : FVec Ideal S8x1024x704 .bf16) (ix3 (⟨t.val % 4, by omega⟩ : Fin 8) k q) := by
    blk_point [iblk, idx t]
  rw [h, V_w]
  pointwise
  exact congrArg (fun a => aW m c (ix2 k a)) (Fin.ext (by simp only [colOf, chunk]; simp))
theorem blk3_at (k : Fin 1024) (q : Fin 704) : (iblk m c 3 t : FVec Ideal S1x1024x704 .bf16) (ix3 (0 : Fin 1) k q) = aW m c (ix2 k (colOf 1 (chunk t) q)) := by
  have h : (iblk m c 3 t : FVec Ideal S1x1024x704 .bf16) (ix3 (0 : Fin 1) k q) = (V m c main_v2 : FVec Ideal S8x1024x704 .bf16) (ix3 (⟨t.val % 4 + 4, by omega⟩ : Fin 8) k q) := by
    blk_point [iblk, idx t]
  rw [h, V_w]
  pointwise
  exact congrArg (fun a => aW m c (ix2 k a)) (Fin.ext (by simp only [colOf, chunk]; simp; omega))
theorem blk4_at (p : Fin 2) (q : Fin 352) (d : Fin 1024) : (iblk m c 4 t : FVec Ideal S2x352x1024 .bf16) (ix3 p q d) = aV m c (ix2 (rowsOf (chunk t) ⟨p.val * 352 + q.val, by omega⟩) d) := by
  have h : (iblk m c 4 t : FVec Ideal S2x352x1024 .bf16) (ix3 p q d) = (V m c main_v4 : FVec Ideal S8x352x1024 .bf16) (ix3 (⟨t.val % 4 * 2 + p.val, by omega⟩ : Fin 8) q d) := by
    blk_point [iblk, idx t]
  rw [h, V_v]
  pointwise
  exact congrArg (fun a => aV m c (ix2 a d)) (Fin.ext (by simp only [rowsOf, chunk]; omega))

/-- The chunk's rows of the output weights, as the point reads them. -/
theorem wv_at (q : Fin 704) (d : Fin 1024) : k0_pay7 (F := Ideal) (iblk m c 4 t : FVec Ideal S2x352x1024 .bf16) (ix2 q d) = aV m c (ix2 (rowsOf (chunk t) q) d) := by
  rw [v_at, blk4_at]
  exact congrArg (fun a => aV m c (ix2 (rowsOf (chunk t) a) d)) (Fin.ext (by simp only; omega))

/-- The pieces of the chunk's columns, as the body loads them: the gate's and the linear part's. -/
theorem ldG (o n : ℕ) (ho : o + n ≤ 704) (hb) (k : Fin 1024) (q : Fin n) :
    View.ld (iblk m c 2 t : FVec Ideal S1x1024x704 .bf16) (Rect.unit (s := S1x1024x704) ![0, 0, o] ![1, 1024, n] hb) (ix3 (0 : Fin 1) k q)
      = aW m c (ix2 k (colOf 0 (chunk t) ⟨o + q.val, by omega⟩)) := by
  rw [← blk2_at m c t]
  pointwise
  try rfl
theorem ldU (o n : ℕ) (ho : o + n ≤ 704) (hb) (k : Fin 1024) (q : Fin n) :
    View.ld (iblk m c 3 t : FVec Ideal S1x1024x704 .bf16) (Rect.unit (s := S1x1024x704) ![0, 0, o] ![1, 1024, n] hb) (ix3 (0 : Fin 1) k q)
      = aW m c (ix2 k (colOf 1 (chunk t) ⟨o + q.val, by omega⟩)) := by
  rw [← blk3_at m c t]
  pointwise
  try rfl

theorem emb5 (r k : Fin 1024) : (win0_5.blk t).view.emb (ix2 r k) = (ix2 (rowOf t r) k : S8192x1024.Idx) := by blk_ext [idx t, rowOf]
theorem emb6 (r k : Fin 1024) : (win0_6.blk t).view.emb (ix2 r k) = (ix2 (rowOf t r) k : S8192x1024.Idx) := by blk_ext [idx t, rowOf]
theorem emb7 (p : Fin 2) (r : Fin 1024) (q : Fin 704) : (win0_7.blk t).view.emb (ix4 (0 : Fin 1) p r q) = (ix4 (chunk t) p (rowOf t r) q : S4x2x8192x704.Idx) := by blk_ext [idx t, rowOf, chunk]

variable {b : FVec Ideal S1024x1024 .bf16}

/-- A row of the normed block times a column of a piece of the input weights. -/
theorem piece (hb : ∀ r k, b (ix2 r k) = nArr (aX m c) (aG m c) (rowOf t r) k) {n : ℕ} (p : Fin 2) (o : ℕ) (ho : o + n ≤ 704) {w : FVec Ideal (⟨3, ![1, 1024, n]⟩ : Shape) .bf16}
    (hw : ∀ k q, w (ix3 (0 : Fin 1) k q) = aW m c (ix2 k (colOf p (chunk t) ⟨o + q.val, by omega⟩))) (r : Fin 1024) (q : Fin n) :
    dot (fun k => b (ix2 r k)) (fun k => w (ix3 (0 : Fin 1) k q)) = hArr (aX m c) (aG m c) (aW m c) (rowOf t r) (colOf p (chunk t) ⟨o + q.val, by omega⟩) := by
  unfold dot hArr dot
  simp only [hb, hw]

/-- What a point adds to the output's block: half of its chunk's part. -/
theorem add_at (hb : ∀ r k, b (ix2 r k) = nArr (aX m c) (aG m c) (rowOf t r) k) {w0 w0' w1 w1' : FVec Ideal S1x1024x256 .bf16} {w2 w2' : FVec Ideal S1x1024x192 .bf16}
    (e0 : ∀ k q, w0 (ix3 (0 : Fin 1) k q) = aW m c (ix2 k (colOf 0 (chunk t) ⟨0 + q.val, by omega⟩))) (e0' : ∀ k q, w0' (ix3 (0 : Fin 1) k q) = aW m c (ix2 k (colOf 1 (chunk t) ⟨0 + q.val, by omega⟩)))
    (e1 : ∀ k q, w1 (ix3 (0 : Fin 1) k q) = aW m c (ix2 k (colOf 0 (chunk t) ⟨256 + q.val, by omega⟩))) (e1' : ∀ k q, w1' (ix3 (0 : Fin 1) k q) = aW m c (ix2 k (colOf 1 (chunk t) ⟨256 + q.val, by omega⟩)))
    (e2 : ∀ k q, w2 (ix3 (0 : Fin 1) k q) = aW m c (ix2 k (colOf 0 (chunk t) ⟨512 + q.val, by omega⟩))) (e2' : ∀ k q, w2' (ix3 (0 : Fin 1) k q) = aW m c (ix2 k (colOf 1 (chunk t) ⟨512 + q.val, by omega⟩)))
    (y : FVec Ideal S1024x1024 .f32) (r d : Fin 1024) :
    k0_pay3 (F := Ideal) (k0_pay7 (iblk m c 4 t : FVec Ideal S2x352x1024 .bf16)) (k0_pay18 (k0_pay6 b) (k0_pay7 (iblk m c 4 t : FVec Ideal S2x352x1024 .bf16)) (k0_pay12 b w0 w0') (k0_pay13 (iblk m c 4 t : FVec Ideal S2x352x1024 .bf16))
      (constant S1024x1024 .f32 0x00000000#32) w1 w1') (k0_pay19 (k0_pay6 b) w2) (k0_pay20 (k0_pay6 b) w2') y (ix2 r d)
      = y (ix2 r d) + half * part (aX m c) (aG m c) (aW m c) (aV m c) (rowOf t r) d (chunk t) := by
  rw [same, p_at, p01_at]
  simp only [a0_at, v0_at, wv_at, g1_at, u1_at, g2_at, u2_at, piece m c t hb 0 0 (by omega) e0, piece m c t hb 1 0 (by omega) e0', piece m c t hb 0 256 (by omega) e1, piece m c t hb 1 256 (by omega) e1',
    piece m c t hb 0 512 (by omega) e2, piece m c t hb 1 512 (by omega) e2']
  unfold part
  rw [sum_pieces]
  simp only [Nat.zero_add]

/-- The normed block at a tile's first point. -/
theorem n_at (r k : Fin 1024) : k0_pay5 (F := Ideal) (iblk m c 0 t : FVec Ideal S1024x1024 .f32) (iblk m c 1 t : FVec Ideal S1x1024 .f32) (ix2 r k) = nArr (aX m c) (aG m c) (rowOf t r) k := by
  rw [norm_at]
  simp only [blk0_at, blk1_at]
  rfl
theorem xnA (h : t.val % 4 = 0) (r k : Fin 1024) : ((outsAt0 m c t.val t.isLt).2.1 : FVec Ideal S1024x1024 .bf16) (ix2 r k) = nArr (aX m c) (aG m c) (rowOf t r) k := by
  rw [outsAt0_A m c t h]
  frame_out
  rw [same]
  exact n_at m c t r k
/-- Past it, the block stays. -/
theorem xnB (h : ¬ t.val % 4 = 0) : ((outsAt0 m c t.val t.isLt).2.1 : FVec Ideal S1024x1024 .bf16) = ((outsAt0 m c (t.val - 1) (Nat.lt_of_le_of_lt (Nat.sub_le _ _) t.isLt)).2.1 : FVec Ideal S1024x1024 .bf16) := by
  rw [outsAt0_B m c t h]
  frame_out
  exact same _
theorem rowOf_pred (n : ℕ) (h : n + 1 < cfg0.N) (h4 : ¬ (n + 1) % 4 = 0) (r : Fin 1024) : rowOf ⟨n, by omega⟩ r = rowOf ⟨n + 1, h⟩ r :=
  Fin.ext (by simp only [rowOf]; omega)
/-- The normed block at every point: the tile's normed rows. -/
theorem xn_at : ∀ (n : ℕ) (h : n < cfg0.N) (r k : Fin 1024), ((outsAt0 m c n h).2.1 : FVec Ideal S1024x1024 .bf16) (ix2 r k) = nArr (aX m c) (aG m c) (rowOf ⟨n, h⟩ r) k := by
  intro n
  induction n with
  | zero => exact fun h r k => xnA m c ⟨0, h⟩ rfl r k
  | succ n ih =>
    intro h r k
    by_cases h4 : (n + 1) % 4 = 0
    · exact xnA m c ⟨n + 1, h⟩ h4 r k
    · rw [← rowOf_pred n h h4]
      exact (congrFun (xnB m c ⟨n + 1, h⟩ h4) _).trans (ih (by omega) r k)
theorem xnP (h : ¬ t.val % 4 = 0) (r k : Fin 1024) : ((outsAt0 m c (t.val - 1) (Nat.lt_of_le_of_lt (Nat.sub_le _ _) t.isLt)).2.1 : FVec Ideal S1024x1024 .bf16) (ix2 r k) = nArr (aX m c) (aG m c) (rowOf t r) k :=
  (congrFun (xnB m c t h).symm _).trans (xn_at m c t.val t.isLt r k)

/-- The output's block at a tile's first point, and at the others over what the point before left. -/
theorem yA (h : t.val % 4 = 0) (r d : Fin 1024) : ((outsAt0 m c t.val t.isLt).1 : FVec Ideal S1024x1024 .f32) (ix2 r d)
    = row (aX m c) (rowOf t r) d + half * part (aX m c) (aG m c) (aW m c) (aV m c) (rowOf t r) d (chunk t) := by
  rw [outsAt0_A m c t h]
  frame_out
  rw [add_at m c t (n_at m c t) (ldG m c t 0 256 (by omega) _) (ldU m c t 0 256 (by omega) _) (ldG m c t 256 256 (by omega) _) (ldU m c t 256 256 (by omega) _) (ldG m c t 512 192 (by omega) _) (ldU m c t 512 192 (by omega) _),
    res_at, blk0_at]
theorem yB (h : ¬ t.val % 4 = 0) (r d : Fin 1024) : ((outsAt0 m c t.val t.isLt).1 : FVec Ideal S1024x1024 .f32) (ix2 r d)
    = ((outsAt0 m c (t.val - 1) (Nat.lt_of_le_of_lt (Nat.sub_le _ _) t.isLt)).1 : FVec Ideal S1024x1024 .f32) (ix2 r d) + half * part (aX m c) (aG m c) (aW m c) (aV m c) (rowOf t r) d (chunk t) := by
  rw [outsAt0_B m c t h]
  frame_out
  exact add_at m c t (xnP m c t h) (ldG m c t 0 256 (by omega) _) (ldU m c t 0 256 (by omega) _) (ldG m c t 256 256 (by omega) _) (ldU m c t 256 256 (by omega) _) (ldG m c t 512 192 (by omega) _) (ldU m c t 512 192 (by omega) _) _ r d
/-- The output's block at every point: the residual, and half of the parts of the chunks so far. -/
theorem y_at : ∀ (n : ℕ) (h : n < cfg0.N) (r d : Fin 1024), ((outsAt0 m c n h).1 : FVec Ideal S1024x1024 .f32) (ix2 r d)
    = row (aX m c) (rowOf ⟨n, h⟩ r) d + ∑ j ∈ Finset.range (n % 4 + 1), half * part (aX m c) (aG m c) (aW m c) (aV m c) (rowOf ⟨n, h⟩ r) d ⟨j % 4, by omega⟩ := by
  have first : ∀ (n : ℕ) (h : n < cfg0.N), n % 4 = 0 → ∀ r d, ((outsAt0 m c n h).1 : FVec Ideal S1024x1024 .f32) (ix2 r d)
      = row (aX m c) (rowOf ⟨n, h⟩ r) d + ∑ j ∈ Finset.range (n % 4 + 1), half * part (aX m c) (aG m c) (aW m c) (aV m c) (rowOf ⟨n, h⟩ r) d ⟨j % 4, by omega⟩ := by
    intro n h h4 r d
    refine (yA m c ⟨n, h⟩ h4 r d).trans ?_
    rw [h4, Finset.sum_range_one]
    exact congrArg (fun a => row (aX m c) (rowOf ⟨n, h⟩ r) d + half * part (aX m c) (aG m c) (aW m c) (aV m c) (rowOf ⟨n, h⟩ r) d a) (Fin.ext h4)
  intro n
  induction n with
  | zero => exact fun h => first 0 h rfl
  | succ n ih =>
    intro h r d
    by_cases h4 : (n + 1) % 4 = 0
    · exact first (n + 1) h h4 r d
    · refine (yB m c ⟨n + 1, h⟩ h4 r d).trans ?_
      rw [Finset.sum_range_succ, ← add_assoc, show (n + 1) % 4 = n % 4 + 1 by omega]
      refine congrArg₂ (· + ·) ?_ ?_
      · rw [← rowOf_pred n h h4]
        exact ih (by omega) r d
      · exact congrArg (fun a => half * part (aX m c) (aG m c) (aW m c) (aV m c) (rowOf ⟨n + 1, h⟩ r) d a) (Fin.ext (by simp only [chunk]; omega))

end Cert.Kernel8Ideal.Value

end
-- ==== Proof.FfnFwd.lean ====
/- The feed-forward block's forward call: kernel and reference end with the same arrays, whatever the arguments hold. -/
module

public import proofs.«01_k».proof.Defs
public import proofs.«01_k».proof.Proof.FfnKernel
public import proofs.«01_k».proof.Proof.Gen.Reference8Ideal.Run
public import Idealize.ShloMosaic.Lib.Claim
@[expose] public section

set_option maxRecDepth 16384
noncomputable section
open Idealize.ShloMosaic Idealize.ShloMosaic.TcCoe Idealize.SL.Sem
open Idealize.ShloMosaic.Pipeline (Dat)
open Cert.RealOps Cert.Fwd Cert.Ffn
namespace Cert.Ffn
/-- The normed rows and the hidden columns, as arrays. -/
def xnArr (x : FVec Ideal (⟨3, ![4, 2048, 1024]⟩ : Shape) .f32) (g : FVec Ideal (⟨1, ![1024]⟩ : Shape) .f32) : FVec Ideal (⟨2, ![8192, 1024]⟩ : Shape) .bf16 :=
  fun i => nArr x g (i 0) (i 1)
def guArr (x : FVec Ideal (⟨3, ![4, 2048, 1024]⟩ : Shape) .f32) (g : FVec Ideal (⟨1, ![1024]⟩ : Shape) .f32) (w : FVec Ideal (⟨2, ![1024, 5632]⟩ : Shape) .f32) : FVec Ideal (⟨2, ![8192, 5632]⟩ : Shape) .bf16 :=
  fun i => hArr x g w (i 0) (i 1)
end Cert.Ffn
namespace Cert.Kernel8Ideal.Value
open Cert.Kernel8Ideal Cert.Kernel8Ideal.Gen
variable (m : (ℓ : Loc nD τ sig) → Buf (Elt Ideal) ℓ) (c : Dev nD)

/-- The output's array. -/
theorem arr5 : ((dats m 0 c).arrAt 5 cfg0.N : FVec Ideal S8192x1024 .f32) = yArr (aX m c) (aG m c) (aW m c) (aV m c) := by
  refine (dats m 0 c).arrAt_eq_of_covers 5 _ (by decide +kernel) fun t hf y => ?_
  have h3 : t.val % 4 = 3 := (flush0_5 t).mp hf
  rw [after0_5]
  idx_vars y
  blk_simp
  rw [emb5]
  refine (y_at m c t.val t.isLt y0 y1).trans ?_
  rw [h3, Finset.sum_range]
  exact congrArg (fun f : Fin 4 → EReal => row (aX m c) (rowOf t y0) y1 + ∑ j, f j) (funext fun j => congrArg (fun a => half * part (aX m c) (aG m c) (aW m c) (aV m c) (rowOf t y0) y1 a) (Fin.ext (Nat.mod_eq_of_lt j.isLt)))
/-- The normed rows' array. -/
theorem arr6 : ((dats m 0 c).arrAt 6 cfg0.N : FVec Ideal S8192x1024 .bf16) = xnArr (aX m c) (aG m c) := by
  refine (dats m 0 c).arrAt_eq_of_covers 6 _ (by decide +kernel) fun t _ y => ?_
  rw [after0_6]
  idx_vars y
  blk_simp
  rw [emb6]
  exact xn_at m c t.val t.isLt y0 y1
/-- A piece's contents, read at the place of the block that the piece's index is. -/
theorem tile (t : Fin cfg0.N) (p : Fin 2) {n : ℕ} (o : ℕ) (ho : o + n ≤ 704) {P : FVec Ideal (⟨4, ![1, 1, 1024, n]⟩ : Shape) .bf16}
    (hP : ∀ r q, P (ix4 (0 : Fin 1) (0 : Fin 1) r q) = hArr (aX m c) (aG m c) (aW m c) (rowOf t r) (colOf p (chunk t) ⟨o + q.val, by omega⟩))
    (y : (⟨4, ![1, 1, 1024, n]⟩ : Shape).Idx) {y1 : Fin 2} {y2 : Fin 1024} {y3 : Fin 704} (h1 : y1.val = p.val + (y 1).val) (h2 : y2.val = (y 2).val) (h3 : y3.val = o + (y 3).val) :
    P y = hArr (aX m c) (aG m c) (aW m c) (rowOf t y2) (colOf y1 (chunk t) y3) := by
  have e : y = ix4 (0 : Fin 1) (0 : Fin 1) y2 (⟨(y 3).val, (y 3).isLt⟩ : Fin n) := by
    funext a
    apply Fin.ext
    have l0 : (y 0).val < 1 := (y 0).isLt
    have l1 : (y 1).val < 1 := (y 1).isLt
    match a with
    | 0 => exact Nat.lt_one_iff.mp l0
    | 1 => exact Nat.lt_one_iff.mp l1
    | 2 => exact h2.symm
    | 3 => rfl
  have l1 : (y 1).val < 1 := (y 1).isLt
  obtain rfl : y1 = p := Fin.ext (by omega)
  have e3 : y3 = ⟨o + (y 3).val, by have : (y 3).val < n := (y 3).isLt; omega⟩ := Fin.ext h3
  rw [e, hP, e3]
/-- The hidden columns' array, as the kernel lays it out. -/
theorem arr7 : ((dats m 0 c).arrAt 7 cfg0.N : FVec Ideal S4x2x8192x704 .bf16) = fun i => hArr (aX m c) (aG m c) (aW m c) (i 2) (colOf (i 1) (i 0) (i 3)) := by
  refine (dats m 0 c).arrAt_eq_of_covers 7 _ (by decide +kernel) fun t _ y => ?_
  rw [after0_7]
  idx_vars y
  by_cases h : t.val % 4 = 0
  all_goals
    first | rw [outsAt0_A m c t h] | rw [outsAt0_B m c t h]
    frame_out
    blk_simp
    have hb := n_at m c t
    try have hb := xnP m c t h
    clear h
    obtain rfl : y0 = 0 := Subsingleton.elim _ _
    rw [emb7]
    simp only [same]
    canon_tiles y h using View.cover_of_tiledBy _ ![1, 1, 1024, 64] (by sl_kernel_rfl) _
    · exact tile m c t 1 512 (by omega) (fun r q => (su2_at _ _ r q).trans (piece m c t hb 1 512 (by omega) (ldU m c t 512 192 (by omega) _) r q)) y h1 h2 h3
    · exact tile m c t 0 512 (by omega) (fun r q => (sg2_at _ _ r q).trans (piece m c t hb 0 512 (by omega) (ldG m c t 512 192 (by omega) _) r q)) y (h1.trans (Nat.zero_add _).symm) h2 h3
    · exact tile m c t 1 256 (by omega) (fun r q => (su1_at _ _ r q).trans (piece m c t hb 1 256 (by omega) (ldU m c t 256 256 (by omega) _) r q)) y h1 h2 h3
    · exact tile m c t 0 256 (by omega) (fun r q => (sg1_at _ _ r q).trans (piece m c t hb 0 256 (by omega) (ldG m c t 256 256 (by omega) _) r q)) y (h1.trans (Nat.zero_add _).symm) h2 h3
    · exact tile m c t 1 0 (by omega) (fun r q => (su0_at _ _ r q).trans (piece m c t hb 1 0 (by omega) (ldU m c t 0 256 (by omega) _) r q)) y h1 h2 (h3.trans (Nat.zero_add _).symm)
    · exact tile m c t 0 0 (by omega) (fun r q => (sg0_at _ _ r q).trans (piece m c t hb 0 0 (by omega) (ldG m c t 0 256 (by omega) _) r q)) y (h1.trans (Nat.zero_add _).symm) h2 (h3.trans (Nat.zero_add _).symm)
/-- The contents of the buffer the host lines after the region write. -/
abbrev tail (b : Ref sig .tc) := Pipeline.afterTail₀ cfgs (dats m) 0 (V0 m) [hostOps1] c b
theorem wa7 : Pipeline.withArrays (cfgs 0).spec c (V0 m c) (fun w => (dats m 0 c).arrAt w (cfgs 0).N) (Proc.tc.devRef main_v7_2) = (dats m 0 c).arrAt 7 cfg0.N := by
  have only : ∀ w : Fin 8, Pipeline.arrRef spec0 w = main_v7_2 → w = 7 := by decide
  have h : ∃ w : Fin 8, Proc.devRef .tc (Pipeline.arrRef spec0 w) = Proc.devRef (τ := τ) .tc main_v7_2 := ⟨7, rfl⟩
  unfold Pipeline.withArrays
  rw [dif_pos h]
  suffices ∀ (w : Fin 8) (e : Proc.devRef .tc (Pipeline.arrRef spec0 w) = Proc.devRef (τ := τ) .tc main_v7_2),
      cast (congrArg (fun b' : DevRef τ sig => b'.ty.Contents (Elt Ideal)) e) ((dats m 0 c).arrAt w (cfgs 0).N) = (dats m 0 c).arrAt 7 cfg0.N from this _ h.choose_spec
  intro w e
  obtain rfl := only w (Proc.devRef_injective _ e)
  rfl
theorem tail_gu : (tail m c main_v9 : FVec Ideal S8192x5632 .bf16) = guArr (aX m c) (aG m c) (aW m c) := by
  unfold tail Pipeline.afterTail₀; rw [List.flatten_cons, List.flatten_nil, List.append_nil]; after_results_simp
  rw [wa7, arr7]
  funext i
  idx_vars i
  pointwise
  have e : colOf ⟨i1.val / 2816, by omega⟩ ⟨i1.val / 704 % 4, by omega⟩ ⟨i1.val % 704, by omega⟩ = i1 := Fin.ext (by simp only [colOf]; omega)
  exact congrArg (fun a => hArr (aX m c) (aG m c) (aW m c) i0 a) e

/-- The kernel's run: it ends with the three results and its arguments unchanged. -/
theorem run_value (ρ : Dev nD → PrngReg) :
    θ_run defs (onTc (τ := τ) (main (F := Ideal))) ⟨m, fun _ => 0, ρ⟩ fun r => ∀ c : Dev nD,
      r.2.mem ((c.tc : Thread nD τ).loc main_v7_0) = yArr (aX m c) (aG m c) (aW m c) (aV m c)
      ∧ r.2.mem ((c.tc : Thread nD τ).loc main_v7_1) = xnArr (aX m c) (aG m c)
      ∧ r.2.mem ((c.tc : Thread nD τ).loc main_v9) = guArr (aX m c) (aG m c) (aW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h.1 c).1, (h.1 c).2.1, (h.1 c).2.2, h.2 c⟩)
    (θ_run_and ((θ_run defs _ _).mono (fun _ h (c : Dev nD) => (⟨((h c).1 5).trans (arr5 m c), ((h c).1 6).trans (arr6 m c),
      ((h c).2 main_v9 (Pipeline.mem_restRefs_of main_v9 (by decide) (by decide))).trans (tail_gu m c)⟩ : _ ∧ _ ∧ _)) (run_main m ρ)) (unchanged m ρ))
end Cert.Kernel8Ideal.Value

namespace Cert.Reference8Ideal.Value
open Cert.Reference8Ideal Cert.Reference8Ideal.Gen
variable (m : (ℓ : Loc nD τ sig) → Buf (Elt Ideal) ℓ) (c : Dev nD)

/-- The four arguments on a core. -/
abbrev aX : FVec Ideal S4x2048x1024 .f32 := m ((c.tc : Thread nD τ).loc main_arg0)
abbrev aG : FVec Ideal S1024 .f32 := m ((c.tc : Thread nD τ).loc main_arg1)
abbrev aW : FVec Ideal S1024x5632 .f32 := m ((c.tc : Thread nD τ).loc main_arg2)
abbrev aV : FVec Ideal S2816x1024 .f32 := m ((c.tc : Thread nD τ).loc main_arg3)

/-- The rows, normed, with the gain. -/
def nrm (x : FVec Ideal S4x2048x1024 .f32) (g : FVec Ideal S1024 .f32) : FVec Ideal S4x2048x1024 .f32 :=
  mulf (mulf x (broadcastInDim S4x2048x1024 ![0, 1, 2] bcast_S4x2048x1_S4x2048x1024_0_1_2 (Host.rsqrt (addf (Host.divf (broadcastInDim S4x2048x1 ![0, 1] bcast_S4x2048_S4x2048x1_0_1
      (Host.reduceAdd (mulf x x) (constant S_ .f32 0x00000000#32) reducesTo_S4x2048x1024_S4x2048_d2 h_S_)) (broadcastInDim S4x2048x1 ![] bcast_S_S4x2048x1 (constant S_ .f32 0x44800000#32)))
      (broadcastInDim S4x2048x1 ![] bcast_S_S4x2048x1 (constant S_ .f32 0x358637BD#32))))))
    (broadcastInDim S4x2048x1024 ![0, 1, 2] bcast_S1x1x1024_S4x2048x1024_0_1_2 (broadcastInDim S1x1x1024 ![2] bcast_S1024_S1x1x1024_2 g))
theorem nrm_at (x : FVec Ideal S4x2048x1024 .f32) (g : FVec Ideal S1024 .f32) (b : Fin 4) (i : Fin 2048) (k : Fin 1024) :
    nrm x g (ix3 b i k) = x (ix3 b i k) * rs 0x44800000#32 (fun k : Fin 1024 => x (ix3 b i k)) * g (ix1 k) := by
  pointwise [nrm]
  rfl
/-- The hidden columns: the rows times the input weights. -/
def hid (a : FVec Ideal S4x2048x1024 .f32) (w : FVec Ideal S1024x5632 .f32) : FVec Ideal S4x2048x5632 .f32 :=
  Host.dotGeneral dot_S4x2048x1024_S1024x5632_S4x2048x5632_2_0_01_1_n_n none a w
theorem hid_at (a : FVec Ideal S4x2048x1024 .f32) (w : FVec Ideal S1024x5632 .f32) (b : Fin 4) (i : Fin 2048) (q : Fin 5632) :
    hid a w (ix3 b i q) = dot (fun k => a (ix3 b i k)) fun k => w (ix2 k q) := by
  pointwise [hid]
  rfl
/-- The gate times the linear part. -/
def gate (h : FVec Ideal S4x2048x5632 .f32) : FVec Ideal S4x2048x2816 .f32 :=
  mulf (mulf (extractStridedSlice S4x2048x2816 ![0, 0, 0] h slices_S4x2048x5632_S4x2048x2816_0_0_0) (Host.divf (broadcastInDim S4x2048x2816 ![] bcast_S_S4x2048x2816 (constant S_ .f32 0x3F800000#32))
      (addf (broadcastInDim S4x2048x2816 ![] bcast_S_S4x2048x2816 (constant S_ .f32 0x3F800000#32)) (Host.exp (Host.negf (extractStridedSlice S4x2048x2816 ![0, 0, 0] h slices_S4x2048x5632_S4x2048x2816_0_0_0))))))
    (extractStridedSlice S4x2048x2816 ![0, 0, 2816] h slices_S4x2048x5632_S4x2048x2816_0_0_2816)
theorem gate_at (h : FVec Ideal S4x2048x5632 .f32) (b : Fin 4) (i : Fin 2048) (q : Fin 2816) :
    gate h (ix3 b i q) = glu (h (ix3 b i (⟨q.val, by omega⟩ : Fin 5632))) (h (ix3 b i (⟨2816 + q.val, by omega⟩ : Fin 5632))) := by
  pointwise [gate, glu]
  exact congrArg (fun a : EReal => h (ix3 b i (⟨q.val, by omega⟩ : Fin 5632)) * a * h (ix3 b i (⟨2816 + q.val, by omega⟩ : Fin 5632))) rfl
/-- The residual, and half of the gated columns times the output weights. -/
def outp (a : FVec Ideal S4x2048x2816 .f32) (v : FVec Ideal S2816x1024 .f32) (x : FVec Ideal S4x2048x1024 .f32) : FVec Ideal S8192x1024 .f32 :=
  shapeCast _ (addf x (mulf (broadcastInDim S4x2048x1024 ![] bcast_S_S4x2048x1024 (constant S_ .f32 0x3F000000#32)) (Host.dotGeneral dot_S4x2048x2816_S2816x1024_S4x2048x1024_2_0_01_1_n_n none a v))) shapeCasts_S4x2048x1024_S8192x1024
theorem outp_at (a : FVec Ideal S4x2048x2816 .f32) (v : FVec Ideal S2816x1024 .f32) (x : FVec Ideal S4x2048x1024 .f32) (n : Fin 8192) (d : Fin 1024) :
    outp a v x (ix2 n d) = x (ix3 (⟨n.val / 2048, by omega⟩ : Fin 4) (⟨n.val % 2048, by omega⟩ : Fin 2048) d)
      + half * ∑ k : Fin 2816, a (ix3 (⟨n.val / 2048, by omega⟩ : Fin 4) (⟨n.val % 2048, by omega⟩ : Fin 2048) k) * v (ix2 k d) := by
  pointwise [outp]

/-- The reference's run: it ends with the three results and its arguments unchanged. -/
theorem run_value (ρ : Dev nD → PrngReg) :
    θ_run defs (onTc (τ := τ) (main (F := Ideal))) ⟨m, fun _ => 0, ρ⟩ fun r => ∀ c : Dev nD,
      r.2.mem ((c.tc : Thread nD τ).loc main_v22) = yArr (aX m c) (aG m c) (aW m c) (aV m c)
      ∧ r.2.mem ((c.tc : Thread nD τ).loc main_v24) = xnArr (aX m c) (aG m c)
      ∧ r.2.mem ((c.tc : Thread nD τ).loc main_v27) = guArr (aX m c) (aG m c) (aW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2.1.trans ?_, (h c).2.2.1.trans ?_, (h c).2.2.2⟩) (run m ρ)
  all_goals
    clear h
    funext j
    idx_vars j
  · refine (outp_at (gate (hid (nrm (aX m c) (aG m c)) (aW m c))) (aV m c) (aX m c) j0 j1).trans ?_
    rw [sum_chunks, half_sum]
    simp only [gate_at, hid_at, nrm_at]
    refine congrArg (fun f : Fin 4 → EReal => row (aX m c) j0 j1 + ∑ j, f j) (funext fun j => congrArg (fun s => half * s) (Finset.sum_congr rfl fun q _ => ?_))
    have e0 : (⟨(rowsOf j q).val, by omega⟩ : Fin 5632) = colOf 0 j q := Fin.ext (by simp [rowsOf, colOf])
    have e1 : (⟨2816 + (rowsOf j q).val, by omega⟩ : Fin 5632) = colOf 1 j q := Fin.ext (by simp [rowsOf, colOf]; omega)
    rw [e0, e1]
    rfl
  · have e : ∀ a : FVec Ideal S4x2048x1024 .f32, (truncf .bf16 (shapeCast S8192x1024 a shapeCasts_S4x2048x1024_S8192x1024) bitsLt_bf16_f32 : FVec Ideal S8192x1024 .bf16) (ix2 j0 j1)
        = a (ix3 (⟨j0.val / 2048, by omega⟩ : Fin 4) (⟨j0.val % 2048, by omega⟩ : Fin 2048) j1) := fun a => by pointwise
    exact (e (nrm (aX m c) (aG m c))).trans (nrm_at ..)
  · have e : ∀ a : FVec Ideal S4x2048x5632 .f32, (truncf .bf16 (shapeCast S8192x5632 a shapeCasts_S4x2048x5632_S8192x5632) bitsLt_bf16_f32 : FVec Ideal S8192x5632 .bf16) (ix2 j0 j1)
        = a (ix3 (⟨j0.val / 2048, by omega⟩ : Fin 4) (⟨j0.val % 2048, by omega⟩ : Fin 2048) j1) := fun a => by pointwise
    refine (e (hid (nrm (aX m c) (aG m c)) (aW m c))).trans ((hid_at ..).trans ?_)
    simp only [nrm_at]
    rfl
end Cert.Reference8Ideal.Value

namespace Cert.FfnFwd

theorem algebraic : Cert.algebraic_Kernel8Ideal_Reference8Ideal := by
  intro m g m' g' _ ha
  have e0 : ∀ c, Reference8Ideal.Value.aX m' c = Kernel8Ideal.Value.aX m c := fun c => (ha c).1
  have e1 : ∀ c, Reference8Ideal.Value.aG m' c = Kernel8Ideal.Value.aG m c := fun c => (ha c).2.1
  have e2 : ∀ c, Reference8Ideal.Value.aW m' c = Kernel8Ideal.Value.aW m c := fun c => (ha c).2.2.1
  have e3 : ∀ c, Reference8Ideal.Value.aV m' c = Kernel8Ideal.Value.aV m c := fun c => (ha c).2.2.2
  have R' := (θ_run Reference8Ideal.defs _ _).mono (fun r h c => by
    obtain ⟨h1, h2, h3, h4⟩ := h c
    rw [e0, e1, e2, e3] at h1
    rw [e0, e1] at h2
    rw [e0, e1, e2] at h3
    exact And.intro h1 (And.intro h2 (And.intro h3 h4))) (Reference8Ideal.Value.run_value m' g')
  exact ⟨_, _, _, Kernel8Ideal.Value.run_value m g, R'⟩

theorem frame_ref : Cert.quiescent_Reference8Ideal := fun m g _ =>
  (θ_run Reference8Ideal.defs _ _).mono (fun r h => ⟨fun c => (h c).2.2.2, sem_eq_zero_of_no_sems (by decide) r.2⟩) (Reference8Ideal.Value.run (F := Ideal) m g)

end Cert.FfnFwd
end
-- ==== Proof.DwSpec.lean ====
/- The products that give the feed-forward weights' gradients. -/
module

public import Idealize.ShloMosaic.Lib.Pipeline.ValueKit
@[expose] public section

noncomputable section
namespace Cert.Dw
open Idealize.ShloMosaic

/-- Column `q` of the one array times column `d` of the other, over all the rows. -/
def prod {q : ℕ} (a : FVec Ideal (⟨2, ![8192, q]⟩ : Shape) .f32) (b : FVec Ideal (⟨2, ![8192, 1024]⟩ : Shape) .f32) : FVec Ideal (⟨2, ![q, 1024]⟩ : Shape) .bf16 :=
  fun i => ∑ n : Fin 8192, a (ix2 n (i 0)) * b (ix2 n (i 1))

/-- The rows of half `k`. -/
def half (k : ℕ) (hk : k < 2) (n : Fin 4096) : Fin 8192 := ⟨k * 4096 + n.val, by omega⟩

/-- A sum over all the rows is the sum over the one half's and over the other's. -/
theorem sum_halves (f : Fin 8192 → EReal) : ∑ n, f n = (∑ n, f (half 0 (by omega) n)) + ∑ n, f (half 1 (by omega) n) := by
  refine (Fin.sum_univ_add (a := 4096) (b := 4096) f).trans (congrArg₂ (· + ·) (Finset.sum_congr rfl fun n _ => congrArg f (Fin.ext ?_)) (Finset.sum_congr rfl fun n _ => congrArg f (Fin.ext ?_)))
  · simp [half]
  · simp [half, Nat.add_comm]
end Cert.Dw
end
-- ==== Proof.DwIn.lean ====
/- The product for the input weights' gradient: kernel and reference end with the same array, whatever the arguments hold. -/
module

public import proofs.«01_k».proof.Defs
public import proofs.«01_k».proof.Proof.Gen.Kernel9Ideal.Frame
public import proofs.«01_k».proof.Proof.Gen.Reference9Ideal.Run
public import proofs.«01_k».proof.Proof.DwSpec
public import Idealize.ShloMosaic.Lib.Pipeline.ValueKit
public import Idealize.ShloMosaic.Lib.Pipeline.ReadBack
public import Idealize.ShloMosaic.Lib.Pointwise
public import Idealize.ShloMosaic.Lib.Claim
@[expose] public section

set_option maxRecDepth 16384
noncomputable section
open Idealize.ShloMosaic Idealize.ShloMosaic.TcCoe Idealize.SL.Sem
open Idealize.ShloMosaic.Pipeline (Dat)
open Cert.Dw
namespace Cert.Kernel9Ideal.Value
open Cert.Kernel9Ideal Cert.Kernel9Ideal.Gen

/-- One point's product, added to what the accumulator held. -/
theorem pay_at (s : FVec Ideal S704x1024 .f32) (b : FVec Ideal S1x1x4096x704 .bf16) (a : FVec Ideal S4096x1024 .bf16) (q : Fin 704) (d : Fin 1024) :
    k0_pay2 (F := Ideal) s b a (ix2 q d) = s (ix2 q d) + ∑ n : Fin 4096, b (ix4 (0 : Fin 1) (0 : Fin 1) n q) * a (ix2 n d) := by
  pointwise [k0_pay2]
theorem zero_at (q : Fin 704) (d : Fin 1024) : k0_pay1 (F := Ideal) (ix2 q d) = 0 := by
  pointwise [k0_pay1]
theorem out_at (s : FVec Ideal S704x1024 .f32) (q : Fin 704) (d : Fin 1024) : k0_pay3 (F := Ideal) s (ix3 (0 : Fin 1) q d) = s (ix2 q d) := by
  pointwise [k0_pay3]

variable (m : (ℓ : Loc nD τ sig) → Buf (Elt Ideal) ℓ) (c : Dev nD)
/-- The two arguments on a core: the normed rows and the hidden columns' cotangents. -/
abbrev aA : FVec Ideal S8192x1024 .f32 := m ((c.tc : Thread nD τ).loc main_arg0)
abbrev aB : FVec Ideal S8192x5632 .f32 := m ((c.tc : Thread nD τ).loc main_arg1)

theorem idx : ∀ t : Fin cfg0.N, win0_0.index t = ![t.val % 2, 0] ∧ win0_1.index t = ![t.val / 4, t.val / 2 % 2, t.val % 2, 0] ∧ win0_2.index t = ![4 * (t.val / 2 % 2) + t.val / 4, 0, 0] :=
  (by decide +kernel : ∀ t : Fin grid0.N, win0_0.index t = ![t.val % 2, 0] ∧ win0_1.index t = ![t.val / 4, t.val / 2 % 2, t.val % 2, 0] ∧ win0_2.index t = ![4 * (t.val / 2 % 2) + t.val / 4, 0, 0])
theorem ptlt (t : Fin cfg0.N) : t.val < 16 := lt_of_lt_of_eq t.isLt N_0
/-- The block of columns a point works on, and its columns. -/
def blkOf (t : Fin cfg0.N) : Fin 8 := ⟨4 * (t.val / 2 % 2) + t.val / 4, by have := ptlt t; omega⟩
def colOf (b : Fin 8) (q : Fin 704) : Fin 5632 := ⟨b.val * 704 + q.val, by omega⟩

theorem V_a : (V m c main_v3 : FVec Ideal S8192x1024 .bf16) = truncf .bf16 (aA m c) bitsLt_bf16_f32 := by
  unfold V V0; rw [List.flatten_cons, List.flatten_nil, List.append_nil]; after_results_simp
theorem V_b : (V m c main_v2 : FVec Ideal S4x2x8192x704 .bf16) = truncf .bf16 (transpose S4x2x8192x704 [2, 1, 0, 3] (shapeCast S8192x2x4x704 (aB m c) shapeCasts_S8192x5632_S8192x2x4x704) transposes_S8192x2x4x704_S4x2x8192x704_2_1_0_3) bitsLt_bf16_f32 := by
  unfold V V0; rw [List.flatten_cons, List.flatten_nil, List.append_nil]; after_results_simp; rfl

variable (t : Fin cfg0.N)
theorem blk0_at (n : Fin 4096) (d : Fin 1024) : (iblk m c 0 t : FVec Ideal S4096x1024 .bf16) (ix2 n d) = aA m c (ix2 (half (t.val % 2) (by omega) n) d) := by
  have h : (iblk m c 0 t : FVec Ideal S4096x1024 .bf16) (ix2 n d) = (V m c main_v3 : FVec Ideal S8192x1024 .bf16) (ix2 (half (t.val % 2) (by omega) n) d) := by
    blk_point [iblk, idx t, half]
  rw [h, V_a]
  pointwise
theorem blk1_at (n : Fin 4096) (q : Fin 704) : (iblk m c 1 t : FVec Ideal S1x1x4096x704 .bf16) (ix4 (0 : Fin 1) (0 : Fin 1) n q) = aB m c (ix2 (half (t.val % 2) (by omega) n) (colOf (blkOf t) q)) := by
  have h : (iblk m c 1 t : FVec Ideal S1x1x4096x704 .bf16) (ix4 (0 : Fin 1) (0 : Fin 1) n q)
      = (V m c main_v2 : FVec Ideal S4x2x8192x704 .bf16) (ix4 (⟨t.val / 4, by have := ptlt t; omega⟩ : Fin 4) (⟨t.val / 2 % 2, by omega⟩ : Fin 2) (half (t.val % 2) (by omega) n) q) := by
    blk_point [iblk, idx t, half]
  rw [h, V_b]
  pointwise
  exact congrArg (fun a => aB m c (ix2 _ a)) (Fin.ext (by simp only [colOf, blkOf]; omega))
theorem emb2 (q : Fin 704) (d : Fin 1024) : (win0_2.blk t).view.emb (ix3 (0 : Fin 1) q d) = (ix3 (blkOf t) q d : S8x704x1024.Idx) := by blk_ext [idx t, blkOf]

/-- One point's product. -/
def term (k : ℕ) (hk : k < 2) (b : Fin 8) (q : Fin 704) (d : Fin 1024) : EReal := ∑ n, aB m c (ix2 (half k hk n) (colOf b q)) * aA m c (ix2 (half k hk n) d)
theorem accA (h : t.val % 2 = 0) (q : Fin 704) (d : Fin 1024) : ((outsAt0 m c t.val t.isLt).2 : FVec Ideal S704x1024 .f32) (ix2 q d) = term m c (t.val % 2) (by omega) (blkOf t) q d := by
  rw [outsAt0_A m c t h (by omega)]
  frame_out
  refine (pay_at _ _ _ q d).trans ?_
  rw [zero_at, zero_add]
  simp only [blk0_at, blk1_at]
  rfl
theorem outB (h : t.val % 2 = 1) (q : Fin 704) (d : Fin 1024) : ((outsAt0 m c t.val t.isLt).1 : FVec Ideal S1x704x1024 .bf16) (ix3 (0 : Fin 1) q d)
    = ((outsAt0 m c (t.val - 1) (Nat.lt_of_le_of_lt (Nat.sub_le _ _) t.isLt)).2 : FVec Ideal S704x1024 .f32) (ix2 q d) + term m c (t.val % 2) (by omega) (blkOf t) q d := by
  rw [outsAt0_B m c t (by omega) h]
  frame_out
  rw [out_at, pay_at]
  simp only [blk0_at, blk1_at]
  rw [read_unread_whole]
  rfl
theorem arr2 : ((dats m 0 c).arrAt 2 cfg0.N : FVec Ideal S8x704x1024 .bf16) = fun i => prod (aB m c) (aA m c) (ix2 (colOf (i 0) (i 1)) (i 2)) := by
  refine (dats m 0 c).arrAt_eq_of_covers 2 _ (by decide +kernel) fun t hf y => ?_
  have h : t.val % 2 = 1 := (flush0_2 t).mp hf
  rw [after0_2]
  idx_vars y
  blk_simp
  obtain rfl : y0 = 0 := Subsingleton.elim _ _
  rw [emb2, outB m c t h]
  have p := accA m c ⟨t.val - 1, Nat.lt_of_le_of_lt (Nat.sub_le _ _) t.isLt⟩ (by simp only; omega) y1 y2
  refine (congrArg (fun z => z + term m c (t.val % 2) (by omega) (blkOf t) y1 y2) p).trans ?_
  have eb : blkOf ⟨t.val - 1, Nat.lt_of_le_of_lt (Nat.sub_le _ _) t.isLt⟩ = blkOf t := Fin.ext (by simp only [blkOf]; omega)
  simp only [eb, h, show (t.val - 1) % 2 = 0 by omega]
  exact (sum_halves fun n => aB m c (ix2 n (colOf (blkOf t) y1)) * aA m c (ix2 n y2)).symm

/-- The contents of the buffer the host line after the region writes. -/
abbrev tail (b : Ref sig .tc) := Pipeline.afterTail₀ cfgs (dats m) 0 (V0 m) [hostOps1] c b
theorem hinj0 : Function.Injective (Pipeline.arrRef spec0) := winFacts0.arr_inj
theorem wa2 : Pipeline.withArrays (cfgs 0).spec c (V0 m c) (fun w => (dats m 0 c).arrAt w (cfgs 0).N) (Proc.tc.devRef main_v4) = (dats m 0 c).arrAt 2 cfg0.N :=
  Pipeline.withArrays_arr spec0 hinj0 c (V0 m c) _ 2
theorem tail_dw : (tail m c main_v5 : FVec Ideal S5632x1024 .bf16) = prod (aB m c) (aA m c) := by
  unfold tail Pipeline.afterTail₀; rw [List.flatten_cons, List.flatten_nil, List.append_nil]; after_results_simp
  rw [wa2, arr2]
  funext i
  idx_vars i
  pointwise
  have e : colOf ⟨i0.val / 704, by omega⟩ ⟨i0.val % 704, by omega⟩ = i0 := Fin.ext (by simp only [colOf]; omega)
  exact congrArg (fun a => prod (aB m c) (aA m c) (ix2 a i1)) e

/-- The kernel's run: it ends with the product and its arguments unchanged. -/
theorem run_value (ρ : Dev nD → PrngReg) :
    θ_run defs (onTc (τ := τ) (main (F := Ideal))) ⟨m, fun _ => 0, ρ⟩ fun r => ∀ c : Dev nD,
      r.2.mem ((c.tc : Thread nD τ).loc main_v5) = prod (aB m c) (aA m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have a : θ_run defs (onTc (τ := τ) (main (F := Ideal))) ⟨m, fun _ => 0, ρ⟩ fun r => ∀ c : Dev nD, r.2.mem ((c.tc : Thread nD τ).loc main_v5) = prod (aB m c) (aA m c) :=
    (θ_run defs _ _).mono (fun _ h c => ((h c).2 main_v5 (Pipeline.mem_restRefs_of main_v5 (by decide) (by decide))).trans (tail_dw m c)) (run_main m ρ)
  exact (θ_run defs _ _).mono (fun _ h c => ⟨h.1 c, h.2 c⟩) (θ_run_and a (unchanged m ρ))
end Cert.Kernel9Ideal.Value

namespace Cert.DwIn

/-- The reference's run: it ends with the product and its arguments unchanged. -/
theorem ref_value (m : (ℓ : Loc Reference9Ideal.nD Reference9Ideal.τ Reference9Ideal.sig) → Buf (Elt Ideal) ℓ) (ρ : Dev Reference9Ideal.nD → PrngReg) :
    θ_run Reference9Ideal.defs (onTc (τ := Reference9Ideal.τ) (Reference9Ideal.main (F := Ideal))) ⟨m, fun _ => 0, ρ⟩ fun r => ∀ c : Dev Reference9Ideal.nD,
      r.2.mem (c.tc.loc Reference9Ideal.main_v2) = prod (m (c.tc.loc Reference9Ideal.main_arg1)) (m (c.tc.loc Reference9Ideal.main_arg0))
      ∧ r.2.mem (c.tc.loc Reference9Ideal.main_arg0) = m (c.tc.loc Reference9Ideal.main_arg0)
      ∧ r.2.mem (c.tc.loc Reference9Ideal.main_arg1) = m (c.tc.loc Reference9Ideal.main_arg1) := by
  refine (θ_run Reference9Ideal.defs _ _).mono (fun _ h c => ⟨(h c).1.trans ?_, (h c).2⟩) (Reference9Ideal.Value.run m ρ)
  clear h
  funext j
  idx_vars j
  pointwise [prod]

theorem algebraic : Cert.algebraic_Kernel9Ideal_Reference9Ideal := by
  intro m g m' g' _ ha
  have R' := (θ_run Reference9Ideal.defs _ _).mono (fun r h c => by
    obtain ⟨h1, h4⟩ := h c
    rw [(ha c).1, (ha c).2] at h1
    exact And.intro h1 h4) (ref_value m' g')
  exact ⟨_, Kernel9Ideal.Value.run_value m g, R'⟩

theorem frame_ref : Cert.quiescent_Reference9Ideal := fun m g _ =>
  (θ_run Reference9Ideal.defs _ _).mono (fun r h => ⟨fun c => (h c).2, sem_eq_zero_of_no_sems (by decide) r.2⟩) (Reference9Ideal.Value.run (F := Ideal) m g)

end Cert.DwIn
end
-- ==== Proof.DwOut.lean ====
/- The product for the output weights' gradient: kernel and reference end with the same array, whatever the arguments hold. -/
module

public import proofs.«01_k».proof.Defs
public import proofs.«01_k».proof.Proof.Gen.Kernel10Ideal.Frame
public import proofs.«01_k».proof.Proof.Gen.Reference10Ideal.Run
public import proofs.«01_k».proof.Proof.DwSpec
public import Idealize.ShloMosaic.Lib.Pipeline.ValueKit
public import Idealize.ShloMosaic.Lib.Pipeline.ReadBack
public import Idealize.ShloMosaic.Lib.Pointwise
public import Idealize.ShloMosaic.Lib.Claim
@[expose] public section

set_option maxRecDepth 16384
noncomputable section
open Idealize.ShloMosaic Idealize.ShloMosaic.TcCoe Idealize.SL.Sem
open Idealize.ShloMosaic.Pipeline (Dat)
open Cert.Dw
namespace Cert.Kernel10Ideal.Value
open Cert.Kernel10Ideal Cert.Kernel10Ideal.Gen

/-- One point's product, added to what the accumulator held. -/
theorem pay_at (s : FVec Ideal S704x1024 .f32) (b : FVec Ideal S1x4096x704 .bf16) (a : FVec Ideal S4096x1024 .bf16) (q : Fin 704) (d : Fin 1024) :
    k0_pay2 (F := Ideal) s b a (ix2 q d) = s (ix2 q d) + ∑ n : Fin 4096, b (ix3 (0 : Fin 1) n q) * a (ix2 n d) := by
  pointwise [k0_pay2]
theorem zero_at (q : Fin 704) (d : Fin 1024) : k0_pay1 (F := Ideal) (ix2 q d) = 0 := by
  pointwise [k0_pay1]
theorem out_at (s : FVec Ideal S704x1024 .f32) (q : Fin 704) (d : Fin 1024) : k0_pay3 (F := Ideal) s (ix3 (0 : Fin 1) q d) = s (ix2 q d) := by
  pointwise [k0_pay3]

variable (m : (ℓ : Loc nD τ sig) → Buf (Elt Ideal) ℓ) (c : Dev nD)
/-- The two arguments on a core: the gated hidden columns and the output's cotangents. -/
abbrev aB : FVec Ideal S8192x2816 .f32 := m ((c.tc : Thread nD τ).loc main_arg0)
abbrev aA : FVec Ideal S8192x1024 .f32 := m ((c.tc : Thread nD τ).loc main_arg1)

theorem idx : ∀ t : Fin cfg0.N, win0_1.index t = ![t.val % 2, 0] ∧ win0_0.index t = ![t.val / 2, t.val % 2, 0] ∧ win0_2.index t = ![t.val / 2, 0, 0] :=
  (by decide +kernel : ∀ t : Fin grid0.N, win0_1.index t = ![t.val % 2, 0] ∧ win0_0.index t = ![t.val / 2, t.val % 2, 0] ∧ win0_2.index t = ![t.val / 2, 0, 0])
theorem ptlt (t : Fin cfg0.N) : t.val < 8 := lt_of_lt_of_eq t.isLt N_0
/-- The block of columns a point works on, and its columns. -/
def blkOf (t : Fin cfg0.N) : Fin 4 := ⟨t.val / 2, by have := ptlt t; omega⟩
def colOf (b : Fin 4) (q : Fin 704) : Fin 2816 := ⟨b.val * 704 + q.val, by omega⟩

theorem V_a : (V m c main_v3 : FVec Ideal S8192x1024 .bf16) = truncf .bf16 (aA m c) bitsLt_bf16_f32 := by
  unfold V V0; rw [List.flatten_cons, List.flatten_nil, List.append_nil]; after_results_simp
theorem V_b : (V m c main_v2 : FVec Ideal S4x8192x704 .bf16) = truncf .bf16 (transpose S4x8192x704 [1, 0, 2] (shapeCast S8192x4x704 (aB m c) shapeCasts_S8192x2816_S8192x4x704) transposes_S8192x4x704_S4x8192x704_1_0_2) bitsLt_bf16_f32 := by
  unfold V V0; rw [List.flatten_cons, List.flatten_nil, List.append_nil]; after_results_simp; rfl

variable (t : Fin cfg0.N)
theorem blk1_at (n : Fin 4096) (d : Fin 1024) : (iblk m c 1 t : FVec Ideal S4096x1024 .bf16) (ix2 n d) = aA m c (ix2 (half (t.val % 2) (by omega) n) d) := by
  have h : (iblk m c 1 t : FVec Ideal S4096x1024 .bf16) (ix2 n d) = (V m c main_v3 : FVec Ideal S8192x1024 .bf16) (ix2 (half (t.val % 2) (by omega) n) d) := by
    blk_point [iblk, idx t, half]
  rw [h, V_a]
  pointwise
theorem blk0_at (n : Fin 4096) (q : Fin 704) : (iblk m c 0 t : FVec Ideal S1x4096x704 .bf16) (ix3 (0 : Fin 1) n q) = aB m c (ix2 (half (t.val % 2) (by omega) n) (colOf (blkOf t) q)) := by
  have h : (iblk m c 0 t : FVec Ideal S1x4096x704 .bf16) (ix3 (0 : Fin 1) n q)
      = (V m c main_v2 : FVec Ideal S4x8192x704 .bf16) (ix3 (blkOf t) (half (t.val % 2) (by omega) n) q) := by
    blk_point [iblk, idx t, half, blkOf]
  rw [h, V_b]
  pointwise <;> rfl
theorem emb2 (q : Fin 704) (d : Fin 1024) : (win0_2.blk t).view.emb (ix3 (0 : Fin 1) q d) = (ix3 (blkOf t) q d : S4x704x1024.Idx) := by blk_ext [idx t, blkOf]

/-- One point's product. -/
def term (k : ℕ) (hk : k < 2) (b : Fin 4) (q : Fin 704) (d : Fin 1024) : EReal := ∑ n, aB m c (ix2 (half k hk n) (colOf b q)) * aA m c (ix2 (half k hk n) d)
theorem accA (h : t.val % 2 = 0) (q : Fin 704) (d : Fin 1024) : ((outsAt0 m c t.val t.isLt).2 : FVec Ideal S704x1024 .f32) (ix2 q d) = term m c (t.val % 2) (by omega) (blkOf t) q d := by
  rw [outsAt0_A m c t h (by omega)]
  frame_out
  refine (pay_at _ _ _ q d).trans ?_
  rw [zero_at, zero_add]
  simp only [blk0_at, blk1_at]
  rfl
theorem outB (h : t.val % 2 = 1) (q : Fin 704) (d : Fin 1024) : ((outsAt0 m c t.val t.isLt).1 : FVec Ideal S1x704x1024 .bf16) (ix3 (0 : Fin 1) q d)
    = ((outsAt0 m c (t.val - 1) (Nat.lt_of_le_of_lt (Nat.sub_le _ _) t.isLt)).2 : FVec Ideal S704x1024 .f32) (ix2 q d) + term m c (t.val % 2) (by omega) (blkOf t) q d := by
  rw [outsAt0_B m c t (by omega) h]
  frame_out
  rw [out_at, pay_at]
  simp only [blk0_at, blk1_at]
  rw [read_unread_whole]
  rfl
theorem arr2 : ((dats m 0 c).arrAt 2 cfg0.N : FVec Ideal S4x704x1024 .bf16) = fun i => prod (aB m c) (aA m c) (ix2 (colOf (i 0) (i 1)) (i 2)) := by
  refine (dats m 0 c).arrAt_eq_of_covers 2 _ (by decide +kernel) fun t hf y => ?_
  have h : t.val % 2 = 1 := (flush0_2 t).mp hf
  rw [after0_2]
  idx_vars y
  blk_simp
  obtain rfl : y0 = 0 := Subsingleton.elim _ _
  rw [emb2, outB m c t h]
  have p := accA m c ⟨t.val - 1, Nat.lt_of_le_of_lt (Nat.sub_le _ _) t.isLt⟩ (by simp only; omega) y1 y2
  refine (congrArg (fun z => z + term m c (t.val % 2) (by omega) (blkOf t) y1 y2) p).trans ?_
  have eb : blkOf ⟨t.val - 1, Nat.lt_of_le_of_lt (Nat.sub_le _ _) t.isLt⟩ = blkOf t := Fin.ext (by simp only [blkOf]; omega)
  simp only [eb, h, show (t.val - 1) % 2 = 0 by omega]
  exact (sum_halves fun n => aB m c (ix2 n (colOf (blkOf t) y1)) * aA m c (ix2 n y2)).symm

/-- The contents of the buffer the host line after the region writes. -/
abbrev tail (b : Ref sig .tc) := Pipeline.afterTail₀ cfgs (dats m) 0 (V0 m) [hostOps1] c b
theorem hinj0 : Function.Injective (Pipeline.arrRef spec0) := winFacts0.arr_inj
theorem wa2 : Pipeline.withArrays (cfgs 0).spec c (V0 m c) (fun w => (dats m 0 c).arrAt w (cfgs 0).N) (Proc.tc.devRef main_v4) = (dats m 0 c).arrAt 2 cfg0.N :=
  Pipeline.withArrays_arr spec0 hinj0 c (V0 m c) _ 2
theorem tail_dw : (tail m c main_v5 : FVec Ideal S2816x1024 .bf16) = prod (aB m c) (aA m c) := by
  unfold tail Pipeline.afterTail₀; rw [List.flatten_cons, List.flatten_nil, List.append_nil]; after_results_simp
  rw [wa2, arr2]
  funext i
  idx_vars i
  pointwise
  have e : colOf ⟨i0.val / 704, by omega⟩ ⟨i0.val % 704, by omega⟩ = i0 := Fin.ext (by simp only [colOf]; omega)
  exact congrArg (fun a => prod (aB m c) (aA m c) (ix2 a i1)) e

/-- The kernel's run: it ends with the product and its arguments unchanged. -/
theorem run_value (ρ : Dev nD → PrngReg) :
    θ_run defs (onTc (τ := τ) (main (F := Ideal))) ⟨m, fun _ => 0, ρ⟩ fun r => ∀ c : Dev nD,
      r.2.mem ((c.tc : Thread nD τ).loc main_v5) = prod (aB m c) (aA m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have a : θ_run defs (onTc (τ := τ) (main (F := Ideal))) ⟨m, fun _ => 0, ρ⟩ fun r => ∀ c : Dev nD, r.2.mem ((c.tc : Thread nD τ).loc main_v5) = prod (aB m c) (aA m c) :=
    (θ_run defs _ _).mono (fun _ h c => ((h c).2 main_v5 (Pipeline.mem_restRefs_of main_v5 (by decide) (by decide))).trans (tail_dw m c)) (run_main m ρ)
  exact (θ_run defs _ _).mono (fun _ h c => ⟨h.1 c, h.2 c⟩) (θ_run_and a (unchanged m ρ))
end Cert.Kernel10Ideal.Value

namespace Cert.DwOut

/-- The reference's run: it ends with the product and its arguments unchanged. -/
theorem ref_value (m : (ℓ : Loc Reference10Ideal.nD Reference10Ideal.τ Reference10Ideal.sig) → Buf (Elt Ideal) ℓ) (ρ : Dev Reference10Ideal.nD → PrngReg) :
    θ_run Reference10Ideal.defs (onTc (τ := Reference10Ideal.τ) (Reference10Ideal.main (F := Ideal))) ⟨m, fun _ => 0, ρ⟩ fun r => ∀ c : Dev Reference10Ideal.nD,
      r.2.mem (c.tc.loc Reference10Ideal.main_v2) = prod (m (c.tc.loc Reference10Ideal.main_arg0)) (m (c.tc.loc Reference10Ideal.main_arg1))
      ∧ r.2.mem (c.tc.loc Reference10Ideal.main_arg0) = m (c.tc.loc Reference10Ideal.main_arg0)
      ∧ r.2.mem (c.tc.loc Reference10Ideal.main_arg1) = m (c.tc.loc Reference10Ideal.main_arg1) := by
  refine (θ_run Reference10Ideal.defs _ _).mono (fun _ h c => ⟨(h c).1.trans ?_, (h c).2⟩) (Reference10Ideal.Value.run m ρ)
  clear h
  funext j
  idx_vars j
  pointwise [prod]

theorem algebraic : Cert.algebraic_Kernel10Ideal_Reference10Ideal := by
  intro m g m' g' _ ha
  have R' := (θ_run Reference10Ideal.defs _ _).mono (fun r h c => by
    obtain ⟨h1, h4⟩ := h c
    rw [(ha c).1, (ha c).2] at h1
    exact And.intro h1 h4) (ref_value m' g')
  exact ⟨_, Kernel10Ideal.Value.run_value m g, R'⟩

theorem frame_ref : Cert.quiescent_Reference10Ideal := fun m g _ =>
  (θ_run Reference10Ideal.defs _ _).mono (fun r h => ⟨fun c => (h c).2, sem_eq_zero_of_no_sems (by decide) r.2⟩) (Reference10Ideal.Value.run (F := Ideal) m g)

end Cert.DwOut
end
-- ==== Proof.Adam.lean ====
/- The optimiser's step on one device's shard of a feed-forward weight: kernel and reference end with the same arrays, whatever the arguments hold. -/
module

public import proofs.«01_k».proof.Defs
public import proofs.«01_k».proof.Proof.Gen.Kernel11Ideal.Frame
public import proofs.«01_k».proof.Proof.Gen.Reference11Ideal.Run
public import Idealize.ShloMosaic.Lib.Pipeline.ValueKit
public import Idealize.ShloMosaic.Lib.Pipeline.ReadBack
public import Idealize.ShloMosaic.Lib.Pointwise
public import Idealize.ShloMosaic.Lib.Claim
@[expose] public section

set_option maxRecDepth 16384
noncomputable section
open Idealize.ShloMosaic Idealize.ShloMosaic.TcCoe Idealize.SL.Sem
open Idealize.ShloMosaic.Pipeline (Dat)
namespace Cert.Adam

/-- A literal. -/
abbrev lit (b : BitVec 32) : EReal := (Scalar.ofBits .f32 b : Ideal .f32)
/-- The first and second moments after the step, and the step. -/
def mom1 (g x : EReal) : EReal := lit 0x3F666666#32 * x + lit 0x3DCCCCCD#32 * g
def mom2 (g x : EReal) : EReal := lit 0x3F7FBE77#32 * x + lit 0x3A83126F#32 * (g * g)
def step (g w x y : EReal) : EReal :=
  lit 0xBA83126F#32 * (Ideal.div (Ideal.div (mom1 g x) (lit 0x3F26BD02#32)) (Ideal.sqrt (Ideal.div (mom2 g y) (lit 0x3C231ACC#32)) + lit 0x322BCC77#32) + lit 0x3C23D70A#32 * w)

abbrev Parts := FVec Ideal (⟨3, ![8, 704, 1024]⟩ : Shape) .f32
abbrev Weights := FVec Ideal (⟨3, ![2, 1024, 704]⟩ : Shape) .f32
/-- The gradient: the sum of the eight devices' parts. -/
def grad (p : Parts) (q : Fin 704) (d : Fin 1024) : EReal := ∑ s : Fin 8, p (ix3 s q d)
/-- What the step leaves of layer `l`, at row `q` of the shard and column `d`. -/
def out0 (p : Parts) (l : Fin 2) (q : Fin 704) (d : Fin 1024) : EReal := grad p q d
def out1 (p : Parts) (w x y : Weights) (l : Fin 2) (q : Fin 704) (d : Fin 1024) : EReal := step (grad p q d) (w (ix3 l d q)) (x (ix3 l d q)) (y (ix3 l d q))
def out2 (p : Parts) (x : Weights) (l : Fin 2) (q : Fin 704) (d : Fin 1024) : EReal := mom1 (grad p q d) (x (ix3 l d q))
def out3 (p : Parts) (y : Weights) (l : Fin 2) (q : Fin 704) (d : Fin 1024) : EReal := mom2 (grad p q d) (y (ix3 l d q))
/-- The second layer's results, as the host reads them. -/
def res (f : Fin 2 → Fin 704 → Fin 1024 → EReal) : FVec Ideal (⟨2, ![1024, 704]⟩ : Shape) .f32 := fun i => f 1 (i 1) (i 0)
end Cert.Adam

open Cert.Adam
namespace Cert.Kernel11Ideal.Value
open Cert.Kernel11Ideal Cert.Kernel11Ideal.Gen

abbrev Row := FVec Ideal S1x352x1024 .f32
/-- The block's gradient. -/
theorem grad_at (x : FVec Ideal S8x352x1024 .bf16) (a b c : Row) (r : Fin 352) (d : Fin 1024) :
    k0_pay8 (F := Ideal) x a b c (ix2 r d) = ∑ s : Fin 8, x (ix3 s r d) := by
  rw [Fin.sum_univ_eight]
  pointwise [k0_pay8, k0_pay3]
theorem pay1_at (g : FVec Ideal S352x1024 .f32) (r : Fin 352) (d : Fin 1024) : k0_pay6 (F := Ideal) g (ix3 (0 : Fin 1) r d) = g (ix2 r d) := by
  pointwise [k0_pay6]
theorem pay2_at (g : FVec Ideal S352x1024 .f32) (w x y : Row) (r : Fin 352) (d : Fin 1024) :
    k0_pay7 (F := Ideal) g w x y (ix3 (0 : Fin 1) r d) = step (g (ix2 r d)) (w (ix3 (0 : Fin 1) r d)) (x (ix3 (0 : Fin 1) r d)) (y (ix3 (0 : Fin 1) r d)) := by
  pointwise [k0_pay7, k0_pay4, k0_pay5]
  rfl
theorem pay3_at (g : FVec Ideal S352x1024 .f32) (x : Row) (r : Fin 352) (d : Fin 1024) :
    k0_pay1 (F := Ideal) (k0_pay4 g x) (ix3 (0 : Fin 1) r d) = mom1 (g (ix2 r d)) (x (ix3 (0 : Fin 1) r d)) := by
  pointwise [k0_pay1, k0_pay4]
  rfl
theorem pay4_at (g : FVec Ideal S352x1024 .f32) (y : Row) (r : Fin 352) (d : Fin 1024) :
    k0_pay2 (F := Ideal) (k0_pay5 g y) (ix3 (0 : Fin 1) r d) = mom2 (g (ix2 r d)) (y (ix3 (0 : Fin 1) r d)) := by
  pointwise [k0_pay2, k0_pay5]
  rfl

variable (m : (ℓ : Loc nD τ sig) → Buf (Elt Ideal) ℓ) (c : Dev nD)
/-- The arguments on a core: the eight parts, the weights and the two moments. -/
abbrev aP : FVec Ideal S8x704x1024 .f32 := m ((c.tc : Thread nD τ).loc main_arg0)
abbrev aW : FVec Ideal S2x1024x704 .f32 := m ((c.tc : Thread nD τ).loc main_arg1)
abbrev aX : FVec Ideal S2x1024x704 .f32 := m ((c.tc : Thread nD τ).loc main_arg2)
abbrev aY : FVec Ideal S2x1024x704 .f32 := m ((c.tc : Thread nD τ).loc main_arg3)

theorem idx : ∀ t : Fin cfg0.N, win0_0.index t = ![0, t.val, 0] ∧ win0_1.index t = ![1, t.val, 0] ∧ win0_2.index t = ![1, t.val, 0] ∧ win0_3.index t = ![1, t.val, 0] ∧ win0_4.index t = ![1, t.val, 0] ∧ win0_5.index t = ![1, t.val, 0] ∧ win0_6.index t = ![1, t.val, 0] ∧ win0_7.index t = ![1, t.val, 0] :=
  (by decide +kernel : ∀ t : Fin grid0.N, win0_0.index t = ![0, t.val, 0] ∧ win0_1.index t = ![1, t.val, 0] ∧ win0_2.index t = ![1, t.val, 0] ∧ win0_3.index t = ![1, t.val, 0] ∧ win0_4.index t = ![1, t.val, 0] ∧ win0_5.index t = ![1, t.val, 0] ∧ win0_6.index t = ![1, t.val, 0] ∧ win0_7.index t = ![1, t.val, 0])
theorem ptlt (t : Fin cfg0.N) : t.val < 2 := lt_of_lt_of_eq t.isLt N_0
def rowOf (t : Fin cfg0.N) (r : Fin 352) : Fin 704 := ⟨t.val * 352 + r.val, by have := ptlt t; omega⟩

theorem V_p : (V m c main_v0 : FVec Ideal S8x704x1024 .bf16) = truncf .bf16 (aP m c) bitsLt_bf16_f32 := by
  unfold V V0; rw [List.flatten_cons, List.flatten_nil, List.append_nil]; after_results_simp
theorem V_w : (V m c main_v1 : FVec Ideal S2x704x1024 .f32) = transpose S2x704x1024 [0, 2, 1] (aW m c) transposes_S2x1024x704_S2x704x1024_0_2_1 := by
  unfold V V0; rw [List.flatten_cons, List.flatten_nil, List.append_nil]; after_results_simp
theorem V_x : (V m c main_v2 : FVec Ideal S2x704x1024 .f32) = transpose S2x704x1024 [0, 2, 1] (aX m c) transposes_S2x1024x704_S2x704x1024_0_2_1 := by
  unfold V V0; rw [List.flatten_cons, List.flatten_nil, List.append_nil]; after_results_simp
theorem V_y : (V m c main_v3 : FVec Ideal S2x704x1024 .f32) = transpose S2x704x1024 [0, 2, 1] (aY m c) transposes_S2x1024x704_S2x704x1024_0_2_1 := by
  unfold V V0; rw [List.flatten_cons, List.flatten_nil, List.append_nil]; after_results_simp

variable (t : Fin cfg0.N) (r : Fin 352) (d : Fin 1024)
theorem blk0_at (s : Fin 8) : (iblk m c 0 t : FVec Ideal S8x352x1024 .bf16) (ix3 s r d) = aP m c (ix3 s (rowOf t r) d) := by
  have h : (iblk m c 0 t : FVec Ideal S8x352x1024 .bf16) (ix3 s r d) = (V m c main_v0 : FVec Ideal S8x704x1024 .bf16) (ix3 s (rowOf t r) d) := by
    blk_point [iblk, idx t, rowOf]
  rw [h, V_p]
  pointwise
theorem blk1_at : (iblk m c 1 t : Row) (ix3 (0 : Fin 1) r d) = aW m c (ix3 (1 : Fin 2) d (rowOf t r)) := by
  have h : (iblk m c 1 t : Row) (ix3 (0 : Fin 1) r d) = (V m c main_v1 : FVec Ideal S2x704x1024 .f32) (ix3 (1 : Fin 2) (rowOf t r) d) := by
    blk_point [iblk, idx t, rowOf]
  rw [h, V_w]
  pointwise
theorem blk2_at : (iblk m c 2 t : Row) (ix3 (0 : Fin 1) r d) = aX m c (ix3 (1 : Fin 2) d (rowOf t r)) := by
  have h : (iblk m c 2 t : Row) (ix3 (0 : Fin 1) r d) = (V m c main_v2 : FVec Ideal S2x704x1024 .f32) (ix3 (1 : Fin 2) (rowOf t r) d) := by
    blk_point [iblk, idx t, rowOf]
  rw [h, V_x]
  pointwise
theorem blk3_at : (iblk m c 3 t : Row) (ix3 (0 : Fin 1) r d) = aY m c (ix3 (1 : Fin 2) d (rowOf t r)) := by
  have h : (iblk m c 3 t : Row) (ix3 (0 : Fin 1) r d) = (V m c main_v3 : FVec Ideal S2x704x1024 .f32) (ix3 (1 : Fin 2) (rowOf t r) d) := by
    blk_point [iblk, idx t, rowOf]
  rw [h, V_y]
  pointwise
/-- The block's gradient, of the parts. -/
theorem g_at (a b e : Row) : k0_pay8 (F := Ideal) (iblk m c 0 t) a b e (ix2 r d) = grad (aP m c) (rowOf t r) d := by
  rw [grad_at]
  exact Finset.sum_congr rfl fun s _ => blk0_at m c t r d s
theorem emb4 : (win0_4.blk t).view.emb (ix3 (0 : Fin 1) r d) = (ix3 (1 : Fin 2) (rowOf t r) d : S2x704x1024.Idx) := by blk_ext [idx t, rowOf]
theorem emb5 : (win0_5.blk t).view.emb (ix3 (0 : Fin 1) r d) = (ix3 (1 : Fin 2) (rowOf t r) d : S2x704x1024.Idx) := by blk_ext [idx t, rowOf]
theorem emb6 : (win0_6.blk t).view.emb (ix3 (0 : Fin 1) r d) = (ix3 (1 : Fin 2) (rowOf t r) d : S2x704x1024.Idx) := by blk_ext [idx t, rowOf]
theorem emb7 : (win0_7.blk t).view.emb (ix3 (0 : Fin 1) r d) = (ix3 (1 : Fin 2) (rowOf t r) d : S2x704x1024.Idx) := by blk_ext [idx t, rowOf]
theorem arr4 (q : Fin 704) : ((dats m 0 c).arrAt 4 cfg0.N : FVec Ideal S2x704x1024 .f32) (ix3 (1 : Fin 2) q d) = out0 (aP m c) 1 q d := by
  refine ((dats m 0 c).arrAt_apply_of_coversWhere 4 (fun i => out0 (aP m c) (i 0) (i 1) (i 2)) (P := fun i => (i 0).val = 1) (fun β => β (0 : Fin 3) = 1) (by decide +kernel) (fun t hf y => ?_) (fun j => ?_) (ix3 (1 : Fin 2) q d)).trans (if_pos rfl)
  · rw [after0_4]
    idx_vars y
    blk_simp
    obtain rfl : y0 = 0 := Subsingleton.elim _ _
    rw [emb4]
    unfold out0_4
    frame_out
    rw [pay1_at, g_at]
    rfl
  · blk_simp [Pipeline.Window.cell_apply]
    omega
theorem arr5 (q : Fin 704) : ((dats m 0 c).arrAt 5 cfg0.N : FVec Ideal S2x704x1024 .f32) (ix3 (1 : Fin 2) q d) = out1 (aP m c) (aW m c) (aX m c) (aY m c) 1 q d := by
  refine ((dats m 0 c).arrAt_apply_of_coversWhere 5 (fun i => out1 (aP m c) (aW m c) (aX m c) (aY m c) (i 0) (i 1) (i 2)) (P := fun i => (i 0).val = 1) (fun β => β (0 : Fin 3) = 1) (by decide +kernel) (fun t hf y => ?_) (fun j => ?_) (ix3 (1 : Fin 2) q d)).trans (if_pos rfl)
  · rw [after0_5]
    idx_vars y
    blk_simp
    obtain rfl : y0 = 0 := Subsingleton.elim _ _
    rw [emb5]
    unfold out0_5
    frame_out
    rw [pay2_at, g_at, blk1_at, blk2_at, blk3_at]
    rfl
  · blk_simp [Pipeline.Window.cell_apply]
    omega
theorem arr6 (q : Fin 704) : ((dats m 0 c).arrAt 6 cfg0.N : FVec Ideal S2x704x1024 .f32) (ix3 (1 : Fin 2) q d) = out2 (aP m c) (aX m c) 1 q d := by
  refine ((dats m 0 c).arrAt_apply_of_coversWhere 6 (fun i => out2 (aP m c) (aX m c) (i 0) (i 1) (i 2)) (P := fun i => (i 0).val = 1) (fun β => β (0 : Fin 3) = 1) (by decide +kernel) (fun t hf y => ?_) (fun j => ?_) (ix3 (1 : Fin 2) q d)).trans (if_pos rfl)
  · rw [after0_6]
    idx_vars y
    blk_simp
    obtain rfl : y0 = 0 := Subsingleton.elim _ _
    rw [emb6]
    unfold out0_6
    frame_out
    rw [pay3_at, g_at, blk2_at]
    rfl
  · blk_simp [Pipeline.Window.cell_apply]
    omega
theorem arr7 (q : Fin 704) : ((dats m 0 c).arrAt 7 cfg0.N : FVec Ideal S2x704x1024 .f32) (ix3 (1 : Fin 2) q d) = out3 (aP m c) (aY m c) 1 q d := by
  refine ((dats m 0 c).arrAt_apply_of_coversWhere 7 (fun i => out3 (aP m c) (aY m c) (i 0) (i 1) (i 2)) (P := fun i => (i 0).val = 1) (fun β => β (0 : Fin 3) = 1) (by decide +kernel) (fun t hf y => ?_) (fun j => ?_) (ix3 (1 : Fin 2) q d)).trans (if_pos rfl)
  · rw [after0_7]
    idx_vars y
    blk_simp
    obtain rfl : y0 = 0 := Subsingleton.elim _ _
    rw [emb7]
    unfold out0_7
    frame_out
    rw [pay4_at, g_at, blk3_at]
    rfl
  · blk_simp [Pipeline.Window.cell_apply]
    omega

/-- The contents of the buffers the host lines after the region write. -/
abbrev tail (b : Ref sig .tc) := Pipeline.afterTail₀ cfgs (dats m) 0 (V0 m) [hostOps1] c b
theorem hinj0 : Function.Injective (Pipeline.arrRef spec0) := winFacts0.arr_inj
theorem wa4 : Pipeline.withArrays (cfgs 0).spec c (V0 m c) (fun w => (dats m 0 c).arrAt w (cfgs 0).N) (Proc.tc.devRef main_v4_0) = (dats m 0 c).arrAt 4 cfg0.N :=
  Pipeline.withArrays_arr spec0 hinj0 c (V0 m c) _ 4
theorem tail4 : (tail m c main_v7 : FVec Ideal S1024x704 .f32) = res (out0 (aP m c)) := by
  unfold tail Pipeline.afterTail₀; rw [List.flatten_cons, List.flatten_nil, List.append_nil]; after_results_simp
  rw [wa4]
  funext i
  idx_vars i
  pointwise
  exact arr4 m c i0 i1
theorem wa5 : Pipeline.withArrays (cfgs 0).spec c (V0 m c) (fun w => (dats m 0 c).arrAt w (cfgs 0).N) (Proc.tc.devRef main_v4_1) = (dats m 0 c).arrAt 5 cfg0.N :=
  Pipeline.withArrays_arr spec0 hinj0 c (V0 m c) _ 5
theorem tail5 : (tail m c main_v10 : FVec Ideal S1024x704 .f32) = res (out1 (aP m c) (aW m c) (aX m c) (aY m c)) := by
  unfold tail Pipeline.afterTail₀; rw [List.flatten_cons, List.flatten_nil, List.append_nil]; after_results_simp
  rw [wa5]
  funext i
  idx_vars i
  pointwise
  exact arr5 m c i0 i1
theorem wa6 : Pipeline.withArrays (cfgs 0).spec c (V0 m c) (fun w => (dats m 0 c).arrAt w (cfgs 0).N) (Proc.tc.devRef main_v4_2) = (dats m 0 c).arrAt 6 cfg0.N :=
  Pipeline.withArrays_arr spec0 hinj0 c (V0 m c) _ 6
theorem tail6 : (tail m c main_v13 : FVec Ideal S1024x704 .f32) = res (out2 (aP m c) (aX m c)) := by
  unfold tail Pipeline.afterTail₀; rw [List.flatten_cons, List.flatten_nil, List.append_nil]; after_results_simp
  rw [wa6]
  funext i
  idx_vars i
  pointwise
  exact arr6 m c i0 i1
theorem wa7 : Pipeline.withArrays (cfgs 0).spec c (V0 m c) (fun w => (dats m 0 c).arrAt w (cfgs 0).N) (Proc.tc.devRef main_v4_3) = (dats m 0 c).arrAt 7 cfg0.N :=
  Pipeline.withArrays_arr spec0 hinj0 c (V0 m c) _ 7
theorem tail7 : (tail m c main_v16 : FVec Ideal S1024x704 .f32) = res (out3 (aP m c) (aY m c)) := by
  unfold tail Pipeline.afterTail₀; rw [List.flatten_cons, List.flatten_nil, List.append_nil]; after_results_simp
  rw [wa7]
  funext i
  idx_vars i
  pointwise
  exact arr7 m c i0 i1

/-- The kernel's run: it ends with the step's results and its arguments unchanged. -/
theorem run_value (ρ : Dev nD → PrngReg) :
    θ_run defs (onTc (τ := τ) (main (F := Ideal))) ⟨m, fun _ => 0, ρ⟩ fun r => ∀ c : Dev nD,
      r.2.mem ((c.tc : Thread nD τ).loc main_v7) = res (out0 (aP m c))
      ∧ r.2.mem ((c.tc : Thread nD τ).loc main_v10) = res (out1 (aP m c) (aW m c) (aX m c) (aY m c))
      ∧ r.2.mem ((c.tc : Thread nD τ).loc main_v13) = res (out2 (aP m c) (aX m c))
      ∧ r.2.mem ((c.tc : Thread nD τ).loc main_v16) = res (out3 (aP m c) (aY m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h.1 c).1, (h.1 c).2.1, (h.1 c).2.2.1, (h.1 c).2.2.2, h.2 c⟩)
    (θ_run_and ((θ_run defs _ _).mono (fun _ h (c : Dev nD) => (⟨((h c).2 main_v7 (Pipeline.mem_restRefs_of main_v7 (by decide) (by decide))).trans (tail4 m c),
      ((h c).2 main_v10 (Pipeline.mem_restRefs_of main_v10 (by decide) (by decide))).trans (tail5 m c),
      ((h c).2 main_v13 (Pipeline.mem_restRefs_of main_v13 (by decide) (by decide))).trans (tail6 m c),
      ((h c).2 main_v16 (Pipeline.mem_restRefs_of main_v16 (by decide) (by decide))).trans (tail7 m c)⟩ : _ ∧ _ ∧ _ ∧ _)) (run_main m ρ)) (unchanged m ρ))
end Cert.Kernel11Ideal.Value

namespace Cert.Adam
open Cert.Reference11Ideal

/-- The reference's run: it ends with the step's results and its arguments unchanged. -/
theorem ref_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v1) = res (out0 (m (c.tc.loc main_arg0)))
      ∧ r.2.mem (c.tc.loc main_v31) = res (out1 (m (c.tc.loc main_arg0)) (m (c.tc.loc main_arg1)) (m (c.tc.loc main_arg2)) (m (c.tc.loc main_arg3)))
      ∧ r.2.mem (c.tc.loc main_v12) = res (out2 (m (c.tc.loc main_arg0)) (m (c.tc.loc main_arg2)))
      ∧ r.2.mem (c.tc.loc main_v18) = res (out3 (m (c.tc.loc main_arg0)) (m (c.tc.loc main_arg3)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run defs _ _).mono (fun _ h c => ⟨(h c).1.trans ?_, (h c).2.1.trans ?_, (h c).2.2.1.trans ?_, (h c).2.2.2.1.trans ?_, (h c).2.2.2.2⟩) (Value.run m ρ)
  all_goals
    clear h
    funext j
    idx_vars j
    pointwise [res, out0, out1, out2, out3, grad, step, mom1, mom2]

theorem algebraic : Cert.algebraic_Kernel11Ideal_Reference11Ideal := by
  intro m g m' g' _ ha
  have R' := (θ_run defs _ _).mono (fun r h c => by
    obtain ⟨h1, h2, h3, h4, h5⟩ := h c
    rw [(ha c).1] at h1
    rw [(ha c).1, (ha c).2.1, (ha c).2.2.1, (ha c).2.2.2] at h2
    rw [(ha c).1, (ha c).2.2.1] at h3
    rw [(ha c).1, (ha c).2.2.2] at h4
    exact And.intro h1 (And.intro h2 (And.intro h3 (And.intro h4 h5)))) (ref_value m' g')
  exact ⟨_, _, _, _, Kernel11Ideal.Value.run_value m g, R'⟩

theorem frame_ref : Cert.quiescent_Reference11Ideal := fun m g _ =>
  (θ_run defs _ _).mono (fun r h => ⟨fun c => (h c).2.2.2.2, sem_eq_zero_of_no_sems (by decide) r.2⟩) (Value.run (F := Ideal) m g)

end Cert.Adam
end
-- ==== Proof.AdamPacked.lean ====
/- The optimiser's step on the packed small parameters: kernel and reference end with the same arrays, whatever the arguments hold. -/
module

public import proofs.«01_k».proof.Defs
public import proofs.«01_k».proof.Proof.Gen.Kernel12Ideal.Frame
public import proofs.«01_k».proof.Proof.Gen.Reference12Ideal.Run
public import proofs.«01_k».proof.Proof.Adam
public import Idealize.ShloMosaic.Lib.Pipeline.ValueKit
public import Idealize.ShloMosaic.Lib.Pointwise
public import Idealize.ShloMosaic.Lib.Claim
@[expose] public section

set_option maxRecDepth 16384
noncomputable section
open Idealize.ShloMosaic Idealize.ShloMosaic.TcCoe Idealize.SL.Sem
open Idealize.ShloMosaic.Pipeline (Dat)
open Cert.Adam

namespace Cert.AdamPacked
abbrev Packed := FVec Ideal (⟨2, ![3520, 128]⟩ : Shape) .f32
/-- The step and the new moments, entry by entry. -/
def steps (g w x y : Packed) : Packed := fun i => step (g i) (w i) (x i) (y i)
def moms1 (g x : Packed) : Packed := fun i => mom1 (g i) (x i)
def moms2 (g y : Packed) : Packed := fun i => mom2 (g i) (y i)
end Cert.AdamPacked

open Cert.AdamPacked
namespace Cert.Kernel12Ideal.Value
open Cert.Kernel12Ideal Cert.Kernel12Ideal.Gen

theorem pay_step (g w x y : Packed) : k0_pay3 (F := Ideal) w g x y = steps g w x y := by
  funext i; idx_vars i; pointwise [k0_pay3, k0_pay1, k0_pay2]; rfl
theorem pay_mom1 (g x : Packed) : k0_pay1 (F := Ideal) g x = moms1 g x := by
  funext i; idx_vars i; pointwise [k0_pay1]; rfl
theorem pay_mom2 (g y : Packed) : k0_pay2 (F := Ideal) g y = moms2 g y := by
  funext i; idx_vars i; pointwise [k0_pay2]; rfl

variable (m : (ℓ : Loc nD τ sig) → Buf (Elt Ideal) ℓ) (c : Dev nD)
/-- The arguments on a core: gradients, weights and the two moments, packed. -/
abbrev aG : FVec Ideal S3520x128 .f32 := m ((c.tc : Thread nD τ).loc main_arg0)
abbrev aW : FVec Ideal S3520x128 .f32 := m ((c.tc : Thread nD τ).loc main_arg1)
abbrev aX : FVec Ideal S3520x128 .f32 := m ((c.tc : Thread nD τ).loc main_arg2)
abbrev aY : FVec Ideal S3520x128 .f32 := m ((c.tc : Thread nD τ).loc main_arg3)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0])

variable (t : Fin cfg0.N)
/-- The one block of each argument is the whole array. -/
theorem blk0 : (iblk m c 0 t : FVec Ideal S3520x128 .f32) = aG m c := by
  funext i; idx_vars i; blk_point [iblk, idx t]
theorem blk1 : (iblk m c 1 t : FVec Ideal S3520x128 .f32) = aW m c := by
  funext i; idx_vars i; blk_point [iblk, idx t]
theorem blk2 : (iblk m c 2 t : FVec Ideal S3520x128 .f32) = aX m c := by
  funext i; idx_vars i; blk_point [iblk, idx t]
theorem blk3 : (iblk m c 3 t : FVec Ideal S3520x128 .f32) = aY m c := by
  funext i; idx_vars i; blk_point [iblk, idx t]
theorem emb4 (i : Fin 3520) (j : Fin 128) : (win0_4.blk t).view.emb (ix2 i j) = (ix2 i j : S3520x128.Idx) := by blk_ext [idx t]
theorem emb5 (i : Fin 3520) (j : Fin 128) : (win0_5.blk t).view.emb (ix2 i j) = (ix2 i j : S3520x128.Idx) := by blk_ext [idx t]
theorem emb6 (i : Fin 3520) (j : Fin 128) : (win0_6.blk t).view.emb (ix2 i j) = (ix2 i j : S3520x128.Idx) := by blk_ext [idx t]

theorem arr4 : ((dats m 0 c).arrAt 4 cfg0.N : FVec Ideal S3520x128 .f32) = steps (aG m c) (aW m c) (aX m c) (aY m c) := by
  refine (dats m 0 c).arrAt_eq_of_covers 4 _ (by decide +kernel) fun t hf y => ?_
  rw [after0_4, blk0, blk1, blk2, blk3]
  idx_vars y
  blk_simp
  rw [emb4]
  unfold out0_4
  frame_out
  exact congrFun (pay_step _ _ _ _) _
theorem arr5 : ((dats m 0 c).arrAt 5 cfg0.N : FVec Ideal S3520x128 .f32) = moms1 (aG m c) (aX m c) := by
  refine (dats m 0 c).arrAt_eq_of_covers 5 _ (by decide +kernel) fun t hf y => ?_
  rw [after0_5, blk0, blk1, blk2, blk3]
  idx_vars y
  blk_simp
  rw [emb5]
  unfold out0_5
  frame_out
  exact congrFun (pay_mom1 _ _) _
theorem arr6 : ((dats m 0 c).arrAt 6 cfg0.N : FVec Ideal S3520x128 .f32) = moms2 (aG m c) (aY m c) := by
  refine (dats m 0 c).arrAt_eq_of_covers 6 _ (by decide +kernel) fun t hf y => ?_
  rw [after0_6, blk0, blk1, blk2, blk3]
  idx_vars y
  blk_simp
  rw [emb6]
  unfold out0_6
  frame_out
  exact congrFun (pay_mom2 _ _) _

/-- The kernel's run: it ends with the step and the new moments, its arguments unchanged. -/
theorem run_value (ρ : Dev nD → PrngReg) :
    θ_run defs (onTc (τ := τ) (main (F := Ideal))) ⟨m, fun _ => 0, ρ⟩ fun r => ∀ c : Dev nD,
      r.2.mem ((c.tc : Thread nD τ).loc main_v0_0) = steps (aG m c) (aW m c) (aX m c) (aY m c)
      ∧ r.2.mem ((c.tc : Thread nD τ).loc main_v0_1) = moms1 (aG m c) (aX m c)
      ∧ r.2.mem ((c.tc : Thread nD τ).loc main_v0_2) = moms2 (aG m c) (aY m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h.1 c).1, (h.1 c).2.1, (h.1 c).2.2, h.2 c⟩)
    (θ_run_and ((θ_run defs _ _).mono (fun _ h (c : Dev nD) => (⟨((h c).1 4).trans (arr4 m c), ((h c).1 5).trans (arr5 m c), ((h c).1 6).trans (arr6 m c)⟩ : _ ∧ _ ∧ _)) (run_main m ρ)) (unchanged m ρ))
end Cert.Kernel12Ideal.Value

namespace Cert.AdamPacked
open Cert.Reference12Ideal

/-- The reference's run: it ends with the step and the new moments, its arguments unchanged. -/
theorem ref_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v23) = steps (m (c.tc.loc main_arg0)) (m (c.tc.loc main_arg1)) (m (c.tc.loc main_arg2)) (m (c.tc.loc main_arg3))
      ∧ r.2.mem (c.tc.loc main_v4) = moms1 (m (c.tc.loc main_arg0)) (m (c.tc.loc main_arg2))
      ∧ r.2.mem (c.tc.loc main_v10) = moms2 (m (c.tc.loc main_arg0)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run defs _ _).mono (fun _ h c => ⟨(h c).1.trans ?_, (h c).2.1.trans ?_, (h c).2.2.1.trans ?_, (h c).2.2.2⟩) (Value.run m ρ)
  all_goals
    clear h
    funext j
    idx_vars j
    pointwise [steps, moms1, moms2, step, mom1, mom2]

theorem algebraic : Cert.algebraic_Kernel12Ideal_Reference12Ideal := by
  intro m g m' g' _ ha
  have R' := (θ_run defs _ _).mono (fun r h c => by
    obtain ⟨h1, h2, h3, h4⟩ := h c
    rw [(ha c).1, (ha c).2.1, (ha c).2.2.1, (ha c).2.2.2] at h1
    rw [(ha c).1, (ha c).2.2.1] at h2
    rw [(ha c).1, (ha c).2.2.2] at h3
    exact And.intro h1 (And.intro h2 (And.intro h3 h4))) (ref_value m' g')
  exact ⟨_, _, _, Kernel12Ideal.Value.run_value m g, R'⟩

theorem frame_ref : Cert.quiescent_Reference12Ideal := fun m g _ =>
  (θ_run defs _ _).mono (fun r h => ⟨fun c => (h c).2.2.2, sem_eq_zero_of_no_sems (by decide) r.2⟩) (Value.run (F := Ideal) m g)

end Cert.AdamPacked
end
-- ==== Proof.AdamSmall.lean ====
/- The optimiser on the small parameters: packed into rows, stepped, and taken apart again.  Kernel and reference end with
   the same arrays, whatever the arguments hold. -/
module

public import proofs.«01_k».proof.Defs
public import proofs.«01_k».proof.Proof.Gen.Kernel15Ideal.Frame
public import proofs.«01_k».proof.Proof.Gen.Reference15Ideal.Run
public import proofs.«01_k».proof.Proof.AdamPacked
@[expose] public section

set_option maxRecDepth 16384
noncomputable section
open Idealize.ShloMosaic Idealize.ShloMosaic.TcCoe Idealize.SL.Sem
open Idealize.ShloMosaic.Pipeline (Dat)
open Cert.Adam Cert.AdamPacked

namespace Cert.AdamSmall
/-- The step and the new moments of an array of any shape, entry by entry. -/
def stepsOf {s : Shape} (g w x y : FVec Ideal s .f32) : FVec Ideal s .f32 := fun i => step (g i) (w i) (x i) (y i)
def moms1Of {s : Shape} (g x : FVec Ideal s .f32) : FVec Ideal s .f32 := fun i => mom1 (g i) (x i)
def moms2Of {s : Shape} (g y : FVec Ideal s .f32) : FVec Ideal s .f32 := fun i => mom2 (g i) (y i)
variable {n0 n1 n2 n3 : Nat} {i0 j0 : Fin n0} {i1 j1 : Fin n1} {i2 j2 : Fin n2} {i3 j3 : Fin n3}
theorem ix1_eq (h0 : i0.val = j0.val) : ix1 i0 = ix1 j0 := by cases Fin.ext h0; rfl
theorem ix2_eq (h0 : i0.val = j0.val) (h1 : i1.val = j1.val) : ix2 i0 i1 = ix2 j0 j1 := by cases Fin.ext h0; cases Fin.ext h1; rfl
theorem ix3_eq (h0 : i0.val = j0.val) (h1 : i1.val = j1.val) (h2 : i2.val = j2.val) : ix3 i0 i1 i2 = ix3 j0 j1 j2 := by
  cases Fin.ext h0; cases Fin.ext h1; cases Fin.ext h2; rfl
theorem ix4_eq (h0 : i0.val = j0.val) (h1 : i1.val = j1.val) (h2 : i2.val = j2.val) (h3 : i3.val = j3.val) :
    ix4 i0 i1 i2 i3 = ix4 j0 j1 j2 j3 := by
  cases Fin.ext h0; cases Fin.ext h1; cases Fin.ext h2; cases Fin.ext h3; rfl
end Cert.AdamSmall

open Cert.AdamSmall
namespace Cert.Kernel15Ideal.Value
open Cert.Kernel15Ideal Cert.Kernel15Ideal.Gen

section Pack
variable (a0 : FVec Ideal S310336 .f32) (a1 : FVec Ideal S2x512 .f32) (a2 : FVec Ideal S2x4x128x128 .f32) (a3 : FVec Ideal S2x4x128 .f32) (a4 : FVec Ideal S2x512 .f32) (a5 : FVec Ideal S2x512 .f32) (a6 : FVec Ideal S2x1024 .f32) (a7 : FVec Ideal S1024 .f32)
/-- The arrays flattened, one behind the other, filled up with zeros and cut into rows. -/
def packed : FVec Ideal S3520x128 .f32 :=
  shapeCast S3520x128 (pad S450560 ![0] ![1984] ![0] (concatenate S448576 0 [⟨S310336, a0⟩, ⟨S1024, shapeCast S1024 a1 shapeCasts_S2x512_S1024⟩, ⟨S131072, shapeCast S131072 a2 shapeCasts_S2x4x128x128_S131072⟩, ⟨S1024, shapeCast S1024 a3 shapeCasts_S2x4x128_S1024⟩, ⟨S1024, shapeCast S1024 a4 shapeCasts_S2x512_S1024⟩, ⟨S1024, shapeCast S1024 a5 shapeCasts_S2x512_S1024⟩, ⟨S2048, shapeCast S2048 a6 shapeCasts_S2x1024_S2048⟩, ⟨S1024, a7⟩]
    concatenates_S310336_S1024_S131072_S1024_S1024_S1024_S2048_S1024_S448576_d0) (sitofp (F := Ideal) .f32 (constantI S_ 32 0#32)) pads_S448576_S450560_019840 h_S_) shapeCasts_S450560_S3520x128

/-- Each array taken out of the rows again. -/
def part1 (b : FVec Ideal S3520x128 .f32) : FVec Ideal S2x512 .f32 :=
  shapeCast S2x512 (extractStridedSlice S1024 ![310336] (shapeCast S450560 b shapeCasts_S3520x128_S450560) slices_S450560_S1024_310336) shapeCasts_S1024_S2x512
def part2 (b : FVec Ideal S3520x128 .f32) : FVec Ideal S2x4x128x128 .f32 :=
  shapeCast S2x4x128x128 (extractStridedSlice S131072 ![311360] (shapeCast S450560 b shapeCasts_S3520x128_S450560) slices_S450560_S131072_311360) shapeCasts_S131072_S2x4x128x128
def part3 (b : FVec Ideal S3520x128 .f32) : FVec Ideal S2x4x128 .f32 :=
  shapeCast S2x4x128 (extractStridedSlice S1024 ![442432] (shapeCast S450560 b shapeCasts_S3520x128_S450560) slices_S450560_S1024_442432) shapeCasts_S1024_S2x4x128
def part4 (b : FVec Ideal S3520x128 .f32) : FVec Ideal S2x512 .f32 :=
  shapeCast S2x512 (extractStridedSlice S1024 ![443456] (shapeCast S450560 b shapeCasts_S3520x128_S450560) slices_S450560_S1024_443456) shapeCasts_S1024_S2x512
def part5 (b : FVec Ideal S3520x128 .f32) : FVec Ideal S2x512 .f32 :=
  shapeCast S2x512 (extractStridedSlice S1024 ![444480] (shapeCast S450560 b shapeCasts_S3520x128_S450560) slices_S450560_S1024_444480) shapeCasts_S1024_S2x512
def part6 (b : FVec Ideal S3520x128 .f32) : FVec Ideal S2x1024 .f32 :=
  shapeCast S2x1024 (extractStridedSlice S2048 ![445504] (shapeCast S450560 b shapeCasts_S3520x128_S450560) slices_S450560_S2048_445504) shapeCasts_S2048_S2x1024
def part7 (b : FVec Ideal S3520x128 .f32) : FVec Ideal S1024 .f32 :=
  extractStridedSlice S1024 ![447552] (shapeCast S450560 b shapeCasts_S3520x128_S450560) slices_S450560_S1024_447552
theorem part1_packed : part1 (packed a0 a1 a2 a3 a4 a5 a6 a7) = a1 := by
  funext i; idx_vars i
  pointwise [part1, packed]
  have h0 := i0.isLt; have h1 := i1.isLt
  repeat first | rw [dif_pos (by omega)] | rw [dif_neg (by omega)]
  all_goals exact congrArg a1 (ix2_eq (by dsimp only; omega) (by dsimp only; omega))
set_option maxHeartbeats 1600000 in
theorem part2_packed : part2 (packed a0 a1 a2 a3 a4 a5 a6 a7) = a2 := by
  funext i; idx_vars i
  pointwise [part2, packed]
  have h0 := i0.isLt; have h1 := i1.isLt; have h2 := i2.isLt; have h3 := i3.isLt
  repeat first | rw [dif_pos (by omega)] | rw [dif_neg (by omega)]
  all_goals exact congrArg a2 (ix4_eq (by dsimp only; omega) (by dsimp only; omega) (by dsimp only; omega) (by dsimp only; omega))
theorem part3_packed : part3 (packed a0 a1 a2 a3 a4 a5 a6 a7) = a3 := by
  funext i; idx_vars i
  pointwise [part3, packed]
  have h0 := i0.isLt; have h1 := i1.isLt; have h2 := i2.isLt
  repeat first | rw [dif_pos (by omega)] | rw [dif_neg (by omega)]
  all_goals exact congrArg a3 (ix3_eq (by dsimp only; omega) (by dsimp only; omega) (by dsimp only; omega))
theorem part4_packed : part4 (packed a0 a1 a2 a3 a4 a5 a6 a7) = a4 := by
  funext i; idx_vars i
  pointwise [part4, packed]
  have h0 := i0.isLt; have h1 := i1.isLt
  repeat first | rw [dif_pos (by omega)] | rw [dif_neg (by omega)]
  all_goals exact congrArg a4 (ix2_eq (by dsimp only; omega) (by dsimp only; omega))
theorem part5_packed : part5 (packed a0 a1 a2 a3 a4 a5 a6 a7) = a5 := by
  funext i; idx_vars i
  pointwise [part5, packed]
  have h0 := i0.isLt; have h1 := i1.isLt
  repeat first | rw [dif_pos (by omega)] | rw [dif_neg (by omega)]
  all_goals exact congrArg a5 (ix2_eq (by dsimp only; omega) (by dsimp only; omega))
theorem part6_packed : part6 (packed a0 a1 a2 a3 a4 a5 a6 a7) = a6 := by
  funext i; idx_vars i
  pointwise [part6, packed]
  have h0 := i0.isLt; have h1 := i1.isLt
  repeat first | rw [dif_pos (by omega)] | rw [dif_neg (by omega)]
  all_goals exact congrArg a6 (ix2_eq (by dsimp only; omega) (by dsimp only; omega))
theorem part7_packed : part7 (packed a0 a1 a2 a3 a4 a5 a6 a7) = a7 := by
  funext i; idx_vars i
  pointwise [part7, packed]
  have h0 := i0.isLt
  repeat first | rw [dif_pos (by omega)] | rw [dif_neg (by omega)]
  all_goals exact congrArg a7 (ix1_eq (by dsimp only; omega))
end Pack

theorem pay_step (g w x y : Packed) : k0_pay4 (F := Ideal) w g x y = steps g w x y := by
  funext i; idx_vars i; pointwise [k0_pay4, k0_pay3, k0_pay2, k0_pay1]; rfl
theorem pay_mom1 (g x : Packed) : k0_pay2 (F := Ideal) g x = moms1 g x := by
  funext i; idx_vars i; pointwise [k0_pay2, k0_pay1]; rfl
theorem pay_mom2 (g y : Packed) : k0_pay3 (F := Ideal) g y = moms2 g y := by
  funext i; idx_vars i; pointwise [k0_pay3, k0_pay1]; rfl

variable (m : (ℓ : Loc nD τ sig) → Buf (Elt Ideal) ℓ) (c : Dev nD)
/-- The packed arguments on a core: gradients, weights and the two moments. -/
abbrev aG : FVec Ideal S3520x128 .f32 := packed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
abbrev aW : FVec Ideal S3520x128 .f32 := packed (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
abbrev aX : FVec Ideal S3520x128 .f32 := packed (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
abbrev aY : FVec Ideal S3520x128 .f32 := packed (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31))
theorem V_G : (V m c main_v8 : FVec Ideal S3520x128 .f32) = aG m c := by
  unfold V V0; simp only [List.flatten_cons, List.flatten_nil, List.append_nil, List.cons_append, List.nil_append]; after_results_simp; rfl
theorem V_W : (V m c main_v17 : FVec Ideal S3520x128 .f32) = aW m c := by
  unfold V V0; simp only [List.flatten_cons, List.flatten_nil, List.append_nil, List.cons_append, List.nil_append]; after_results_simp; rfl
theorem V_X : (V m c main_v26 : FVec Ideal S3520x128 .f32) = aX m c := by
  unfold V V0; simp only [List.flatten_cons, List.flatten_nil, List.append_nil, List.cons_append, List.nil_append]; after_results_simp; rfl
theorem V_Y : (V m c main_v35 : FVec Ideal S3520x128 .f32) = aY m c := by
  unfold V V0; simp only [List.flatten_cons, List.flatten_nil, List.append_nil, List.cons_append, List.nil_append]; after_results_simp; rfl

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0])

variable (t : Fin cfg0.N)
/-- The one block of each packed array is the whole array. -/
theorem blk0 : (iblk m c 0 t : FVec Ideal S3520x128 .f32) = aG m c := by
  rw [← V_G]; funext i; idx_vars i; blk_point [iblk, idx t]
theorem blk1 : (iblk m c 1 t : FVec Ideal S3520x128 .f32) = aW m c := by
  rw [← V_W]; funext i; idx_vars i; blk_point [iblk, idx t]
theorem blk2 : (iblk m c 2 t : FVec Ideal S3520x128 .f32) = aX m c := by
  rw [← V_X]; funext i; idx_vars i; blk_point [iblk, idx t]
theorem blk3 : (iblk m c 3 t : FVec Ideal S3520x128 .f32) = aY m c := by
  rw [← V_Y]; funext i; idx_vars i; blk_point [iblk, idx t]
theorem emb4 (i : Fin 3520) (j : Fin 128) : (win0_4.blk t).view.emb (ix2 i j) = (ix2 i j : S3520x128.Idx) := by blk_ext [idx t]
theorem emb5 (i : Fin 3520) (j : Fin 128) : (win0_5.blk t).view.emb (ix2 i j) = (ix2 i j : S3520x128.Idx) := by blk_ext [idx t]
theorem emb6 (i : Fin 3520) (j : Fin 128) : (win0_6.blk t).view.emb (ix2 i j) = (ix2 i j : S3520x128.Idx) := by blk_ext [idx t]

theorem arr4 : ((dats m 0 c).arrAt 4 cfg0.N : FVec Ideal S3520x128 .f32) = steps (aG m c) (aW m c) (aX m c) (aY m c) := by
  refine (dats m 0 c).arrAt_eq_of_covers 4 _ (by decide +kernel) fun t hf y => ?_
  rw [after0_4, blk0, blk1, blk2, blk3]
  idx_vars y
  blk_simp
  rw [emb4]
  unfold out0_4
  frame_out
  exact congrFun (pay_step _ _ _ _) _
theorem arr5 : ((dats m 0 c).arrAt 5 cfg0.N : FVec Ideal S3520x128 .f32) = moms1 (aG m c) (aX m c) := by
  refine (dats m 0 c).arrAt_eq_of_covers 5 _ (by decide +kernel) fun t hf y => ?_
  rw [after0_5, blk0, blk1, blk2, blk3]
  idx_vars y
  blk_simp
  rw [emb5]
  unfold out0_5
  frame_out
  exact congrFun (pay_mom1 _ _) _
theorem arr6 : ((dats m 0 c).arrAt 6 cfg0.N : FVec Ideal S3520x128 .f32) = moms2 (aG m c) (aY m c) := by
  refine (dats m 0 c).arrAt_eq_of_covers 6 _ (by decide +kernel) fun t hf y => ?_
  rw [after0_6, blk0, blk1, blk2, blk3]
  idx_vars y
  blk_simp
  rw [emb6]
  unfold out0_6
  frame_out
  exact congrFun (pay_mom2 _ _) _

/-- The contents of the buffer a host line after the region writes. -/
abbrev tail (b : Ref sig .tc) := Pipeline.afterTail₀ cfgs (dats m) 0 (V0 m) [hostOps1] c b
theorem hinj0 : Function.Injective (Pipeline.arrRef spec0) := winFacts0.arr_inj
theorem wa4 : Pipeline.withArrays (cfgs 0).spec c (V0 m c) (fun w => (dats m 0 c).arrAt w (cfgs 0).N) (Proc.tc.devRef main_v36_0) = (dats m 0 c).arrAt 4 cfg0.N :=
  Pipeline.withArrays_arr spec0 hinj0 c (V0 m c) _ 4
theorem wa5 : Pipeline.withArrays (cfgs 0).spec c (V0 m c) (fun w => (dats m 0 c).arrAt w (cfgs 0).N) (Proc.tc.devRef main_v36_1) = (dats m 0 c).arrAt 5 cfg0.N :=
  Pipeline.withArrays_arr spec0 hinj0 c (V0 m c) _ 5
theorem wa6 : Pipeline.withArrays (cfgs 0).spec c (V0 m c) (fun w => (dats m 0 c).arrAt w (cfgs 0).N) (Proc.tc.devRef main_v36_2) = (dats m 0 c).arrAt 6 cfg0.N :=
  Pipeline.withArrays_arr spec0 hinj0 c (V0 m c) _ 6
theorem tail0_1 : (tail m c main_v40 : FVec Ideal S2x512 .f32) = stepsOf (m ((c.tc : Thread nD τ).loc main_arg1)) (m ((c.tc : Thread nD τ).loc main_arg9)) (m ((c.tc : Thread nD τ).loc main_arg17)) (m ((c.tc : Thread nD τ).loc main_arg25)) := by
  unfold tail Pipeline.afterTail₀; rw [List.flatten_cons, List.flatten_nil, List.append_nil]; after_results_simp
  rw [wa4, arr4]
  refine (rfl : _ = stepsOf (part1 (aG m c)) (part1 (aW m c)) (part1 (aX m c)) (part1 (aY m c))).trans ?_
  rw [part1_packed, part1_packed, part1_packed, part1_packed]
theorem tail0_2 : (tail m c main_v42 : FVec Ideal S2x4x128x128 .f32) = stepsOf (m ((c.tc : Thread nD τ).loc main_arg2)) (m ((c.tc : Thread nD τ).loc main_arg10)) (m ((c.tc : Thread nD τ).loc main_arg18)) (m ((c.tc : Thread nD τ).loc main_arg26)) := by
  unfold tail Pipeline.afterTail₀; rw [List.flatten_cons, List.flatten_nil, List.append_nil]; after_results_simp
  rw [wa4, arr4]
  refine (rfl : _ = stepsOf (part2 (aG m c)) (part2 (aW m c)) (part2 (aX m c)) (part2 (aY m c))).trans ?_
  rw [part2_packed, part2_packed, part2_packed, part2_packed]
theorem tail0_3 : (tail m c main_v44 : FVec Ideal S2x4x128 .f32) = stepsOf (m ((c.tc : Thread nD τ).loc main_arg3)) (m ((c.tc : Thread nD τ).loc main_arg11)) (m ((c.tc : Thread nD τ).loc main_arg19)) (m ((c.tc : Thread nD τ).loc main_arg27)) := by
  unfold tail Pipeline.afterTail₀; rw [List.flatten_cons, List.flatten_nil, List.append_nil]; after_results_simp
  rw [wa4, arr4]
  refine (rfl : _ = stepsOf (part3 (aG m c)) (part3 (aW m c)) (part3 (aX m c)) (part3 (aY m c))).trans ?_
  rw [part3_packed, part3_packed, part3_packed, part3_packed]
theorem tail0_4 : (tail m c main_v46 : FVec Ideal S2x512 .f32) = stepsOf (m ((c.tc : Thread nD τ).loc main_arg4)) (m ((c.tc : Thread nD τ).loc main_arg12)) (m ((c.tc : Thread nD τ).loc main_arg20)) (m ((c.tc : Thread nD τ).loc main_arg28)) := by
  unfold tail Pipeline.afterTail₀; rw [List.flatten_cons, List.flatten_nil, List.append_nil]; after_results_simp
  rw [wa4, arr4]
  refine (rfl : _ = stepsOf (part4 (aG m c)) (part4 (aW m c)) (part4 (aX m c)) (part4 (aY m c))).trans ?_
  rw [part4_packed, part4_packed, part4_packed, part4_packed]
theorem tail0_5 : (tail m c main_v48 : FVec Ideal S2x512 .f32) = stepsOf (m ((c.tc : Thread nD τ).loc main_arg5)) (m ((c.tc : Thread nD τ).loc main_arg13)) (m ((c.tc : Thread nD τ).loc main_arg21)) (m ((c.tc : Thread nD τ).loc main_arg29)) := by
  unfold tail Pipeline.afterTail₀; rw [List.flatten_cons, List.flatten_nil, List.append_nil]; after_results_simp
  rw [wa4, arr4]
  refine (rfl : _ = stepsOf (part5 (aG m c)) (part5 (aW m c)) (part5 (aX m c)) (part5 (aY m c))).trans ?_
  rw [part5_packed, part5_packed, part5_packed, part5_packed]
theorem tail0_6 : (tail m c main_v50 : FVec Ideal S2x1024 .f32) = stepsOf (m ((c.tc : Thread nD τ).loc main_arg6)) (m ((c.tc : Thread nD τ).loc main_arg14)) (m ((c.tc : Thread nD τ).loc main_arg22)) (m ((c.tc : Thread nD τ).loc main_arg30)) := by
  unfold tail Pipeline.afterTail₀; rw [List.flatten_cons, List.flatten_nil, List.append_nil]; after_results_simp
  rw [wa4, arr4]
  refine (rfl : _ = stepsOf (part6 (aG m c)) (part6 (aW m c)) (part6 (aX m c)) (part6 (aY m c))).trans ?_
  rw [part6_packed, part6_packed, part6_packed, part6_packed]
theorem tail0_7 : (tail m c main_v51 : FVec Ideal S1024 .f32) = stepsOf (m ((c.tc : Thread nD τ).loc main_arg7)) (m ((c.tc : Thread nD τ).loc main_arg15)) (m ((c.tc : Thread nD τ).loc main_arg23)) (m ((c.tc : Thread nD τ).loc main_arg31)) := by
  unfold tail Pipeline.afterTail₀; rw [List.flatten_cons, List.flatten_nil, List.append_nil]; after_results_simp
  rw [wa4, arr4]
  refine (rfl : _ = stepsOf (part7 (aG m c)) (part7 (aW m c)) (part7 (aX m c)) (part7 (aY m c))).trans ?_
  rw [part7_packed, part7_packed, part7_packed, part7_packed]
theorem tail1_1 : (tail m c main_v55 : FVec Ideal S2x512 .f32) = moms1Of (m ((c.tc : Thread nD τ).loc main_arg1)) (m ((c.tc : Thread nD τ).loc main_arg17)) := by
  unfold tail Pipeline.afterTail₀; rw [List.flatten_cons, List.flatten_nil, List.append_nil]; after_results_simp
  rw [wa5, arr5]
  refine (rfl : _ = moms1Of (part1 (aG m c)) (part1 (aX m c))).trans ?_
  rw [part1_packed, part1_packed]
theorem tail1_2 : (tail m c main_v57 : FVec Ideal S2x4x128x128 .f32) = moms1Of (m ((c.tc : Thread nD τ).loc main_arg2)) (m ((c.tc : Thread nD τ).loc main_arg18)) := by
  unfold tail Pipeline.afterTail₀; rw [List.flatten_cons, List.flatten_nil, List.append_nil]; after_results_simp
  rw [wa5, arr5]
  refine (rfl : _ = moms1Of (part2 (aG m c)) (part2 (aX m c))).trans ?_
  rw [part2_packed, part2_packed]
theorem tail1_3 : (tail m c main_v59 : FVec Ideal S2x4x128 .f32) = moms1Of (m ((c.tc : Thread nD τ).loc main_arg3)) (m ((c.tc : Thread nD τ).loc main_arg19)) := by
  unfold tail Pipeline.afterTail₀; rw [List.flatten_cons, List.flatten_nil, List.append_nil]; after_results_simp
  rw [wa5, arr5]
  refine (rfl : _ = moms1Of (part3 (aG m c)) (part3 (aX m c))).trans ?_
  rw [part3_packed, part3_packed]
theorem tail1_4 : (tail m c main_v61 : FVec Ideal S2x512 .f32) = moms1Of (m ((c.tc : Thread nD τ).loc main_arg4)) (m ((c.tc : Thread nD τ).loc main_arg20)) := by
  unfold tail Pipeline.afterTail₀; rw [List.flatten_cons, List.flatten_nil, List.append_nil]; after_results_simp
  rw [wa5, arr5]
  refine (rfl : _ = moms1Of (part4 (aG m c)) (part4 (aX m c))).trans ?_
  rw [part4_packed, part4_packed]
theorem tail1_5 : (tail m c main_v63 : FVec Ideal S2x512 .f32) = moms1Of (m ((c.tc : Thread nD τ).loc main_arg5)) (m ((c.tc : Thread nD τ).loc main_arg21)) := by
  unfold tail Pipeline.afterTail₀; rw [List.flatten_cons, List.flatten_nil, List.append_nil]; after_results_simp
  rw [wa5, arr5]
  refine (rfl : _ = moms1Of (part5 (aG m c)) (part5 (aX m c))).trans ?_
  rw [part5_packed, part5_packed]
theorem tail1_6 : (tail m c main_v65 : FVec Ideal S2x1024 .f32) = moms1Of (m ((c.tc : Thread nD τ).loc main_arg6)) (m ((c.tc : Thread nD τ).loc main_arg22)) := by
  unfold tail Pipeline.afterTail₀; rw [List.flatten_cons, List.flatten_nil, List.append_nil]; after_results_simp
  rw [wa5, arr5]
  refine (rfl : _ = moms1Of (part6 (aG m c)) (part6 (aX m c))).trans ?_
  rw [part6_packed, part6_packed]
theorem tail1_7 : (tail m c main_v66 : FVec Ideal S1024 .f32) = moms1Of (m ((c.tc : Thread nD τ).loc main_arg7)) (m ((c.tc : Thread nD τ).loc main_arg23)) := by
  unfold tail Pipeline.afterTail₀; rw [List.flatten_cons, List.flatten_nil, List.append_nil]; after_results_simp
  rw [wa5, arr5]
  refine (rfl : _ = moms1Of (part7 (aG m c)) (part7 (aX m c))).trans ?_
  rw [part7_packed, part7_packed]
theorem tail2_1 : (tail m c main_v70 : FVec Ideal S2x512 .f32) = moms2Of (m ((c.tc : Thread nD τ).loc main_arg1)) (m ((c.tc : Thread nD τ).loc main_arg25)) := by
  unfold tail Pipeline.afterTail₀; rw [List.flatten_cons, List.flatten_nil, List.append_nil]; after_results_simp
  rw [wa6, arr6]
  refine (rfl : _ = moms2Of (part1 (aG m c)) (part1 (aY m c))).trans ?_
  rw [part1_packed, part1_packed]
theorem tail2_2 : (tail m c main_v72 : FVec Ideal S2x4x128x128 .f32) = moms2Of (m ((c.tc : Thread nD τ).loc main_arg2)) (m ((c.tc : Thread nD τ).loc main_arg26)) := by
  unfold tail Pipeline.afterTail₀; rw [List.flatten_cons, List.flatten_nil, List.append_nil]; after_results_simp
  rw [wa6, arr6]
  refine (rfl : _ = moms2Of (part2 (aG m c)) (part2 (aY m c))).trans ?_
  rw [part2_packed, part2_packed]
theorem tail2_3 : (tail m c main_v74 : FVec Ideal S2x4x128 .f32) = moms2Of (m ((c.tc : Thread nD τ).loc main_arg3)) (m ((c.tc : Thread nD τ).loc main_arg27)) := by
  unfold tail Pipeline.afterTail₀; rw [List.flatten_cons, List.flatten_nil, List.append_nil]; after_results_simp
  rw [wa6, arr6]
  refine (rfl : _ = moms2Of (part3 (aG m c)) (part3 (aY m c))).trans ?_
  rw [part3_packed, part3_packed]
theorem tail2_4 : (tail m c main_v76 : FVec Ideal S2x512 .f32) = moms2Of (m ((c.tc : Thread nD τ).loc main_arg4)) (m ((c.tc : Thread nD τ).loc main_arg28)) := by
  unfold tail Pipeline.afterTail₀; rw [List.flatten_cons, List.flatten_nil, List.append_nil]; after_results_simp
  rw [wa6, arr6]
  refine (rfl : _ = moms2Of (part4 (aG m c)) (part4 (aY m c))).trans ?_
  rw [part4_packed, part4_packed]
theorem tail2_5 : (tail m c main_v78 : FVec Ideal S2x512 .f32) = moms2Of (m ((c.tc : Thread nD τ).loc main_arg5)) (m ((c.tc : Thread nD τ).loc main_arg29)) := by
  unfold tail Pipeline.afterTail₀; rw [List.flatten_cons, List.flatten_nil, List.append_nil]; after_results_simp
  rw [wa6, arr6]
  refine (rfl : _ = moms2Of (part5 (aG m c)) (part5 (aY m c))).trans ?_
  rw [part5_packed, part5_packed]
theorem tail2_6 : (tail m c main_v80 : FVec Ideal S2x1024 .f32) = moms2Of (m ((c.tc : Thread nD τ).loc main_arg6)) (m ((c.tc : Thread nD τ).loc main_arg30)) := by
  unfold tail Pipeline.afterTail₀; rw [List.flatten_cons, List.flatten_nil, List.append_nil]; after_results_simp
  rw [wa6, arr6]
  refine (rfl : _ = moms2Of (part6 (aG m c)) (part6 (aY m c))).trans ?_
  rw [part6_packed, part6_packed]
theorem tail2_7 : (tail m c main_v81 : FVec Ideal S1024 .f32) = moms2Of (m ((c.tc : Thread nD τ).loc main_arg7)) (m ((c.tc : Thread nD τ).loc main_arg31)) := by
  unfold tail Pipeline.afterTail₀; rw [List.flatten_cons, List.flatten_nil, List.append_nil]; after_results_simp
  rw [wa6, arr6]
  refine (rfl : _ = moms2Of (part7 (aG m c)) (part7 (aY m c))).trans ?_
  rw [part7_packed, part7_packed]

/-- The kernel's run: it ends with the step and the new moments of every array, its arguments unchanged. -/
theorem run_value (ρ : Dev nD → PrngReg) :
    θ_run defs (onTc (τ := τ) (main (F := Ideal))) ⟨m, fun _ => 0, ρ⟩ fun r => ∀ c : Dev nD,
      r.2.mem ((c.tc : Thread nD τ).loc main_v40) = stepsOf (m ((c.tc : Thread nD τ).loc main_arg1)) (m ((c.tc : Thread nD τ).loc main_arg9)) (m ((c.tc : Thread nD τ).loc main_arg17)) (m ((c.tc : Thread nD τ).loc main_arg25))
      ∧ r.2.mem ((c.tc : Thread nD τ).loc main_v42) = stepsOf (m ((c.tc : Thread nD τ).loc main_arg2)) (m ((c.tc : Thread nD τ).loc main_arg10)) (m ((c.tc : Thread nD τ).loc main_arg18)) (m ((c.tc : Thread nD τ).loc main_arg26))
      ∧ r.2.mem ((c.tc : Thread nD τ).loc main_v44) = stepsOf (m ((c.tc : Thread nD τ).loc main_arg3)) (m ((c.tc : Thread nD τ).loc main_arg11)) (m ((c.tc : Thread nD τ).loc main_arg19)) (m ((c.tc : Thread nD τ).loc main_arg27))
      ∧ r.2.mem ((c.tc : Thread nD τ).loc main_v46) = stepsOf (m ((c.tc : Thread nD τ).loc main_arg4)) (m ((c.tc : Thread nD τ).loc main_arg12)) (m ((c.tc : Thread nD τ).loc main_arg20)) (m ((c.tc : Thread nD τ).loc main_arg28))
      ∧ r.2.mem ((c.tc : Thread nD τ).loc main_v48) = stepsOf (m ((c.tc : Thread nD τ).loc main_arg5)) (m ((c.tc : Thread nD τ).loc main_arg13)) (m ((c.tc : Thread nD τ).loc main_arg21)) (m ((c.tc : Thread nD τ).loc main_arg29))
      ∧ r.2.mem ((c.tc : Thread nD τ).loc main_v50) = stepsOf (m ((c.tc : Thread nD τ).loc main_arg6)) (m ((c.tc : Thread nD τ).loc main_arg14)) (m ((c.tc : Thread nD τ).loc main_arg22)) (m ((c.tc : Thread nD τ).loc main_arg30))
      ∧ r.2.mem ((c.tc : Thread nD τ).loc main_v51) = stepsOf (m ((c.tc : Thread nD τ).loc main_arg7)) (m ((c.tc : Thread nD τ).loc main_arg15)) (m ((c.tc : Thread nD τ).loc main_arg23)) (m ((c.tc : Thread nD τ).loc main_arg31))
      ∧ r.2.mem ((c.tc : Thread nD τ).loc main_v55) = moms1Of (m ((c.tc : Thread nD τ).loc main_arg1)) (m ((c.tc : Thread nD τ).loc main_arg17))
      ∧ r.2.mem ((c.tc : Thread nD τ).loc main_v57) = moms1Of (m ((c.tc : Thread nD τ).loc main_arg2)) (m ((c.tc : Thread nD τ).loc main_arg18))
      ∧ r.2.mem ((c.tc : Thread nD τ).loc main_v59) = moms1Of (m ((c.tc : Thread nD τ).loc main_arg3)) (m ((c.tc : Thread nD τ).loc main_arg19))
      ∧ r.2.mem ((c.tc : Thread nD τ).loc main_v61) = moms1Of (m ((c.tc : Thread nD τ).loc main_arg4)) (m ((c.tc : Thread nD τ).loc main_arg20))
      ∧ r.2.mem ((c.tc : Thread nD τ).loc main_v63) = moms1Of (m ((c.tc : Thread nD τ).loc main_arg5)) (m ((c.tc : Thread nD τ).loc main_arg21))
      ∧ r.2.mem ((c.tc : Thread nD τ).loc main_v65) = moms1Of (m ((c.tc : Thread nD τ).loc main_arg6)) (m ((c.tc : Thread nD τ).loc main_arg22))
      ∧ r.2.mem ((c.tc : Thread nD τ).loc main_v66) = moms1Of (m ((c.tc : Thread nD τ).loc main_arg7)) (m ((c.tc : Thread nD τ).loc main_arg23))
      ∧ r.2.mem ((c.tc : Thread nD τ).loc main_v70) = moms2Of (m ((c.tc : Thread nD τ).loc main_arg1)) (m ((c.tc : Thread nD τ).loc main_arg25))
      ∧ r.2.mem ((c.tc : Thread nD τ).loc main_v72) = moms2Of (m ((c.tc : Thread nD τ).loc main_arg2)) (m ((c.tc : Thread nD τ).loc main_arg26))
      ∧ r.2.mem ((c.tc : Thread nD τ).loc main_v74) = moms2Of (m ((c.tc : Thread nD τ).loc main_arg3)) (m ((c.tc : Thread nD τ).loc main_arg27))
      ∧ r.2.mem ((c.tc : Thread nD τ).loc main_v76) = moms2Of (m ((c.tc : Thread nD τ).loc main_arg4)) (m ((c.tc : Thread nD τ).loc main_arg28))
      ∧ r.2.mem ((c.tc : Thread nD τ).loc main_v78) = moms2Of (m ((c.tc : Thread nD τ).loc main_arg5)) (m ((c.tc : Thread nD τ).loc main_arg29))
      ∧ r.2.mem ((c.tc : Thread nD τ).loc main_v80) = moms2Of (m ((c.tc : Thread nD τ).loc main_arg6)) (m ((c.tc : Thread nD τ).loc main_arg30))
      ∧ r.2.mem ((c.tc : Thread nD τ).loc main_v81) = moms2Of (m ((c.tc : Thread nD τ).loc main_arg7)) (m ((c.tc : Thread nD τ).loc main_arg31))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31) := by
  refine (θ_run defs _ _).mono (fun _ h c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1, (h.1 c).2.2.2.2.2.2.2.2.2.1, (h.1 c).2.2.2.2.2.2.2.2.2.2.1, (h.1 c).2.2.2.2.2.2.2.2.2.2.2.1, (h.1 c).2.2.2.2.2.2.2.2.2.2.2.2.1, (h.1 c).2.2.2.2.2.2.2.2.2.2.2.2.2.1, (h.1 c).2.2.2.2.2.2.2.2.2.2.2.2.2.2.1, (h.1 c).2.2.2.2.2.2.2.2.2.2.2.2.2.2.2.1, (h.1 c).2.2.2.2.2.2.2.2.2.2.2.2.2.2.2.2.1, (h.1 c).2.2.2.2.2.2.2.2.2.2.2.2.2.2.2.2.2.1, (h.1 c).2.2.2.2.2.2.2.2.2.2.2.2.2.2.2.2.2.2.1, (h.1 c).2.2.2.2.2.2.2.2.2.2.2.2.2.2.2.2.2.2.2.1, (h.1 c).2.2.2.2.2.2.2.2.2.2.2.2.2.2.2.2.2.2.2.2, h.2 c⟩)
    (θ_run_and ((θ_run defs _ _).mono (fun _ h (c : Dev nD) => (⟨((h c).2 main_v40 (Pipeline.mem_restRefs_of main_v40 (by decide) (by decide))).trans (tail0_1 m c),
      ((h c).2 main_v42 (Pipeline.mem_restRefs_of main_v42 (by decide) (by decide))).trans (tail0_2 m c),
      ((h c).2 main_v44 (Pipeline.mem_restRefs_of main_v44 (by decide) (by decide))).trans (tail0_3 m c),
      ((h c).2 main_v46 (Pipeline.mem_restRefs_of main_v46 (by decide) (by decide))).trans (tail0_4 m c),
      ((h c).2 main_v48 (Pipeline.mem_restRefs_of main_v48 (by decide) (by decide))).trans (tail0_5 m c),
      ((h c).2 main_v50 (Pipeline.mem_restRefs_of main_v50 (by decide) (by decide))).trans (tail0_6 m c),
      ((h c).2 main_v51 (Pipeline.mem_restRefs_of main_v51 (by decide) (by decide))).trans (tail0_7 m c),
      ((h c).2 main_v55 (Pipeline.mem_restRefs_of main_v55 (by decide) (by decide))).trans (tail1_1 m c),
      ((h c).2 main_v57 (Pipeline.mem_restRefs_of main_v57 (by decide) (by decide))).trans (tail1_2 m c),
      ((h c).2 main_v59 (Pipeline.mem_restRefs_of main_v59 (by decide) (by decide))).trans (tail1_3 m c),
      ((h c).2 main_v61 (Pipeline.mem_restRefs_of main_v61 (by decide) (by decide))).trans (tail1_4 m c),
      ((h c).2 main_v63 (Pipeline.mem_restRefs_of main_v63 (by decide) (by decide))).trans (tail1_5 m c),
      ((h c).2 main_v65 (Pipeline.mem_restRefs_of main_v65 (by decide) (by decide))).trans (tail1_6 m c),
      ((h c).2 main_v66 (Pipeline.mem_restRefs_of main_v66 (by decide) (by decide))).trans (tail1_7 m c),
      ((h c).2 main_v70 (Pipeline.mem_restRefs_of main_v70 (by decide) (by decide))).trans (tail2_1 m c),
      ((h c).2 main_v72 (Pipeline.mem_restRefs_of main_v72 (by decide) (by decide))).trans (tail2_2 m c),
      ((h c).2 main_v74 (Pipeline.mem_restRefs_of main_v74 (by decide) (by decide))).trans (tail2_3 m c),
      ((h c).2 main_v76 (Pipeline.mem_restRefs_of main_v76 (by decide) (by decide))).trans (tail2_4 m c),
      ((h c).2 main_v78 (Pipeline.mem_restRefs_of main_v78 (by decide) (by decide))).trans (tail2_5 m c),
      ((h c).2 main_v80 (Pipeline.mem_restRefs_of main_v80 (by decide) (by decide))).trans (tail2_6 m c),
      ((h c).2 main_v81 (Pipeline.mem_restRefs_of main_v81 (by decide) (by decide))).trans (tail2_7 m c)⟩ : _ ∧ _ ∧ _ ∧ _ ∧ _ ∧ _ ∧ _ ∧ _ ∧ _ ∧ _ ∧ _ ∧ _ ∧ _ ∧ _ ∧ _ ∧ _ ∧ _ ∧ _ ∧ _ ∧ _ ∧ _)) (run_main m ρ)) (unchanged m ρ))
end Cert.Kernel15Ideal.Value

namespace Cert.AdamSmall
open Cert.Reference15Ideal

/-- The reference's run: it ends with the step and the new moments of every array, its arguments unchanged. -/
theorem ref_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v23) = stepsOf (m (c.tc.loc main_arg1)) (m (c.tc.loc main_arg9)) (m (c.tc.loc main_arg17)) (m (c.tc.loc main_arg25))
      ∧ r.2.mem (c.tc.loc main_v47) = stepsOf (m (c.tc.loc main_arg2)) (m (c.tc.loc main_arg10)) (m (c.tc.loc main_arg18)) (m (c.tc.loc main_arg26))
      ∧ r.2.mem (c.tc.loc main_v71) = stepsOf (m (c.tc.loc main_arg3)) (m (c.tc.loc main_arg11)) (m (c.tc.loc main_arg19)) (m (c.tc.loc main_arg27))
      ∧ r.2.mem (c.tc.loc main_v95) = stepsOf (m (c.tc.loc main_arg4)) (m (c.tc.loc main_arg12)) (m (c.tc.loc main_arg20)) (m (c.tc.loc main_arg28))
      ∧ r.2.mem (c.tc.loc main_v119) = stepsOf (m (c.tc.loc main_arg5)) (m (c.tc.loc main_arg13)) (m (c.tc.loc main_arg21)) (m (c.tc.loc main_arg29))
      ∧ r.2.mem (c.tc.loc main_v143) = stepsOf (m (c.tc.loc main_arg6)) (m (c.tc.loc main_arg14)) (m (c.tc.loc main_arg22)) (m (c.tc.loc main_arg30))
      ∧ r.2.mem (c.tc.loc main_v167) = stepsOf (m (c.tc.loc main_arg7)) (m (c.tc.loc main_arg15)) (m (c.tc.loc main_arg23)) (m (c.tc.loc main_arg31))
      ∧ r.2.mem (c.tc.loc main_v4) = moms1Of (m (c.tc.loc main_arg1)) (m (c.tc.loc main_arg17))
      ∧ r.2.mem (c.tc.loc main_v28) = moms1Of (m (c.tc.loc main_arg2)) (m (c.tc.loc main_arg18))
      ∧ r.2.mem (c.tc.loc main_v52) = moms1Of (m (c.tc.loc main_arg3)) (m (c.tc.loc main_arg19))
      ∧ r.2.mem (c.tc.loc main_v76) = moms1Of (m (c.tc.loc main_arg4)) (m (c.tc.loc main_arg20))
      ∧ r.2.mem (c.tc.loc main_v100) = moms1Of (m (c.tc.loc main_arg5)) (m (c.tc.loc main_arg21))
      ∧ r.2.mem (c.tc.loc main_v124) = moms1Of (m (c.tc.loc main_arg6)) (m (c.tc.loc main_arg22))
      ∧ r.2.mem (c.tc.loc main_v148) = moms1Of (m (c.tc.loc main_arg7)) (m (c.tc.loc main_arg23))
      ∧ r.2.mem (c.tc.loc main_v10) = moms2Of (m (c.tc.loc main_arg1)) (m (c.tc.loc main_arg25))
      ∧ r.2.mem (c.tc.loc main_v34) = moms2Of (m (c.tc.loc main_arg2)) (m (c.tc.loc main_arg26))
      ∧ r.2.mem (c.tc.loc main_v58) = moms2Of (m (c.tc.loc main_arg3)) (m (c.tc.loc main_arg27))
      ∧ r.2.mem (c.tc.loc main_v82) = moms2Of (m (c.tc.loc main_arg4)) (m (c.tc.loc main_arg28))
      ∧ r.2.mem (c.tc.loc main_v106) = moms2Of (m (c.tc.loc main_arg5)) (m (c.tc.loc main_arg29))
      ∧ r.2.mem (c.tc.loc main_v130) = moms2Of (m (c.tc.loc main_arg6)) (m (c.tc.loc main_arg30))
      ∧ r.2.mem (c.tc.loc main_v154) = moms2Of (m (c.tc.loc main_arg7)) (m (c.tc.loc main_arg31))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11)
      ∧ r.2.mem (c.tc.loc main_arg12) = m (c.tc.loc main_arg12)
      ∧ r.2.mem (c.tc.loc main_arg13) = m (c.tc.loc main_arg13)
      ∧ r.2.mem (c.tc.loc main_arg14) = m (c.tc.loc main_arg14)
      ∧ r.2.mem (c.tc.loc main_arg15) = m (c.tc.loc main_arg15)
      ∧ r.2.mem (c.tc.loc main_arg16) = m (c.tc.loc main_arg16)
      ∧ r.2.mem (c.tc.loc main_arg17) = m (c.tc.loc main_arg17)
      ∧ r.2.mem (c.tc.loc main_arg18) = m (c.tc.loc main_arg18)
      ∧ r.2.mem (c.tc.loc main_arg19) = m (c.tc.loc main_arg19)
      ∧ r.2.mem (c.tc.loc main_arg20) = m (c.tc.loc main_arg20)
      ∧ r.2.mem (c.tc.loc main_arg21) = m (c.tc.loc main_arg21)
      ∧ r.2.mem (c.tc.loc main_arg22) = m (c.tc.loc main_arg22)
      ∧ r.2.mem (c.tc.loc main_arg23) = m (c.tc.loc main_arg23)
      ∧ r.2.mem (c.tc.loc main_arg24) = m (c.tc.loc main_arg24)
      ∧ r.2.mem (c.tc.loc main_arg25) = m (c.tc.loc main_arg25)
      ∧ r.2.mem (c.tc.loc main_arg26) = m (c.tc.loc main_arg26)
      ∧ r.2.mem (c.tc.loc main_arg27) = m (c.tc.loc main_arg27)
      ∧ r.2.mem (c.tc.loc main_arg28) = m (c.tc.loc main_arg28)
      ∧ r.2.mem (c.tc.loc main_arg29) = m (c.tc.loc main_arg29)
      ∧ r.2.mem (c.tc.loc main_arg30) = m (c.tc.loc main_arg30)
      ∧ r.2.mem (c.tc.loc main_arg31) = m (c.tc.loc main_arg31) := by
  refine (θ_run defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2.1.trans ?_, (h c).2.2.2.2.2.2.2.2.2.2.2.2.2.1.trans ?_, (h c).2.2.2.2.2.2.2.2.2.2.2.2.2.2.1.trans ?_, (h c).2.2.2.2.2.2.2.2.2.2.2.2.2.2.2.1.trans ?_, (h c).2.2.2.2.2.2.2.2.2.2.2.2.2.2.2.2.1.trans ?_, (h c).2.2.2.2.2.2.2.2.2.2.2.2.2.2.2.2.2.1.trans ?_, (h c).2.2.2.2.2.2.2.2.2.2.2.2.2.2.2.2.2.2.1.trans ?_, (h c).2.2.2.2.2.2.2.2.2.2.2.2.2.2.2.2.2.2.2.1.trans ?_, (h c).2.2.2.2.2.2.2.2.2.2.2.2.2.2.2.2.2.2.2.2.1.trans ?_, (h c).2.2.2.2.2.2.2.2.2.2.2.2.2.2.2.2.2.2.2.2.2⟩) (Value.run m ρ)
  all_goals
    clear h
    funext j
    idx_vars j
    pointwise [stepsOf, moms1Of, moms2Of, step, mom1, mom2]

theorem algebraic : Cert.algebraic_Kernel15Ideal_Reference15Ideal := by
  intro m g m' g' _ ha
  have R' := (θ_run defs _ _).mono (fun r h c => by
    obtain ⟨h0, h1, h2, h3, h4, h5, h6, h7, h8, h9, h10, h11, h12, h13, h14, h15, h16, h17, h18, h19, h20, h21⟩ := h c
    rw [(ha c).2.1, (ha c).2.2.2.2.2.2.2.2.2.1, (ha c).2.2.2.2.2.2.2.2.2.2.2.2.2.2.2.2.2.1, (ha c).2.2.2.2.2.2.2.2.2.2.2.2.2.2.2.2.2.2.2.2.2.2.2.2.2.1] at h0
    rw [(ha c).2.2.1, (ha c).2.2.2.2.2.2.2.2.2.2.1, (ha c).2.2.2.2.2.2.2.2.2.2.2.2.2.2.2.2.2.2.1, (ha c).2.2.2.2.2.2.2.2.2.2.2.2.2.2.2.2.2.2.2.2.2.2.2.2.2.2.1] at h1
    rw [(ha c).2.2.2.1, (ha c).2.2.2.2.2.2.2.2.2.2.2.1, (ha c).2.2.2.2.2.2.2.2.2.2.2.2.2.2.2.2.2.2.2.1, (ha c).2.2.2.2.2.2.2.2.2.2.2.2.2.2.2.2.2.2.2.2.2.2.2.2.2.2.2.1] at h2
    rw [(ha c).2.2.2.2.1, (ha c).2.2.2.2.2.2.2.2.2.2.2.2.1, (ha c).2.2.2.2.2.2.2.2.2.2.2.2.2.2.2.2.2.2.2.2.1, (ha c).2.2.2.2.2.2.2.2.2.2.2.2.2.2.2.2.2.2.2.2.2.2.2.2.2.2.2.2.1] at h3
    rw [(ha c).2.2.2.2.2.1, (ha c).2.2.2.2.2.2.2.2.2.2.2.2.2.1, (ha c).2.2.2.2.2.2.2.2.2.2.2.2.2.2.2.2.2.2.2.2.2.1, (ha c).2.2.2.2.2.2.2.2.2.2.2.2.2.2.2.2.2.2.2.2.2.2.2.2.2.2.2.2.2.1] at h4
    rw [(ha c).2.2.2.2.2.2.1, (ha c).2.2.2.2.2.2.2.2.2.2.2.2.2.2.1, (ha c).2.2.2.2.2.2.2.2.2.2.2.2.2.2.2.2.2.2.2.2.2.2.1, (ha c).2.2.2.2.2.2.2.2.2.2.2.2.2.2.2.2.2.2.2.2.2.2.2.2.2.2.2.2.2.2.1] at h5
    rw [(ha c).2.2.2.2.2.2.2.1, (ha c).2.2.2.2.2.2.2.2.2.2.2.2.2.2.2.1, (ha c).2.2.2.2.2.2.2.2.2.2.2.2.2.2.2.2.2.2.2.2.2.2.2.1, (ha c).2.2.2.2.2.2.2.2.2.2.2.2.2.2.2.2.2.2.2.2.2.2.2.2.2.2.2.2.2.2.2] at h6
    rw [(ha c).2.1, (ha c).2.2.2.2.2.2.2.2.2.2.2.2.2.2.2.2.2.1] at h7
    rw [(ha c).2.2.1, (ha c).2.2.2.2.2.2.2.2.2.2.2.2.2.2.2.2.2.2.1] at h8
    rw [(ha c).2.2.2.1, (ha c).2.2.2.2.2.2.2.2.2.2.2.2.2.2.2.2.2.2.2.1] at h9
    rw [(ha c).2.2.2.2.1, (ha c).2.2.2.2.2.2.2.2.2.2.2.2.2.2.2.2.2.2.2.2.1] at h10
    rw [(ha c).2.2.2.2.2.1, (ha c).2.2.2.2.2.2.2.2.2.2.2.2.2.2.2.2.2.2.2.2.2.1] at h11
    rw [(ha c).2.2.2.2.2.2.1, (ha c).2.2.2.2.2.2.2.2.2.2.2.2.2.2.2.2.2.2.2.2.2.2.1] at h12
    rw [(ha c).2.2.2.2.2.2.2.1, (ha c).2.2.2.2.2.2.2.2.2.2.2.2.2.2.2.2.2.2.2.2.2.2.2.1] at h13
    rw [(ha c).2.1, (ha c).2.2.2.2.2.2.2.2.2.2.2.2.2.2.2.2.2.2.2.2.2.2.2.2.2.1] at h14
    rw [(ha c).2.2.1, (ha c).2.2.2.2.2.2.2.2.2.2.2.2.2.2.2.2.2.2.2.2.2.2.2.2.2.2.1] at h15
    rw [(ha c).2.2.2.1, (ha c).2.2.2.2.2.2.2.2.2.2.2.2.2.2.2.2.2.2.2.2.2.2.2.2.2.2.2.1] at h16
    rw [(ha c).2.2.2.2.1, (ha c).2.2.2.2.2.2.2.2.2.2.2.2.2.2.2.2.2.2.2.2.2.2.2.2.2.2.2.2.1] at h17
    rw [(ha c).2.2.2.2.2.1, (ha c).2.2.2.2.2.2.2.2.2.2.2.2.2.2.2.2.2.2.2.2.2.2.2.2.2.2.2.2.2.1] at h18
    rw [(ha c).2.2.2.2.2.2.1, (ha c).2.2.2.2.2.2.2.2.2.2.2.2.2.2.2.2.2.2.2.2.2.2.2.2.2.2.2.2.2.2.1] at h19
    rw [(ha c).2.2.2.2.2.2.2.1, (ha c).2.2.2.2.2.2.2.2.2.2.2.2.2.2.2.2.2.2.2.2.2.2.2.2.2.2.2.2.2.2.2] at h20
    exact And.intro h0 (And.intro h1 (And.intro h2 (And.intro h3 (And.intro h4 (And.intro h5 (And.intro h6 (And.intro h7 (And.intro h8 (And.intro h9 (And.intro h10 (And.intro h11 (And.intro h12 (And.intro h13 (And.intro h14 (And.intro h15 (And.intro h16 (And.intro h17 (And.intro h18 (And.intro h19 (And.intro h20 (h21)))))))))))))))))))))) (ref_value m' g')
  exact ⟨_, _, _, _, _, _, _, _, _, _, _, _, _, _, _, _, _, _, _, _, _, Kernel15Ideal.Value.run_value m g, R'⟩

theorem frame_ref : Cert.quiescent_Reference15Ideal := fun m g _ =>
  (θ_run defs _ _).mono (fun r h => ⟨fun c => (h c).2.2.2.2.2.2.2.2.2.2.2.2.2.2.2.2.2.2.2.2.2, sem_eq_zero_of_no_sems (by decide) r.2⟩) (Value.run (F := Ideal) m g)

end Cert.AdamSmall
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.LossProof
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_finite2
public import proofs.«01_k».proof.Proof.GmProof
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Pre_finite3
public import proofs.«01_k».proof.Proof.MixOutProof
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Pre_finite4
public import proofs.«01_k».proof.Proof.MixInProof
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.GmFwd
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.MixInFwd
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.MixOutFwd
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.FfnFwd
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.DwIn
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.DwOut
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Adam
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.AdamPacked
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.AdamSmall

@[expose] public section

noncomputable section

namespace Cert.Proof

open Idealize.ShloMosaic Idealize.SL.Sem

theorem claim : Cert.Claim := by
  refine ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Kernel14.Gen.facts, Cert.Kernel14Ideal.Gen.facts, Cert.Kernel15.Gen.facts, Cert.Kernel15Ideal.Gen.facts, Cert.Reference15Ideal.Gen.facts, Cert.Pre_finite.Gen.facts, Cert.Pre_finite2.Gen.facts, Cert.Pre_finite3.Gen.facts, Cert.Pre_finite4.Gen.facts,
    ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_,
    trivial, Cert.Loss.algebraic, ?_, Cert.Gm.algebraic, trivial, Cert.MixOut.algebraic, trivial, Cert.MixIn.algebraic, ?_, Cert.GmFwd.algebraic, trivial, Cert.MixInFwd.algebraic, trivial, Cert.MixOutFwd.algebraic, trivial, Cert.FfnFwd.algebraic, trivial, Cert.DwIn.algebraic, trivial, Cert.DwOut.algebraic, trivial, Cert.Adam.algebraic, trivial, Cert.AdamPacked.algebraic, trivial, trivial, trivial, Cert.AdamSmall.algebraic⟩
  · exact fun m g _ => Cert.Kernel.Gen.frame m g
  · exact fun m g _ => Cert.KernelIdeal.Gen.frame m g
  · exact fun m g _ => Cert.KernelIdeal.Gen.frame m g
  · exact fun m g _ => Cert.Loss.frame_ref m g trivial
  · exact fun m g _ => Cert.Loss.frame_ref m g trivial
  · exact fun m g _ => Cert.Kernel2.Gen.frame m g
  · exact fun m g _ => Cert.Kernel2Ideal.Gen.frame m g
  · exact fun m g _ => Cert.Kernel2Ideal.Gen.frame m g
  · exact fun m g _ => Cert.Gm.frame_ref m g trivial
  · exact fun m g _ => Cert.Gm.frame_ref m g trivial
  · exact fun m g _ => Cert.Kernel3.Gen.frame m g
  · exact fun m g _ => Cert.Kernel3Ideal.Gen.frame m g
  · exact fun m g _ => Cert.Kernel3Ideal.Gen.frame m g
  · exact fun m g _ => Cert.MixOut.frame_ref m g trivial
  · exact fun m g _ => Cert.MixOut.frame_ref m g trivial
  · exact fun m g _ => Cert.Kernel4.Gen.frame m g
  · exact fun m g _ => Cert.Kernel4Ideal.Gen.frame m g
  · exact fun m g _ => Cert.Kernel4Ideal.Gen.frame m g
  · exact fun m g _ => Cert.MixIn.frame_ref m g trivial
  · exact fun m g _ => Cert.MixIn.frame_ref m g trivial
  · exact fun m g _ => Cert.Kernel5.Gen.frame m g
  · exact fun m g _ => Cert.Kernel5Ideal.Gen.frame m g
  · exact fun m g _ => Cert.GmFwd.frame_ref m g trivial
  · exact fun m g _ => Cert.Kernel6.Gen.frame m g
  · exact fun m g _ => Cert.Kernel6Ideal.Gen.frame m g
  · exact fun m g _ => Cert.MixInFwd.frame_ref m g trivial
  · exact fun m g _ => Cert.Kernel7.Gen.frame m g
  · exact fun m g _ => Cert.Kernel7Ideal.Gen.frame m g
  · exact fun m g _ => Cert.MixOutFwd.frame_ref m g trivial
  · exact fun m g _ => Cert.Kernel8.Gen.frame m g
  · exact fun m g _ => Cert.Kernel8Ideal.Gen.frame m g
  · exact fun m g _ => Cert.FfnFwd.frame_ref m g trivial
  · exact fun m g _ => Cert.Kernel9.Gen.frame m g
  · exact fun m g _ => Cert.Kernel9Ideal.Gen.frame m g
  · exact fun m g _ => Cert.DwIn.frame_ref m g trivial
  · exact fun m g _ => Cert.Kernel10.Gen.frame m g
  · exact fun m g _ => Cert.Kernel10Ideal.Gen.frame m g
  · exact fun m g _ => Cert.DwOut.frame_ref m g trivial
  · exact fun m g _ => Cert.Kernel11.Gen.frame m g
  · exact fun m g _ => Cert.Kernel11Ideal.Gen.frame m g
  · exact fun m g _ => Cert.Adam.frame_ref m g trivial
  · exact fun m g _ => Cert.Kernel12.Gen.frame m g
  · exact fun m g _ => Cert.Kernel12Ideal.Gen.frame m g
  · exact fun m g _ => Cert.AdamPacked.frame_ref m g trivial
  · exact fun m g _ => Cert.Kernel13.Gen.frame m g
  · exact fun m g _ => Cert.Kernel13Ideal.Gen.frame m g
  · exact fun m g _ => Cert.Kernel14.Gen.frame m g
  · exact fun m g _ => Cert.Kernel14Ideal.Gen.frame m g
  · exact fun m g _ => Cert.Kernel15.Gen.frame m g
  · exact fun m g _ => Cert.Kernel15Ideal.Gen.frame m g
  · exact fun m g _ => Cert.AdamSmall.frame_ref m g trivial
  · exact ⟨IdealRules.named_const.statement Cert.Kernel2Ideal.κ "gelu_c" .f32 0x3D372713#32 ((8943 / 200000 : ℝ) : EReal) rfl,
      IdealRules.named_const.statement Cert.Kernel2Ideal.κ "gelu_3c" .f32 0x3E095D4F#32 ((26829 / 200000 : ℝ) : EReal) rfl⟩
  · exact IdealRules.named_const.statement Cert.Kernel5Ideal.κ "gelu_c" .f32 0x3D372713#32 ((8943 / 200000 : ℝ) : EReal) rfl

end Cert.Proof

end
